-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelOutDx (m : (ℓ : Loc Cert.KernelOutDx.nD Cert.KernelOutDx.τ Cert.KernelOutDx.sig) → Buf (Elt Bits) ℓ) : Prop :=
  True

def Pre_KernelOutDxIdeal (m : (ℓ : Loc Cert.KernelOutDxIdeal.nD Cert.KernelOutDxIdeal.τ Cert.KernelOutDxIdeal.sig) → Buf (Elt Ideal) ℓ) : Prop :=
  True

def Pre_ReferenceOutDxIdeal (m : (ℓ : Loc Cert.ReferenceOutDxIdeal.nD Cert.ReferenceOutDxIdeal.τ Cert.ReferenceOutDxIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelGluBwd (m : (ℓ : Loc Cert.KernelGluBwd.nD Cert.KernelGluBwd.τ Cert.KernelGluBwd.sig) → Buf (Elt Bits) ℓ) : Prop :=
  True

def Pre_KernelGluBwdIdeal (m : (ℓ : Loc Cert.KernelGluBwdIdeal.nD Cert.KernelGluBwdIdeal.τ Cert.KernelGluBwdIdeal.sig) → Buf (Elt Ideal) ℓ) : Prop :=
  True

def Pre_KernelGluBwdIdeal_finite_gate [hPre_finite_gate : Cert.Pre_finite_gate.Facts] (m : (ℓ : Loc Cert.KernelGluBwdIdeal.nD Cert.KernelGluBwdIdeal.τ Cert.KernelGluBwdIdeal.sig) → Buf (Elt Ideal) ℓ) : Prop :=
  ∀ c : Dev Cert.KernelGluBwdIdeal.nD,
    (Cert.Pre_finite_gate.fn (F := Ideal) (m ((c.tc : Thread Cert.KernelGluBwdIdeal.nD Cert.KernelGluBwdIdeal.τ).loc Cert.KernelGluBwdIdeal.main_arg0)) (m ((c.tc : Thread Cert.KernelGluBwdIdeal.nD Cert.KernelGluBwdIdeal.τ).loc Cert.KernelGluBwdIdeal.main_arg1)) (m ((c.tc : Thread Cert.KernelGluBwdIdeal.nD Cert.KernelGluBwdIdeal.τ).loc Cert.KernelGluBwdIdeal.main_arg2))) = (fun _ => 1#1)

def Pre_ReferenceGluBwdIdeal (m : (ℓ : Loc Cert.ReferenceGluBwdIdeal.nD Cert.ReferenceGluBwdIdeal.τ Cert.ReferenceGluBwdIdeal.sig) → Buf (Elt Ideal) ℓ) : Prop :=
  True

def Pre_ReferenceGluBwdIdeal_finite_gate [hPre_finite_gate : Cert.Pre_finite_gate.Facts] (m : (ℓ : Loc Cert.ReferenceGluBwdIdeal.nD Cert.ReferenceGluBwdIdeal.τ Cert.ReferenceGluBwdIdeal.sig) → Buf (Elt Ideal) ℓ) : Prop :=
  ∀ c : Dev Cert.ReferenceGluBwdIdeal.nD,
    (Cert.Pre_finite_gate.fn (F := Ideal) (m ((c.tc : Thread Cert.ReferenceGluBwdIdeal.nD Cert.ReferenceGluBwdIdeal.τ).loc Cert.ReferenceGluBwdIdeal.main_arg0)) (m ((c.tc : Thread Cert.ReferenceGluBwdIdeal.nD Cert.ReferenceGluBwdIdeal.τ).loc Cert.ReferenceGluBwdIdeal.main_arg1)) (m ((c.tc : Thread Cert.ReferenceGluBwdIdeal.nD Cert.ReferenceGluBwdIdeal.τ).loc Cert.ReferenceGluBwdIdeal.main_arg2))) = (fun _ => 1#1)

def Pre_ReferenceGluBwd (m : (ℓ : Loc Cert.ReferenceGluBwd.nD Cert.ReferenceGluBwd.τ Cert.ReferenceGluBwd.sig) → Buf (Elt Bits) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def Pre_KernelAdamw (m : (ℓ : Loc Cert.KernelAdamw.nD Cert.KernelAdamw.τ Cert.KernelAdamw.sig) → Buf (Elt Bits) ℓ) : Prop :=
  True

def Pre_KernelAdamwIdeal (m : (ℓ : Loc Cert.KernelAdamwIdeal.nD Cert.KernelAdamwIdeal.τ Cert.KernelAdamwIdeal.sig) → Buf (Elt Ideal) ℓ) : Prop :=
  True

def Pre_ReferenceAdamwIdeal (m : (ℓ : Loc Cert.ReferenceAdamwIdeal.nD Cert.ReferenceAdamwIdeal.τ Cert.ReferenceAdamwIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1)
      ∧ r.2.mem ((c.tc : Thread Cert.KernelInDx.nD Cert.KernelInDx.τ).loc Cert.KernelInDx.main_arg2) = m ((c.tc : Thread Cert.KernelInDx.nD Cert.KernelInDx.τ).loc Cert.KernelInDx.main_arg2)
      ∧ r.2.mem ((c.tc : Thread Cert.KernelInDx.nD Cert.KernelInDx.τ).loc Cert.KernelInDx.main_arg3) = m ((c.tc : Thread Cert.KernelInDx.nD Cert.KernelInDx.τ).loc Cert.KernelInDx.main_arg3)
      ∧ r.2.mem ((c.tc : Thread Cert.KernelInDx.nD Cert.KernelInDx.τ).loc Cert.KernelInDx.main_arg4) = m ((c.tc : Thread Cert.KernelInDx.nD Cert.KernelInDx.τ).loc Cert.KernelInDx.main_arg4))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1)
      ∧ r.2.mem ((c.tc : Thread Cert.KernelInDxIdeal.nD Cert.KernelInDxIdeal.τ).loc Cert.KernelInDxIdeal.main_arg2) = m ((c.tc : Thread Cert.KernelInDxIdeal.nD Cert.KernelInDxIdeal.τ).loc Cert.KernelInDxIdeal.main_arg2)
      ∧ r.2.mem ((c.tc : Thread Cert.KernelInDxIdeal.nD Cert.KernelInDxIdeal.τ).loc Cert.KernelInDxIdeal.main_arg3) = m ((c.tc : Thread Cert.KernelInDxIdeal.nD Cert.KernelInDxIdeal.τ).loc Cert.KernelInDxIdeal.main_arg3)
      ∧ r.2.mem ((c.tc : Thread Cert.KernelInDxIdeal.nD Cert.KernelInDxIdeal.τ).loc Cert.KernelInDxIdeal.main_arg4) = m ((c.tc : Thread Cert.KernelInDxIdeal.nD Cert.KernelInDxIdeal.τ).loc Cert.KernelInDxIdeal.main_arg4))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1)
      ∧ r.2.mem ((c.tc : Thread Cert.ReferenceInDxIdeal.nD Cert.ReferenceInDxIdeal.τ).loc Cert.ReferenceInDxIdeal.main_arg2) = m ((c.tc : Thread Cert.ReferenceInDxIdeal.nD Cert.ReferenceInDxIdeal.τ).loc Cert.ReferenceInDxIdeal.main_arg2)
      ∧ r.2.mem ((c.tc : Thread Cert.ReferenceInDxIdeal.nD Cert.ReferenceInDxIdeal.τ).loc Cert.ReferenceInDxIdeal.main_arg3) = m ((c.tc : Thread Cert.ReferenceInDxIdeal.nD Cert.ReferenceInDxIdeal.τ).loc Cert.ReferenceInDxIdeal.main_arg3)
      ∧ r.2.mem ((c.tc : Thread Cert.ReferenceInDxIdeal.nD Cert.ReferenceInDxIdeal.τ).loc Cert.ReferenceInDxIdeal.main_arg4) = m ((c.tc : Thread Cert.ReferenceInDxIdeal.nD Cert.ReferenceInDxIdeal.τ).loc Cert.ReferenceInDxIdeal.main_arg4))
      ∧ r.2.sem = fun _ => 0)

def quiescent_KernelOutDx [hKernelOutDx : Cert.KernelOutDx.Facts] : Prop :=
  ∀ (m : (ℓ : Loc Cert.KernelOutDx.nD Cert.KernelOutDx.τ Cert.KernelOutDx.sig) → Buf (Elt Bits) ℓ) (g : Dev Cert.KernelOutDx.nD → PrngReg), Pre_KernelOutDx m →
    θ_run (Cert.KernelOutDx.defs (F := Bits)) (onTc (τ := Cert.KernelOutDx.τ) (Cert.KernelOutDx.main (F := Bits))) ⟨m, fun _ => 0, g⟩ (fun r => (∀ c : Dev Cert.KernelOutDx.nD,
      r.2.mem ((c.tc : Thread Cert.KernelOutDx.nD Cert.KernelOutDx.τ).loc Cert.KernelOutDx.main_arg0) = m ((c.tc : Thread Cert.KernelOutDx.nD Cert.KernelOutDx.τ).loc Cert.KernelOutDx.main_arg0)
      ∧ r.2.mem ((c.tc : Thread Cert.KernelOutDx.nD Cert.KernelOutDx.τ).loc Cert.KernelOutDx.main_arg1) = m ((c.tc : Thread Cert.KernelOutDx.nD Cert.KernelOutDx.τ).loc Cert.KernelOutDx.main_arg1)
      ∧ r.2.mem ((c.tc : Thread Cert.KernelOutDx.nD Cert.KernelOutDx.τ).loc Cert.KernelOutDx.main_arg2) = m ((c.tc : Thread Cert.KernelOutDx.nD Cert.KernelOutDx.τ).loc Cert.KernelOutDx.main_arg2)
      ∧ r.2.mem ((c.tc : Thread Cert.KernelOutDx.nD Cert.KernelOutDx.τ).loc Cert.KernelOutDx.main_arg3) = m ((c.tc : Thread Cert.KernelOutDx.nD Cert.KernelOutDx.τ).loc Cert.KernelOutDx.main_arg3)
      ∧ r.2.mem ((c.tc : Thread Cert.KernelOutDx.nD Cert.KernelOutDx.τ).loc Cert.KernelOutDx.main_arg4) = m ((c.tc : Thread Cert.KernelOutDx.nD Cert.KernelOutDx.τ).loc Cert.KernelOutDx.main_arg4)
      ∧ r.2.mem ((c.tc : Thread Cert.KernelOutDx.nD Cert.KernelOutDx.τ).loc Cert.KernelOutDx.main_arg5) = m ((c.tc : Thread Cert.KernelOutDx.nD Cert.KernelOutDx.τ).loc Cert.KernelOutDx.main_arg5))
      ∧ r.2.sem = fun _ => 0)

def quiescent_KernelOutDxIdeal [hKernelOutDxIdeal : Cert.KernelOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg), Pre_KernelOutDxIdeal m →
    θ_run (Cert.KernelOutDxIdeal.defs (F := Ideal)) (onTc (τ := Cert.KernelOutDxIdeal.τ) (Cert.KernelOutDxIdeal.main (F := Ideal))) ⟨m, fun _ => 0, g⟩ (fun r => (∀ c : Dev Cert.KernelOutDxIdeal.nD,
      r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
      ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1)
      ∧ r.2.mem ((c.tc : Thread Cert.KernelOutDxIdeal.nD Cert.KernelOutDxIdeal.τ).loc Cert.KernelOutDxIdeal.main_arg2) = m ((c.tc : Thread Cert.KernelOutDxIdeal.nD Cert.KernelOutDxIdeal.τ).loc Cert.KernelOutDxIdeal.main_arg2)
      ∧ r.2.mem ((c.tc : Thread Cert.KernelOutDxIdeal.nD Cert.KernelOutDxIdeal.τ).loc Cert.KernelOutDxIdeal.main_arg3) = m ((c.tc : Thread Cert.KernelOutDxIdeal.nD Cert.KernelOutDxIdeal.τ).loc Cert.KernelOutDxIdeal.main_arg3)
      ∧ r.2.mem ((c.tc : Thread Cert.KernelOutDxIdeal.nD Cert.KernelOutDxIdeal.τ).loc Cert.KernelOutDxIdeal.main_arg4) = m ((c.tc : Thread Cert.KernelOutDxIdeal.nD Cert.KernelOutDxIdeal.τ).loc Cert.KernelOutDxIdeal.main_arg4)
      ∧ r.2.mem ((c.tc : Thread Cert.KernelOutDxIdeal.nD Cert.KernelOutDxIdeal.τ).loc Cert.KernelOutDxIdeal.main_arg5) = m ((c.tc : Thread Cert.KernelOutDxIdeal.nD Cert.KernelOutDxIdeal.τ).loc Cert.KernelOutDxIdeal.main_arg5))
      ∧ r.2.sem = fun _ => 0)

def quiescent_ReferenceOutDxIdeal [hReferenceOutDxIdeal : Cert.ReferenceOutDxIdeal.Facts] : Prop :=
  ∀ (m : (ℓ : Loc Cert.ReferenceOutDxIdeal.nD Cert.ReferenceOutDxIdeal.τ Cert.ReferenceOutDxIdeal.sig) → Buf (Elt Ideal) ℓ) (g : Dev Cert.ReferenceOutDxIdeal.nD → PrngReg), Pre_ReferenceOutDxIdeal m →
    θ_run (Cert.ReferenceOutDxIdeal.defs (F := Ideal)) (onTc (τ := Cert.ReferenceOutDxIdeal.τ) (Cert.ReferenceOutDxIdeal.main (F := Ideal))) ⟨m, fun _ => 0, g⟩ (fun r => (∀ c : Dev Cert.ReferenceOutDxIdeal.nD,
      r.2.mem ((c.tc : Thread Cert.ReferenceOutDxIdeal.nD Cert.ReferenceOutDxIdeal.τ).loc Cert.ReferenceOutDxIdeal.main_arg0) = m ((c.tc : Thread Cert.ReferenceOutDxIdeal.nD Cert.ReferenceOutDxIdeal.τ).loc Cert.ReferenceOutDxIdeal.main_arg0)
      ∧ r.2.mem ((c.tc : Thread Cert.ReferenceOutDxIdeal.nD Cert.ReferenceOutDxIdeal.τ).loc Cert.ReferenceOutDxIdeal.main_arg1) = m ((c.tc : Thread Cert.ReferenceOutDxIdeal.nD Cert.ReferenceOutDxIdeal.τ).loc Cert.ReferenceOutDxIdeal.main_arg1)
      ∧ r.2.mem ((c.tc : Thread Cert.ReferenceOutDxIdeal.nD Cert.ReferenceOutDxIdeal.τ).loc Cert.ReferenceOutDxIdeal.main_arg2) = m ((c.tc : Thread Cert.ReferenceOutDxIdeal.nD Cert.ReferenceOutDxIdeal.τ).loc Cert.ReferenceOutDxIdeal.main_arg2)
      ∧ r.2.mem ((c.tc : Thread Cert.ReferenceOutDxIdeal.nD Cert.ReferenceOutDxIdeal.τ).loc Cert.ReferenceOutDxIdeal.main_arg3) = m ((c.tc : Thread Cert.ReferenceOutDxIdeal.nD Cert.ReferenceOutDxIdeal.τ).loc Cert.ReferenceOutDxIdeal.main_arg3)
      ∧ r.2.mem ((c.tc : Thread Cert.ReferenceOutDxIdeal.nD Cert.ReferenceOutDxIdeal.τ).loc Cert.ReferenceOutDxIdeal.main_arg4) = m ((c.tc : Thread Cert.ReferenceOutDxIdeal.nD Cert.ReferenceOutDxIdeal.τ).loc Cert.ReferenceOutDxIdeal.main_arg4)
      ∧ r.2.mem ((c.tc : Thread Cert.ReferenceOutDxIdeal.nD Cert.ReferenceOutDxIdeal.τ).loc Cert.ReferenceOutDxIdeal.main_arg5) = m ((c.tc : Thread Cert.ReferenceOutDxIdeal.nD Cert.ReferenceOutDxIdeal.τ).loc Cert.ReferenceOutDxIdeal.main_arg5))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1))
      ∧ r.2.sem = fun _ => 0)

def quiescent_KernelGluBwd [hKernelGluBwd : Cert.KernelGluBwd.Facts] : Prop :=
  ∀ (m : (ℓ : Loc Cert.KernelGluBwd.nD Cert.KernelGluBwd.τ Cert.KernelGluBwd.sig) → Buf (Elt Bits) ℓ) (g : Dev Cert.KernelGluBwd.nD → PrngReg), Pre_KernelGluBwd m →
    θ_run (Cert.KernelGluBwd.defs (F := Bits)) (onTc (τ := Cert.KernelGluBwd.τ) (Cert.KernelGluBwd.main (F := Bits))) ⟨m, fun _ => 0, g⟩ (fun r => (∀ c : Dev Cert.KernelGluBwd.nD,
      r.2.mem ((c.tc : Thread Cert.KernelGluBwd.nD Cert.KernelGluBwd.τ).loc Cert.KernelGluBwd.main_arg0) = m ((c.tc : Thread Cert.KernelGluBwd.nD Cert.KernelGluBwd.τ).loc Cert.KernelGluBwd.main_arg0)
      ∧ r.2.mem ((c.tc : Thread Cert.KernelGluBwd.nD Cert.KernelGluBwd.τ).loc Cert.KernelGluBwd.main_arg1) = m ((c.tc : Thread Cert.KernelGluBwd.nD Cert.KernelGluBwd.τ).loc Cert.KernelGluBwd.main_arg1)
      ∧ r.2.mem ((c.tc : Thread Cert.KernelGluBwd.nD Cert.KernelGluBwd.τ).loc Cert.KernelGluBwd.main_arg2) = m ((c.tc : Thread Cert.KernelGluBwd.nD Cert.KernelGluBwd.τ).loc Cert.KernelGluBwd.main_arg2))
      ∧ r.2.sem = fun _ => 0)

def quiescent_KernelGluBwdIdeal [hKernelGluBwdIdeal : Cert.KernelGluBwdIdeal.Facts] : Prop :=
  ∀ (m : (ℓ : Loc Cert.KernelGluBwdIdeal.nD Cert.KernelGluBwdIdeal.τ Cert.KernelGluBwdIdeal.sig) → Buf (Elt Ideal) ℓ) (g : Dev Cert.KernelGluBwdIdeal.nD → PrngReg), Pre_KernelGluBwdIdeal m →
    θ_run (Cert.KernelGluBwdIdeal.defs (F := Ideal)) (onTc (τ := Cert.KernelGluBwdIdeal.τ) (Cert.KernelGluBwdIdeal.main (F := Ideal))) ⟨m, fun _ => 0, g⟩ (fun r => (∀ c : Dev Cert.KernelGluBwdIdeal.nD,
      r.2.mem ((c.tc : Thread Cert.KernelGluBwdIdeal.nD Cert.KernelGluBwdIdeal.τ).loc Cert.KernelGluBwdIdeal.main_arg0) = m ((c.tc : Thread Cert.KernelGluBwdIdeal.nD Cert.KernelGluBwdIdeal.τ).loc Cert.KernelGluBwdIdeal.main_arg0)
      ∧ r.2.mem ((c.tc : Thread Cert.KernelGluBwdIdeal.nD Cert.KernelGluBwdIdeal.τ).loc Cert.KernelGluBwdIdeal.main_arg1) = m ((c.tc : Thread Cert.KernelGluBwdIdeal.nD Cert.KernelGluBwdIdeal.τ).loc Cert.KernelGluBwdIdeal.main_arg1)
      ∧ r.2.mem ((c.tc : Thread Cert.KernelGluBwdIdeal.nD Cert.KernelGluBwdIdeal.τ).loc Cert.KernelGluBwdIdeal.main_arg2) = m ((c.tc : Thread Cert.KernelGluBwdIdeal.nD Cert.KernelGluBwdIdeal.τ).loc Cert.KernelGluBwdIdeal.main_arg2))
      ∧ r.2.sem = fun _ => 0)

def quiescent_KernelGluBwdIdeal_pre_finite_gate [hKernelGluBwdIdeal : Cert.KernelGluBwdIdeal.Facts] [hPre_finite_gate : Cert.Pre_finite_gate.Facts] : Prop :=
  ∀ (m : (ℓ : Loc Cert.KernelGluBwdIdeal.nD Cert.KernelGluBwdIdeal.τ Cert.KernelGluBwdIdeal.sig) → Buf (Elt Ideal) ℓ) (g : Dev Cert.KernelGluBwdIdeal.nD → PrngReg), Pre_KernelGluBwdIdeal_finite_gate m →
    θ_run (Cert.KernelGluBwdIdeal.defs (F := Ideal)) (onTc (τ := Cert.KernelGluBwdIdeal.τ) (Cert.KernelGluBwdIdeal.main (F := Ideal))) ⟨m, fun _ => 0, g⟩ (fun r => (∀ c : Dev Cert.KernelGluBwdIdeal.nD,
      r.2.mem ((c.tc : Thread Cert.KernelGluBwdIdeal.nD Cert.KernelGluBwdIdeal.τ).loc Cert.KernelGluBwdIdeal.main_arg0) = m ((c.tc : Thread Cert.KernelGluBwdIdeal.nD Cert.KernelGluBwdIdeal.τ).loc Cert.KernelGluBwdIdeal.main_arg0)
      ∧ r.2.mem ((c.tc : Thread Cert.KernelGluBwdIdeal.nD Cert.KernelGluBwdIdeal.τ).loc Cert.KernelGluBwdIdeal.main_arg1) = m ((c.tc : Thread Cert.KernelGluBwdIdeal.nD Cert.KernelGluBwdIdeal.τ).loc Cert.KernelGluBwdIdeal.main_arg1)
      ∧ r.2.mem ((c.tc : Thread Cert.KernelGluBwdIdeal.nD Cert.KernelGluBwdIdeal.τ).loc Cert.KernelGluBwdIdeal.main_arg2) = m ((c.tc : Thread Cert.KernelGluBwdIdeal.nD Cert.KernelGluBwdIdeal.τ).loc Cert.KernelGluBwdIdeal.main_arg2))
      ∧ r.2.sem = fun _ => 0)

def quiescent_ReferenceGluBwdIdeal [hReferenceGluBwdIdeal : Cert.ReferenceGluBwdIdeal.Facts] : Prop :=
  ∀ (m : (ℓ : Loc Cert.ReferenceGluBwdIdeal.nD Cert.ReferenceGluBwdIdeal.τ Cert.ReferenceGluBwdIdeal.sig) → Buf (Elt Ideal) ℓ) (g : Dev Cert.ReferenceGluBwdIdeal.nD → PrngReg), Pre_ReferenceGluBwdIdeal m →
    θ_run (Cert.ReferenceGluBwdIdeal.defs (F := Ideal)) (onTc (τ := Cert.ReferenceGluBwdIdeal.τ) (Cert.ReferenceGluBwdIdeal.main (F := Ideal))) ⟨m, fun _ => 0, g⟩ (fun r => (∀ c : Dev Cert.ReferenceGluBwdIdeal.nD,
      r.2.mem ((c.tc : Thread Cert.ReferenceGluBwdIdeal.nD Cert.ReferenceGluBwdIdeal.τ).loc Cert.ReferenceGluBwdIdeal.main_arg0) = m ((c.tc : Thread Cert.ReferenceGluBwdIdeal.nD Cert.ReferenceGluBwdIdeal.τ).loc Cert.ReferenceGluBwdIdeal.main_arg0)
      ∧ r.2.mem ((c.tc : Thread Cert.ReferenceGluBwdIdeal.nD Cert.ReferenceGluBwdIdeal.τ).loc Cert.ReferenceGluBwdIdeal.main_arg1) = m ((c.tc : Thread Cert.ReferenceGluBwdIdeal.nD Cert.ReferenceGluBwdIdeal.τ).loc Cert.ReferenceGluBwdIdeal.main_arg1)
      ∧ r.2.mem ((c.tc : Thread Cert.ReferenceGluBwdIdeal.nD Cert.ReferenceGluBwdIdeal.τ).loc Cert.ReferenceGluBwdIdeal.main_arg2) = m ((c.tc : Thread Cert.ReferenceGluBwdIdeal.nD Cert.ReferenceGluBwdIdeal.τ).loc Cert.ReferenceGluBwdIdeal.main_arg2))
      ∧ r.2.sem = fun _ => 0)

def quiescent_ReferenceGluBwdIdeal_pre_finite_gate [hReferenceGluBwdIdeal : Cert.ReferenceGluBwdIdeal.Facts] [hPre_finite_gate : Cert.Pre_finite_gate.Facts] : Prop :=
  ∀ (m : (ℓ : Loc Cert.ReferenceGluBwdIdeal.nD Cert.ReferenceGluBwdIdeal.τ Cert.ReferenceGluBwdIdeal.sig) → Buf (Elt Ideal) ℓ) (g : Dev Cert.ReferenceGluBwdIdeal.nD → PrngReg), Pre_ReferenceGluBwdIdeal_finite_gate m →
    θ_run (Cert.ReferenceGluBwdIdeal.defs (F := Ideal)) (onTc (τ := Cert.ReferenceGluBwdIdeal.τ) (Cert.ReferenceGluBwdIdeal.main (F := Ideal))) ⟨m, fun _ => 0, g⟩ (fun r => (∀ c : Dev Cert.ReferenceGluBwdIdeal.nD,
      r.2.mem ((c.tc : Thread Cert.ReferenceGluBwdIdeal.nD Cert.ReferenceGluBwdIdeal.τ).loc Cert.ReferenceGluBwdIdeal.main_arg0) = m ((c.tc : Thread Cert.ReferenceGluBwdIdeal.nD Cert.ReferenceGluBwdIdeal.τ).loc Cert.ReferenceGluBwdIdeal.main_arg0)
      ∧ r.2.mem ((c.tc : Thread Cert.ReferenceGluBwdIdeal.nD Cert.ReferenceGluBwdIdeal.τ).loc Cert.ReferenceGluBwdIdeal.main_arg1) = m ((c.tc : Thread Cert.ReferenceGluBwdIdeal.nD Cert.ReferenceGluBwdIdeal.τ).loc Cert.ReferenceGluBwdIdeal.main_arg1)
      ∧ r.2.mem ((c.tc : Thread Cert.ReferenceGluBwdIdeal.nD Cert.ReferenceGluBwdIdeal.τ).loc Cert.ReferenceGluBwdIdeal.main_arg2) = m ((c.tc : Thread Cert.ReferenceGluBwdIdeal.nD Cert.ReferenceGluBwdIdeal.τ).loc Cert.ReferenceGluBwdIdeal.main_arg2))
      ∧ r.2.sem = fun _ => 0)

def quiescent_ReferenceGluBwd [hReferenceGluBwd : Cert.ReferenceGluBwd.Facts] : Prop :=
  ∀ (m : (ℓ : Loc Cert.ReferenceGluBwd.nD Cert.ReferenceGluBwd.τ Cert.ReferenceGluBwd.sig) → Buf (Elt Bits) ℓ) (g : Dev Cert.ReferenceGluBwd.nD → PrngReg), Pre_ReferenceGluBwd m →
    θ_run (Cert.ReferenceGluBwd.defs (F := Bits)) (onTc (τ := Cert.ReferenceGluBwd.τ) (Cert.ReferenceGluBwd.main (F := Bits))) ⟨m, fun _ => 0, g⟩ (fun r => (∀ c : Dev Cert.ReferenceGluBwd.nD,
      r.2.mem ((c.tc : Thread Cert.ReferenceGluBwd.nD Cert.ReferenceGluBwd.τ).loc Cert.ReferenceGluBwd.main_arg0) = m ((c.tc : Thread Cert.ReferenceGluBwd.nD Cert.ReferenceGluBwd.τ).loc Cert.ReferenceGluBwd.main_arg0)
      ∧ r.2.mem ((c.tc : Thread Cert.ReferenceGluBwd.nD Cert.ReferenceGluBwd.τ).loc Cert.ReferenceGluBwd.main_arg1) = m ((c.tc : Thread Cert.ReferenceGluBwd.nD Cert.ReferenceGluBwd.τ).loc Cert.ReferenceGluBwd.main_arg1)
      ∧ r.2.mem ((c.tc : Thread Cert.ReferenceGluBwd.nD Cert.ReferenceGluBwd.τ).loc Cert.ReferenceGluBwd.main_arg2) = m ((c.tc : Thread Cert.ReferenceGluBwd.nD Cert.ReferenceGluBwd.τ).loc Cert.ReferenceGluBwd.main_arg2))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0)
      ∧ r.2.mem ((c.tc : Thread Cert.KernelRope.nD Cert.KernelRope.τ).loc Cert.KernelRope.main_arg1) = m ((c.tc : Thread Cert.KernelRope.nD Cert.KernelRope.τ).loc Cert.KernelRope.main_arg1)
      ∧ r.2.mem ((c.tc : Thread Cert.KernelRope.nD Cert.KernelRope.τ).loc Cert.KernelRope.main_arg2) = m ((c.tc : Thread Cert.KernelRope.nD Cert.KernelRope.τ).loc Cert.KernelRope.main_arg2)
      ∧ r.2.mem ((c.tc : Thread Cert.KernelRope.nD Cert.KernelRope.τ).loc Cert.KernelRope.main_arg3) = m ((c.tc : Thread Cert.KernelRope.nD Cert.KernelRope.τ).loc Cert.KernelRope.main_arg3))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
      ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1)
      ∧ r.2.mem ((c.tc : Thread Cert.KernelRopeIdeal.nD Cert.KernelRopeIdeal.τ).loc Cert.KernelRopeIdeal.main_arg2) = m ((c.tc : Thread Cert.KernelRopeIdeal.nD Cert.KernelRopeIdeal.τ).loc Cert.KernelRopeIdeal.main_arg2)
      ∧ r.2.mem ((c.tc : Thread Cert.KernelRopeIdeal.nD Cert.KernelRopeIdeal.τ).loc Cert.KernelRopeIdeal.main_arg3) = m ((c.tc : Thread Cert.KernelRopeIdeal.nD Cert.KernelRopeIdeal.τ).loc Cert.KernelRopeIdeal.main_arg3))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0)
      ∧ r.2.mem ((c.tc : Thread Cert.ReferenceRopeIdeal.nD Cert.ReferenceRopeIdeal.τ).loc Cert.ReferenceRopeIdeal.main_arg1) = m ((c.tc : Thread Cert.ReferenceRopeIdeal.nD Cert.ReferenceRopeIdeal.τ).loc Cert.ReferenceRopeIdeal.main_arg1)
      ∧ r.2.mem ((c.tc : Thread Cert.ReferenceRopeIdeal.nD Cert.ReferenceRopeIdeal.τ).loc Cert.ReferenceRopeIdeal.main_arg2) = m ((c.tc : Thread Cert.ReferenceRopeIdeal.nD Cert.ReferenceRopeIdeal.τ).loc Cert.ReferenceRopeIdeal.main_arg2)
      ∧ r.2.mem ((c.tc : Thread Cert.ReferenceRopeIdeal.nD Cert.ReferenceRopeIdeal.τ).loc Cert.ReferenceRopeIdeal.main_arg3) = m ((c.tc : Thread Cert.ReferenceRopeIdeal.nD Cert.ReferenceRopeIdeal.τ).loc Cert.ReferenceRopeIdeal.main_arg3))
      ∧ r.2.sem = fun _ => 0)

def quiescent_KernelAdamw [hKernelAdamw : Cert.KernelAdamw.Facts] : Prop :=
  ∀ (m : (ℓ : Loc Cert.KernelAdamw.nD Cert.KernelAdamw.τ Cert.KernelAdamw.sig) → Buf (Elt Bits) ℓ) (g : Dev Cert.KernelAdamw.nD → PrngReg), Pre_KernelAdamw m →
    θ_run (Cert.KernelAdamw.defs (F := Bits)) (onTc (τ := Cert.KernelAdamw.τ) (Cert.KernelAdamw.main (F := Bits))) ⟨m, fun _ => 0, g⟩ (fun r => (∀ c : Dev Cert.KernelAdamw.nD,
      r.2.mem ((c.tc : Thread Cert.KernelAdamw.nD Cert.KernelAdamw.τ).loc Cert.KernelAdamw.main_arg0) = m ((c.tc : Thread Cert.KernelAdamw.nD Cert.KernelAdamw.τ).loc Cert.KernelAdamw.main_arg0)
      ∧ r.2.mem ((c.tc : Thread Cert.KernelAdamw.nD Cert.KernelAdamw.τ).loc Cert.KernelAdamw.main_arg1) = m ((c.tc : Thread Cert.KernelAdamw.nD Cert.KernelAdamw.τ).loc Cert.KernelAdamw.main_arg1)
      ∧ r.2.mem ((c.tc : Thread Cert.KernelAdamw.nD Cert.KernelAdamw.τ).loc Cert.KernelAdamw.main_arg2) = m ((c.tc : Thread Cert.KernelAdamw.nD Cert.KernelAdamw.τ).loc Cert.KernelAdamw.main_arg2)
      ∧ r.2.mem ((c.tc : Thread Cert.KernelAdamw.nD Cert.KernelAdamw.τ).loc Cert.KernelAdamw.main_arg3) = m ((c.tc : Thread Cert.KernelAdamw.nD Cert.KernelAdamw.τ).loc Cert.KernelAdamw.main_arg3)
      ∧ r.2.mem ((c.tc : Thread Cert.KernelAdamw.nD Cert.KernelAdamw.τ).loc Cert.KernelAdamw.main_arg4) = m ((c.tc : Thread Cert.KernelAdamw.nD Cert.KernelAdamw.τ).loc Cert.KernelAdamw.main_arg4))
      ∧ r.2.sem = fun _ => 0)

def quiescent_KernelAdamwIdeal [hKernelAdamwIdeal : Cert.KernelAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg), Pre_KernelAdamwIdeal m →
    θ_run (Cert.KernelAdamwIdeal.defs (F := Ideal)) (onTc (τ := Cert.KernelAdamwIdeal.τ) (Cert.KernelAdamwIdeal.main (F := Ideal))) ⟨m, fun _ => 0, g⟩ (fun r => (∀ c : Dev Cert.KernelAdamwIdeal.nD,
      r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
      ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
      ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
      ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3)
      ∧ r.2.mem ((c.tc : Thread Cert.KernelAdamwIdeal.nD Cert.KernelAdamwIdeal.τ).loc Cert.KernelAdamwIdeal.main_arg4) = m ((c.tc : Thread Cert.KernelAdamwIdeal.nD Cert.KernelAdamwIdeal.τ).loc Cert.KernelAdamwIdeal.main_arg4))
      ∧ r.2.sem = fun _ => 0)

def quiescent_ReferenceAdamwIdeal [hReferenceAdamwIdeal : Cert.ReferenceAdamwIdeal.Facts] : Prop :=
  ∀ (m : (ℓ : Loc Cert.ReferenceAdamwIdeal.nD Cert.ReferenceAdamwIdeal.τ Cert.ReferenceAdamwIdeal.sig) → Buf (Elt Ideal) ℓ) (g : Dev Cert.ReferenceAdamwIdeal.nD → PrngReg), Pre_ReferenceAdamwIdeal m →
    θ_run (Cert.ReferenceAdamwIdeal.defs (F := Ideal)) (onTc (τ := Cert.ReferenceAdamwIdeal.τ) (Cert.ReferenceAdamwIdeal.main (F := Ideal))) ⟨m, fun _ => 0, g⟩ (fun r => (∀ c : Dev Cert.ReferenceAdamwIdeal.nD,
      r.2.mem ((c.tc : Thread Cert.ReferenceAdamwIdeal.nD Cert.ReferenceAdamwIdeal.τ).loc Cert.ReferenceAdamwIdeal.main_arg0) = m ((c.tc : Thread Cert.ReferenceAdamwIdeal.nD Cert.ReferenceAdamwIdeal.τ).loc Cert.ReferenceAdamwIdeal.main_arg0)
      ∧ r.2.mem ((c.tc : Thread Cert.ReferenceAdamwIdeal.nD Cert.ReferenceAdamwIdeal.τ).loc Cert.ReferenceAdamwIdeal.main_arg1) = m ((c.tc : Thread Cert.ReferenceAdamwIdeal.nD Cert.ReferenceAdamwIdeal.τ).loc Cert.ReferenceAdamwIdeal.main_arg1)
      ∧ r.2.mem ((c.tc : Thread Cert.ReferenceAdamwIdeal.nD Cert.ReferenceAdamwIdeal.τ).loc Cert.ReferenceAdamwIdeal.main_arg2) = m ((c.tc : Thread Cert.ReferenceAdamwIdeal.nD Cert.ReferenceAdamwIdeal.τ).loc Cert.ReferenceAdamwIdeal.main_arg2)
      ∧ r.2.mem ((c.tc : Thread Cert.ReferenceAdamwIdeal.nD Cert.ReferenceAdamwIdeal.τ).loc Cert.ReferenceAdamwIdeal.main_arg3) = m ((c.tc : Thread Cert.ReferenceAdamwIdeal.nD Cert.ReferenceAdamwIdeal.τ).loc Cert.ReferenceAdamwIdeal.main_arg3)
      ∧ r.2.mem ((c.tc : Thread Cert.ReferenceAdamwIdeal.nD Cert.ReferenceAdamwIdeal.τ).loc Cert.ReferenceAdamwIdeal.main_arg4) = m ((c.tc : Thread Cert.ReferenceAdamwIdeal.nD Cert.ReferenceAdamwIdeal.τ).loc Cert.ReferenceAdamwIdeal.main_arg4))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v93_0)) (v1 : (c : Dev Cert.KernelIdeal.nD) → Buf (Elt Ideal) ((c.tc : Thread Cert.KernelIdeal.nD Cert.KernelIdeal.τ).loc Cert.KernelIdeal.main_v93_1)) (v2 : (c : Dev Cert.KernelIdeal.nD) → Buf (Elt Ideal) ((c.tc : Thread Cert.KernelIdeal.nD Cert.KernelIdeal.τ).loc Cert.KernelIdeal.main_v93_2)) (v3 : (c : Dev Cert.KernelIdeal.nD) → Buf (Elt Ideal) ((c.tc : Thread Cert.KernelIdeal.nD Cert.KernelIdeal.τ).loc Cert.KernelIdeal.main_v93_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_v93_1) = v1 c
          ∧ r.2.mem ((c.tc : Thread Cert.KernelIdeal.nD Cert.KernelIdeal.τ).loc Cert.KernelIdeal.main_v93_2) = v2 c
          ∧ r.2.mem ((c.tc : Thread Cert.KernelIdeal.nD Cert.KernelIdeal.τ).loc Cert.KernelIdeal.main_v93_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_v192) = v1 c
          ∧ r.2.mem ((c.tc : Thread Cert.ReferenceIdeal.nD Cert.ReferenceIdeal.τ).loc Cert.ReferenceIdeal.main_v193) = v2 c
          ∧ r.2.mem ((c.tc : Thread Cert.ReferenceIdeal.nD Cert.ReferenceIdeal.τ).loc Cert.ReferenceIdeal.main_v195) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)) →
    ∃ (v0 : (c : Dev Cert.KernelDownDwIdeal.nD) → Buf (Elt Ideal) ((c.tc : Thread Cert.KernelDownDwIdeal.nD Cert.KernelDownDwIdeal.τ).loc Cert.KernelDownDwIdeal.main_v0)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v0) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v5) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v0)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v0) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v5) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v0)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v0) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v7) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)
      ∧ m' ((c.tc : Thread Cert.ReferenceInDxIdeal.nD Cert.ReferenceInDxIdeal.τ).loc Cert.ReferenceInDxIdeal.main_arg2) = m ((c.tc : Thread Cert.KernelInDxIdeal.nD Cert.KernelInDxIdeal.τ).loc Cert.KernelInDxIdeal.main_arg2)
      ∧ m' ((c.tc : Thread Cert.ReferenceInDxIdeal.nD Cert.ReferenceInDxIdeal.τ).loc Cert.ReferenceInDxIdeal.main_arg3) = m ((c.tc : Thread Cert.KernelInDxIdeal.nD Cert.KernelInDxIdeal.τ).loc Cert.KernelInDxIdeal.main_arg3)
      ∧ m' ((c.tc : Thread Cert.ReferenceInDxIdeal.nD Cert.ReferenceInDxIdeal.τ).loc Cert.ReferenceInDxIdeal.main_arg4) = m ((c.tc : Thread Cert.KernelInDxIdeal.nD Cert.KernelInDxIdeal.τ).loc Cert.KernelInDxIdeal.main_arg4)) →
    ∃ (v0 : (c : Dev Cert.KernelInDxIdeal.nD) → Buf (Elt Ideal) ((c.tc : Thread Cert.KernelInDxIdeal.nD Cert.KernelInDxIdeal.τ).loc Cert.KernelInDxIdeal.main_v0_0)) (v1 : (c : Dev Cert.KernelInDxIdeal.nD) → Buf (Elt Ideal) ((c.tc : Thread Cert.KernelInDxIdeal.nD Cert.KernelInDxIdeal.τ).loc Cert.KernelInDxIdeal.main_v0_1)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v0_0) = v0 c
          ∧ r.2.mem ((c.tc : Thread Cert.KernelInDxIdeal.nD Cert.KernelInDxIdeal.τ).loc Cert.KernelInDxIdeal.main_v0_1) = v1 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1)
          ∧ r.2.mem ((c.tc : Thread Cert.KernelInDxIdeal.nD Cert.KernelInDxIdeal.τ).loc Cert.KernelInDxIdeal.main_arg2) = m ((c.tc : Thread Cert.KernelInDxIdeal.nD Cert.KernelInDxIdeal.τ).loc Cert.KernelInDxIdeal.main_arg2)
          ∧ r.2.mem ((c.tc : Thread Cert.KernelInDxIdeal.nD Cert.KernelInDxIdeal.τ).loc Cert.KernelInDxIdeal.main_arg3) = m ((c.tc : Thread Cert.KernelInDxIdeal.nD Cert.KernelInDxIdeal.τ).loc Cert.KernelInDxIdeal.main_arg3)
          ∧ r.2.mem ((c.tc : Thread Cert.KernelInDxIdeal.nD Cert.KernelInDxIdeal.τ).loc Cert.KernelInDxIdeal.main_arg4) = m ((c.tc : Thread Cert.KernelInDxIdeal.nD Cert.KernelInDxIdeal.τ).loc Cert.KernelInDxIdeal.main_arg4))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v42) = v0 c
          ∧ r.2.mem ((c.tc : Thread Cert.ReferenceInDxIdeal.nD Cert.ReferenceInDxIdeal.τ).loc Cert.ReferenceInDxIdeal.main_v43) = v1 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1)
          ∧ r.2.mem ((c.tc : Thread Cert.ReferenceInDxIdeal.nD Cert.ReferenceInDxIdeal.τ).loc Cert.ReferenceInDxIdeal.main_arg2) = m' ((c.tc : Thread Cert.ReferenceInDxIdeal.nD Cert.ReferenceInDxIdeal.τ).loc Cert.ReferenceInDxIdeal.main_arg2)
          ∧ r.2.mem ((c.tc : Thread Cert.ReferenceInDxIdeal.nD Cert.ReferenceInDxIdeal.τ).loc Cert.ReferenceInDxIdeal.main_arg3) = m' ((c.tc : Thread Cert.ReferenceInDxIdeal.nD Cert.ReferenceInDxIdeal.τ).loc Cert.ReferenceInDxIdeal.main_arg3)
          ∧ r.2.mem ((c.tc : Thread Cert.ReferenceInDxIdeal.nD Cert.ReferenceInDxIdeal.τ).loc Cert.ReferenceInDxIdeal.main_arg4) = m' ((c.tc : Thread Cert.ReferenceInDxIdeal.nD Cert.ReferenceInDxIdeal.τ).loc Cert.ReferenceInDxIdeal.main_arg4))

def preserves_KernelOutDx_KernelOutDxIdeal : Prop :=
  True

def algebraic_KernelOutDxIdeal_ReferenceOutDxIdeal [hKernelOutDxIdeal : Cert.KernelOutDxIdeal.Facts] [hReferenceOutDxIdeal : Cert.ReferenceOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg)
    (m' : (ℓ : Loc Cert.ReferenceOutDxIdeal.nD Cert.ReferenceOutDxIdeal.τ Cert.ReferenceOutDxIdeal.sig) → Buf (Elt Ideal) ℓ) (g' : Dev Cert.ReferenceOutDxIdeal.nD → PrngReg), Pre_KernelOutDxIdeal m →
    (∀ c : Dev Cert.KernelOutDxIdeal.nD,
      m' ((c.tc : Thread Cert.ReferenceOutDxIdeal.nD Cert.ReferenceOutDxIdeal.τ).loc Cert.ReferenceOutDxIdeal.main_arg0) = m ((c.tc : Thread Cert.KernelOutDxIdeal.nD Cert.KernelOutDxIdeal.τ).loc Cert.KernelOutDxIdeal.main_arg0)
      ∧ m' ((c.tc : Thread Cert.ReferenceOutDxIdeal.nD Cert.ReferenceOutDxIdeal.τ).loc Cert.ReferenceOutDxIdeal.main_arg1) = m ((c.tc : Thread Cert.KernelOutDxIdeal.nD Cert.KernelOutDxIdeal.τ).loc Cert.KernelOutDxIdeal.main_arg1)
      ∧ m' ((c.tc : Thread Cert.ReferenceOutDxIdeal.nD Cert.ReferenceOutDxIdeal.τ).loc Cert.ReferenceOutDxIdeal.main_arg2) = m ((c.tc : Thread Cert.KernelOutDxIdeal.nD Cert.KernelOutDxIdeal.τ).loc Cert.KernelOutDxIdeal.main_arg2)
      ∧ m' ((c.tc : Thread Cert.ReferenceOutDxIdeal.nD Cert.ReferenceOutDxIdeal.τ).loc Cert.ReferenceOutDxIdeal.main_arg3) = m ((c.tc : Thread Cert.KernelOutDxIdeal.nD Cert.KernelOutDxIdeal.τ).loc Cert.KernelOutDxIdeal.main_arg3)
      ∧ m' ((c.tc : Thread Cert.ReferenceOutDxIdeal.nD Cert.ReferenceOutDxIdeal.τ).loc Cert.ReferenceOutDxIdeal.main_arg4) = m ((c.tc : Thread Cert.KernelOutDxIdeal.nD Cert.KernelOutDxIdeal.τ).loc Cert.KernelOutDxIdeal.main_arg4)
      ∧ m' ((c.tc : Thread Cert.ReferenceOutDxIdeal.nD Cert.ReferenceOutDxIdeal.τ).loc Cert.ReferenceOutDxIdeal.main_arg5) = m ((c.tc : Thread Cert.KernelOutDxIdeal.nD Cert.KernelOutDxIdeal.τ).loc Cert.KernelOutDxIdeal.main_arg5)) →
    ∃ (v0 : (c : Dev Cert.KernelOutDxIdeal.nD) → Buf (Elt Ideal) ((c.tc : Thread Cert.KernelOutDxIdeal.nD Cert.KernelOutDxIdeal.τ).loc Cert.KernelOutDxIdeal.main_v0_0)) (v1 : (c : Dev Cert.KernelOutDxIdeal.nD) → Buf (Elt Ideal) ((c.tc : Thread Cert.KernelOutDxIdeal.nD Cert.KernelOutDxIdeal.τ).loc Cert.KernelOutDxIdeal.main_v0_1)) (v2 : (c : Dev Cert.KernelOutDxIdeal.nD) → Buf (Elt Ideal) ((c.tc : Thread Cert.KernelOutDxIdeal.nD Cert.KernelOutDxIdeal.τ).loc Cert.KernelOutDxIdeal.main_v0_2)) (v3 : (c : Dev Cert.KernelOutDxIdeal.nD) → Buf (Elt Ideal) ((c.tc : Thread Cert.KernelOutDxIdeal.nD Cert.KernelOutDxIdeal.τ).loc Cert.KernelOutDxIdeal.main_v0_3)),
      θ_run (Cert.KernelOutDxIdeal.defs (F := Ideal)) (onTc (τ := Cert.KernelOutDxIdeal.τ) (Cert.KernelOutDxIdeal.main (F := Ideal))) ⟨m, fun _ => 0, g⟩ (fun r => ∀ c : Dev Cert.KernelOutDxIdeal.nD,
          r.2.mem ((c.tc : Thread Cert.KernelOutDxIdeal.nD Cert.KernelOutDxIdeal.τ).loc Cert.KernelOutDxIdeal.main_v0_0) = v0 c
          ∧ r.2.mem ((c.tc : Thread Cert.KernelOutDxIdeal.nD Cert.KernelOutDxIdeal.τ).loc Cert.KernelOutDxIdeal.main_v0_1) = v1 c
          ∧ r.2.mem ((c.tc : Thread Cert.KernelOutDxIdeal.nD Cert.KernelOutDxIdeal.τ).loc Cert.KernelOutDxIdeal.main_v0_2) = v2 c
          ∧ r.2.mem ((c.tc : Thread Cert.KernelOutDxIdeal.nD Cert.KernelOutDxIdeal.τ).loc Cert.KernelOutDxIdeal.main_v0_3) = v3 c
          ∧ r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
          ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1)
          ∧ r.2.mem ((c.tc : Thread Cert.KernelOutDxIdeal.nD Cert.KernelOutDxIdeal.τ).loc Cert.KernelOutDxIdeal.main_arg2) = m ((c.tc : Thread Cert.KernelOutDxIdeal.nD Cert.KernelOutDxIdeal.τ).loc Cert.KernelOutDxIdeal.main_arg2)
          ∧ r.2.mem ((c.tc : Thread Cert.KernelOutDxIdeal.nD Cert.KernelOutDxIdeal.τ).loc Cert.KernelOutDxIdeal.main_arg3) = m ((c.tc : Thread Cert.KernelOutDxIdeal.nD Cert.KernelOutDxIdeal.τ).loc Cert.KernelOutDxIdeal.main_arg3)
          ∧ r.2.mem ((c.tc : Thread Cert.KernelOutDxIdeal.nD Cert.KernelOutDxIdeal.τ).loc Cert.KernelOutDxIdeal.main_arg4) = m ((c.tc : Thread Cert.KernelOutDxIdeal.nD Cert.KernelOutDxIdeal.τ).loc Cert.KernelOutDxIdeal.main_arg4)
          ∧ r.2.mem ((c.tc : Thread Cert.KernelOutDxIdeal.nD Cert.KernelOutDxIdeal.τ).loc Cert.KernelOutDxIdeal.main_arg5) = m ((c.tc : Thread Cert.KernelOutDxIdeal.nD Cert.KernelOutDxIdeal.τ).loc Cert.KernelOutDxIdeal.main_arg5))
      ∧ θ_run (Cert.ReferenceOutDxIdeal.defs (F := Ideal)) (onTc (τ := Cert.ReferenceOutDxIdeal.τ) (Cert.ReferenceOutDxIdeal.main (F := Ideal))) ⟨m', fun _ => 0, g'⟩ (fun r => ∀ c : Dev Cert.ReferenceOutDxIdeal.nD,
          r.2.mem ((c.tc : Thread Cert.ReferenceOutDxIdeal.nD Cert.ReferenceOutDxIdeal.τ).loc Cert.ReferenceOutDxIdeal.main_v80) = v0 c
          ∧ r.2.mem ((c.tc : Thread Cert.ReferenceOutDxIdeal.nD Cert.ReferenceOutDxIdeal.τ).loc Cert.ReferenceOutDxIdeal.main_v60) = v1 c
          ∧ r.2.mem ((c.tc : Thread Cert.ReferenceOutDxIdeal.nD Cert.ReferenceOutDxIdeal.τ).loc Cert.ReferenceOutDxIdeal.main_v81) = v2 c
          ∧ r.2.mem ((c.tc : Thread Cert.ReferenceOutDxIdeal.nD Cert.ReferenceOutDxIdeal.τ).loc Cert.ReferenceOutDxIdeal.main_v82) = v3 c
          ∧ r.2.mem ((c.tc : Thread Cert.ReferenceOutDxIdeal.nD Cert.ReferenceOutDxIdeal.τ).loc Cert.ReferenceOutDxIdeal.main_arg0) = m' ((c.tc : Thread Cert.ReferenceOutDxIdeal.nD Cert.ReferenceOutDxIdeal.τ).loc Cert.ReferenceOutDxIdeal.main_arg0)
          ∧ r.2.mem ((c.tc : Thread Cert.ReferenceOutDxIdeal.nD Cert.ReferenceOutDxIdeal.τ).loc Cert.ReferenceOutDxIdeal.main_arg1) = m' ((c.tc : Thread Cert.ReferenceOutDxIdeal.nD Cert.ReferenceOutDxIdeal.τ).loc Cert.ReferenceOutDxIdeal.main_arg1)
          ∧ r.2.mem ((c.tc : Thread Cert.ReferenceOutDxIdeal.nD Cert.ReferenceOutDxIdeal.τ).loc Cert.ReferenceOutDxIdeal.main_arg2) = m' ((c.tc : Thread Cert.ReferenceOutDxIdeal.nD Cert.ReferenceOutDxIdeal.τ).loc Cert.ReferenceOutDxIdeal.main_arg2)
          ∧ r.2.mem ((c.tc : Thread Cert.ReferenceOutDxIdeal.nD Cert.ReferenceOutDxIdeal.τ).loc Cert.ReferenceOutDxIdeal.main_arg3) = m' ((c.tc : Thread Cert.ReferenceOutDxIdeal.nD Cert.ReferenceOutDxIdeal.τ).loc Cert.ReferenceOutDxIdeal.main_arg3)
          ∧ r.2.mem ((c.tc : Thread Cert.ReferenceOutDxIdeal.nD Cert.ReferenceOutDxIdeal.τ).loc Cert.ReferenceOutDxIdeal.main_arg4) = m' ((c.tc : Thread Cert.ReferenceOutDxIdeal.nD Cert.ReferenceOutDxIdeal.τ).loc Cert.ReferenceOutDxIdeal.main_arg4)
          ∧ r.2.mem ((c.tc : Thread Cert.ReferenceOutDxIdeal.nD Cert.ReferenceOutDxIdeal.τ).loc Cert.ReferenceOutDxIdeal.main_arg5) = m' ((c.tc : Thread Cert.ReferenceOutDxIdeal.nD Cert.ReferenceOutDxIdeal.τ).loc Cert.ReferenceOutDxIdeal.main_arg5))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v0_0)) (v1 : (c : Dev Cert.KernelDownIdeal.nD) → Buf (Elt Ideal) ((c.tc : Thread Cert.KernelDownIdeal.nD Cert.KernelDownIdeal.τ).loc Cert.KernelDownIdeal.main_v0_1)) (v2 : (c : Dev Cert.KernelDownIdeal.nD) → Buf (Elt Ideal) ((c.tc : Thread Cert.KernelDownIdeal.nD Cert.KernelDownIdeal.τ).loc Cert.KernelDownIdeal.main_v0_2)) (v3 : (c : Dev Cert.KernelDownIdeal.nD) → Buf (Elt Ideal) ((c.tc : Thread Cert.KernelDownIdeal.nD Cert.KernelDownIdeal.τ).loc Cert.KernelDownIdeal.main_v0_3)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0_0) = v0 c
          ∧ r.2.mem ((c.tc : Thread Cert.KernelDownIdeal.nD Cert.KernelDownIdeal.τ).loc Cert.KernelDownIdeal.main_v0_1) = v1 c
          ∧ r.2.mem ((c.tc : Thread Cert.KernelDownIdeal.nD Cert.KernelDownIdeal.τ).loc Cert.KernelDownIdeal.main_v0_2) = v2 c
          ∧ r.2.mem ((c.tc : Thread Cert.KernelDownIdeal.nD Cert.KernelDownIdeal.τ).loc Cert.KernelDownIdeal.main_v0_3) = v3 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v56) = v0 c
          ∧ r.2.mem ((c.tc : Thread Cert.ReferenceDownIdeal.nD Cert.ReferenceDownIdeal.τ).loc Cert.ReferenceDownIdeal.main_v55) = v1 c
          ∧ r.2.mem ((c.tc : Thread Cert.ReferenceDownIdeal.nD Cert.ReferenceDownIdeal.τ).loc Cert.ReferenceDownIdeal.main_v57) = v2 c
          ∧ r.2.mem ((c.tc : Thread Cert.ReferenceDownIdeal.nD Cert.ReferenceDownIdeal.τ).loc Cert.ReferenceDownIdeal.main_v58) = v3 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)) →
    ∃ (v0 : (c : Dev Cert.KernelOutIdeal.nD) → Buf (Elt Ideal) ((c.tc : Thread Cert.KernelOutIdeal.nD Cert.KernelOutIdeal.τ).loc Cert.KernelOutIdeal.main_v0_0)) (v1 : (c : Dev Cert.KernelOutIdeal.nD) → Buf (Elt Ideal) ((c.tc : Thread Cert.KernelOutIdeal.nD Cert.KernelOutIdeal.τ).loc Cert.KernelOutIdeal.main_v0_1)) (v2 : (c : Dev Cert.KernelOutIdeal.nD) → Buf (Elt Ideal) ((c.tc : Thread Cert.KernelOutIdeal.nD Cert.KernelOutIdeal.τ).loc Cert.KernelOutIdeal.main_v0_2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0_0) = v0 c
          ∧ r.2.mem ((c.tc : Thread Cert.KernelOutIdeal.nD Cert.KernelOutIdeal.τ).loc Cert.KernelOutIdeal.main_v0_1) = v1 c
          ∧ r.2.mem ((c.tc : Thread Cert.KernelOutIdeal.nD Cert.KernelOutIdeal.τ).loc Cert.KernelOutIdeal.main_v0_2) = v2 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v32) = v0 c
          ∧ r.2.mem ((c.tc : Thread Cert.ReferenceOutIdeal.nD Cert.ReferenceOutIdeal.τ).loc Cert.ReferenceOutIdeal.main_v31) = v1 c
          ∧ r.2.mem ((c.tc : Thread Cert.ReferenceOutIdeal.nD Cert.ReferenceOutIdeal.τ).loc Cert.ReferenceOutIdeal.main_v47) = v2 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v30_0)) (v1 : (c : Dev Cert.KernelInIdeal.nD) → Buf (Elt Ideal) ((c.tc : Thread Cert.KernelInIdeal.nD Cert.KernelInIdeal.τ).loc Cert.KernelInIdeal.main_v30_1)) (v2 : (c : Dev Cert.KernelInIdeal.nD) → Buf (Elt Ideal) ((c.tc : Thread Cert.KernelInIdeal.nD Cert.KernelInIdeal.τ).loc Cert.KernelInIdeal.main_v30_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v30_0) = v0 c
          ∧ r.2.mem ((c.tc : Thread Cert.KernelInIdeal.nD Cert.KernelInIdeal.τ).loc Cert.KernelInIdeal.main_v30_1) = v1 c
          ∧ r.2.mem ((c.tc : Thread Cert.KernelInIdeal.nD Cert.KernelInIdeal.τ).loc Cert.KernelInIdeal.main_v30_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v87) = v0 c
          ∧ r.2.mem ((c.tc : Thread Cert.ReferenceInIdeal.nD Cert.ReferenceInIdeal.τ).loc Cert.ReferenceInIdeal.main_v88) = v1 c
          ∧ r.2.mem ((c.tc : Thread Cert.ReferenceInIdeal.nD Cert.ReferenceInIdeal.τ).loc Cert.ReferenceInIdeal.main_v89) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)) →
    ∃ (v0 : (c : Dev Cert.KernelGluIdeal.nD) → Buf (Elt Ideal) ((c.tc : Thread Cert.KernelGluIdeal.nD Cert.KernelGluIdeal.τ).loc Cert.KernelGluIdeal.main_v0_0)) (v1 : (c : Dev Cert.KernelGluIdeal.nD) → Buf (Elt Ideal) ((c.tc : Thread Cert.KernelGluIdeal.nD Cert.KernelGluIdeal.τ).loc Cert.KernelGluIdeal.main_v0_1)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v0_0) = v0 c
          ∧ r.2.mem ((c.tc : Thread Cert.KernelGluIdeal.nD Cert.KernelGluIdeal.τ).loc Cert.KernelGluIdeal.main_v0_1) = v1 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v15) = v0 c
          ∧ r.2.mem ((c.tc : Thread Cert.ReferenceGluIdeal.nD Cert.ReferenceGluIdeal.τ).loc Cert.ReferenceGluIdeal.main_v8) = v1 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1))

def preserves_KernelGluBwd_KernelGluBwdIdeal : Prop :=
  IdealRules.named_const.Statement Cert.KernelGluBwdIdeal.κ "inv_sqrt_two" .f32 0x3F3504F3#32 (((Real.sqrt 2)⁻¹ : ℝ) : EReal)
  ∧ IdealRules.named_const.Statement Cert.KernelGluBwdIdeal.κ "inv_sqrt_two_pi" .f32 0x3ECC422A#32 (((Real.sqrt (2 * Real.pi))⁻¹ : ℝ) : EReal)

def preserves_ReferenceGluBwd_ReferenceGluBwdIdeal : Prop :=
  IdealRules.named_const.Statement Cert.ReferenceGluBwdIdeal.κ "inv_sqrt_two" .f32 0x3F3504F3#32 (((Real.sqrt 2)⁻¹ : ℝ) : EReal)
  ∧ IdealRules.named_const.Statement Cert.ReferenceGluBwdIdeal.κ "two_over_sqrt_pi" .f32 0x3F906EBB#32 ((2 * (Real.sqrt Real.pi)⁻¹ : ℝ) : EReal)

def algebraic_KernelGluBwdIdeal_ReferenceGluBwdIdeal_pre_finite_gate [hKernelGluBwdIdeal : Cert.KernelGluBwdIdeal.Facts] [hReferenceGluBwdIdeal : Cert.ReferenceGluBwdIdeal.Facts] [hPre_finite_gate : Cert.Pre_finite_gate.Facts] : Prop :=
  ∀ (m : (ℓ : Loc Cert.KernelGluBwdIdeal.nD Cert.KernelGluBwdIdeal.τ Cert.KernelGluBwdIdeal.sig) → Buf (Elt Ideal) ℓ) (g : Dev Cert.KernelGluBwdIdeal.nD → PrngReg)
    (m' : (ℓ : Loc Cert.ReferenceGluBwdIdeal.nD Cert.ReferenceGluBwdIdeal.τ Cert.ReferenceGluBwdIdeal.sig) → Buf (Elt Ideal) ℓ) (g' : Dev Cert.ReferenceGluBwdIdeal.nD → PrngReg), Pre_KernelGluBwdIdeal_finite_gate m →
    (∀ c : Dev Cert.KernelGluBwdIdeal.nD,
      m' ((c.tc : Thread Cert.ReferenceGluBwdIdeal.nD Cert.ReferenceGluBwdIdeal.τ).loc Cert.ReferenceGluBwdIdeal.main_arg0) = m ((c.tc : Thread Cert.KernelGluBwdIdeal.nD Cert.KernelGluBwdIdeal.τ).loc Cert.KernelGluBwdIdeal.main_arg0)
      ∧ m' ((c.tc : Thread Cert.ReferenceGluBwdIdeal.nD Cert.ReferenceGluBwdIdeal.τ).loc Cert.ReferenceGluBwdIdeal.main_arg1) = m ((c.tc : Thread Cert.KernelGluBwdIdeal.nD Cert.KernelGluBwdIdeal.τ).loc Cert.KernelGluBwdIdeal.main_arg1)
      ∧ m' ((c.tc : Thread Cert.ReferenceGluBwdIdeal.nD Cert.ReferenceGluBwdIdeal.τ).loc Cert.ReferenceGluBwdIdeal.main_arg2) = m ((c.tc : Thread Cert.KernelGluBwdIdeal.nD Cert.KernelGluBwdIdeal.τ).loc Cert.KernelGluBwdIdeal.main_arg2)) →
    ∃ (v0 : (c : Dev Cert.KernelGluBwdIdeal.nD) → Buf (Elt Ideal) ((c.tc : Thread Cert.KernelGluBwdIdeal.nD Cert.KernelGluBwdIdeal.τ).loc Cert.KernelGluBwdIdeal.main_v1_0)) (v1 : (c : Dev Cert.KernelGluBwdIdeal.nD) → Buf (Elt Ideal) ((c.tc : Thread Cert.KernelGluBwdIdeal.nD Cert.KernelGluBwdIdeal.τ).loc Cert.KernelGluBwdIdeal.main_v1_1)),
      θ_run (Cert.KernelGluBwdIdeal.defs (F := Ideal)) (onTc (τ := Cert.KernelGluBwdIdeal.τ) (Cert.KernelGluBwdIdeal.main (F := Ideal))) ⟨m, fun _ => 0, g⟩ (fun r => ∀ c : Dev Cert.KernelGluBwdIdeal.nD,
          r.2.mem ((c.tc : Thread Cert.KernelGluBwdIdeal.nD Cert.KernelGluBwdIdeal.τ).loc Cert.KernelGluBwdIdeal.main_v1_0) = v0 c
          ∧ r.2.mem ((c.tc : Thread Cert.KernelGluBwdIdeal.nD Cert.KernelGluBwdIdeal.τ).loc Cert.KernelGluBwdIdeal.main_v1_1) = v1 c
          ∧ r.2.mem ((c.tc : Thread Cert.KernelGluBwdIdeal.nD Cert.KernelGluBwdIdeal.τ).loc Cert.KernelGluBwdIdeal.main_arg0) = m ((c.tc : Thread Cert.KernelGluBwdIdeal.nD Cert.KernelGluBwdIdeal.τ).loc Cert.KernelGluBwdIdeal.main_arg0)
          ∧ r.2.mem ((c.tc : Thread Cert.KernelGluBwdIdeal.nD Cert.KernelGluBwdIdeal.τ).loc Cert.KernelGluBwdIdeal.main_arg1) = m ((c.tc : Thread Cert.KernelGluBwdIdeal.nD Cert.KernelGluBwdIdeal.τ).loc Cert.KernelGluBwdIdeal.main_arg1)
          ∧ r.2.mem ((c.tc : Thread Cert.KernelGluBwdIdeal.nD Cert.KernelGluBwdIdeal.τ).loc Cert.KernelGluBwdIdeal.main_arg2) = m ((c.tc : Thread Cert.KernelGluBwdIdeal.nD Cert.KernelGluBwdIdeal.τ).loc Cert.KernelGluBwdIdeal.main_arg2))
      ∧ θ_run (Cert.ReferenceGluBwdIdeal.defs (F := Ideal)) (onTc (τ := Cert.ReferenceGluBwdIdeal.τ) (Cert.ReferenceGluBwdIdeal.main (F := Ideal))) ⟨m', fun _ => 0, g'⟩ (fun r => ∀ c : Dev Cert.ReferenceGluBwdIdeal.nD,
          r.2.mem ((c.tc : Thread Cert.ReferenceGluBwdIdeal.nD Cert.ReferenceGluBwdIdeal.τ).loc Cert.ReferenceGluBwdIdeal.main_v0_0) = v0 c
          ∧ r.2.mem ((c.tc : Thread Cert.ReferenceGluBwdIdeal.nD Cert.ReferenceGluBwdIdeal.τ).loc Cert.ReferenceGluBwdIdeal.main_v0_1) = v1 c
          ∧ r.2.mem ((c.tc : Thread Cert.ReferenceGluBwdIdeal.nD Cert.ReferenceGluBwdIdeal.τ).loc Cert.ReferenceGluBwdIdeal.main_arg0) = m' ((c.tc : Thread Cert.ReferenceGluBwdIdeal.nD Cert.ReferenceGluBwdIdeal.τ).loc Cert.ReferenceGluBwdIdeal.main_arg0)
          ∧ r.2.mem ((c.tc : Thread Cert.ReferenceGluBwdIdeal.nD Cert.ReferenceGluBwdIdeal.τ).loc Cert.ReferenceGluBwdIdeal.main_arg1) = m' ((c.tc : Thread Cert.ReferenceGluBwdIdeal.nD Cert.ReferenceGluBwdIdeal.τ).loc Cert.ReferenceGluBwdIdeal.main_arg1)
          ∧ r.2.mem ((c.tc : Thread Cert.ReferenceGluBwdIdeal.nD Cert.ReferenceGluBwdIdeal.τ).loc Cert.ReferenceGluBwdIdeal.main_arg2) = m' ((c.tc : Thread Cert.ReferenceGluBwdIdeal.nD Cert.ReferenceGluBwdIdeal.τ).loc Cert.ReferenceGluBwdIdeal.main_arg2))

def preserves_KernelRope_KernelRopeIdeal : Prop :=
  True

def algebraic_KernelRopeIdeal_ReferenceRopeIdeal [hKernelRopeIdeal : Cert.KernelRopeIdeal.Facts] [hReferenceRopeIdeal : Cert.ReferenceRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.ReferenceRopeIdeal.nD Cert.ReferenceRopeIdeal.τ Cert.ReferenceRopeIdeal.sig) → Buf (Elt Ideal) ℓ) (g' : Dev Cert.ReferenceRopeIdeal.nD → PrngReg), Pre_KernelRopeIdeal m →
    (∀ c : Dev Cert.KernelRopeIdeal.nD,
      m' ((c.tc : Thread Cert.ReferenceRopeIdeal.nD Cert.ReferenceRopeIdeal.τ).loc Cert.ReferenceRopeIdeal.main_arg0) = m ((c.tc : Thread Cert.KernelRopeIdeal.nD Cert.KernelRopeIdeal.τ).loc Cert.KernelRopeIdeal.main_arg0)
      ∧ m' ((c.tc : Thread Cert.ReferenceRopeIdeal.nD Cert.ReferenceRopeIdeal.τ).loc Cert.ReferenceRopeIdeal.main_arg1) = m ((c.tc : Thread Cert.KernelRopeIdeal.nD Cert.KernelRopeIdeal.τ).loc Cert.KernelRopeIdeal.main_arg1)
      ∧ m' ((c.tc : Thread Cert.ReferenceRopeIdeal.nD Cert.ReferenceRopeIdeal.τ).loc Cert.ReferenceRopeIdeal.main_arg2) = m ((c.tc : Thread Cert.KernelRopeIdeal.nD Cert.KernelRopeIdeal.τ).loc Cert.KernelRopeIdeal.main_arg2)
      ∧ m' ((c.tc : Thread Cert.ReferenceRopeIdeal.nD Cert.ReferenceRopeIdeal.τ).loc Cert.ReferenceRopeIdeal.main_arg3) = m ((c.tc : Thread Cert.KernelRopeIdeal.nD Cert.KernelRopeIdeal.τ).loc Cert.KernelRopeIdeal.main_arg3)) →
    ∃ (v0 : (c : Dev Cert.KernelRopeIdeal.nD) → Buf (Elt Ideal) ((c.tc : Thread Cert.KernelRopeIdeal.nD Cert.KernelRopeIdeal.τ).loc Cert.KernelRopeIdeal.main_v30)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v30) = v0 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
          ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1)
          ∧ r.2.mem ((c.tc : Thread Cert.KernelRopeIdeal.nD Cert.KernelRopeIdeal.τ).loc Cert.KernelRopeIdeal.main_arg2) = m ((c.tc : Thread Cert.KernelRopeIdeal.nD Cert.KernelRopeIdeal.τ).loc Cert.KernelRopeIdeal.main_arg2)
          ∧ r.2.mem ((c.tc : Thread Cert.KernelRopeIdeal.nD Cert.KernelRopeIdeal.τ).loc Cert.KernelRopeIdeal.main_arg3) = m ((c.tc : Thread Cert.KernelRopeIdeal.nD Cert.KernelRopeIdeal.τ).loc Cert.KernelRopeIdeal.main_arg3))
      ∧ θ_run (Cert.ReferenceRopeIdeal.defs (F := Ideal)) (onTc (τ := Cert.ReferenceRopeIdeal.τ) (Cert.ReferenceRopeIdeal.main (F := Ideal))) ⟨m', fun _ => 0, g'⟩ (fun r => ∀ c : Dev Cert.ReferenceRopeIdeal.nD,
          r.2.mem ((c.tc : Thread Cert.ReferenceRopeIdeal.nD Cert.ReferenceRopeIdeal.τ).loc Cert.ReferenceRopeIdeal.main_v120) = v0 c
          ∧ r.2.mem ((c.tc : Thread Cert.ReferenceRopeIdeal.nD Cert.ReferenceRopeIdeal.τ).loc Cert.ReferenceRopeIdeal.main_arg0) = m' ((c.tc : Thread Cert.ReferenceRopeIdeal.nD Cert.ReferenceRopeIdeal.τ).loc Cert.ReferenceRopeIdeal.main_arg0)
          ∧ r.2.mem ((c.tc : Thread Cert.ReferenceRopeIdeal.nD Cert.ReferenceRopeIdeal.τ).loc Cert.ReferenceRopeIdeal.main_arg1) = m' ((c.tc : Thread Cert.ReferenceRopeIdeal.nD Cert.ReferenceRopeIdeal.τ).loc Cert.ReferenceRopeIdeal.main_arg1)
          ∧ r.2.mem ((c.tc : Thread Cert.ReferenceRopeIdeal.nD Cert.ReferenceRopeIdeal.τ).loc Cert.ReferenceRopeIdeal.main_arg2) = m' ((c.tc : Thread Cert.ReferenceRopeIdeal.nD Cert.ReferenceRopeIdeal.τ).loc Cert.ReferenceRopeIdeal.main_arg2)
          ∧ r.2.mem ((c.tc : Thread Cert.ReferenceRopeIdeal.nD Cert.ReferenceRopeIdeal.τ).loc Cert.ReferenceRopeIdeal.main_arg3) = m' ((c.tc : Thread Cert.ReferenceRopeIdeal.nD Cert.ReferenceRopeIdeal.τ).loc Cert.ReferenceRopeIdeal.main_arg3))

def preserves_KernelAdamw_KernelAdamwIdeal : Prop :=
  True

def algebraic_KernelAdamwIdeal_ReferenceAdamwIdeal [hKernelAdamwIdeal : Cert.KernelAdamwIdeal.Facts] [hReferenceAdamwIdeal : Cert.ReferenceAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg)
    (m' : (ℓ : Loc Cert.ReferenceAdamwIdeal.nD Cert.ReferenceAdamwIdeal.τ Cert.ReferenceAdamwIdeal.sig) → Buf (Elt Ideal) ℓ) (g' : Dev Cert.ReferenceAdamwIdeal.nD → PrngReg), Pre_KernelAdamwIdeal m →
    (∀ c : Dev Cert.KernelAdamwIdeal.nD,
      m' ((c.tc : Thread Cert.ReferenceAdamwIdeal.nD Cert.ReferenceAdamwIdeal.τ).loc Cert.ReferenceAdamwIdeal.main_arg0) = m ((c.tc : Thread Cert.KernelAdamwIdeal.nD Cert.KernelAdamwIdeal.τ).loc Cert.KernelAdamwIdeal.main_arg0)
      ∧ m' ((c.tc : Thread Cert.ReferenceAdamwIdeal.nD Cert.ReferenceAdamwIdeal.τ).loc Cert.ReferenceAdamwIdeal.main_arg1) = m ((c.tc : Thread Cert.KernelAdamwIdeal.nD Cert.KernelAdamwIdeal.τ).loc Cert.KernelAdamwIdeal.main_arg1)
      ∧ m' ((c.tc : Thread Cert.ReferenceAdamwIdeal.nD Cert.ReferenceAdamwIdeal.τ).loc Cert.ReferenceAdamwIdeal.main_arg2) = m ((c.tc : Thread Cert.KernelAdamwIdeal.nD Cert.KernelAdamwIdeal.τ).loc Cert.KernelAdamwIdeal.main_arg2)
      ∧ m' ((c.tc : Thread Cert.ReferenceAdamwIdeal.nD Cert.ReferenceAdamwIdeal.τ).loc Cert.ReferenceAdamwIdeal.main_arg3) = m ((c.tc : Thread Cert.KernelAdamwIdeal.nD Cert.KernelAdamwIdeal.τ).loc Cert.KernelAdamwIdeal.main_arg3)
      ∧ m' ((c.tc : Thread Cert.ReferenceAdamwIdeal.nD Cert.ReferenceAdamwIdeal.τ).loc Cert.ReferenceAdamwIdeal.main_arg4) = m ((c.tc : Thread Cert.KernelAdamwIdeal.nD Cert.KernelAdamwIdeal.τ).loc Cert.KernelAdamwIdeal.main_arg4)) →
    ∃ (v0 : (c : Dev Cert.KernelAdamwIdeal.nD) → Buf (Elt Ideal) ((c.tc : Thread Cert.KernelAdamwIdeal.nD Cert.KernelAdamwIdeal.τ).loc Cert.KernelAdamwIdeal.main_v0_0)) (v1 : (c : Dev Cert.KernelAdamwIdeal.nD) → Buf (Elt Ideal) ((c.tc : Thread Cert.KernelAdamwIdeal.nD Cert.KernelAdamwIdeal.τ).loc Cert.KernelAdamwIdeal.main_v0_1)) (v2 : (c : Dev Cert.KernelAdamwIdeal.nD) → Buf (Elt Ideal) ((c.tc : Thread Cert.KernelAdamwIdeal.nD Cert.KernelAdamwIdeal.τ).loc Cert.KernelAdamwIdeal.main_v0_2)) (v3 : (c : Dev Cert.KernelAdamwIdeal.nD) → Buf (Elt Ideal) ((c.tc : Thread Cert.KernelAdamwIdeal.nD Cert.KernelAdamwIdeal.τ).loc Cert.KernelAdamwIdeal.main_v0_3)),
      θ_run (Cert.KernelAdamwIdeal.defs (F := Ideal)) (onTc (τ := Cert.KernelAdamwIdeal.τ) (Cert.KernelAdamwIdeal.main (F := Ideal))) ⟨m, fun _ => 0, g⟩ (fun r => ∀ c : Dev Cert.KernelAdamwIdeal.nD,
          r.2.mem ((c.tc : Thread Cert.KernelAdamwIdeal.nD Cert.KernelAdamwIdeal.τ).loc Cert.KernelAdamwIdeal.main_v0_0) = v0 c
          ∧ r.2.mem ((c.tc : Thread Cert.KernelAdamwIdeal.nD Cert.KernelAdamwIdeal.τ).loc Cert.KernelAdamwIdeal.main_v0_1) = v1 c
          ∧ r.2.mem ((c.tc : Thread Cert.KernelAdamwIdeal.nD Cert.KernelAdamwIdeal.τ).loc Cert.KernelAdamwIdeal.main_v0_2) = v2 c
          ∧ r.2.mem ((c.tc : Thread Cert.KernelAdamwIdeal.nD Cert.KernelAdamwIdeal.τ).loc Cert.KernelAdamwIdeal.main_v0_3) = v3 c
          ∧ r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
          ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
          ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
          ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3)
          ∧ r.2.mem ((c.tc : Thread Cert.KernelAdamwIdeal.nD Cert.KernelAdamwIdeal.τ).loc Cert.KernelAdamwIdeal.main_arg4) = m ((c.tc : Thread Cert.KernelAdamwIdeal.nD Cert.KernelAdamwIdeal.τ).loc Cert.KernelAdamwIdeal.main_arg4))
      ∧ θ_run (Cert.ReferenceAdamwIdeal.defs (F := Ideal)) (onTc (τ := Cert.ReferenceAdamwIdeal.τ) (Cert.ReferenceAdamwIdeal.main (F := Ideal))) ⟨m', fun _ => 0, g'⟩ (fun r => ∀ c : Dev Cert.ReferenceAdamwIdeal.nD,
          r.2.mem ((c.tc : Thread Cert.ReferenceAdamwIdeal.nD Cert.ReferenceAdamwIdeal.τ).loc Cert.ReferenceAdamwIdeal.main_v2) = v0 c
          ∧ r.2.mem ((c.tc : Thread Cert.ReferenceAdamwIdeal.nD Cert.ReferenceAdamwIdeal.τ).loc Cert.ReferenceAdamwIdeal.main_v26) = v1 c
          ∧ r.2.mem ((c.tc : Thread Cert.ReferenceAdamwIdeal.nD Cert.ReferenceAdamwIdeal.τ).loc Cert.ReferenceAdamwIdeal.main_v7) = v2 c
          ∧ r.2.mem ((c.tc : Thread Cert.ReferenceAdamwIdeal.nD Cert.ReferenceAdamwIdeal.τ).loc Cert.ReferenceAdamwIdeal.main_v13) = v3 c
          ∧ r.2.mem ((c.tc : Thread Cert.ReferenceAdamwIdeal.nD Cert.ReferenceAdamwIdeal.τ).loc Cert.ReferenceAdamwIdeal.main_arg0) = m' ((c.tc : Thread Cert.ReferenceAdamwIdeal.nD Cert.ReferenceAdamwIdeal.τ).loc Cert.ReferenceAdamwIdeal.main_arg0)
          ∧ r.2.mem ((c.tc : Thread Cert.ReferenceAdamwIdeal.nD Cert.ReferenceAdamwIdeal.τ).loc Cert.ReferenceAdamwIdeal.main_arg1) = m' ((c.tc : Thread Cert.ReferenceAdamwIdeal.nD Cert.ReferenceAdamwIdeal.τ).loc Cert.ReferenceAdamwIdeal.main_arg1)
          ∧ r.2.mem ((c.tc : Thread Cert.ReferenceAdamwIdeal.nD Cert.ReferenceAdamwIdeal.τ).loc Cert.ReferenceAdamwIdeal.main_arg2) = m' ((c.tc : Thread Cert.ReferenceAdamwIdeal.nD Cert.ReferenceAdamwIdeal.τ).loc Cert.ReferenceAdamwIdeal.main_arg2)
          ∧ r.2.mem ((c.tc : Thread Cert.ReferenceAdamwIdeal.nD Cert.ReferenceAdamwIdeal.τ).loc Cert.ReferenceAdamwIdeal.main_arg3) = m' ((c.tc : Thread Cert.ReferenceAdamwIdeal.nD Cert.ReferenceAdamwIdeal.τ).loc Cert.ReferenceAdamwIdeal.main_arg3)
          ∧ r.2.mem ((c.tc : Thread Cert.ReferenceAdamwIdeal.nD Cert.ReferenceAdamwIdeal.τ).loc Cert.ReferenceAdamwIdeal.main_arg4) = m' ((c.tc : Thread Cert.ReferenceAdamwIdeal.nD Cert.ReferenceAdamwIdeal.τ).loc Cert.ReferenceAdamwIdeal.main_arg4))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v0_0)) (v1 : (c : Dev Cert.KernelConvIdeal.nD) → Buf (Elt Ideal) ((c.tc : Thread Cert.KernelConvIdeal.nD Cert.KernelConvIdeal.τ).loc Cert.KernelConvIdeal.main_v0_1)) (v2 : (c : Dev Cert.KernelConvIdeal.nD) → Buf (Elt Ideal) ((c.tc : Thread Cert.KernelConvIdeal.nD Cert.KernelConvIdeal.τ).loc Cert.KernelConvIdeal.main_v0_2)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0_0) = v0 c
          ∧ r.2.mem ((c.tc : Thread Cert.KernelConvIdeal.nD Cert.KernelConvIdeal.τ).loc Cert.KernelConvIdeal.main_v0_1) = v1 c
          ∧ r.2.mem ((c.tc : Thread Cert.KernelConvIdeal.nD Cert.KernelConvIdeal.τ).loc Cert.KernelConvIdeal.main_v0_2) = v2 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v32) = v0 c
          ∧ r.2.mem ((c.tc : Thread Cert.ReferenceConvIdeal.nD Cert.ReferenceConvIdeal.τ).loc Cert.ReferenceConvIdeal.main_v33) = v1 c
          ∧ r.2.mem ((c.tc : Thread Cert.ReferenceConvIdeal.nD Cert.ReferenceConvIdeal.τ).loc Cert.ReferenceConvIdeal.main_v34) = v2 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDownDw : Cert.KernelDownDw.Facts) (hKernelDownDwIdeal : Cert.KernelDownDwIdeal.Facts) (hReferenceDownDwIdeal : Cert.ReferenceDownDwIdeal.Facts) (hKernelOutDw : Cert.KernelOutDw.Facts) (hKernelOutDwIdeal : Cert.KernelOutDwIdeal.Facts) (hReferenceOutDwIdeal : Cert.ReferenceOutDwIdeal.Facts) (hKernelInDw : Cert.KernelInDw.Facts) (hKernelInDwIdeal : Cert.KernelInDwIdeal.Facts) (hReferenceInDwIdeal : Cert.ReferenceInDwIdeal.Facts) (hKernelInDx : Cert.KernelInDx.Facts) (hKernelInDxIdeal : Cert.KernelInDxIdeal.Facts) (hReferenceInDxIdeal : Cert.ReferenceInDxIdeal.Facts) (hKernelOutDx : Cert.KernelOutDx.Facts) (hKernelOutDxIdeal : Cert.KernelOutDxIdeal.Facts) (hReferenceOutDxIdeal : Cert.ReferenceOutDxIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelGlu : Cert.KernelGlu.Facts) (hKernelGluIdeal : Cert.KernelGluIdeal.Facts) (hReferenceGluIdeal : Cert.ReferenceGluIdeal.Facts) (hKernelGluBwd : Cert.KernelGluBwd.Facts) (hKernelGluBwdIdeal : Cert.KernelGluBwdIdeal.Facts) (hReferenceGluBwdIdeal : Cert.ReferenceGluBwdIdeal.Facts) (hReferenceGluBwd : Cert.ReferenceGluBwd.Facts) (hKernelRope : Cert.KernelRope.Facts) (hKernelRopeIdeal : Cert.KernelRopeIdeal.Facts) (hReferenceRopeIdeal : Cert.ReferenceRopeIdeal.Facts) (hKernelAdamw : Cert.KernelAdamw.Facts) (hKernelAdamwIdeal : Cert.KernelAdamwIdeal.Facts) (hReferenceAdamwIdeal : Cert.ReferenceAdamwIdeal.Facts) (hKernelConv : Cert.KernelConv.Facts) (hKernelConvIdeal : Cert.KernelConvIdeal.Facts) (hReferenceConvIdeal : Cert.ReferenceConvIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelOutDx (hKernelOutDx := hKernelOutDx)
    ∧ quiescent_KernelOutDxIdeal (hKernelOutDxIdeal := hKernelOutDxIdeal)
    ∧ quiescent_ReferenceOutDxIdeal (hReferenceOutDxIdeal := hReferenceOutDxIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelGluBwd (hKernelGluBwd := hKernelGluBwd)
    ∧ quiescent_KernelGluBwdIdeal (hKernelGluBwdIdeal := hKernelGluBwdIdeal)
    ∧ quiescent_KernelGluBwdIdeal_pre_finite_gate (hKernelGluBwdIdeal := hKernelGluBwdIdeal) (hPre_finite_gate := hPre_finite_gate)
    ∧ quiescent_ReferenceGluBwdIdeal (hReferenceGluBwdIdeal := hReferenceGluBwdIdeal)
    ∧ quiescent_ReferenceGluBwdIdeal_pre_finite_gate (hReferenceGluBwdIdeal := hReferenceGluBwdIdeal) (hPre_finite_gate := hPre_finite_gate)
    ∧ quiescent_ReferenceGluBwd (hReferenceGluBwd := hReferenceGluBwd)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ quiescent_KernelAdamw (hKernelAdamw := hKernelAdamw)
    ∧ quiescent_KernelAdamwIdeal (hKernelAdamwIdeal := hKernelAdamwIdeal)
    ∧ quiescent_ReferenceAdamwIdeal (hReferenceAdamwIdeal := hReferenceAdamwIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelOutDx_KernelOutDxIdeal
    ∧ algebraic_KernelOutDxIdeal_ReferenceOutDxIdeal (hKernelOutDxIdeal := hKernelOutDxIdeal) (hReferenceOutDxIdeal := hReferenceOutDxIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelGlu_KernelGluIdeal
    ∧ algebraic_KernelGluIdeal_ReferenceGluIdeal (hKernelGluIdeal := hKernelGluIdeal) (hReferenceGluIdeal := hReferenceGluIdeal)
    ∧ preserves_KernelGluBwd_KernelGluBwdIdeal
    ∧ preserves_ReferenceGluBwd_ReferenceGluBwdIdeal
    ∧ algebraic_KernelGluBwdIdeal_ReferenceGluBwdIdeal_pre_finite_gate (hKernelGluBwdIdeal := hKernelGluBwdIdeal) (hReferenceGluBwdIdeal := hReferenceGluBwdIdeal) (hPre_finite_gate := hPre_finite_gate)
    ∧ preserves_KernelRope_KernelRopeIdeal
    ∧ algebraic_KernelRopeIdeal_ReferenceRopeIdeal (hKernelRopeIdeal := hKernelRopeIdeal) (hReferenceRopeIdeal := hReferenceRopeIdeal)
    ∧ preserves_KernelAdamw_KernelAdamwIdeal
    ∧ algebraic_KernelAdamwIdeal_ReferenceAdamwIdeal (hKernelAdamwIdeal := hKernelAdamwIdeal) (hReferenceAdamwIdeal := hReferenceAdamwIdeal)
    ∧ preserves_KernelConv_KernelConvIdeal
    ∧ algebraic_KernelConvIdeal_ReferenceConvIdeal (hKernelConvIdeal := hKernelConvIdeal) (hReferenceConvIdeal := hReferenceConvIdeal)
-- ==== Pre_finite.lean ====
abbrev S4096x768 : Shape := ⟨2, ![4096, 768]⟩
abbrev S8 : Shape := ⟨1, ![8]⟩
abbrev S4096x512 : Shape := ⟨2, ![4096, 512]⟩
abbrev S_ : Shape := ⟨0, ![]⟩

class Facts : Prop where
  bitsLt_bf16_f32 : FTy.bits .bf16 < FTy.bits .f32
  bcast_S_S4096x768 : S_.BroadcastsInDim S4096x768 (![] : Fin 0 → Fin S4096x768.rank)
  reducesTo_S4096x768_S_d0_1 : S4096x768.ReducesTo [0, 1] S_
  h_S_ : 0 < S_.numel
  bcast_S_S8 : S_.BroadcastsInDim S8 (![] : Fin 0 → Fin S8.rank)
  reducesTo_S8_S_d0 : S8.ReducesTo [0] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x768 .bf16) (main_arg1 : FVec F S8 .f32) (main_arg2 : FVec F S4096x512 .f32) : IVec S_ 1 :=
  let main_v0 : FVec F S4096x768 .f32 := (extf .f32 · bitsLt_bf16_f32) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  let main_c : IVec S_ 1 := constantI S_ 1 1#1
  let main_v4 : IVec S_ 1 := (fun x v => Host.reduce IntOp.andi x v reducesTo_S4096x768_S_d0_1 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  let main_v10 : FVec F S4096x512 .f32 := Host.absf main_arg2
  let main_cst_2 : FVec F S_ .f32 := constant S_ .f32 0x7F800000#32
  let main_v11 : FVec F S4096x512 .f32 := broadcastInDim S4096x512 ![] bcast_S_S4096x512 main_cst_2
  let main_v12 : IVec S4096x512 1 := cmpf .olt main_v10 main_v11
  let main_c_3 : IVec S_ 1 := constantI S_ 1 1#1
  let main_v13 : IVec S_ 1 := (fun x v => Host.reduce IntOp.andi x v reducesTo_S4096x512_S_d0_1 h_S_) main_v12 main_c_3
  let main_v14 : IVec S_ 1 := andi main_v9 main_v13
  main_v14
-- ==== Pre_finite_gate.lean ====
abbrev S4096x512 : Shape := ⟨2, ![4096, 512]⟩
abbrev S512x512 : Shape := ⟨2, ![512, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bitsLt_bf16_f32 : FTy.bits .bf16 < FTy.bits .f32
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4096x512 .f32) (main_arg1 : FVec F S4096x512 .f32) (main_arg2 : FVec F S512x512 .bf16) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512x512 .f32 := (extf .f32 · bitsLt_bf16_f32) main_arg2
  let main_v10 : FVec F S512x512 .f32 := Host.absf main_v9
  let main_cst_2 : FVec F S_ .f32 := constant S_ .f32 0x7F800000#32
  let main_v11 : FVec F S512x512 .f32 := broadcastInDim S512x512 ![] bcast_S_S512x512 main_cst_2
  let main_v12 : IVec S512x512 1 := cmpf .olt main_v10 main_v11
  let main_c_3 : IVec S_ 1 := constantI S_ 1 1#1
  let main_v13 : IVec S_ 1 := (fun x v => Host.reduce IntOp.andi x v reducesTo_S512x512_S_d0_1 h_S_) main_v12 main_c_3
  let main_v14 : IVec S_ 1 := andi main_v8 main_v13
  main_v14
-- ==== Kernel.lean ====
abbrev S4096x768 : Shape := ⟨2, ![4096, 768]⟩
abbrev S8 : Shape := ⟨1, ![8]⟩
abbrev S4096x512 : Shape := ⟨2, ![4096, 512]⟩
abbrev S1x4096x8x64 : Shape := ⟨4, ![1, 4096, 8, 64]⟩
abbrev S4096x128 : Shape := ⟨2, ![4096, 128]⟩
abbrev S1x4096x2x64 : Shape := ⟨4, ![1, 4096, 2, 64]⟩
abbrev S1x32x128x2x4x64 : Shape := ⟨6, ![1, 32, 128, 2, 4, 64]⟩
abbrev S_ : Shape := ⟨0, ![]⟩
abbrev S1x128x2x64 : Shape := ⟨4, ![1, 128, 2, 64]⟩
abbrev S1x4352x2x64 : Shape := ⟨4, ![1, 4352, 2, 64]⟩
abbrev S1x34x128x2x64 : Shape := ⟨5, ![1, 34, 128, 2, 64]⟩
abbrev S1x32x128x2x64 : Shape := ⟨5, ![1, 32, 128, 2, 64]⟩
abbrev S1x32x384x2x64 : Shape := ⟨5, ![1, 32, 384, 2, 64]⟩
abbrev S1x32x2x384x128x4 : Shape := ⟨6, ![1, 32, 2, 384, 128, 4]⟩
abbrev S1x32x2x4x128x384 : Shape := ⟨6, ![1, 32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x1x384 : Shape := ⟨3, ![32, 1, 384]⟩
abbrev S32x128x1 : Shape := ⟨3, ![32, 128, 1]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S32x8x128 : Shape := ⟨3, ![32, 8, 128]⟩
abbrev S32x128x8 : Shape := ⟨3, ![32, 128, 8]⟩
abbrev S4096x8 : Shape := ⟨2, ![4096, 8]⟩
abbrev S8x128 : Shape := ⟨2, ![8, 128]⟩
abbrev S128x512 : Shape := ⟨2, ![128, 512]⟩
abbrev S128x8 : Shape := ⟨2, ![128, 8]⟩
abbrev S128x384 : Shape := ⟨2, ![128, 384]⟩
abbrev S384x128 : Shape := ⟨2, ![384, 128]⟩
abbrev S384x64 : Shape := ⟨2, ![384, 64]⟩
abbrev S128x64 : Shape := ⟨2, ![128, 64]⟩
abbrev S128x1 : Shape := ⟨2, ![128, 1]⟩
abbrev S1 : Shape := ⟨1, ![1]⟩
abbrev S1x1 : Shape := ⟨2, ![1, 1]⟩

abbrev nBuf : Space → Nat
  | .hbm => 115
  | .vmem => 15
  | .smem => 1
  | _ => 0

abbrev bufTy : (tb : Table) → Fin (tcTables nBuf tb) → BufTy
  | .hbm, ⟨0, _⟩ => ⟨S4096x768, .bf16⟩
  | .hbm, ⟨1, _⟩ => ⟨S8, .f32⟩
  | .hbm, ⟨2, _⟩ => ⟨S4096x512, .f32⟩
  | .hbm, ⟨3, _⟩ => ⟨S4096x512, .bf16⟩
  | .hbm, ⟨4, _⟩ => ⟨S1x4096x8x64, .bf16⟩
  | .hbm, ⟨5, _⟩ => ⟨S1x4096x8x64, .f32⟩
  | .hbm, ⟨6, _⟩ => ⟨S4096x128, .bf16⟩
  | .hbm, ⟨7, _⟩ => ⟨S1x4096x2x64, .bf16⟩
  | .hbm, ⟨8, _⟩ => ⟨S1x4096x2x64, .f32⟩
  | .hbm, ⟨9, _⟩ => ⟨S4096x128, .bf16⟩
  | .hbm, ⟨10, _⟩ => ⟨S1x4096x2x64, .bf16⟩
  | .hbm, ⟨11, _⟩ => ⟨S1x4096x2x64, .f32⟩
  | .hbm, ⟨12, _⟩ => ⟨S1x32x128x2x4x64, .f32⟩
  | .hbm, ⟨13, _⟩ => ⟨S_, .f32⟩
  | .hbm, ⟨14, _⟩ => ⟨S1x128x2x64, .f32⟩
  | .hbm, ⟨15, _⟩ => ⟨S1x4352x2x64, .f32⟩
  | .hbm, ⟨16, _⟩ => ⟨S1x34x128x2x64, .f32⟩
  | .hbm, ⟨17, _⟩ => ⟨S1x32x128x2x64, .f32⟩
  | .hbm, ⟨18, _⟩ => ⟨S1x32x128x2x64, .f32⟩
  | .hbm, ⟨19, _⟩ => ⟨S1x32x128x2x64, .f32⟩
  | .hbm, ⟨20, _⟩ => ⟨S1x32x384x2x64, .f32⟩
  | .hbm, ⟨21, _⟩ => ⟨S1x32x2x384x128x4, .f32⟩
  | .hbm, ⟨22, _⟩ => ⟨S1x32x2x4x128x384, .f32⟩
  | .hbm, ⟨23, _⟩ => ⟨S_, .f32⟩
  | .hbm, ⟨24, _⟩ => ⟨S1x32x2x4x128x384, .f32⟩
  | .hbm, ⟨25, _⟩ => ⟨S1x32x2x4x128x384, .f32⟩
  | .hbm, ⟨26, _⟩ => ⟨S32, .i32⟩
  | .hbm, ⟨27, _⟩ => ⟨S32x1, .i32⟩
  | .hbm, ⟨28, _⟩ => ⟨S_, .i32⟩
  | .hbm, ⟨29, _⟩ => ⟨S32x1, .i32⟩
  | .hbm, ⟨30, _⟩ => ⟨S32x1, .i32⟩
  | .hbm, ⟨31, _⟩ => ⟨S128, .i32⟩
  | .hbm, ⟨32, _⟩ => ⟨S1x128, .i32⟩
  | .hbm, ⟨33, _⟩ => ⟨S32x128, .i32⟩
  | .hbm, ⟨34, _⟩ => ⟨S32x128, .i32⟩
  | .hbm, ⟨35, _⟩ => ⟨S32x128, .i32⟩
  | .hbm, ⟨36, _⟩ => ⟨S32, .i32⟩
  | .hbm, ⟨37, _⟩ => ⟨S32x1, .i32⟩
  | .hbm, ⟨38, _⟩ => ⟨S_, .i32⟩
  | .hbm, ⟨39, _⟩ => ⟨S32x1, .i32⟩
  | .hbm, ⟨40, _⟩ => ⟨S32x1, .i32⟩
  | .hbm, ⟨41, _⟩ => ⟨S_, .i32⟩
  | .hbm, ⟨42, _⟩ => ⟨S32x1, .i32⟩
  | .hbm, ⟨43, _⟩ => ⟨S32x1, .i32⟩
  | .hbm, ⟨44, _⟩ => ⟨S384, .i32⟩
  | .hbm, ⟨45, _⟩ => ⟨S1x384, .i32⟩
  | .hbm, ⟨46, _⟩ => ⟨S32x384, .i32⟩
  | .hbm, ⟨47, _⟩ => ⟨S32x384, .i32⟩
  | .hbm, ⟨48, _⟩ => ⟨S32x384, .i32⟩
  | .hbm, ⟨49, _⟩ => ⟨S32x1x384, .i32⟩
  | .hbm, ⟨50, _⟩ => ⟨S32x128x1, .i32⟩
  | .hbm, ⟨51, _⟩ => ⟨S32x128x384, .i32⟩
  | .hbm, ⟨52, _⟩ => ⟨S32x128x384, .i32⟩
  | .hbm, ⟨53, _⟩ => ⟨S32x128x384, .i32⟩
  | .hbm, ⟨54, _⟩ => ⟨S32x128x384, .i32⟩
  | .hbm, ⟨55, _⟩ => ⟨S_, .i32⟩
  | .hbm, ⟨56, _⟩ => ⟨S32x128x384, .i32⟩
  | .hbm, ⟨57, _⟩ => ⟨S32x128x384, .i1⟩
  | .hbm, ⟨58, _⟩ => ⟨S32x1x384, .i32⟩
  | .hbm, ⟨59, _⟩ => ⟨S_, .i32⟩
  | .hbm, ⟨60, _⟩ => ⟨S32x1x384, .i32⟩
  | .hbm, ⟨61, _⟩ => ⟨S32x1x384, .i1⟩
  | .hbm, ⟨62, _⟩ => ⟨S32x128x384, .i1⟩
  | .hbm, ⟨63, _⟩ => ⟨S32x128x384, .i1⟩
  | .hbm, ⟨64, _⟩ => ⟨S32x1x384, .i32⟩
  | .hbm, ⟨65, _⟩ => ⟨S_, .i32⟩
  | .hbm, ⟨66, _⟩ => ⟨S32x1x384, .i32⟩
  | .hbm, ⟨67, _⟩ => ⟨S32x1x384, .i1⟩
  | .hbm, ⟨68, _⟩ => ⟨S32x128x384, .i1⟩
  | .hbm, ⟨69, _⟩ => ⟨S32x128x384, .i1⟩
  | .hbm, ⟨70, _⟩ => ⟨S1x32x1x1x128x384, .i1⟩
  | .hbm, ⟨71, _⟩ => ⟨S_, .f32⟩
  | .hbm, ⟨72, _⟩ => ⟨S_, .f32⟩
  | .hbm, ⟨73, _⟩ => ⟨S1x32x2x4x128x384, .i1⟩
  | .hbm, ⟨74, _⟩ => ⟨S1x32x2x4x128x384, .f32⟩
  | .hbm, ⟨75, _⟩ => ⟨S1x32x2x4x128x384, .f32⟩
  | .hbm, ⟨76, _⟩ => ⟨S2x4, .f32⟩
  | .hbm, ⟨77, _⟩ => ⟨S1x1x2x4x1x1, .f32⟩
  | .hbm, ⟨78, _⟩ => ⟨S_, .f32⟩
  | .hbm, ⟨79, _⟩ => ⟨S1x32x2x4x128, .f32⟩
  | .hbm, ⟨80, _⟩ => ⟨S1x32x2x4x128x1, .f32⟩
  | .hbm, ⟨81, _⟩ => ⟨S1x32x2x4x128x1, .f32⟩
  | .hbm, ⟨82, _⟩ => ⟨S1x32x2x4x128x1, .f32⟩
  | .hbm, ⟨83, _⟩ => ⟨S1x32x2x4x128x384, .f32⟩
  | .hbm, ⟨84, _⟩ => ⟨S1x32x2x4x128x384, .f32⟩
  | .hbm, ⟨85, _⟩ => ⟨S1x32x2x4x128x384, .f32⟩
  | .hbm, ⟨86, _⟩ => ⟨S_, .f32⟩
  | .hbm, ⟨87, _⟩ => ⟨S1x32x2x4x128, .f32⟩
  | .hbm, ⟨88, _⟩ => ⟨S1x32x2x4x128x1, .f32⟩
  | .hbm, ⟨89, _⟩ => ⟨S1x32x2x4x128x1, .f32⟩
  | .hbm, ⟨90, _⟩ => ⟨S1x32x2x4x128x1, .f32⟩
  | .hbm, ⟨91, _⟩ => ⟨S1x32x2x4x128x1, .f32⟩
  | .hbm, ⟨92, _⟩ => ⟨S1x32x2x4x128x1, .f32⟩
  | .hbm, ⟨93, _⟩ => ⟨S1x32x2x4x128x384, .f32⟩
  | .hbm, ⟨94, _⟩ => ⟨S1x32x2x4x128x384, .f32⟩
  | .hbm, ⟨95, _⟩ => ⟨S_, .f32⟩
  | .hbm, ⟨96, _⟩ => ⟨S1x128x2x64, .f32⟩
  | .hbm, ⟨97, _⟩ => ⟨S1x4352x2x64, .f32⟩
  | .hbm, ⟨98, _⟩ => ⟨S1x34x128x2x64, .f32⟩
  | .hbm, ⟨99, _⟩ => ⟨S1x32x128x2x64, .f32⟩
  | .hbm, ⟨100, _⟩ => ⟨S1x32x128x2x64, .f32⟩
  | .hbm, ⟨101, _⟩ => ⟨S1x32x128x2x64, .f32⟩
  | .hbm, ⟨102, _⟩ => ⟨S1x32x384x2x64, .f32⟩
  | .hbm, ⟨103, _⟩ => ⟨S1x32x2x64x4x128, .f32⟩
  | .hbm, ⟨104, _⟩ => ⟨S1x32x128x2x4x64, .f32⟩
  | .hbm, ⟨105, _⟩ => ⟨S4096x512, .f32⟩
  | .hbm, ⟨106, _⟩ => ⟨S1x32x2x4x128x1, .f32⟩
  | .hbm, ⟨107, _⟩ => ⟨S1x32x2x4x128x1, .f32⟩
  | .hbm, ⟨108, _⟩ => ⟨S32x8x128, .f32⟩
  | .hbm, ⟨109, _⟩ => ⟨S32x128x8, .f32⟩
  | .hbm, ⟨110, _⟩ => ⟨S4096x8, .f32⟩
  | .hbm, ⟨111, _⟩ => ⟨S4096x512, .f32⟩
  | .hbm, ⟨112, _⟩ => ⟨S4096x128, .f32⟩
  | .hbm, ⟨113, _⟩ => ⟨S4096x128, .f32⟩
  | .hbm, ⟨114, _⟩ => ⟨S8x128, .f32⟩
  | .local _ .vmem, ⟨0, _⟩ => ⟨S128x512, .bf16⟩
  | .local _ .vmem, ⟨1, _⟩ => ⟨S128x512, .bf16⟩
  | .local _ .vmem, ⟨2, _⟩ => ⟨S4096x128, .bf16⟩
  | .local _ .vmem, ⟨3, _⟩ => ⟨S4096x128, .bf16⟩
  | .local _ .vmem, ⟨4, _⟩ => ⟨S128x512, .f32⟩
  | .local _ .vmem, ⟨5, _⟩ => ⟨S128x512, .f32⟩
  | .local _ .vmem, ⟨6, _⟩ => ⟨S128x8, .f32⟩
  | .local _ .vmem, ⟨7, _⟩ => ⟨S128x8, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S4096x128, .f32⟩
  | .local _ .vmem, ⟨13, _⟩ => ⟨S4096x128, .f32⟩
  | .local _ .vmem, ⟨14, _⟩ => ⟨S8x128, .f32⟩
  | .local _ .smem, ⟨0, _⟩ => ⟨S8, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_1 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_c_3 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_c_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_c_5 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_7 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_8 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_9 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93_0 : Ref sig .tc := ⟨.hbm, 111, rfl⟩
abbrev main_v93_1 : Ref sig .tc := ⟨.hbm, 112, rfl⟩
abbrev main_v93_2 : Ref sig .tc := ⟨.hbm, 113, rfl⟩
abbrev main_v93_3 : Ref sig .tc := ⟨.hbm, 114, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c3712_i32 : BitVec 32 := 3712#32
  let c0_i32_1 : BitVec 32 := 0#32
  let arg0 : BitVec 32 := BitVec.ofNat 32 (i 0).val
  let c1_i32 : BitVec 32 := 1#32
  let v3 : BitVec 32 := Scalar.subi arg0 c1_i32
  let c128_i32 : BitVec 32 := 128#32
  let v4 : BitVec 32 := Scalar.muli v3 c128_i32
  let v5 : BitVec 32 := Scalar.maxsi c0_i32_1 v4
  let v6 : BitVec 32 := Scalar.minsi c3712_i32 v5
  v6
def k0_off1 (i : grid0.Coords) : Fin 2 → Nat :=
  let c3712_i32 : BitVec 32 := 3712#32
  let c0_i32_1 : BitVec 32 := 0#32
  let arg0 : BitVec 32 := BitVec.ofNat 32 (i 0).val
  let c1_i32 : BitVec 32 := 1#32
  let v3 : BitVec 32 := Scalar.subi arg0 c1_i32
  let c128_i32 : BitVec 32 := 128#32
  let v4 : BitVec 32 := Scalar.muli v3 c128_i32
  let v5 : BitVec 32 := Scalar.maxsi c0_i32_1 v4
  let v6 : BitVec 32 := Scalar.minsi c3712_i32 v5
  let v7 : BitVec 32 := v6
  let v19 : Index := Scalar.indexCast v7
  let c0 : Index := 0#32
  ![v19.toNat, 0]
def k0_off2 (i : grid0.Coords) : Fin 2 → Nat :=
  let c3712_i32 : BitVec 32 := 3712#32
  let c0_i32_1 : BitVec 32 := 0#32
  let arg0 : BitVec 32 := BitVec.ofNat 32 (i 0).val
  let c1_i32 : BitVec 32 := 1#32
  let v3 : BitVec 32 := Scalar.subi arg0 c1_i32
  let c128_i32 : BitVec 32 := 128#32
  let v4 : BitVec 32 := Scalar.muli v3 c128_i32
  let v5 : BitVec 32 := Scalar.maxsi c0_i32_1 v4
  let v6 : BitVec 32 := Scalar.minsi c3712_i32 v5
  let v7 : BitVec 32 := v6
  let v215 : Index := Scalar.indexCast v7
  let c0_104 : Index := 0#32
  ![v215.toNat, 0]
def k0_off3 (i : grid0.Coords) : Fin 2 → Nat :=
  let c3712_i32 : BitVec 32 := 3712#32
  let c0_i32_1 : BitVec 32 := 0#32
  let arg0 : BitVec 32 := BitVec.ofNat 32 (i 0).val
  let c1_i32 : BitVec 32 := 1#32
  let v3 : BitVec 32 := Scalar.subi arg0 c1_i32
  let c128_i32 : BitVec 32 := 128#32
  let v4 : BitVec 32 := Scalar.muli v3 c128_i32
  let v5 : BitVec 32 := Scalar.maxsi c0_i32_1 v4
  let v6 : BitVec 32 := Scalar.minsi c3712_i32 v5
  let v7 : BitVec 32 := v6
  let v419 : Index := Scalar.indexCast v7
  let c64_206 : Index := 64#32
  ![v419.toNat, 64]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x768 : Shape := ⟨2, ![4096, 768]⟩
abbrev S8 : Shape := ⟨1, ![8]⟩
abbrev S4096x512 : Shape := ⟨2, ![4096, 512]⟩
abbrev S1x4096x8x64 : Shape := ⟨4, ![1, 4096, 8, 64]⟩
abbrev S4096x128 : Shape := ⟨2, ![4096, 128]⟩
abbrev S1x4096x2x64 : Shape := ⟨4, ![1, 4096, 2, 64]⟩
abbrev S1x32x128x2x4x64 : Shape := ⟨6, ![1, 32, 128, 2, 4, 64]⟩
abbrev S_ : Shape := ⟨0, ![]⟩
abbrev S1x128x2x64 : Shape := ⟨4, ![1, 128, 2, 64]⟩
abbrev S1x4352x2x64 : Shape := ⟨4, ![1, 4352, 2, 64]⟩
abbrev S1x34x128x2x64 : Shape := ⟨5, ![1, 34, 128, 2, 64]⟩
abbrev S1x32x128x2x64 : Shape := ⟨5, ![1, 32, 128, 2, 64]⟩
abbrev S1x32x384x2x64 : Shape := ⟨5, ![1, 32, 384, 2, 64]⟩
abbrev S1x32x2x384x128x4 : Shape := ⟨6, ![1, 32, 2, 384, 128, 4]⟩
abbrev S1x32x2x4x128x384 : Shape := ⟨6, ![1, 32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x1x384 : Shape := ⟨3, ![32, 1, 384]⟩
abbrev S32x128x1 : Shape := ⟨3, ![32, 128, 1]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S1x4096x512 : Shape := ⟨3, ![1, 4096, 512]⟩
abbrev S1x32x2x64x384 : Shape := ⟨5, ![1, 32, 2, 64, 384]⟩
abbrev S1x2x4x1 : Shape := ⟨4, ![1, 2, 4, 1]⟩
abbrev S32x2x4x128 : Shape := ⟨4, ![32, 2, 4, 128]⟩
abbrev S1x32x2x128x4x64 : Shape := ⟨6, ![1, 32, 2, 128, 4, 64]⟩
abbrev S1x32x2x384x64 : Shape := ⟨5, ![1, 32, 2, 384, 64]⟩
abbrev S8x1 : Shape := ⟨2, ![8, 1]⟩
abbrev S8x128 : Shape := ⟨2, ![8, 128]⟩

abbrev nBuf : Space → Nat
  | .hbm => 244
  | .vmem => 0
  | .smem => 0
  | _ => 0

abbrev hbmTy0_0 (i : Nat) : BufTy := match i % 128 with
  | 0 => ⟨S4096x768, .bf16⟩
  | 1 => ⟨S8, .f32⟩
  | 2 => ⟨S4096x512, .f32⟩
  | 3 => ⟨S4096x512, .bf16⟩
  | 4 => ⟨S1x4096x8x64, .bf16⟩
  | 5 => ⟨S1x4096x8x64, .f32⟩
  | 6 => ⟨S4096x128, .bf16⟩
  | 7 => ⟨S1x4096x2x64, .bf16⟩
  | 8 => ⟨S1x4096x2x64, .f32⟩
  | 9 => ⟨S4096x128, .bf16⟩
  | 10 => ⟨S1x4096x2x64, .bf16⟩
  | 11 => ⟨S1x4096x2x64, .f32⟩
  | 12 => ⟨S1x32x128x2x4x64, .f32⟩
  | 13 => ⟨S_, .f32⟩
  | 14 => ⟨S1x128x2x64, .f32⟩
  | 15 => ⟨S1x4352x2x64, .f32⟩
  | 16 => ⟨S_, .f32⟩
  | 17 => ⟨S1x128x2x64, .f32⟩
  | 18 => ⟨S_, .f32⟩
  | 19 => ⟨S1x128x2x64, .f32⟩
  | 20 => ⟨S1x34x128x2x64, .f32⟩
  | 21 => ⟨S1x32x128x2x64, .f32⟩
  | 22 => ⟨S1x32x128x2x64, .f32⟩
  | 23 => ⟨S1x32x128x2x64, .f32⟩
  | 24 => ⟨S1x32x384x2x64, .f32⟩
  | 25 => ⟨S1x32x2x384x128x4, .f32⟩
  | 26 => ⟨S1x32x2x4x128x384, .f32⟩
  | 27 => ⟨S_, .f32⟩
  | 28 => ⟨S1x32x2x4x128x384, .f32⟩
  | 29 => ⟨S1x32x2x4x128x384, .f32⟩
  | 30 => ⟨S32, .i32⟩
  | 31 => ⟨S32x1, .i32⟩
  | 32 => ⟨S_, .i32⟩
  | 33 => ⟨S32x1, .i32⟩
  | 34 => ⟨S32x1, .i32⟩
  | 35 => ⟨S128, .i32⟩
  | 36 => ⟨S1x128, .i32⟩
  | 37 => ⟨S32x128, .i32⟩
  | 38 => ⟨S32x128, .i32⟩
  | 39 => ⟨S32x128, .i32⟩
  | 40 => ⟨S32, .i32⟩
  | 41 => ⟨S32x1, .i32⟩
  | 42 => ⟨S_, .i32⟩
  | 43 => ⟨S32x1, .i32⟩
  | 44 => ⟨S32x1, .i32⟩
  | 45 => ⟨S_, .i32⟩
  | 46 => ⟨S32x1, .i32⟩
  | 47 => ⟨S32x1, .i32⟩
  | 48 => ⟨S384, .i32⟩
  | 49 => ⟨S1x384, .i32⟩
  | 50 => ⟨S32x384, .i32⟩
  | 51 => ⟨S32x384, .i32⟩
  | 52 => ⟨S32x384, .i32⟩
  | 53 => ⟨S32x1x384, .i32⟩
  | 54 => ⟨S32x128x1, .i32⟩
  | 55 => ⟨S32x128x384, .i32⟩
  | 56 => ⟨S32x128x384, .i32⟩
  | 57 => ⟨S32x128x384, .i32⟩
  | 58 => ⟨S32x128x384, .i32⟩
  | 59 => ⟨S_, .i32⟩
  | 60 => ⟨S32x128x384, .i32⟩
  | 61 => ⟨S32x128x384, .i1⟩
  | 62 => ⟨S32x1x384, .i32⟩
  | 63 => ⟨S_, .i32⟩
  | 64 => ⟨S32x1x384, .i32⟩
  | 65 => ⟨S32x1x384, .i1⟩
  | 66 => ⟨S32x128x384, .i1⟩
  | 67 => ⟨S32x128x384, .i1⟩
  | 68 => ⟨S32x1x384, .i32⟩
  | 69 => ⟨S_, .i32⟩
  | 70 => ⟨S32x1x384, .i32⟩
  | 71 => ⟨S32x1x384, .i1⟩
  | 72 => ⟨S32x128x384, .i1⟩
  | 73 => ⟨S32x128x384, .i1⟩
  | 74 => ⟨S1x32x1x1x128x384, .i1⟩
  | 75 => ⟨S_, .f32⟩
  | 76 => ⟨S_, .f32⟩
  | 77 => ⟨S1x32x2x4x128x384, .i1⟩
  | 78 => ⟨S1x32x2x4x128x384, .f32⟩
  | 79 => ⟨S1x32x2x4x128x384, .f32⟩
  | 80 => ⟨S_, .f32⟩
  | 81 => ⟨S1x32x2x4x128x384, .f32⟩
  | 82 => ⟨S2x4, .f32⟩
  | 83 => ⟨S1x1x2x4x1x1, .f32⟩
  | 84 => ⟨S_, .f32⟩
  | 85 => ⟨S1x32x2x4x128, .f32⟩
  | 86 => ⟨S1x32x2x4x128x1, .f32⟩
  | 87 => ⟨S1x32x2x4x128x384, .f32⟩
  | 88 => ⟨S1x32x2x4x128x384, .i1⟩
  | 89 => ⟨S1x32x2x4x128x384, .f32⟩
  | 90 => ⟨S_, .f32⟩
  | 91 => ⟨S1x32x2x4x128, .f32⟩
  | 92 => ⟨S1x32x2x4x128x1, .f32⟩
  | 93 => ⟨S1x32x2x4x128x1, .f32⟩
  | 94 => ⟨S1x32x2x4x128x1, .f32⟩
  | 95 => ⟨S1x32x2x4x128x1, .f32⟩
  | 96 => ⟨S1x32x2x4x128x1, .i1⟩
  | 97 => ⟨S1x32x2x4x128x1, .f32⟩
  | 98 => ⟨S1x32x2x4x128x1, .i1⟩
  | 99 => ⟨S_, .f32⟩
  | 100 => ⟨S1x32x2x4x128x1, .f32⟩
  | 101 => ⟨S_, .f32⟩
  | 102 => ⟨S1x32x2x4x128x1, .f32⟩
  | 103 => ⟨S_, .f32⟩
  | 104 => ⟨S1x32x2x4x128x1, .f32⟩
  | 105 => ⟨S1x32x2x4x128x1, .f32⟩
  | 106 => ⟨S1x32x2x4x128x1, .f32⟩
  | 107 => ⟨S1x32x2x4x128x1, .f32⟩
  | 108 => ⟨S1x32x2x4x128x1, .i1⟩
  | 109 => ⟨S1x32x2x4x128x1, .f32⟩
  | 110 => ⟨S1x32x2x4x128x1, .i1⟩
  | 111 => ⟨S_, .f32⟩
  | 112 => ⟨S1x32x2x4x128x1, .f32⟩
  | 113 => ⟨S_, .f32⟩
  | 114 => ⟨S1x32x2x4x128x1, .f32⟩
  | 115 => ⟨S_, .f32⟩
  | 116 => ⟨S1x32x2x4x128x1, .f32⟩
  | 117 => ⟨S1x32x2x4x128x1, .f32⟩
  | 118 => ⟨S1x32x2x4x128x1, .f32⟩
  | 119 => ⟨S1x32x2x4x128x384, .f32⟩
  | 120 => ⟨S1x32x2x4x128x384, .f32⟩
  | 121 => ⟨S1x32x2x4x128x384, .f32⟩
  | 122 => ⟨S_, .f32⟩
  | 123 => ⟨S1x32x2x4x128, .f32⟩
  | 124 => ⟨S1x32x2x4x128x1, .f32⟩
  | 125 => ⟨S1x32x2x4x128x1, .f32⟩
  | 126 => ⟨S1x32x2x4x128x1, .f32⟩
  | 127 => ⟨S1x32x2x4x128x1, .f32⟩
  | _ => ⟨S4096x768, .bf16⟩

abbrev hbmTy0_1 (i : Nat) : BufTy := match i % 128 with
  | 0 => ⟨S1x32x2x4x128x1, .f32⟩
  | 1 => ⟨S1x32x2x4x128x384, .f32⟩
  | 2 => ⟨S1x32x2x4x128x384, .f32⟩
  | 3 => ⟨S1x32x2x4x128x1, .f32⟩
  | 4 => ⟨S_, .f32⟩
  | 5 => ⟨S1x32x2x4x128x1, .f32⟩
  | 6 => ⟨S1x32x2x4x128x1, .f32⟩
  | 7 => ⟨S_, .f32⟩
  | 8 => ⟨S1x128x2x64, .f32⟩
  | 9 => ⟨S1x4352x2x64, .f32⟩
  | 10 => ⟨S_, .f32⟩
  | 11 => ⟨S1x128x2x64, .f32⟩
  | 12 => ⟨S_, .f32⟩
  | 13 => ⟨S1x128x2x64, .f32⟩
  | 14 => ⟨S1x34x128x2x64, .f32⟩
  | 15 => ⟨S1x32x128x2x64, .f32⟩
  | 16 => ⟨S1x32x128x2x64, .f32⟩
  | 17 => ⟨S1x32x128x2x64, .f32⟩
  | 18 => ⟨S1x32x384x2x64, .f32⟩
  | 19 => ⟨S1x32x2x64x4x128, .f32⟩
  | 20 => ⟨S1x32x128x2x4x64, .f32⟩
  | 21 => ⟨S1x4096x512, .f32⟩
  | 22 => ⟨S1x4096x512, .f32⟩
  | 23 => ⟨S1x32x128x2x4x64, .f32⟩
  | 24 => ⟨S1x32x2x64x4x128, .f32⟩
  | 25 => ⟨S1x32x2x4x128x384, .f32⟩
  | 26 => ⟨S1x32x2x64x384, .f32⟩
  | 27 => ⟨S1x32x384x2x64, .f32⟩
  | 28 => ⟨S1x32x128x2x64, .f32⟩
  | 29 => ⟨S1x32x128x2x64, .f32⟩
  | 30 => ⟨S1x32x128x2x64, .f32⟩
  | 31 => ⟨S_, .f32⟩
  | 32 => ⟨S1x34x128x2x64, .f32⟩
  | 33 => ⟨S_, .f32⟩
  | 34 => ⟨S1x34x128x2x64, .f32⟩
  | 35 => ⟨S1x34x128x2x64, .f32⟩
  | 36 => ⟨S_, .f32⟩
  | 37 => ⟨S1x34x128x2x64, .f32⟩
  | 38 => ⟨S1x34x128x2x64, .f32⟩
  | 39 => ⟨S1x4352x2x64, .f32⟩
  | 40 => ⟨S1x128x2x64, .f32⟩
  | 41 => ⟨S1x4096x2x64, .f32⟩
  | 42 => ⟨S1x128x2x64, .f32⟩
  | 43 => ⟨S1x32x2x4x128x384, .f32⟩
  | 44 => ⟨S1x32x2x4x128x384, .f32⟩
  | 45 => ⟨S1x32x2x4x128x384, .f32⟩
  | 46 => ⟨S_, .f32⟩
  | 47 => ⟨S1x32x2x4x128, .f32⟩
  | 48 => ⟨S1x32x2x4x128x1, .f32⟩
  | 49 => ⟨S1x32x2x4x128x1, .f32⟩
  | 50 => ⟨S1x32x2x4x128x384, .f32⟩
  | 51 => ⟨S1x32x2x4x128x384, .f32⟩
  | 52 => ⟨S1x32x2x4x128x1, .f32⟩
  | 53 => ⟨S_, .f32⟩
  | 54 => ⟨S1x2x4x1, .f32⟩
  | 55 => ⟨S1x1x2x4x1x1, .f32⟩
  | 56 => ⟨S1x32x2x4x128x1, .f32⟩
  | 57 => ⟨S_, .f32⟩
  | 58 => ⟨S32x2x4x128, .f32⟩
  | 59 => ⟨S1x32x2x4x128, .f32⟩
  | 60 => ⟨S1x32x2x4x128x384, .f32⟩
  | 61 => ⟨S1x32x2x4x128x384, .f32⟩
  | 62 => ⟨S1x32x2x4x128x384, .f32⟩
  | 63 => ⟨S1x32x2x4x128x384, .f32⟩
  | 64 => ⟨S_, .f32⟩
  | 65 => ⟨S1x32x2x4x128, .f32⟩
  | 66 => ⟨S1x32x2x4x128x1, .f32⟩
  | 67 => ⟨S1x32x2x4x128x1, .f32⟩
  | 68 => ⟨S1x32x2x4x128x1, .f32⟩
  | 69 => ⟨S_, .f32⟩
  | 70 => ⟨S1x2x4x1, .f32⟩
  | 71 => ⟨S1x1x2x4x1x1, .f32⟩
  | 72 => ⟨S1x1x2x4x1x1, .f32⟩
  | 73 => ⟨S1x32x2x4x128x1, .f32⟩
  | 74 => ⟨S_, .f32⟩
  | 75 => ⟨S32x2x4x128, .f32⟩
  | 76 => ⟨S1x32x2x4x128, .f32⟩
  | 77 => ⟨S1x32x2x4x128, .f32⟩
  | 78 => ⟨S1x32x2x4x128x384, .f32⟩
  | 79 => ⟨S1x32x2x4x128x384, .f32⟩
  | 80 => ⟨S1x32x2x4x128x384, .f32⟩
  | 81 => ⟨S_, .f32⟩
  | 82 => ⟨S2x4, .f32⟩
  | 83 => ⟨S8, .f32⟩
  | 84 => ⟨S_, .f32⟩
  | 85 => ⟨S1x32x2x4x128x384, .f32⟩
  | 86 => ⟨S1x32x2x4x128x384, .f32⟩
  | 87 => ⟨S_, .f32⟩
  | 88 => ⟨S1x32x2x4x128x384, .f32⟩
  | 89 => ⟨S1x32x2x4x128x384, .f32⟩
  | 90 => ⟨S1x32x2x384x128x4, .f32⟩
  | 91 => ⟨S1x32x2x128x4x64, .f32⟩
  | 92 => ⟨S1x32x128x2x4x64, .f32⟩
  | 93 => ⟨S1x32x2x384x64, .f32⟩
  | 94 => ⟨S1x32x384x2x64, .f32⟩
  | 95 => ⟨S1x32x128x2x64, .f32⟩
  | 96 => ⟨S1x32x128x2x64, .f32⟩
  | 97 => ⟨S1x32x128x2x64, .f32⟩
  | 98 => ⟨S_, .f32⟩
  | 99 => ⟨S1x34x128x2x64, .f32⟩
  | 100 => ⟨S_, .f32⟩
  | 101 => ⟨S1x34x128x2x64, .f32⟩
  | 102 => ⟨S1x34x128x2x64, .f32⟩
  | 103 => ⟨S_, .f32⟩
  | 104 => ⟨S1x34x128x2x64, .f32⟩
  | 105 => ⟨S1x34x128x2x64, .f32⟩
  | 106 => ⟨S1x4352x2x64, .f32⟩
  | 107 => ⟨S1x128x2x64, .f32⟩
  | 108 => ⟨S1x4096x2x64, .f32⟩
  | 109 => ⟨S1x128x2x64, .f32⟩
  | 110 => ⟨S1x4096x8x64, .f32⟩
  | 111 => ⟨S4096x512, .f32⟩
  | 112 => ⟨S4096x128, .f32⟩
  | 113 => ⟨S4096x128, .f32⟩
  | 114 => ⟨S8x1, .f32⟩
  | 115 => ⟨S8x128, .f32⟩
  | _ => ⟨S4096x768, .bf16⟩

abbrev hbmTy (i : Nat) : BufTy := match i / 128 with
  | 0 => hbmTy0_0 i
  | 1 => hbmTy0_1 i
  | _ => ⟨S4096x768, .bf16⟩

abbrev bufTy : (tb : Table) → Fin (tcTables nBuf tb) → BufTy
  | .hbm, ⟨i, _⟩ => hbmTy i
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_7 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_8 : Ref sig .tc := ⟨.hbm, 75, rfl⟩
abbrev main_call0_v0 : Ref sig .tc := ⟨.hbm, 76, rfl⟩
abbrev main_v62_1 : Ref sig .tc := ⟨.hbm, 77, rfl⟩
abbrev main_call0_v2 : Ref sig .tc := ⟨.hbm, 78, rfl⟩
abbrev main_v62_0 : Ref sig .tc := ⟨.hbm, 79, rfl⟩
abbrev main_call0_cst : Ref sig .tc := ⟨.hbm, 80, rfl⟩
abbrev main_v62_2 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_11 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_14 : Ref sig .tc := ⟨.hbm, 111, rfl⟩
abbrev main_v87 : Ref sig .tc := ⟨.hbm, 112, rfl⟩
abbrev main_cst_15 : Ref sig .tc := ⟨.hbm, 113, rfl⟩
abbrev main_v88 : Ref sig .tc := ⟨.hbm, 114, rfl⟩
abbrev main_cst_16 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_17 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_18 : Ref sig .tc := ⟨.hbm, 132, rfl⟩
abbrev main_v104 : Ref sig .tc := ⟨.hbm, 133, rfl⟩
abbrev main_v105 : Ref sig .tc := ⟨.hbm, 134, rfl⟩
abbrev main_cst_19 : Ref sig .tc := ⟨.hbm, 135, rfl⟩
abbrev main_v106 : Ref sig .tc := ⟨.hbm, 136, rfl⟩
abbrev main_v107 : Ref sig .tc := ⟨.hbm, 137, rfl⟩
abbrev main_cst_20 : Ref sig .tc := ⟨.hbm, 138, rfl⟩
abbrev main_v108 : Ref sig .tc := ⟨.hbm, 139, rfl⟩
abbrev main_cst_21 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_22 : Ref sig .tc := ⟨.hbm, 159, rfl⟩
abbrev main_v127 : Ref sig .tc := ⟨.hbm, 160, rfl⟩
abbrev main_cst_23 : Ref sig .tc := ⟨.hbm, 161, rfl⟩
abbrev main_v128 : Ref sig .tc := ⟨.hbm, 162, rfl⟩
abbrev main_v129 : Ref sig .tc := ⟨.hbm, 163, rfl⟩
abbrev main_cst_24 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_25 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_26 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_27 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_28 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_cst_29 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_30 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_cst_31 : Ref sig .tc := ⟨.hbm, 209, rfl⟩
abbrev main_v168 : Ref sig .tc := ⟨.hbm, 210, rfl⟩
abbrev main_v169 : Ref sig .tc := ⟨.hbm, 211, rfl⟩
abbrev main_call1_cst : Ref sig .tc := ⟨.hbm, 212, rfl⟩
abbrev main_call1_v0 : Ref sig .tc := ⟨.hbm, 213, rfl⟩
abbrev main_v170 : Ref sig .tc := ⟨.hbm, 214, rfl⟩
abbrev main_cst_32 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_cst_33 : Ref sig .tc := ⟨.hbm, 226, rfl⟩
abbrev main_v181 : Ref sig .tc := ⟨.hbm, 227, rfl⟩
abbrev main_cst_34 : Ref sig .tc := ⟨.hbm, 228, rfl⟩
abbrev main_v182 : Ref sig .tc := ⟨.hbm, 229, rfl⟩
abbrev main_v183 : Ref sig .tc := ⟨.hbm, 230, rfl⟩
abbrev main_cst_35 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩

abbrev nD : Nat := 1
abbrev τ : Topo := Topo.v7x

variable {F : FTy → Type} [FloatOps F]
-- ==== KernelUp.lean ====
abbrev S4096x1024 : Shape := ⟨2, ![4096, 1024]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDownDw.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDwIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOutDw.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDwIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelInDw.lean ====
abbrev S4096x1280 : Shape := ⟨2, ![4096, 1280]⟩
abbrev S4096x1024 : Shape := ⟨2, ![4096, 1024]⟩
abbrev S1280x1024 : Shape := ⟨2, ![1280, 1024]⟩
abbrev S4096x640 : Shape := ⟨2, ![4096, 640]⟩
abbrev S640x1024 : Shape := ⟨2, ![640, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S1280x1024, .f32⟩
  | .local _ .vmem, ⟨0, _⟩ => ⟨S4096x640, .bf16⟩
  | .local _ .vmem, ⟨1, _⟩ => ⟨S4096x640, .bf16⟩
  | .local _ .vmem, ⟨2, _⟩ => ⟨S4096x1024, .bf16⟩
  | .local _ .vmem, ⟨3, _⟩ => ⟨S640x1024, .f32⟩
  | .local _ .vmem, ⟨4, _⟩ => ⟨S640x1024, .f32⟩
  | .local _ .vmem, ⟨5, _⟩ => ⟨S8x128, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDwIdeal.lean ====
abbrev S4096x1280 : Shape := ⟨2, ![4096, 1280]⟩
abbrev S4096x1024 : Shape := ⟨2, ![4096, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 11
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S_, .f32⟩
  | .hbm, ⟨3, _⟩ => ⟨S1280x1024, .f32⟩
  | .hbm, ⟨4, _⟩ => ⟨S4096x1024, .f32⟩
  | .hbm, ⟨5, _⟩ => ⟨S1024x1280, .f32⟩
  | .hbm, ⟨6, _⟩ => ⟨S4096x1280, .f32⟩
  | .hbm, ⟨7, _⟩ => ⟨S4096x1280, .f32⟩
  | .hbm, ⟨8, _⟩ => ⟨S1280x1024, .f32⟩
  | .hbm, ⟨9, _⟩ => ⟨S1024x1280, .f32⟩
  | .hbm, ⟨10, _⟩ => ⟨S1280x1024, .f32⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelInDx.lean ====
abbrev S4096x1280 : Shape := ⟨2, ![4096, 1280]⟩
abbrev S1280x1024 : Shape := ⟨2, ![1280, 1024]⟩
abbrev S4096x1024 : Shape := ⟨2, ![4096, 1024]⟩
abbrev S1x1024 : Shape := ⟨2, ![1, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1280, .bf16⟩
  | .hbm, ⟨1, _⟩ => ⟨S1280x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1280, .bf16⟩
  | .local _ .vmem, ⟨1, _⟩ => ⟨S512x1280, .bf16⟩
  | .local _ .vmem, ⟨2, _⟩ => ⟨S1280x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceInDxIdeal.lean ====
abbrev S4096x1280 : Shape := ⟨2, ![4096, 1280]⟩
abbrev S1280x1024 : Shape := ⟨2, ![1280, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1280 : Shape := ⟨2, ![1024, 1280]⟩

abbrev nBuf : Space → Nat
  | .hbm => 58
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S1280x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1280x1024, .f32⟩
  | .hbm, ⟨27, _⟩ => ⟨S1024x1280, .f32⟩
  | .hbm, ⟨28, _⟩ => ⟨S4096x1280, .f32⟩
  | .hbm, ⟨29, _⟩ => ⟨S4096x1280, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== KernelOutDx.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S4096x512, .f32⟩
  | .hbm, ⟨7, _⟩ => ⟨S4096x512, .f32⟩
  | .hbm, ⟨8, _⟩ => ⟨S1x512, .f32⟩
  | .hbm, ⟨9, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S1x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceOutDxIdeal.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .f32⟩
  | .hbm, ⟨3, _⟩ => ⟨S4096x512, .f32⟩
  | .hbm, ⟨4, _⟩ => ⟨S1x512, .f32⟩
  | .hbm, ⟨5, _⟩ => ⟨S1x512, .f32⟩
  | .hbm, ⟨6, _⟩ => ⟨S512, .f32⟩
  | .hbm, ⟨7, _⟩ => ⟨S512, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x512, .f32⟩
  | .hbm, ⟨24, _⟩ => ⟨S4096x512, .f32⟩
  | .hbm, ⟨25, _⟩ => ⟨S1x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x512, .f32⟩
  | .hbm, ⟨44, _⟩ => ⟨S4096x512, .f32⟩
  | .hbm, ⟨45, _⟩ => ⟨S1x512, .f32⟩
  | .hbm, ⟨46, _⟩ => ⟨S4096x512, .f32⟩
  | .hbm, ⟨47, _⟩ => ⟨S4096x512, .f32⟩
  | .hbm, ⟨48, _⟩ => ⟨S4096x1024, .f32⟩
  | .hbm, ⟨49, _⟩ => ⟨S1024x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S4096x512, .f32⟩
  | .hbm, ⟨60, _⟩ => ⟨S4096x512, .f32⟩
  | .hbm, ⟨61, _⟩ => ⟨S_, .f32⟩
  | .hbm, ⟨62, _⟩ => ⟨S512, .f32⟩
  | .hbm, ⟨63, _⟩ => ⟨S4096x512, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x512, .f32⟩
  | .hbm, ⟨68, _⟩ => ⟨S4096x512, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S_, .f32⟩
  | .hbm, ⟨82, _⟩ => ⟨S512, .f32⟩
  | .hbm, ⟨83, _⟩ => ⟨S1x512, .f32⟩
  | .hbm, ⟨84, _⟩ => ⟨S4096x512, .f32⟩
  | .hbm, ⟨85, _⟩ => ⟨S4096x512, .f32⟩
  | .hbm, ⟨86, _⟩ => ⟨S_, .f32⟩
  | .hbm, ⟨87, _⟩ => ⟨S512, .f32⟩
  | .hbm, ⟨88, _⟩ => ⟨S4096x512, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x512, .f32⟩
  | .hbm, ⟨93, _⟩ => ⟨S4096x512, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x512, .f32⟩
  | .hbm, ⟨101, _⟩ => ⟨S4096x512, .f32⟩
  | .hbm, ⟨102, _⟩ => ⟨S4096x512, .f32⟩
  | .hbm, ⟨103, _⟩ => ⟨S4096x512, .f32⟩
  | .hbm, ⟨104, _⟩ => ⟨S4096x512, .f32⟩
  | .hbm, ⟨105, _⟩ => ⟨S1x512, .f32⟩
  | .hbm, ⟨106, _⟩ => ⟨S1x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩

abbrev nD : Nat := 1
abbrev τ : Topo := Topo.v7x

variable {F : FTy → Type} [FloatOps F]
-- ==== KernelDown.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== ReferenceDownIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x1, .f32⟩
  | .hbm, ⟨79, _⟩ => ⟨S4096x1024, .bf16⟩
  | .hbm, ⟨80, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== KernelOut.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S4096x1024, .f32⟩
  | .hbm, ⟨6, _⟩ => ⟨S1x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceOutIdeal.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S1x1024 : Shape := ⟨2, ![1, 1024]⟩
abbrev S512 : Shape := ⟨1, ![512]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1024x1024, .bf16⟩
  | .hbm, ⟨5, _⟩ => ⟨S4096x1024, .f32⟩
  | .hbm, ⟨6, _⟩ => ⟨S1x1024, .f32⟩
  | .hbm, ⟨7, _⟩ => ⟨S512, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x512, .f32⟩
  | .hbm, ⟨20, _⟩ => ⟨S4096x512, .f32⟩
  | .hbm, ⟨21, _⟩ => ⟨S1x512, .f32⟩
  | .hbm, ⟨22, _⟩ => ⟨S4096x512, .f32⟩
  | .hbm, ⟨23, _⟩ => ⟨S4096x512, .f32⟩
  | .hbm, ⟨24, _⟩ => ⟨S512, .f32⟩
  | .hbm, ⟨25, _⟩ => ⟨S4096x512, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x512, .f32⟩
  | .hbm, ⟨37, _⟩ => ⟨S4096x512, .f32⟩
  | .hbm, ⟨38, _⟩ => ⟨S1x512, .f32⟩
  | .hbm, ⟨39, _⟩ => ⟨S4096x512, .f32⟩
  | .hbm, ⟨40, _⟩ => ⟨S4096x512, .f32⟩
  | .hbm, ⟨41, _⟩ => ⟨S4096x1024, .f32⟩
  | .hbm, ⟨42, _⟩ => ⟨S1024x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== KernelIn.lean ====
abbrev S4096x1024 : Shape := ⟨2, ![4096, 1024]⟩
abbrev S1x1024 : Shape := ⟨2, ![1, 1024]⟩
abbrev S1280x1024 : Shape := ⟨2, ![1280, 1024]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x768 : Shape := ⟨2, ![4096, 768]⟩
abbrev S4096x512 : Shape := ⟨2, ![4096, 512]⟩
abbrev S512x1024 : Shape := ⟨2, ![512, 1024]⟩
abbrev S512x128 : Shape := ⟨2, ![512, 128]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S512x1280 : Shape := ⟨2, ![512, 1280]⟩

abbrev nBuf : Space → Nat
  | .hbm => 41
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1280x1024, .bf16⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S4096, .f32⟩
  | .hbm, ⟨12, _⟩ => ⟨S4096x1, .f32⟩
  | .hbm, ⟨13, _⟩ => ⟨S1x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S_, .f32⟩
  | .hbm, ⟨20, _⟩ => ⟨S4096x48, .f32⟩
  | .hbm, ⟨21, _⟩ => ⟨S_, .f32⟩
  | .hbm, ⟨22, _⟩ => ⟨S4096x48, .f32⟩
  | .hbm, ⟨23, _⟩ => ⟨S_, .f32⟩
  | .hbm, ⟨24, _⟩ => ⟨S4096x8, .f32⟩
  | .hbm, ⟨25, _⟩ => ⟨S4096x64, .f32⟩
  | .hbm, ⟨26, _⟩ => ⟨S4096x8, .f32⟩
  | .hbm, ⟨27, _⟩ => ⟨S4096x64, .f32⟩
  | .hbm, ⟨28, _⟩ => ⟨S4096x64, .f32⟩
  | .hbm, ⟨29, _⟩ => ⟨S1x4096x1x64, .f32⟩
  | .hbm, ⟨30, _⟩ => ⟨S1x4096x2x64, .f32⟩
  | .hbm, ⟨31, _⟩ => ⟨S4096x128, .f32⟩
  | .hbm, ⟨32, _⟩ => ⟨S1x4096x1x64, .f32⟩
  | .hbm, ⟨33, _⟩ => ⟨S1x4096x2x64, .f32⟩
  | .hbm, ⟨34, _⟩ => ⟨S4096x128, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S4096x1024, .bf16⟩
  | .hbm, ⟨39, _⟩ => ⟨S4096x768, .bf16⟩
  | .hbm, ⟨40, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1280x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x768, .bf16⟩
  | .local _ .vmem, ⟨13, _⟩ => ⟨S512x768, .bf16⟩
  | .local _ .vmem, ⟨14, _⟩ => ⟨S512x512, .f32⟩
  | .local _ .vmem, ⟨15, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceInIdeal.lean ====
abbrev S4096x1024 : Shape := ⟨2, ![4096, 1024]⟩
abbrev S1x1024 : Shape := ⟨2, ![1, 1024]⟩
abbrev S1280x1024 : Shape := ⟨2, ![1280, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1280 : Shape := ⟨2, ![1024, 1280]⟩
abbrev S4096x1280 : Shape := ⟨2, ![4096, 1280]⟩
abbrev S4096x512 : Shape := ⟨2, ![4096, 512]⟩
abbrev S4096x8x64 : Shape := ⟨3, ![4096, 8, 64]⟩
abbrev S8 : Shape := ⟨1, ![8]⟩
abbrev S1x8 : Shape := ⟨2, ![1, 8]⟩
abbrev S4096x8 : Shape := ⟨2, ![4096, 8]⟩
abbrev S4096x1x8 : Shape := ⟨3, ![4096, 1, 8]⟩
abbrev S4096x8x8 : Shape := ⟨3, ![4096, 8, 8]⟩
abbrev S4096x8x48 : Shape := ⟨3, ![4096, 8, 48]⟩
abbrev S4096x128 : Shape := ⟨2, ![4096, 128]⟩
abbrev S4096x2x64 : Shape := ⟨3, ![4096, 2, 64]⟩
abbrev S4096x2x8 : Shape := ⟨3, ![4096, 2, 8]⟩
abbrev S4096x2x48 : Shape := ⟨3, ![4096, 2, 48]⟩
abbrev S4096x768 : Shape := ⟨2, ![4096, 768]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1280x1024, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1280x1024, .f32⟩
  | .hbm, ⟨21, _⟩ => ⟨S1024x1280, .f32⟩
  | .hbm, ⟨22, _⟩ => ⟨S4096x1280, .f32⟩
  | .hbm, ⟨23, _⟩ => ⟨S4096x512, .f32⟩
  | .hbm, ⟨24, _⟩ => ⟨S4096x8x64, .f32⟩
  | .hbm, ⟨25, _⟩ => ⟨S4096, .i32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S4096, .f32⟩
  | .hbm, ⟨35, _⟩ => ⟨S4096x1, .f32⟩
  | .hbm, ⟨36, _⟩ => ⟨S1x8, .f32⟩
  | .hbm, ⟨37, _⟩ => ⟨S4096x8, .f32⟩
  | .hbm, ⟨38, _⟩ => ⟨S4096x8, .f32⟩
  | .hbm, ⟨39, _⟩ => ⟨S4096x8, .f32⟩
  | .hbm, ⟨40, _⟩ => ⟨S4096x8, .f32⟩
  | .hbm, ⟨41, _⟩ => ⟨S4096x1x8, .f32⟩
  | .hbm, ⟨42, _⟩ => ⟨S4096x8, .f32⟩
  | .hbm, ⟨43, _⟩ => ⟨S4096x1x8, .f32⟩
  | .hbm, ⟨44, _⟩ => ⟨S4096x8x8, .f32⟩
  | .hbm, ⟨45, _⟩ => ⟨S4096x8x8, .f32⟩
  | .hbm, ⟨46, _⟩ => ⟨S4096x8x48, .f32⟩
  | .hbm, ⟨47, _⟩ => ⟨S4096x8x8, .f32⟩
  | .hbm, ⟨48, _⟩ => ⟨S4096x8x8, .f32⟩
  | .hbm, ⟨49, _⟩ => ⟨S4096x8x8, .f32⟩
  | .hbm, ⟨50, _⟩ => ⟨S4096x8x8, .f32⟩
  | .hbm, ⟨51, _⟩ => ⟨S4096x8x8, .f32⟩
  | .hbm, ⟨52, _⟩ => ⟨S4096x8x8, .f32⟩
  | .hbm, ⟨53, _⟩ => ⟨S4096x8x8, .f32⟩
  | .hbm, ⟨54, _⟩ => ⟨S4096x8x8, .f32⟩
  | .hbm, ⟨55, _⟩ => ⟨S4096x8x8, .f32⟩
  | .hbm, ⟨56, _⟩ => ⟨S4096x8x8, .f32⟩
  | .hbm, ⟨57, _⟩ => ⟨S4096x8x64, .f32⟩
  | .hbm, ⟨58, _⟩ => ⟨S4096x128, .f32⟩
  | .hbm, ⟨59, _⟩ => ⟨S4096x2x64, .f32⟩
  | .hbm, ⟨60, _⟩ => ⟨S4096, .i32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S4096, .f32⟩
  | .hbm, ⟨70, _⟩ => ⟨S4096x1, .f32⟩
  | .hbm, ⟨71, _⟩ => ⟨S1x8, .f32⟩
  | .hbm, ⟨72, _⟩ => ⟨S4096x8, .f32⟩
  | .hbm, ⟨73, _⟩ => ⟨S4096x8, .f32⟩
  | .hbm, ⟨74, _⟩ => ⟨S4096x8, .f32⟩
  | .hbm, ⟨75, _⟩ => ⟨S4096x8, .f32⟩
  | .hbm, ⟨76, _⟩ => ⟨S4096x1x8, .f32⟩
  | .hbm, ⟨77, _⟩ => ⟨S4096x8, .f32⟩
  | .hbm, ⟨78, _⟩ => ⟨S4096x1x8, .f32⟩
  | .hbm, ⟨79, _⟩ => ⟨S4096x2x8, .f32⟩
  | .hbm, ⟨80, _⟩ => ⟨S4096x2x8, .f32⟩
  | .hbm, ⟨81, _⟩ => ⟨S4096x2x48, .f32⟩
  | .hbm, ⟨82, _⟩ => ⟨S4096x2x8, .f32⟩
  | .hbm, ⟨83, _⟩ => ⟨S4096x2x8, .f32⟩
  | .hbm, ⟨84, _⟩ => ⟨S4096x2x8, .f32⟩
  | .hbm, ⟨85, _⟩ => ⟨S4096x2x8, .f32⟩
  | .hbm, ⟨86, _⟩ => ⟨S4096x2x8, .f32⟩
  | .hbm, ⟨87, _⟩ => ⟨S4096x2x8, .f32⟩
  | .hbm, ⟨88, _⟩ => ⟨S4096x2x8, .f32⟩
  | .hbm, ⟨89, _⟩ => ⟨S4096x2x8, .f32⟩
  | .hbm, ⟨90, _⟩ => ⟨S4096x2x8, .f32⟩
  | .hbm, ⟨91, _⟩ => ⟨S4096x2x8, .f32⟩
  | .hbm, ⟨92, _⟩ => ⟨S4096x2x64, .f32⟩
  | .hbm, ⟨93, _⟩ => ⟨S4096x512, .f32⟩
  | .hbm, ⟨94, _⟩ => ⟨S4096x128, .f32⟩
  | .hbm, ⟨95, _⟩ => ⟨S4096x128, .f32⟩
  | .hbm, ⟨96, _⟩ => ⟨S4096x768, .f32⟩
  | .hbm, ⟨97, _⟩ => ⟨S4096x1024, .bf16⟩
  | .hbm, ⟨98, _⟩ => ⟨S4096x768, .bf16⟩
  | .hbm, ⟨99, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩

abbrev nD : Nat := 1
abbrev τ : Topo := Topo.v7x

variable {F : FTy → Type} [FloatOps F]
-- ==== KernelGlu.lean ====
abbrev S4096x512 : Shape := ⟨2, ![4096, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x512, .bf16⟩
  | .hbm, ⟨2, _⟩ => ⟨S4096x512, .f32⟩
  | .hbm, ⟨3, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceGluIdeal.lean ====
abbrev S4096x512 : Shape := ⟨2, ![4096, 512]⟩
abbrev S512x512 : Shape := ⟨2, ![512, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .bf16⟩
  | .hbm, ⟨2, _⟩ => ⟨S_, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S512x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelGluBwd.lean ====
abbrev S4096x512 : Shape := ⟨2, ![4096, 512]⟩
abbrev S512x512 : Shape := ⟨2, ![512, 512]⟩

abbrev nBuf : Space → Nat
  | .hbm => 7
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x512, .bf16⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== KernelGluBwdIdeal.lean ====
variable {F : FTy → Type} [FloatOps F] [Named F]
def κ : String → Option EReal := fun
  | "inv_sqrt_two" => some (((Real.sqrt 2)⁻¹ : ℝ) : EReal)
  | "inv_sqrt_two_pi" => some (((Real.sqrt (2 * Real.pi))⁻¹ : ℝ) : EReal)
  | _ => none
-- ==== ReferenceGluBwdIdeal.lean ====
variable {F : FTy → Type} [FloatOps F] [Named F]
def κ : String → Option EReal := fun
  | "inv_sqrt_two" => some (((Real.sqrt 2)⁻¹ : ℝ) : EReal)
  | "two_over_sqrt_pi" => some ((2 * (Real.sqrt Real.pi)⁻¹ : ℝ) : EReal)
  | _ => none
-- ==== ReferenceGluBwd.lean ====
abbrev S4096x512 : Shape := ⟨2, ![4096, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x512, .bf16⟩
  | .hbm, ⟨3, _⟩ => ⟨S4096x512, .f32⟩
  | .hbm, ⟨4, _⟩ => ⟨S512x512, .f32⟩
  | .local _ .vmem, ⟨0, _⟩ => ⟨S4096x512, .f32⟩
  | .local _ .vmem, ⟨1, _⟩ => ⟨S4096x512, .f32⟩
  | .local _ .vmem, ⟨2, _⟩ => ⟨S512x512, .bf16⟩
  | .local _ .vmem, ⟨3, _⟩ => ⟨S4096x512, .f32⟩
  | .local _ .vmem, ⟨4, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelRope.lean ====
abbrev S4096x512 : Shape := ⟨2, ![4096, 512]⟩
abbrev S4096x128 : Shape := ⟨2, ![4096, 128]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x1280 : Shape := ⟨2, ![4096, 1280]⟩
abbrev S512x512 : Shape := ⟨2, ![512, 512]⟩
abbrev S512x128 : Shape := ⟨2, ![512, 128]⟩
abbrev S512x1280 : Shape := ⟨2, ![512, 1280]⟩

abbrev nBuf : Space → Nat
  | .hbm => 40
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S4096, .f32⟩
  | .hbm, ⟨13, _⟩ => ⟨S4096x1, .f32⟩
  | .hbm, ⟨14, _⟩ => ⟨S1x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S4096x48, .f32⟩
  | .hbm, ⟨22, _⟩ => ⟨S_, .f32⟩
  | .hbm, ⟨23, _⟩ => ⟨S4096x48, .f32⟩
  | .hbm, ⟨24, _⟩ => ⟨S_, .f32⟩
  | .hbm, ⟨25, _⟩ => ⟨S4096x8, .f32⟩
  | .hbm, ⟨26, _⟩ => ⟨S4096x64, .f32⟩
  | .hbm, ⟨27, _⟩ => ⟨S4096x8, .f32⟩
  | .hbm, ⟨28, _⟩ => ⟨S4096x64, .f32⟩
  | .hbm, ⟨29, _⟩ => ⟨S4096x64, .f32⟩
  | .hbm, ⟨30, _⟩ => ⟨S1x4096x1x64, .f32⟩
  | .hbm, ⟨31, _⟩ => ⟨S1x4096x2x64, .f32⟩
  | .hbm, ⟨32, _⟩ => ⟨S4096x128, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S4096x1280, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1280, .bf16⟩
  | .local _ .vmem, ⟨15, _⟩ => ⟨S512x1280, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceRopeIdeal.lean ====
abbrev S4096x512 : Shape := ⟨2, ![4096, 512]⟩
abbrev S4096x128 : Shape := ⟨2, ![4096, 128]⟩
abbrev S_ : Shape := ⟨0, ![]⟩
abbrev S4096x1280 : Shape := ⟨2, ![4096, 1280]⟩
abbrev S4096x8x64 : Shape := ⟨3, ![4096, 8, 64]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x8x8 : Shape := ⟨3, ![4096, 8, 8]⟩
abbrev S4096x8x48 : Shape := ⟨3, ![4096, 8, 48]⟩
abbrev S4096x2x64 : Shape := ⟨3, ![4096, 2, 64]⟩
abbrev S4096x2x8 : Shape := ⟨3, ![4096, 2, 8]⟩
abbrev S4096x2x48 : Shape := ⟨3, ![4096, 2, 48]⟩

abbrev nBuf : Space → Nat
  | .hbm => 140
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S4096x512, .f32⟩
  | 4 => ⟨S_, .f32⟩
  | 5 => ⟨S4096x1280, .f32⟩
  | 6 => ⟨S4096x512, .f32⟩
  | 7 => ⟨S4096x8x64, .f32⟩
  | 8 => ⟨S4096, .i32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S4096, .f32⟩
  | 18 => ⟨S4096x1, .f32⟩
  | 19 => ⟨S1x8, .f32⟩
  | 20 => ⟨S4096x8, .f32⟩
  | 21 => ⟨S4096x8, .f32⟩
  | 22 => ⟨S4096x8, .f32⟩
  | 23 => ⟨S4096x8, .f32⟩
  | 24 => ⟨S4096x1x8, .f32⟩
  | 25 => ⟨S4096x8, .f32⟩
  | 26 => ⟨S4096x1x8, .f32⟩
  | 27 => ⟨S4096x8x8, .f32⟩
  | 28 => ⟨S4096x8x8, .f32⟩
  | 29 => ⟨S4096x8x48, .f32⟩
  | 30 => ⟨S4096x8x8, .f32⟩
  | 31 => ⟨S4096x8x8, .f32⟩
  | 32 => ⟨S4096x8x8, .f32⟩
  | 33 => ⟨S4096x8x8, .f32⟩
  | 34 => ⟨S4096x8x8, .f32⟩
  | 35 => ⟨S4096x8x8, .f32⟩
  | 36 => ⟨S4096x8x8, .f32⟩
  | 37 => ⟨S4096x8x8, .f32⟩
  | 38 => ⟨S4096x8x8, .f32⟩
  | 39 => ⟨S4096x8x8, .f32⟩
  | 40 => ⟨S4096x8x64, .f32⟩
  | 41 => ⟨S4096x128, .f32⟩
  | 42 => ⟨S4096x2x64, .f32⟩
  | 43 => ⟨S4096, .i32⟩
  | 44 => ⟨S8, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S4096, .f32⟩
  | 53 => ⟨S4096x1, .f32⟩
  | 54 => ⟨S1x8, .f32⟩
  | 55 => ⟨S4096x8, .f32⟩
  | 56 => ⟨S4096x8, .f32⟩
  | 57 => ⟨S4096x8, .f32⟩
  | 58 => ⟨S4096x8, .f32⟩
  | 59 => ⟨S4096x1x8, .f32⟩
  | 60 => ⟨S4096x8, .f32⟩
  | 61 => ⟨S4096x1x8, .f32⟩
  | 62 => ⟨S4096x2x8, .f32⟩
  | 63 => ⟨S4096x2x8, .f32⟩
  | 64 => ⟨S4096x2x48, .f32⟩
  | 65 => ⟨S4096x2x8, .f32⟩
  | 66 => ⟨S4096x2x8, .f32⟩
  | 67 => ⟨S4096x2x8, .f32⟩
  | 68 => ⟨S4096x2x8, .f32⟩
  | 69 => ⟨S4096x2x8, .f32⟩
  | 70 => ⟨S4096x2x8, .f32⟩
  | 71 => ⟨S4096x2x8, .f32⟩
  | 72 => ⟨S4096x2x8, .f32⟩
  | 73 => ⟨S4096x2x8, .f32⟩
  | 74 => ⟨S4096x2x8, .f32⟩
  | 75 => ⟨S4096x2x64, .f32⟩
  | 76 => ⟨S4096x512, .f32⟩
  | 77 => ⟨S4096x128, .f32⟩
  | 78 => ⟨S4096x128, .f32⟩
  | 79 => ⟨S4096x512, .f32⟩
  | 80 => ⟨S_, .f32⟩
  | 81 => ⟨S4096x1280, .f32⟩
  | 82 => ⟨S_, .f32⟩
  | 83 => ⟨S4096x1280, .f32⟩
  | 84 => ⟨S4096x1280, .f32⟩
  | 85 => ⟨S4096x2x64, .f32⟩
  | 86 => ⟨S4096x8x64, .f32⟩
  | 87 => ⟨S4096x2x8, .f32⟩
  | 88 => ⟨S4096x2x8, .f32⟩
  | 89 => ⟨S4096x2x48, .f32⟩
  | 90 => ⟨S4096x2x8, .f32⟩
  | 91 => ⟨S4096x2x8, .f32⟩
  | 92 => ⟨S4096x2x8, .f32⟩
  | 93 => ⟨S4096x2x8, .f32⟩
  | 94 => ⟨S4096x2x8, .f32⟩
  | 95 => ⟨S4096x2x8, .f32⟩
  | 96 => ⟨S4096x2x8, .f32⟩
  | 97 => ⟨S4096x2x8, .f32⟩
  | 98 => ⟨S4096x2x8, .f32⟩
  | 99 => ⟨S4096x2x8, .f32⟩
  | 100 => ⟨S4096x2x8, .f32⟩
  | 101 => ⟨S_, .f32⟩
  | 102 => ⟨S4096x2x64, .f32⟩
  | 103 => ⟨S_, .f32⟩
  | 104 => ⟨S4096x2x64, .f32⟩
  | 105 => ⟨S4096x2x64, .f32⟩
  | 106 => ⟨S_, .f32⟩
  | 107 => ⟨S4096x2x64, .f32⟩
  | 108 => ⟨S4096x2x64, .f32⟩
  | 109 => ⟨S4096x128, .f32⟩
  | 110 => ⟨S_, .f32⟩
  | 111 => ⟨S4096x1280, .f32⟩
  | 112 => ⟨S4096x1280, .f32⟩
  | 113 => ⟨S4096x8x8, .f32⟩
  | 114 => ⟨S4096x8x8, .f32⟩
  | 115 => ⟨S4096x8x48, .f32⟩
  | 116 => ⟨S4096x8x8, .f32⟩
  | 117 => ⟨S4096x8x8, .f32⟩
  | 118 => ⟨S4096x8x8, .f32⟩
  | 119 => ⟨S4096x8x8, .f32⟩
  | 120 => ⟨S4096x8x8, .f32⟩
  | 121 => ⟨S4096x8x8, .f32⟩
  | 122 => ⟨S4096x8x8, .f32⟩
  | 123 => ⟨S4096x8x8, .f32⟩
  | 124 => ⟨S4096x8x8, .f32⟩
  | 125 => ⟨S4096x8x8, .f32⟩
  | 126 => ⟨S4096x8x8, .f32⟩
  | 127 => ⟨S_, .f32⟩
  | _ => ⟨S4096x512, .f32⟩

abbrev hbmTy0_1 (i : Nat) : BufTy := match i % 128 with
  | 0 => ⟨S4096x8x64, .f32⟩
  | 1 => ⟨S_, .f32⟩
  | 2 => ⟨S4096x8x64, .f32⟩
  | 3 => ⟨S4096x8x64, .f32⟩
  | 4 => ⟨S_, .f32⟩
  | 5 => ⟨S4096x8x64, .f32⟩
  | 6 => ⟨S4096x8x64, .f32⟩
  | 7 => ⟨S4096x512, .f32⟩
  | 8 => ⟨S_, .f32⟩
  | 9 => ⟨S4096x1280, .f32⟩
  | 10 => ⟨S4096x1280, .f32⟩
  | 11 => ⟨S4096x1280, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_4 : Ref sig .tc := ⟨.hbm, 80, rfl⟩
abbrev main_v71 : Ref sig .tc := ⟨.hbm, 81, rfl⟩
abbrev main_cst_5 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_6 : Ref sig .tc := ⟨.hbm, 101, rfl⟩
abbrev main_v90 : Ref sig .tc := ⟨.hbm, 102, rfl⟩
abbrev main_cst_7 : Ref sig .tc := ⟨.hbm, 103, rfl⟩
abbrev main_v91 : Ref sig .tc := ⟨.hbm, 104, rfl⟩
abbrev main_v92 : Ref sig .tc := ⟨.hbm, 105, rfl⟩
abbrev main_cst_8 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_9 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_cst_10 : Ref sig .tc := ⟨.hbm, 127, rfl⟩
abbrev main_v112 : Ref sig .tc := ⟨.hbm, 128, rfl⟩
abbrev main_cst_11 : Ref sig .tc := ⟨.hbm, 129, rfl⟩
abbrev main_v113 : Ref sig .tc := ⟨.hbm, 130, rfl⟩
abbrev main_v114 : Ref sig .tc := ⟨.hbm, 131, rfl⟩
abbrev main_cst_12 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_13 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩

abbrev nD : Nat := 1
abbrev τ : Topo := Topo.v7x

variable {F : FTy → Type} [FloatOps F]
-- ==== KernelAdamw.lean ====
abbrev S352x1024 : Shape := ⟨2, ![352, 1024]⟩
abbrev S3x352x1024 : Shape := ⟨3, ![3, 352, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S3x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S3x176x1024, .bf16⟩
  | .local _ .vmem, ⟨5, _⟩ => ⟨S3x176x1024, .bf16⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdamwIdeal.lean ====
abbrev S352x1024 : Shape := ⟨2, ![352, 1024]⟩
abbrev S3x352x1024 : Shape := ⟨3, ![3, 352, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S3x352x1024, .bf16⟩
  | .hbm, ⟨3, _⟩ => ⟨S352x1024, .f32⟩
  | .hbm, ⟨4, _⟩ => ⟨S352x1024, .f32⟩
  | .hbm, ⟨5, _⟩ => ⟨S3x352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelConv.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S4096x256 : Shape := ⟨2, ![4096, 256]⟩
abbrev S3x256 : Shape := ⟨2, ![3, 256]⟩
abbrev S1x256 : Shape := ⟨2, ![1, 256]⟩
abbrev S128x256 : Shape := ⟨2, ![128, 256]⟩
abbrev S16x256 : Shape := ⟨2, ![16, 256]⟩

abbrev nBuf : Space → Nat
  | .hbm => 6
  | .vmem => 18
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S1x5632, .f32⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  v1
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let v3 : Index := Scalar.indexCast v2
  let c0 : Index := 0#32
  ![v3.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let c16_i32 : BitVec 32 := 16#32
  let v6 : BitVec 32 := Scalar.subi v2 c16_i32
  let c0_i32_1 : BitVec 32 := 0#32
  let v7 : BitVec 32 := Scalar.maxsi v6 c0_i32_1
  v7
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let c16_i32 : BitVec 32 := 16#32
  let v6 : BitVec 32 := Scalar.subi v2 c16_i32
  let c0_i32_1 : BitVec 32 := 0#32
  let v7 : BitVec 32 := Scalar.maxsi v6 c0_i32_1
  let v8 : BitVec 32 := v7
  let v9 : Index := Scalar.indexCast v8
  let c0_2 : Index := 0#32
  ![v9.toNat, 0]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let c128_i32_3 : BitVec 32 := 128#32
  let v13 : BitVec 32 := Scalar.addi v2 c128_i32_3
  let c4080_i32 : BitVec 32 := 4080#32
  let v14 : BitVec 32 := Scalar.minsi v13 c4080_i32
  v14
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let c128_i32_3 : BitVec 32 := 128#32
  let v13 : BitVec 32 := Scalar.addi v2 c128_i32_3
  let c4080_i32 : BitVec 32 := 4080#32
  let v14 : BitVec 32 := Scalar.minsi v13 c4080_i32
  let v15 : BitVec 32 := v14
  let v16 : Index := Scalar.indexCast v15
  let c0_4 : Index := 0#32
  ![v16.toNat, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let c16_i32_18 : BitVec 32 := 16#32
  let v57 : BitVec 32 := Scalar.subi v2 c16_i32_18
  let c0_i32_19 : BitVec 32 := 0#32
  let v58 : BitVec 32 := Scalar.maxsi v57 c0_i32_19
  v58
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v1 : BitVec 32 := Scalar.muli arg10 c128_i32
  let v2 : BitVec 32 := v1
  let c128_i32_21 : BitVec 32 := 128#32
  let v64 : BitVec 32 := Scalar.addi v2 c128_i32_21
  let c4080_i32_22 : BitVec 32 := 4080#32
  let v65 : BitVec 32 := Scalar.minsi v64 c4080_i32_22
  v65
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceConvIdeal.lean ====
abbrev S4096x5632 : Shape := ⟨2, ![4096, 5632]⟩
abbrev S3x5632 : Shape := ⟨2, ![3, 5632]⟩
abbrev S1x5632 : Shape := ⟨2, ![1, 5632]⟩
abbrev S5632 : Shape := ⟨1, ![5632]⟩
abbrev S_ : Shape := ⟨0, ![]⟩
abbrev S4098x5632 : Shape := ⟨2, ![4098, 5632]⟩
abbrev S4096x2816 : Shape := ⟨2, ![4096, 2816]⟩

abbrev nBuf : Space → Nat
  | .hbm => 49
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S1x5632, .f32⟩
  | .hbm, ⟨3, _⟩ => ⟨S4096x5632, .f32⟩
  | .hbm, ⟨4, _⟩ => ⟨S5632, .f32⟩
  | .hbm, ⟨5, _⟩ => ⟨S_, .i32⟩
  | .hbm, ⟨6, _⟩ => ⟨S_, .f32⟩
  | .hbm, ⟨7, _⟩ => ⟨S4098x5632, .f32⟩
  | .hbm, ⟨8, _⟩ => ⟨S4096x5632, .f32⟩
  | .hbm, ⟨9, _⟩ => ⟨S1x5632, .f32⟩
  | .hbm, ⟨10, _⟩ => ⟨S5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S1x5632, .f32⟩
  | .hbm, ⟨32, _⟩ => ⟨S4096x5632, .f32⟩
  | .hbm, ⟨33, _⟩ => ⟨S4096x5632, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .bf16⟩
  | .hbm, ⟨47, _⟩ => ⟨S4096x2816, .bf16⟩
  | .hbm, ⟨48, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.Offsets.lean ====
module
public import proofs.«01_k».proof.Proof.Gen.KernelIdeal.Frame

/-!
# The rows a grid step works on

At grid step `n` the kernel reads 384 rows of keys and values and adds into the same 384 rows of
their gradients.  The first of those rows is `(n - 1) · 128`, held between `0` and `3712`.
-/

@[expose] public section
open Idealize.ShloMosaic
namespace Cert.KernelIdeal.Run

/-- The first row of the window of step `n`. -/
def lo (n : Nat) : Nat := min 3712 ((n - 1) * 128)

theorem lo_le (n : Nat) : lo n ≤ 3712 := Nat.min_le_left _ _

/-- The kernel's word for the first row, at step `n`. -/
def loWord (n : Nat) : BitVec 32 :=
  Scalar.minsi 3712#32 (Scalar.maxsi 0#32 (Scalar.muli (Scalar.subi (BitVec.ofNat 32 n) 1#32) 128#32))

theorem loWord_toNat : ∀ n : Fin 32, (loWord n.val).toNat = lo n.val := by decide +kernel

theorem off1_eq (i : grid0.Coords) : k0_off1 i = ![lo (i 0).val, 0] := by
  have h : (loWord (i 0).val).toNat = lo (i 0).val := loWord_toNat ⟨(i 0).val, (i 0).isLt⟩
  funext k
  match k with
  | 0 => exact h
  | 1 => rfl

theorem off2_eq (i : grid0.Coords) : k0_off2 i = ![lo (i 0).val, 0] := off1_eq i

theorem off3_eq (i : grid0.Coords) : k0_off3 i = ![lo (i 0).val, 64] := by
  have h := congrFun (off1_eq i) 0
  funext k
  match k with
  | 0 => exact h
  | 1 => rfl

instance (i : grid0.Coords) : ClosedOff (k0_off1 i) := ⟨![lo (i 0).val, 0], off1_eq i⟩
instance (i : grid0.Coords) : ClosedOff (k0_off2 i) := ⟨![lo (i 0).val, 0], off2_eq i⟩
instance (i : grid0.Coords) : ClosedOff (k0_off3 i) := ⟨![lo (i 0).val, 64], off3_eq i⟩

end Cert.KernelIdeal.Run
-- ==== Proof.StepFirst.lean ====
module

public import proofs.«01_k».proof.Proof.Gen.KernelIdeal.Skeleton
public import proofs.«01_k».proof.Proof.Gen.KernelIdeal.Frame
public import proofs.«01_k».proof.Proof.Offsets

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The step is the first of the grid. -/
abbrev first (i : grid0.Coords) : Prop := (Scalar.cmpi .ne (Scalar.extui (Scalar.cmpi .eq (BitVec.ofNat 32 (i 0).val) 0#32)) 0#32) = 1#1

set_option maxHeartbeats 2000000 in
/-- One step of the kernel's body (first step, the accumulators' former contents arbitrary): the stores into each
    result's buffer, last first, with the proof that the body runs to its end with every input's buffer as it was. -/
def stepA (c : Dev nD) (i : grid0.Coords) (a1 : Memref sig .tc .smem S8 .f32) (h1 : a1.IsWhole) (a2 : Memref sig .tc .vmem S128x512 .bf16) (h2 : a2.IsWhole) (a3 : Memref sig .tc .vmem S4096x128 .bf16) (h3 : a3.IsWhole) (a4 : Memref sig .tc .vmem S4096x128 .bf16) (h4 : a4.IsWhole) (a5 : Memref sig .tc .vmem S128x512 .f32) (h5 : a5.IsWhole) (a6 : Memref sig .tc .vmem S128x8 .f32) (h6 : a6.IsWhole) (a7 : Memref sig .tc .vmem S128x512 .f32) (h7 : a7.IsWhole) (a8 : Memref sig .tc .vmem S128x512 .f32) (h8 : a8.IsWhole) (a9 : Memref sig .tc .vmem S4096x128 .f32) (h9 : a9.IsWhole) (a10 : Memref sig .tc .vmem S4096x128 .f32) (h10 : a10.IsWhole) (a11 : Memref sig .tc .vmem S8x128 .f32) (h11 : a11.IsWhole) (hc : first i)
    (x1 : Vec F S8 .f32) (x2 : Vec F S128x512 .bf16) (x3 x4 : Vec F S4096x128 .bf16) (x5 : Vec F S128x512 .f32) (x6 : Vec F S128x8 .f32) (x7 : Vec F S128x512 .f32) :
    Σ' (L8 : List (View.Piece (Elt F) S128x512 .f32)) (L9 : List (View.Piece (Elt F) S4096x128 .f32)) (L10 : List (View.Piece (Elt F) S4096x128 .f32)), { L11 : List (View.Piece (Elt F) S8x128 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L8) ∗ (∃ f, a9.view.loc (c : Thread nD τ) ↦[a9.view.set]{fullShare} a9.view.writes (Elt F) f L9) ∗ (∃ f, a10.view.loc (c : Thread nD τ) ↦[a10.view.set]{fullShare} a10.view.writes (Elt F) f L10) ∗ (∃ f, a11.view.loc (c : Thread nD τ) ↦[a11.view.set]{fullShare} a11.view.writes (Elt F) f L11)) -∗ K ⟨⟩))
          ⊢ wp frame (wpE (defs₀ (F := F)) Variants.none c none) E (cc0_attn_bwd i a1 h1 a2 h2 a3 h3 a4 h4 a5 h5 a6 h6 a7 h7 a8 h8 a9 h9 a10 h10 a11 h11) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | sl_exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexists _; iexact H9
    isplitl [H10]; · iexists _; iexact H10
    iexists _; iexact H11

end Cert.KernelIdeal.Run

end
-- ==== Proof.StepLater.lean ====
module

public import proofs.«01_k».proof.Proof.StepFirst
public import proofs.«01_k».proof.Proof.Offsets

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- One step of the kernel's body (later steps, over the accumulators' contents `y9`, `y10`, `y11`): the stores into each
    result's buffer, last first, with the proof that the body runs to its end with every input's buffer as it was. -/
def stepB (c : Dev nD) (i : grid0.Coords) (a1 : Memref sig .tc .smem S8 .f32) (h1 : a1.IsWhole) (a2 : Memref sig .tc .vmem S128x512 .bf16) (h2 : a2.IsWhole) (a3 : Memref sig .tc .vmem S4096x128 .bf16) (h3 : a3.IsWhole) (a4 : Memref sig .tc .vmem S4096x128 .bf16) (h4 : a4.IsWhole) (a5 : Memref sig .tc .vmem S128x512 .f32) (h5 : a5.IsWhole) (a6 : Memref sig .tc .vmem S128x8 .f32) (h6 : a6.IsWhole) (a7 : Memref sig .tc .vmem S128x512 .f32) (h7 : a7.IsWhole) (a8 : Memref sig .tc .vmem S128x512 .f32) (h8 : a8.IsWhole) (a9 : Memref sig .tc .vmem S4096x128 .f32) (h9 : a9.IsWhole) (a10 : Memref sig .tc .vmem S4096x128 .f32) (h10 : a10.IsWhole) (a11 : Memref sig .tc .vmem S8x128 .f32) (h11 : a11.IsWhole) (hc : ¬first i)
    (x1 : Vec F S8 .f32) (x2 : Vec F S128x512 .bf16) (x3 x4 : Vec F S4096x128 .bf16) (x5 : Vec F S128x512 .f32) (x6 : Vec F S128x8 .f32) (x7 : Vec F S128x512 .f32)
    (y9 y10 : Vec F S4096x128 .f32) (y11 : Vec F S8x128 .f32) :
    Σ' (L8 : List (View.Piece (Elt F) S128x512 .f32)) (L9 : List (View.Piece (Elt F) S4096x128 .f32)) (L10 : List (View.Piece (Elt F) S4096x128 .f32)), { L11 : List (View.Piece (Elt F) S8x128 .f32) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare y9 ∗ owns (c : Thread nD τ) a10 fullShare y10 ∗ owns (c : Thread nD τ) a11 fullShare y11
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L8) ∗ (a9.view.loc (c : Thread nD τ) ↦[a9.view.set]{fullShare} a9.view.writes (Elt F) (h9.unread y9) L9) ∗ (a10.view.loc (c : Thread nD τ) ↦[a10.view.set]{fullShare} a10.view.writes (Elt F) (h10.unread y10) L10) ∗ (a11.view.loc (c : Thread nD τ) ↦[a11.view.set]{fullShare} a11.view.writes (Elt F) (h11.unread y11) L11)) -∗ K ⟨⟩))
          ⊢ wp frame (wpE (defs₀ (F := F)) Variants.none c none) E (cc0_attn_bwd i a1 h1 a2 h2 a3 h3 a4 h4 a5 h5 a6 h6 a7 h7 a8 h8 a9 h9 a10 h10 a11 h11) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h9.eq_unread hf9; obtain rfl := h10.eq_unread hf10; obtain rfl := h11.eq_unread hf11
    sl_exec (disch := first | sl_exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    isplitl [H9]; · iexact H9
    isplitl [H10]; · iexact H10
    iexact H11

end Cert.KernelIdeal.Run

end
-- ==== Proof.Steps.lean ====
module

public import proofs.«01_k».proof.Proof.StepLater
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! # What the grid's steps leave, and the whole launch

The first step sets the three accumulated results to zero and adds its own share; every later step adds its share to
what the step before left.  From these contents the library's launch theorem gives the run of the whole program.
-/

theorem first_iff : ∀ t : Fin cfg0.N, first (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [first, e0]
    word_cmp
   : ∀ t : Fin grid0.N, first (grid0.coords t) ↔ t.val = 0)

/-- A buffer to read result window 7's covering stores through. -/
abbrev VO7 : View sig .tc .vmem S128x512 .f32 := (Memref.whole cc0_stg7_0 : Memref sig .tc .vmem S128x512 .f32).view
/-- A buffer to read result window 8's covering stores through. -/
abbrev VO8 : View sig .tc .vmem S4096x128 .f32 := (Memref.whole cc0_stg8_0 : Memref sig .tc .vmem S4096x128 .f32).view
/-- A buffer to read result window 9's covering stores through. -/
abbrev VO9 : View sig .tc .vmem S4096x128 .f32 := (Memref.whole cc0_stg9_0 : Memref sig .tc .vmem S4096x128 .f32).view
/-- A buffer to read result window 10's covering stores through. -/
abbrev VO10 : View sig .tc .vmem S8x128 .f32 := (Memref.whole cc0_stg10_0 : Memref sig .tc .vmem S8x128 .f32).view

/-- The four results' buffers after a step. -/
structure Left (F : FTy → Type) [FloatOps F] where
  dq : Vec F S128x512 .f32
  dk : Vec F S4096x128 .f32
  dv : Vec F S4096x128 .f32
  ds : Vec F S8x128 .f32

/-- The body's first step at grid position `t`, on its buffers and blocks. -/
def firstStep (c : Dev nD) (t : Fin cfg0.N) (hc : first (grid0.coords t)) :=
  stepA (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) hc (iblk m c 0 t) (X0_1 m c t) (iblk m c 2 t) (iblk m c 3 t) (iblk m c 4 t) (iblk m c 5 t) (iblk m c 6 t)

/-- A later step at grid position `t`, over what the step before left. -/
def laterStep (c : Dev nD) (t : Fin cfg0.N) (hc : ¬first (grid0.coords t)) (y : Left F) :=
  stepB (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) hc (iblk m c 0 t) (X0_1 m c t) (iblk m c 2 t) (iblk m c 3 t) (iblk m c 4 t) (iblk m c 5 t) (iblk m c 6 t) y.dk y.dv y.ds

/-- The pieces a first step stores into each result cover that result. -/
theorem coverA_7 (c : Dev nD) (t : Fin cfg0.N) (hc : first (grid0.coords t)) (y : S128x512.Idx) :
    ∃ p ∈ (firstStep m c t hc).1, y ∈ p.1.set := View.cover_of_tiledL (firstStep m c t hc).1 S128x64.size (by sl_kernel_rfl) y
theorem coverA_8 (c : Dev nD) (t : Fin cfg0.N) (hc : first (grid0.coords t)) (y : S4096x128.Idx) :
    ∃ p ∈ (firstStep m c t hc).2.1, y ∈ p.1.set := View.cover_of_wholeMem _ (by unfold firstStep stepA; sl_whole_mem) y
theorem coverA_9 (c : Dev nD) (t : Fin cfg0.N) (hc : first (grid0.coords t)) (y : S4096x128.Idx) :
    ∃ p ∈ (firstStep m c t hc).2.2.1, y ∈ p.1.set := View.cover_of_wholeMem _ (by unfold firstStep stepA; sl_whole_mem) y
theorem coverA_10 (c : Dev nD) (t : Fin cfg0.N) (hc : first (grid0.coords t)) (y : S8x128.Idx) :
    ∃ p ∈ (firstStep m c t hc).2.2.2.1, y ∈ p.1.set := View.cover_of_wholeMem _ (by unfold firstStep stepA; sl_whole_mem) y
/-- The pieces a later step stores into the block of `dq` cover it. -/
theorem coverB_7 (c : Dev nD) (t : Fin cfg0.N) (hc : ¬first (grid0.coords t)) (y : Left F) (j : S128x512.Idx) :
    ∃ p ∈ (laterStep m c t hc y).1, j ∈ p.1.set := View.cover_of_tiledL (laterStep m c t hc y).1 S128x64.size (by sl_kernel_rfl) j

/-- What a first step leaves. -/
def leftFirst (c : Dev nD) (t : Fin cfg0.N) (hc : first (grid0.coords t)) : Left F where
  dq := VO7.read (Elt F) (VO7.writes (Elt F) VO7.junk (firstStep m c t hc).1)
  dk := VO8.read (Elt F) (VO8.writes (Elt F) VO8.junk (firstStep m c t hc).2.1)
  dv := VO9.read (Elt F) (VO9.writes (Elt F) VO9.junk (firstStep m c t hc).2.2.1)
  ds := VO10.read (Elt F) (VO10.writes (Elt F) VO10.junk (firstStep m c t hc).2.2.2.1)

/-- What a later step leaves. -/
def leftLater (c : Dev nD) (t : Fin cfg0.N) (hc : ¬first (grid0.coords t)) (y : Left F) : Left F where
  dq := VO7.read (Elt F) (VO7.writes (Elt F) VO7.junk (laterStep m c t hc y).1)
  dk := (st0_8 t).view.read (Elt F) ((st0_8 t).view.writes (Elt F) ((hstage0_8 ((cfg0.slots t 8).cast nbuf0_8)).unread y.dk) (laterStep m c t hc y).2.1)
  dv := (st0_9 t).view.read (Elt F) ((st0_9 t).view.writes (Elt F) ((hstage0_9 ((cfg0.slots t 9).cast nbuf0_9)).unread y.dv) (laterStep m c t hc y).2.2.1)
  ds := (st0_10 t).view.read (Elt F) ((st0_10 t).view.writes (Elt F) ((hstage0_10 ((cfg0.slots t 10).cast nbuf0_10)).unread y.ds) (laterStep m c t hc y).2.2.2.1)

/-- What the results' buffers hold after step `n`. -/
def leftAt (c : Dev nD) : (n : ℕ) → n < cfg0.N → Left F
  | 0, hn => leftFirst m c ⟨0, hn⟩ ((first_iff ⟨0, hn⟩).mpr rfl)
  | n + 1, hn => leftLater m c ⟨n + 1, hn⟩ (fun h => Nat.succ_ne_zero n ((first_iff ⟨n + 1, hn⟩).mp h))
      (leftAt c n (Nat.lt_of_succ_lt hn))

theorem leftAt_first (c : Dev nD) (t : Fin cfg0.N) (hc : first (grid0.coords t)) :
    leftAt m c t.val t.isLt = leftFirst m c t hc := by
  obtain ⟨n, hn⟩ := t
  cases n with
  | zero => rfl
  | succ n => exact absurd ((first_iff _).mp hc) (Nat.succ_ne_zero n)

theorem leftAt_later (c : Dev nD) (t : Fin cfg0.N) (hc : ¬first (grid0.coords t)) :
    leftAt m c t.val t.isLt
      = leftLater m c t hc (leftAt m c (t.val - 1) (Nat.lt_of_le_of_lt (Nat.sub_le _ _) t.isLt)) := by
  obtain ⟨n, hn⟩ := t
  cases n with
  | zero => exact absurd ((first_iff _).mpr rfl) hc
  | succ n => rfl

/-- The pipeline's contents on core `c`: the inputs' buffers keep their blocks, the results' hold `leftAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (leftAt m c t.val t.isLt).dq
    | ⟨8, _⟩ => (leftAt m c t.val t.isLt).dk
    | ⟨9, _⟩ => (leftAt m c t.val t.isLt).dv
    | ⟨10, _⟩ => (leftAt m c t.val t.isLt).ds
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (leftAt m c t.val t.isLt).dq := by dsimp only [dats]
theorem after8 (c : Dev nD) (t : Fin cfg0.N) : (dats m 0 c).after 8 t = (leftAt m c t.val t.isLt).dk := by dsimp only [dats]
theorem after9 (c : Dev nD) (t : Fin cfg0.N) : (dats m 0 c).after 9 t = (leftAt m c t.val t.isLt).dv := by dsimp only [dats]
theorem after10 (c : Dev nD) (t : Fin cfg0.N) : (dats m 0 c).after 10 t = (leftAt m c t.val t.isLt).ds := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before8 (c : Dev nD) (t : Fin cfg0.N) (hc : ¬first (grid0.coords t)) (d) :
    (dats m 0 c).before 8 t d = (leftAt m c (t.val - 1) (Nat.lt_of_le_of_lt (Nat.sub_le _ _) t.isLt)).dk := by
  have hN : t.val < 32 := lt_of_lt_of_eq t.isLt (show cfg0.N = 32 from N_0)
  have h0 : t.val ≠ 0 := fun h => hc ((first_iff t).mpr h)
  rw [Dat.before_out_kept _ 8 rfl t (by omega)
    (Bool.eq_false_iff.mpr fun h => by have := (flush0_8 _).mp h; dsimp only at this; omega)
    (fun _ => rfl) (fun _ _ => rfl)]
  dsimp only [dats]
theorem before9 (c : Dev nD) (t : Fin cfg0.N) (hc : ¬first (grid0.coords t)) (d) :
    (dats m 0 c).before 9 t d = (leftAt m c (t.val - 1) (Nat.lt_of_le_of_lt (Nat.sub_le _ _) t.isLt)).dv := by
  have hN : t.val < 32 := lt_of_lt_of_eq t.isLt (show cfg0.N = 32 from N_0)
  have h0 : t.val ≠ 0 := fun h => hc ((first_iff t).mpr h)
  rw [Dat.before_out_kept _ 9 rfl t (by omega)
    (Bool.eq_false_iff.mpr fun h => by have := (flush0_9 _).mp h; dsimp only at this; omega)
    (fun _ => rfl) (fun _ _ => rfl)]
  dsimp only [dats]
theorem before10 (c : Dev nD) (t : Fin cfg0.N) (hc : ¬first (grid0.coords t)) (d) :
    (dats m 0 c).before 10 t d = (leftAt m c (t.val - 1) (Nat.lt_of_le_of_lt (Nat.sub_le _ _) t.isLt)).ds := by
  have hN : t.val < 32 := lt_of_lt_of_eq t.isLt (show cfg0.N = 32 from N_0)
  have h0 : t.val ≠ 0 := fun h => hc ((first_iff t).mpr h)
  rw [Dat.before_out_kept _ 10 rfl t (by omega)
    (Bool.eq_false_iff.mpr fun h => by have := (flush0_10 _).mp h; dsimp only at this; omega)
    (fun _ => rfl) (fun _ _ => rfl)]
  dsimp only [dats]

/-- What the body is given at a grid position, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1600000 in
/-- The body, at any grid position. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  by_cases hc : first (grid0.coords t)
  · rw [leftAt_first m c t hc]
    unfold leftFirst; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((firstStep m c t hc).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, ⟨%e7, H7⟩, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA_7 m c t hc)
    isplitl [H8]
    · unfold owns; iexists _; isplitr
      swap; · iexact H8
      ipureintro; exact View.read_writes_of_cover _ _ _ _ _ (coverA_8 m c t hc)
    isplitl [H9]
    · unfold owns; iexists _; isplitr
      swap; · iexact H9
      ipureintro; exact View.read_writes_of_cover _ _ _ _ _ (coverA_9 m c t hc)
    unfold owns; iexists _; isplitr
    swap; · iexact H10
    ipureintro; exact View.read_writes_of_cover _ _ _ _ _ (coverA_10 m c t hc)
  · rw [leftAt_later m c t hc]
    simp only [before8 m c t hc, before9 m c t hc, before10 m c t hc]
    generalize leftAt m c (t.val - 1) (Nat.lt_of_le_of_lt (Nat.sub_le _ _) t.isLt) = y
    unfold leftLater; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((laterStep m c t hc y).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iintro ⟨H0, H1, H2, H3, H4, H5, H6, ⟨%e7, H7⟩, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverB_7 m c t hc _)
    isplitl [H8]
    · unfold owns; iexists _; isplitr
      swap; · iexact H8
      ipureintro; rfl
    isplitl [H9]
    · unfold owns; iexists _; isplitr
      swap; · iexact H9
      ipureintro; rfl
    unfold owns; iexists _; isplitr
    swap; · iexact H10
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends; the pipeline's arrays are what its steps wrote back, every other buffer is as the region
    found it, and every semaphore is at zero. -/
theorem run_whole : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

end Cert.KernelIdeal.Run

end
-- ==== Proof.FrameBits.lean ====
module
public import proofs.«01_k».proof.Defs
public import proofs.«01_k».proof.Proof.Gen.Kernel
public import proofs.«01_k».proof.Proof.Gen.KernelIdeal
public import proofs.«01_k».proof.Proof.Steps
@[expose] public section
noncomputable section
namespace Cert.Proof
open Idealize.ShloMosaic Idealize.ShloMosaic.Tactic Idealize.SL.Sem

/-- The idealized kernel, at any floats, ends, with its arguments unchanged and every semaphore at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  θ_run_and
    (Cert.KernelIdeal.Gen.frame_of m ρ (Cert.KernelIdeal.Run.dats m) (Cert.KernelIdeal.Run.A_eq m)
      ((θ_run _ _ _).mono (fun _ h => h.1) (Cert.KernelIdeal.Run.run_whole m ρ)))
    ((θ_run _ _ _).mono (fun _ h => h.2) (Cert.KernelIdeal.Run.run_whole m ρ))

theorem frame_ideal : Cert.quiescent_KernelIdeal := fun m ρ _ => frame_any m ρ

/-- The frame of the idealized kernel's text at any floats. -/
def FrameAt (F : FTy → Type) [FloatOps F] : Prop :=
  ∀ (m : (ℓ : Loc Cert.KernelIdeal.nD Cert.KernelIdeal.τ Cert.KernelIdeal.sig) → Buf (Elt F) ℓ) (ρ : Dev Cert.KernelIdeal.nD → PrngReg), True →
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem frameAt (F : FTy → Type) [FloatOps F] : FrameAt F := fun m ρ _ => frame_any m ρ

/-- The kernel as printed has the same text, so its frame is this one over the machine's floats. -/
theorem same_text : Cert.quiescent_Kernel = FrameAt Bits := by sl_kernel_rfl

theorem frame_bits : Cert.quiescent_Kernel := same_text.mpr (frameAt Bits)
end Cert.Proof
end
-- ==== Proof.RankSix.lean ====
module

public import Idealize.ShloMosaic.Lib.Pointwise

@[expose] public section

noncomputable section

/-! # Reductions of arrays with six axes

The reference keeps its scores with six axes and adds up along the last one, along two of size 32 and 128, or along
axes of size one.
-/

namespace Idealize.ShloMosaic

/-- Along the last axis: the entries that drop to a kept index. -/
theorem drop_last {n1 n2 n3 n4 n5 : ℕ}
    (h : (⟨6, ![1, n1, n2, n3, n4, n5]⟩ : Shape).ReducesTo [5] ⟨5, ![1, n1, n2, n3, n4]⟩)
    (a : Fin n1) (b : Fin n2) (c : Fin n3) (d : Fin n4) (i : (⟨6, ![1, n1, n2, n3, n4, n5]⟩ : Shape).Idx) :
    h.drop i = ix5 0 a b c d ↔ ∃ k : Fin n5, ix6 0 a b c d k = i := by
  constructor
  · intro e
    refine ⟨i 5, ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

theorem sum_last {n1 n2 n3 n4 n5 : ℕ}
    (h : (⟨6, ![1, n1, n2, n3, n4, n5]⟩ : Shape).ReducesTo [5] ⟨5, ![1, n1, n2, n3, n4]⟩)
    (v : (⟨6, ![1, n1, n2, n3, n4, n5]⟩ : Shape).Idx → EReal) (init : EReal)
    (a : Fin n1) (b : Fin n2) (c : Fin n3) (d : Fin n4) :
    Ideal.hostReduceAdd h v init (ix5 0 a b c d) = init + ∑ k : Fin n5, v (ix6 0 a b c d k) :=
  congrArg (init + ·) (Finset.sum_filter_eq_sum_of_fiber _ (fun k : Fin n5 => ix6 (0 : Fin 1) a b c d k)
    (fun k k' (e : ix6 (0 : Fin 1) a b c d k = ix6 0 a b c d k') => congrFun e 5) (drop_last h a b c d) v)

theorem fold_last {n1 n2 n3 n4 n5 : ℕ}
    (h : (⟨6, ![1, n1, n2, n3, n4, n5]⟩ : Shape).ReducesTo [5] ⟨5, ![1, n1, n2, n3, n4]⟩)
    (op : EReal → EReal → EReal) [Std.Commutative op] [Std.Associative op]
    (v : (⟨6, ![1, n1, n2, n3, n4, n5]⟩ : Shape).Idx → EReal) (init : EReal)
    (a : Fin n1) (b : Fin n2) (c : Fin n3) (d : Fin n4) :
    (Finset.univ.filter (fun i => h.drop i = ix5 0 a b c d)).fold op init v
      = (Finset.univ : Finset (Fin n5)).fold op init (fun k => v (ix6 0 a b c d k)) :=
  Finset.fold_filter_eq_fold_of_fiber op _ (fun k : Fin n5 => ix6 (0 : Fin 1) a b c d k)
    (fun k k' (e : ix6 (0 : Fin 1) a b c d k = ix6 0 a b c d k') => congrFun e 5) (drop_last h a b c d) init v

/-- Along the blocks and their rows. -/
theorem sum_rows {n1 n2 n3 n4 : ℕ}
    (h : (⟨6, ![1, n1, n2, n3, n4, 1]⟩ : Shape).ReducesTo [1, 4] ⟨4, ![1, n2, n3, 1]⟩)
    (v : (⟨6, ![1, n1, n2, n3, n4, 1]⟩ : Shape).Idx → EReal) (init : EReal) (b : Fin n2) (c : Fin n3) :
    Ideal.hostReduceAdd h v init (ix4 0 b c 0) = init + ∑ a : Fin n1, ∑ d : Fin n4, v (ix6 0 a b c d 0) := by
  refine congrArg (init + ·) ((Finset.sum_filter_eq_sum_of_fiber _ (fun k : Fin n1 × Fin n4 => ix6 (0 : Fin 1) k.1 b c k.2 (0 : Fin 1))
    (fun k k' (e : ix6 (0 : Fin 1) k.1 b c k.2 (0 : Fin 1) = ix6 0 k'.1 b c k'.2 0) => Prod.ext (congrFun e 1) (congrFun e 4)) (fun i => ?_) v).trans (Fintype.sum_prod_type _))
  constructor
  · intro e
    refine ⟨(i 1, i 4), ?_⟩
    funext x; apply Fin.ext
    match x with
    | ⟨0, _⟩ => exact (congrArg Fin.val (congrFun e 0)).symm
    | ⟨1, _⟩ => rfl
    | ⟨2, _⟩ => exact (congrArg Fin.val (congrFun e 1)).symm
    | ⟨3, _⟩ => exact (congrArg Fin.val (congrFun e 2)).symm
    | ⟨4, _⟩ => rfl
    | ⟨5, _⟩ => exact (congrArg Fin.val (congrFun e 3)).symm
  · rintro ⟨k, rfl⟩
    funext x; apply Fin.ext
    match x with
    | ⟨0, _⟩ => rfl
    | ⟨1, _⟩ => rfl
    | ⟨2, _⟩ => rfl
    | ⟨3, _⟩ => rfl

/-- Along two axes of size one, the first and the last. -/
theorem sum_ends {n1 n2 n3 n4 : ℕ}
    (h : (⟨6, ![1, n1, n2, n3, n4, 1]⟩ : Shape).ReducesTo [0, 5] ⟨4, ![n1, n2, n3, n4]⟩)
    (v : (⟨6, ![1, n1, n2, n3, n4, 1]⟩ : Shape).Idx → EReal) (init : EReal)
    (a : Fin n1) (b : Fin n2) (c : Fin n3) (d : Fin n4) :
    Ideal.hostReduceAdd h v init (ix4 a b c d) = init + v (ix6 0 a b c d 0) := by
  refine congrArg (init + ·) ((Finset.sum_filter_eq_sum_of_fiber _ (fun _ : Unit => ix6 0 a b c d 0)
    (fun _ _ _ => rfl) (fun i => ?_) v).trans (by simp))
  constructor
  · intro e
    refine ⟨(), ?_⟩
    funext x; apply Fin.ext
    match x with
    | ⟨0, _⟩ => exact (Nat.lt_one_iff.mp (i 0).isLt).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (Nat.lt_one_iff.mp (i 5).isLt).symm
  · rintro ⟨k, rfl⟩
    funext x; apply Fin.ext
    match x with
    | ⟨0, _⟩ => rfl
    | ⟨1, _⟩ => rfl
    | ⟨2, _⟩ => rfl
    | ⟨3, _⟩ => rfl

/-- Along four axes of size one. -/
theorem sum_ones {n2 n3 : ℕ}
    (h : (⟨6, ![1, 1, n2, n3, 1, 1]⟩ : Shape).ReducesTo [0, 1, 4, 5] ⟨2, ![n2, n3]⟩)
    (v : (⟨6, ![1, 1, n2, n3, 1, 1]⟩ : Shape).Idx → EReal) (init : EReal) (b : Fin n2) (c : Fin n3) :
    Ideal.hostReduceAdd h v init (ix2 b c) = init + v (ix6 0 0 b c 0 0) := by
  refine congrArg (init + ·) ((Finset.sum_filter_eq_sum_of_fiber _ (fun _ : Unit => ix6 0 0 b c 0 0)
    (fun _ _ _ => rfl) (fun i => ?_) v).trans (by simp))
  constructor
  · intro e
    refine ⟨(), ?_⟩
    funext x; apply Fin.ext
    match x with
    | ⟨0, _⟩ => exact (Nat.lt_one_iff.mp (i 0).isLt).symm
    | ⟨1, _⟩ => exact (Nat.lt_one_iff.mp (i 1).isLt).symm
    | ⟨2, _⟩ => exact (congrArg Fin.val (congrFun e 0)).symm
    | ⟨3, _⟩ => exact (congrArg Fin.val (congrFun e 1)).symm
    | ⟨4, _⟩ => exact (Nat.lt_one_iff.mp (i 4).isLt).symm
    | ⟨5, _⟩ => exact (Nat.lt_one_iff.mp (i 5).isLt).symm
  · rintro ⟨k, rfl⟩
    funext x; apply Fin.ext
    match x with
    | ⟨0, _⟩ => rfl
    | ⟨1, _⟩ => rfl

end Idealize.ShloMosaic

end
-- ==== Proof.Band.lean ====
module

public import Idealize.ShloMosaic.Lib.Pointwise

@[expose] public section

noncomputable section

/-! # The gradient of banded attention over the real numbers

Row `i` of a head `h` sees the keys `t` at most 128 places away.  Everything here is over the reals and over whole
rows of 4096 keys: the kernel's windows and the reference's blocks are brought to these sums further down.
-/

namespace Banded

/-- Key `t` is one of those row `i` sees. -/
def near (i t : Fin 4096) : Prop := i.val ≤ t.val + 128 ∧ t.val ≤ i.val + 128

instance (i t : Fin 4096) : Decidable (near i t) := by unfold near; infer_instance

/-- Row `a` of block `n`. -/
def row (n : Fin 32) (a : Fin 128) : Fin 4096 := ⟨n.val * 128 + a.val, by omega⟩

/-- Head `e` of group `g`. -/
def head (g : Fin 2) (e : Fin 4) : Fin 8 := ⟨g.val * 4 + e.val, by omega⟩

/-- The group of a head. -/
def group (h : Fin 8) : Fin 2 := ⟨h.val / 4, by omega⟩

theorem group_head (g : Fin 2) (e : Fin 4) : group (head g e) = g := by
  apply Fin.ext; simp only [group, head]; omega

/-- The inputs: queries, keys, values, the output's gradient and the sink logits. -/
structure Inputs where
  q : Fin 4096 → Fin 8 → Fin 64 → ℝ
  k : Fin 4096 → Fin 2 → Fin 64 → ℝ
  v : Fin 4096 → Fin 2 → Fin 64 → ℝ
  o' : Fin 4096 → Fin 8 → Fin 64 → ℝ
  sink : Fin 8 → ℝ

variable (X : Inputs)

/-- The scaled score. -/
def score (i : Fin 4096) (h : Fin 8) (t : Fin 4096) : ℝ := (∑ d, X.k t (group h) d * X.q i h d) * (1 / 8)
/-- The exponential of a seen score. -/
def expo (i : Fin 4096) (h : Fin 8) (t : Fin 4096) : ℝ := if near i t then Real.exp (score X i h t) else 0
/-- A row's sum of exponentials, the sink's among them. -/
def total (i : Fin 4096) (h : Fin 8) : ℝ := (∑ t, expo X i h t) + Real.exp (X.sink h)
/-- The attention weight. -/
def weight (i : Fin 4096) (h : Fin 8) (t : Fin 4096) : ℝ := expo X i h t / total X i h
/-- The output. -/
def out (i : Fin 4096) (h : Fin 8) (d : Fin 64) : ℝ := ∑ t, X.v t (group h) d * weight X i h t
/-- The gradient of a weight. -/
def weight' (i : Fin 4096) (h : Fin 8) (t : Fin 4096) : ℝ := ∑ d, X.o' i h d * X.v t (group h) d
/-- The weights' mean of their gradients. -/
def mean (i : Fin 4096) (h : Fin 8) : ℝ := ∑ t, weight X i h t * weight' X i h t
/-- The gradient of a score, without the factor 1/8. -/
def slope (i : Fin 4096) (h : Fin 8) (t : Fin 4096) : ℝ := weight X i h t * (weight' X i h t - mean X i h)
/-- The gradient of a product of query and key. -/
def score' (i : Fin 4096) (h : Fin 8) (t : Fin 4096) : ℝ := slope X i h t * (1 / 8)
/-- The gradient of the queries. -/
def q' (i : Fin 4096) (h : Fin 8) (d : Fin 64) : ℝ := ∑ t, score' X i h t * X.k t (group h) d
/-- What block `n` adds to the gradient of the keys. -/
def kPart (n : Fin 32) (t : Fin 4096) (g : Fin 2) (d : Fin 64) : ℝ :=
  ∑ a, ∑ e, score' X (row n a) (head g e) t * X.q (row n a) (head g e) d
/-- The gradient of the keys. -/
def k' (t : Fin 4096) (g : Fin 2) (d : Fin 64) : ℝ := ∑ n, kPart X n t g d
/-- What block `n` adds to the gradient of the values. -/
def vPart (n : Fin 32) (t : Fin 4096) (g : Fin 2) (d : Fin 64) : ℝ :=
  ∑ a, ∑ e, weight X (row n a) (head g e) t * X.o' (row n a) (head g e) d
/-- The gradient of the values. -/
def v' (t : Fin 4096) (g : Fin 2) (d : Fin 64) : ℝ := ∑ n, vPart X n t g d
/-- What block `n` takes from the gradient of a sink logit. -/
def sinkPart (n : Fin 32) (h : Fin 8) : ℝ :=
  ∑ a, Real.exp (X.sink h) / total X (row n a) h * mean X (row n a) h
/-- The gradient of a sink logit. -/
def sink' (h : Fin 8) : ℝ := -∑ n, sinkPart X n h

/-! ## What vanishes off the band -/

theorem expo_off {i : Fin 4096} {h : Fin 8} {t : Fin 4096} (ht : ¬near i t) : expo X i h t = 0 := if_neg ht
theorem weight_off {i : Fin 4096} {h : Fin 8} {t : Fin 4096} (ht : ¬near i t) : weight X i h t = 0 := by
  rw [weight, expo_off X ht, zero_div]
theorem slope_off {i : Fin 4096} {h : Fin 8} {t : Fin 4096} (ht : ¬near i t) : slope X i h t = 0 := by
  rw [slope, weight_off X ht, zero_mul]
theorem score'_off {i : Fin 4096} {h : Fin 8} {t : Fin 4096} (ht : ¬near i t) : score' X i h t = 0 := by
  rw [score', slope_off X ht, zero_mul]

theorem expo_nonneg (i : Fin 4096) (h : Fin 8) (t : Fin 4096) : 0 ≤ expo X i h t := by
  unfold expo; split
  · exact (Real.exp_pos _).le
  · exact le_rfl

theorem total_pos (i : Fin 4096) (h : Fin 8) : 0 < total X i h :=
  add_pos_of_nonneg_of_pos (Finset.sum_nonneg fun t _ => expo_nonneg X i h t) (Real.exp_pos _)

theorem total_ne (i : Fin 4096) (h : Fin 8) : total X i h ≠ 0 := (total_pos X i h).ne'

/-- The kernel's weight: the exponential of the score less the logarithm of the row's sum. -/
theorem exp_sub_log (i : Fin 4096) (h : Fin 8) (x : ℝ) :
    Real.exp (x - Real.log (total X i h)) = Real.exp x / total X i h := by
  rw [Real.exp_sub, Real.exp_log (total_pos X i h)]

theorem weight_eq (i : Fin 4096) (h : Fin 8) (t : Fin 4096) :
    weight X i h t = if near i t then Real.exp (score X i h t - Real.log (total X i h)) else 0 := by
  rw [weight, expo]; split
  · rw [exp_sub_log]
  · rw [zero_div]

/-- The product of the output with its gradient is the weights' mean. -/
theorem sum_out (i : Fin 4096) (h : Fin 8) : ∑ d, X.o' i h d * out X i h d = mean X i h := by
  simp only [out, mean, weight', Finset.mul_sum]
  rw [Finset.sum_comm]
  exact Finset.sum_congr rfl fun t _ => Finset.sum_congr rfl fun d _ => by ring

/-- The weights and the sink's weight add up to one. -/
theorem sum_weight (i : Fin 4096) (h : Fin 8) :
    ∑ t, weight X i h t = 1 - Real.exp (X.sink h) / total X i h := by
  simp only [weight, ← Finset.sum_div]
  rw [eq_sub_iff_add_eq, ← add_div]
  exact div_self (total_ne X i h)

theorem sum_slope (i : Fin 4096) (h : Fin 8) :
    ∑ t, slope X i h t = Real.exp (X.sink h) / total X i h * mean X i h := by
  simp only [slope, mul_sub, Finset.sum_sub_distrib, ← Finset.sum_mul]
  rw [sum_weight, ← mean]; ring

/-! ## Windows of keys -/

/-- A sum over a window that holds every nonzero term is the whole sum. -/
theorem sum_window {lo : ℕ} (hlo : lo + 384 ≤ 4096) (f : Fin 4096 → ℝ)
    (hf : ∀ t : Fin 4096, ¬(lo ≤ t.val ∧ t.val < lo + 384) → f t = 0) :
    ∑ j : Fin 384, f ⟨lo + j.val, by omega⟩ = ∑ t, f t := by
  rw [← Finset.sum_subset (Finset.subset_univ (Finset.univ.image fun j : Fin 384 => (⟨lo + j.val, by omega⟩ : Fin 4096))) ?_,
    Finset.sum_image]
  · intro a _ b _ e; have := congrArg Fin.val e; apply Fin.ext; simpa using this
  · intro t _ ht; apply hf; intro ⟨h1, h2⟩; apply ht
    rw [Finset.mem_image]
    exact ⟨⟨t.val - lo, by omega⟩, Finset.mem_univ _, by apply Fin.ext; simp only; omega⟩

/-- The kernel's window of block `n` begins at key `(n-1)*128`, moved inside the array. -/
def lo (n : Fin 32) : ℕ := min 3712 ((n.val - 1) * 128)

theorem lo_le (n : Fin 32) : lo n + 384 ≤ 4096 := by unfold lo; omega

/-- Key `j` of block `n`'s window. -/
def key (n : Fin 32) (j : Fin 384) : Fin 4096 := ⟨lo n + j.val, by have := lo_le n; omega⟩

theorem lo_off (n : Fin 32) (a : Fin 128) (t : Fin 4096) (ht : ¬(lo n ≤ t.val ∧ t.val < lo n + 384)) :
    ¬near (row n a) t := by
  unfold near row; unfold lo at ht; simp only; omega

theorem sum_key (n : Fin 32) (a : Fin 128) (f : Fin 4096 → ℝ) (hf : ∀ t, ¬near (row n a) t → f t = 0) :
    ∑ j, f (key n j) = ∑ t, f t :=
  sum_window (lo_le n) f fun t ht => hf t (lo_off n a t ht)

/-- The reference's three blocks about block `n`: the keys `(n-1)*128 … (n+2)*128`, zero outside the array. -/
def band (n : Fin 32) (j : Fin 384) (f : Fin 4096 → ℝ) : ℝ :=
  if h : 128 ≤ n.val * 128 + j.val ∧ n.val * 128 + j.val < 4224 then f ⟨n.val * 128 + j.val - 128, by omega⟩ else 0

theorem sum_band (n : Fin 32) (a : Fin 128) (f : Fin 4096 → ℝ) (hf : ∀ t, ¬near (row n a) t → f t = 0) :
    ∑ j, band n j f = ∑ t, f t := by
  have hs : ∑ j, band n j f
      = ∑ j ∈ Finset.univ.filter (fun j : Fin 384 => 128 ≤ n.val * 128 + j.val ∧ n.val * 128 + j.val < 4224),
          band n j f := by
    rw [Finset.sum_filter]
    exact Finset.sum_congr rfl fun j _ => by unfold band; split <;> rfl
  have ht : ∑ t, f t
      = ∑ t ∈ Finset.univ.filter (fun t : Fin 4096 => n.val * 128 ≤ t.val + 128 ∧ t.val + 128 < n.val * 128 + 384), f t := by
    rw [Finset.sum_filter]
    refine Finset.sum_congr rfl fun t _ => ?_
    split
    · rfl
    · rename_i h; apply hf; unfold near row; simp only; omega
  rw [hs, ht]
  refine Finset.sum_bij (fun j hj => (⟨n.val * 128 + j.val - 128, by
      have := (Finset.mem_filter.mp hj).2; omega⟩ : Fin 4096)) ?_ ?_ ?_ ?_
  · intro j hj; have := (Finset.mem_filter.mp hj).2
    rw [Finset.mem_filter]; exact ⟨Finset.mem_univ _, by simp only; omega⟩
  · intro j hj j2 hj2 e
    have := (Finset.mem_filter.mp hj).2; have := (Finset.mem_filter.mp hj2).2
    have e := congrArg Fin.val e; simp only at e; apply Fin.ext; omega
  · intro t ht; have := (Finset.mem_filter.mp ht).2
    exact ⟨⟨t.val + 128 - n.val * 128, by omega⟩, by
      rw [Finset.mem_filter]; exact ⟨Finset.mem_univ _, by simp only; omega⟩, by apply Fin.ext; simp only; omega⟩
  · intro j hj; have := (Finset.mem_filter.mp hj).2
    unfold band; rw [dif_pos this]

theorem band_mul (n : Fin 32) (j : Fin 384) (f : Fin 4096 → ℝ) (c : ℝ) :
    band n j f * c = band n j fun t => f t * c := by unfold band; split <;> simp
theorem mul_band (n : Fin 32) (j : Fin 384) (f : Fin 4096 → ℝ) (c : ℝ) :
    c * band n j f = band n j fun t => c * f t := by unfold band; split <;> simp
theorem band_mul_band (n : Fin 32) (j : Fin 384) (f g : Fin 4096 → ℝ) :
    band n j f * band n j g = band n j fun t => f t * g t := by unfold band; split <;> simp
theorem band_div (n : Fin 32) (j : Fin 384) (f : Fin 4096 → ℝ) (c : ℝ) :
    band n j f / c = band n j fun t => f t / c := by unfold band; split <;> simp
theorem band_neg (n : Fin 32) (j : Fin 384) (f : Fin 4096 → ℝ) :
    -band n j f = band n j fun t => -f t := by unfold band; split <;> simp
theorem band_sum {ι : Type} (s : Finset ι) (n : Fin 32) (j : Fin 384) (f : ι → Fin 4096 → ℝ) :
    ∑ x ∈ s, band n j (f x) = band n j fun t => ∑ x ∈ s, f x t := by unfold band; split <;> simp
theorem band_congr {n : Fin 32} {j : Fin 384} {f g : Fin 4096 → ℝ} (h : ∀ t, f t = g t) : band n j f = band n j g :=
  congrArg (band n j) (funext h)
/-- Where key `t` stands in a block's three, the band holds it. -/
theorem band_at {n : Fin 32} {j : Fin 384} {t : Fin 4096} (h : n.val * 128 + j.val = t.val + 128) (f : Fin 4096 → ℝ) :
    band n j f = f t := by
  unfold band; rw [dif_pos ⟨by omega, by omega⟩]; exact congrArg f (Fin.ext (by simp only; omega))

theorem band_none {n : Fin 32} {j : Fin 384} (h : ¬(128 ≤ n.val * 128 + j.val ∧ n.val * 128 + j.val < 4224))
    (f : Fin 4096 → ℝ) : band n j f = 0 := by unfold band; rw [dif_neg h]

/-- The reference's three shifted blocks, added: every block's part of key `t`, one of them at most three. -/
theorem sum_blocks (t : Fin 4096) (f : Fin 32 → ℝ)
    (hf : ∀ n : Fin 32, ¬(n.val ≤ t.val / 128 + 1 ∧ t.val / 128 ≤ n.val + 1) → f n = 0) :
    ((if h : 1 ≤ t.val / 128 then f ⟨t.val / 128 - 1, by omega⟩ else 0) + f ⟨t.val / 128, by omega⟩)
      + (if h : t.val / 128 + 1 < 32 then f ⟨t.val / 128 + 1, h⟩ else 0) = ∑ n, f n := by
  obtain ⟨b, hb⟩ : ∃ b : Fin 32, b.val = t.val / 128 := ⟨⟨t.val / 128, by omega⟩, rfl⟩
  simp only [← hb] at hf ⊢
  have hsum : ∑ n, f n = ∑ n, ((if n.val + 1 = b.val then f n else 0) + (if n = b then f n else 0)
      + (if n.val = b.val + 1 then f n else 0)) := by
    refine Finset.sum_congr rfl fun n _ => ?_
    by_cases h1 : n.val + 1 = b.val
    · rw [if_pos h1, if_neg (by intro h; subst h; omega), if_neg (by omega)]; simp
    by_cases h2 : n = b
    · rw [if_neg h1, if_pos h2, if_neg (by subst h2; omega)]; simp
    by_cases h3 : n.val = b.val + 1
    · rw [if_neg h1, if_neg h2, if_pos h3]; simp
    · rw [if_neg h1, if_neg h2, if_neg h3, hf n (by intro h; apply h2; apply Fin.ext; omega)]; simp
  rw [hsum, Finset.sum_add_distrib, Finset.sum_add_distrib]
  congr 1
  · congr 1
    · split
      · rename_i h
        rw [Finset.sum_eq_single (⟨b.val - 1, by omega⟩ : Fin 32)]
        · rw [if_pos (by simp only; omega)]
        · intro n _ hn; rw [if_neg]; intro e; apply hn; apply Fin.ext; simp only; omega
        · intro h; exact absurd (Finset.mem_univ _) h
      · rename_i h
        rw [Finset.sum_eq_zero]; intro n _; rw [if_neg (by omega)]
    · simp
  · split
    · rename_i h
      rw [Finset.sum_eq_single (⟨b.val + 1, h⟩ : Fin 32)]
      · rw [if_pos rfl]
      · intro n _ hn; rw [if_neg]; intro e; apply hn; apply Fin.ext; simp only; omega
      · intro h; exact absurd (Finset.mem_univ _) h
    · rename_i h
      rw [Finset.sum_eq_zero]; intro n _; rw [if_neg (by omega)]

theorem block_off (t : Fin 4096) (n : Fin 32) (hn : ¬(n.val ≤ t.val / 128 + 1 ∧ t.val / 128 ≤ n.val + 1)) (a : Fin 128) :
    ¬near (row n a) t := by
  unfold near row; simp only; omega

theorem kPart_off (t : Fin 4096) (g : Fin 2) (d : Fin 64) (n : Fin 32)
    (hn : ∀ a, ¬near (row n a) t) : kPart X n t g d = 0 :=
  Finset.sum_eq_zero fun a _ => Finset.sum_eq_zero fun e _ => by rw [score'_off X (hn a), zero_mul]
theorem vPart_off (t : Fin 4096) (g : Fin 2) (d : Fin 64) (n : Fin 32)
    (hn : ∀ a, ¬near (row n a) t) : vPart X n t g d = 0 :=
  Finset.sum_eq_zero fun a _ => Finset.sum_eq_zero fun e _ => by rw [weight_off X (hn a), zero_mul]

end Banded

end
-- ==== Proof.Inputs.lean ====
module

public import Idealize.ShloMosaic.Lib.Pointwise
public import Idealize.ShloMosaic.Lib.IdealHost
public import proofs.«01_k».proof.Proof.Band

@[expose] public section

noncomputable section

/-! # The arguments as real arrays -/

namespace Banded

open Idealize.ShloMosaic

/-- The three argument arrays hold the real inputs `X`. -/
structure Reads (X : Inputs) (x0 : (⟨2, ![4096, 768]⟩ : Shape).Idx → EReal) (x1 : (⟨1, ![8]⟩ : Shape).Idx → EReal)
    (x2 : (⟨2, ![4096, 512]⟩ : Shape).Idx → EReal) : Prop where
  q : ∀ (i : Fin 4096) (h : Fin 8) (d : Fin 64) (p : h.val * 64 + d.val < 768), x0 (ix2 i ⟨h.val * 64 + d.val, p⟩) = X.q i h d
  k : ∀ (t : Fin 4096) (g : Fin 2) (d : Fin 64) (p : 512 + (g.val * 64 + d.val) < 768),
    x0 (ix2 t ⟨512 + (g.val * 64 + d.val), p⟩) = X.k t g d
  v : ∀ (t : Fin 4096) (g : Fin 2) (d : Fin 64) (p : 640 + (g.val * 64 + d.val) < 768),
    x0 (ix2 t ⟨640 + (g.val * 64 + d.val), p⟩) = X.v t g d
  sink : ∀ h : Fin 8, x1 (ix1 h) = X.sink h
  o' : ∀ (i : Fin 4096) (h : Fin 8) (d : Fin 64) (p : h.val * 64 + d.val < 512), x2 (ix2 i ⟨h.val * 64 + d.val, p⟩) = X.o' i h d

/-- The real inputs three arrays hold. -/
def inputs (x0 : (⟨2, ![4096, 768]⟩ : Shape).Idx → EReal) (x1 : (⟨1, ![8]⟩ : Shape).Idx → EReal)
    (x2 : (⟨2, ![4096, 512]⟩ : Shape).Idx → EReal) : Inputs where
  q i h d := (x0 (ix2 i ⟨h.val * 64 + d.val, by omega⟩)).toReal
  k t g d := (x0 (ix2 t ⟨512 + (g.val * 64 + d.val), by omega⟩)).toReal
  v t g d := (x0 (ix2 t ⟨640 + (g.val * 64 + d.val), by omega⟩)).toReal
  sink h := (x1 (ix1 h)).toReal
  o' i h d := (x2 (ix2 i ⟨h.val * 64 + d.val, by omega⟩)).toReal

/-- Arrays of real numbers hold their inputs. -/
theorem reads_inputs (x0 : (⟨2, ![4096, 768]⟩ : Shape).Idx → EReal) (x1 : (⟨1, ![8]⟩ : Shape).Idx → EReal)
    (x2 : (⟨2, ![4096, 512]⟩ : Shape).Idx → EReal) (h0 : ∀ i, x0 i ≠ ⊤ ∧ x0 i ≠ ⊥) (h1 : ∀ i, x1 i ≠ ⊤ ∧ x1 i ≠ ⊥)
    (h2 : ∀ i, x2 i ≠ ⊤ ∧ x2 i ≠ ⊥) : Reads (inputs x0 x1 x2) x0 x1 x2 where
  q _ _ _ _ := (EReal.coe_toReal (h0 _).1 (h0 _).2).symm
  k _ _ _ _ := (EReal.coe_toReal (h0 _).1 (h0 _).2).symm
  v _ _ _ _ := (EReal.coe_toReal (h0 _).1 (h0 _).2).symm
  sink _ := (EReal.coe_toReal (h1 _).1 (h1 _).2).symm
  o' _ _ _ _ := (EReal.coe_toReal (h2 _).1 (h2 _).2).symm

/-! ## Extended reals that are real -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem ofBits_eighth : Ideal.ofBits .f32 0x3E000000#32 = (((1 : ℝ) / 8 : ℝ) : EReal) := by
  rw [show Ideal.ofBits .f32 0x3E000000#32 = _ from by simp [Ideal.ofBits, Ideal.ieee]; rfl]
  norm_cast
  norm_num

theorem ofBits_bot : Ideal.ofBits .f32 0xFF800000#32 = ⊥ := by simp [Ideal.ofBits, Ideal.ieee]

theorem div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

theorem exp_coe (x : ℝ) : Ideal.exp (x : EReal) = ((Real.exp x : ℝ) : EReal) := rfl
theorem exp_bot : Ideal.exp (⊥ : EReal) = 0 := rfl
theorem log_coe (x : ℝ) (hx : 0 < x) : Ideal.log (x : EReal) = ((Real.log x : ℝ) : EReal) := by
  show (if x ≤ 0 then ⊥ else _) = _
  rw [if_neg (not_le.mpr hx)]

end Banded

end
-- ==== Proof.RefForward.lean ====
module

public import proofs.«01_k».proof.Proof.Gen.ReferenceIdeal.Read
public import proofs.«01_k».proof.Proof.RankSix
public import proofs.«01_k».proof.Proof.Inputs

@[expose] public section

noncomputable section

/-! # The reference's forward stages, at an entry

Block `n`, row `a` of it, head `e` of group `g`, key `j` of the block's three blocks of keys.
-/

namespace Cert.ReferenceIdeal.Read

open Idealize.ShloMosaic Cert.ReferenceIdeal Banded

variable {x0 : (⟨S4096x768, .bf16⟩ : BufTy).Contents (Elt Ideal)} {x1 : (⟨S8, .f32⟩ : BufTy).Contents (Elt Ideal)}
  {x2 : (⟨S4096x512, .f32⟩ : BufTy).Contents (Elt Ideal)} {X : Inputs}

theorem v9_at (r : Reads X x0 x1 x2) (n : Fin 32) (a : Fin 128) (g : Fin 2) (e : Fin 4) (d : Fin 64) :
    val_main_v9 (F := Ideal) x0 (ix6 0 n a g e d) = X.q (row n a) (head g e) d := by
  pointwise [val_main_v9, val_main_v2, val_main_v1, val_main_v0]
  exact r.q (row n a) (head g e) d _

theorem v18_at (r : Reads X x0 x1 x2) (n : Fin 32) (j : Fin 384) (g : Fin 2) (d : Fin 64) :
    val_main_v18 (F := Ideal) x0 (ix5 0 n j g d) = band n j fun t => X.k t g d := by
  pointwise [val_main_v18, val_main_v15, val_main_v16, val_main_v17, val_main_v14]
  pointwise [val_main_v11, val_main_v10, val_main_v5, val_main_v4, val_main_v3, val_main_cst]
  simp only [r.k]
  split_ifs <;> first
    | (rw [band_none (by omega)]; rfl)
    | exact congrArg _ (band_at (t := ⟨_, _⟩) (by simp only; omega) (fun t => X.k t g d)).symm

theorem v114_at (r : Reads X x0 x1 x2) (n : Fin 32) (j : Fin 384) (g : Fin 2) (d : Fin 64) :
    val_main_v114 (F := Ideal) x0 (ix5 0 n j g d) = band n j fun t => X.v t g d := by
  pointwise [val_main_v114, val_main_v111, val_main_v112, val_main_v113, val_main_v110]
  pointwise [val_main_v107, val_main_v106, val_main_v8, val_main_v7, val_main_v6, val_main_cst_19]
  simp only [r.v]
  split_ifs <;> first
    | (rw [band_none (by omega)]; rfl)
    | exact congrArg _ (band_at (t := ⟨_, _⟩) (by simp only; omega) (fun t => X.v t g d)).symm

theorem v22_at (r : Reads X x0 x1 x2) (n : Fin 32) (g : Fin 2) (e : Fin 4) (a : Fin 128) (j : Fin 384) :
    val_main_v22 (F := Ideal) x0 (ix6 0 n g e a j) = band n j (score X (row n a) (head g e)) := by
  pointwise [val_main_v22, val_main_v20, val_main_v19, val_main_v21, val_main_cst_2]
  simp only [v18_at r, v9_at r, ofBits_eighth, ← EReal.coe_mul, coe_sum]
  simp only [band_mul, band_sum]
  exact congrArg _ (band_congr fun t => by rw [score, group_head])

/-! ## The mask -/

/-- Key `j` of block `n`'s three blocks lies in the array, and row `a` sees it. -/
def seen (n : Fin 32) (a : Fin 128) (j : Fin 384) : Prop :=
  (128 ≤ n.val * 128 + j.val ∧ n.val * 128 + j.val < 4224) ∧ a.val ≤ j.val ∧ j.val ≤ a.val + 256

instance (n : Fin 32) (a : Fin 128) (j : Fin 384) : Decidable (seen n a j) := by unfold seen; infer_instance

theorem toInt_nat (n : ℕ) (hn : n < 2147483648) : (BitVec.ofNat 32 n).toInt = n := by
  rw [BitVec.toInt_ofNat', Int.bmod_def]; omega

theorem toInt_row (n a : ℕ) (hn : n < 32) (ha : a < 128) :
    (BitVec.ofNat 32 n * 128#32 + BitVec.ofNat 32 a).toInt = (n : ℤ) * 128 + a := by
  rw [show BitVec.ofNat 32 n * 128#32 + BitVec.ofNat 32 a = BitVec.ofNat 32 (n * 128 + a) by
    rw [BitVec.ofNat_add, BitVec.ofNat_mul], toInt_nat _ (by omega)]
  push_cast; ring

theorem toInt_key (n j : ℕ) (hn : n < 32) (hj : j < 384) :
    ((BitVec.ofNat 32 n - 1#32) * 128#32 + BitVec.ofNat 32 j).toInt = (n : ℤ) * 128 + j - 128 := by
  have h1 : (BitVec.ofNat 32 n - 1#32).toInt = (n : ℤ) - 1 := by
    rw [BitVec.toInt_sub, toInt_nat n (by omega), show (1#32 : BitVec 32).toInt = 1 by decide, Int.bmod_def]; omega
  have h2 : ((BitVec.ofNat 32 n - 1#32) * 128#32).toInt = ((n : ℤ) - 1) * 128 := by
    rw [BitVec.toInt_mul, h1, show (128#32 : BitVec 32).toInt = 128 by decide, Int.bmod_def]; omega
  rw [BitVec.toInt_add, h2, toInt_nat j (by omega), Int.bmod_def]; omega

theorem ofBool_and (p q : Bool) : BitVec.ofBool p &&& BitVec.ofBool q = BitVec.ofBool (p && q) := by
  cases p <;> cases q <;> decide

/-- Two positions at most 128 apart. -/
theorem apart (k p : BitVec 32) (hk : -4096 ≤ k.toInt ∧ k.toInt < 8192) (hp : 0 ≤ p.toInt ∧ p.toInt < 4096) :
    IntOp.cmpi .sle (IntOp.absi (IntOp.subi k p)) 128#32
      = BitVec.ofBool (decide (k.toInt - p.toInt ≤ 128 ∧ p.toInt - k.toInt ≤ 128)) := by
  have hs : (k - p).toInt = k.toInt - p.toInt := by
    rw [BitVec.toInt_sub, Int.bmod_def]; omega
  have hn : (-(k - p)).toInt = p.toInt - k.toInt := by
    rw [BitVec.toInt_neg, hs, Int.bmod_def]; omega
  simp only [IntOp.cmpi, IntOp.absi, IntOp.subi, BitVec.sle, BitVec.msb_eq_toInt, hs]
  refine congrArg _ (decide_eq_decide.mpr ?_)
  rw [show (128#32 : BitVec 32).toInt = 128 by decide]
  split
  · rename_i h; rw [hn]; have := of_decide_eq_true h; omega
  · rename_i h; rw [hs]; have := of_decide_eq_false (Bool.not_eq_true _ ▸ h); omega

theorem v31_at (n : Fin 32) (a : Fin 128) :
    (val_main_v31 (F := Ideal) (ix2 n a)).toInt = (n.val : ℤ) * 128 + a.val := by
  pointwise [val_main_v31, val_main_v30, val_main_v29, val_main_v28, val_main_v27, val_main_v26, val_main_v25,
    val_main_v24, val_main_v23, val_main_c]
  exact toInt_row n.val a.val n.isLt a.isLt

theorem v42_at (n : Fin 32) (j : Fin 384) :
    (val_main_v42 (F := Ideal) (ix2 n j)).toInt = (n.val : ℤ) * 128 + j.val - 128 := by
  pointwise [val_main_v42, val_main_v41, val_main_v40, val_main_v39, val_main_v38, val_main_v37, val_main_v36,
    val_main_v35, val_main_v34, val_main_c_4, val_main_v33, val_main_v32, val_main_c_3]
  exact toInt_key n.val j.val n.isLt j.isLt

theorem v60_at (n : Fin 32) (a : Fin 128) (j : Fin 384) :
    val_main_v60 (F := Ideal) (ix3 n a j) = BitVec.ofBool (decide (seen n a j)) := by
  pointwise [val_main_v60, val_main_v59, val_main_v58, val_main_v57, val_main_v56, val_main_v55, val_main_v54,
    val_main_v53, val_main_v52, val_main_c_5, val_main_v51, val_main_v50, val_main_c_6, val_main_v49, val_main_v48,
    val_main_v47, val_main_v46, val_main_v45, val_main_v44, val_main_v43, val_main_c_7]
  have h1 := v31_at n a
  have h2 := v42_at n j
  generalize val_main_v31 (F := Ideal) (ix2 n a) = p at h1 ⊢
  generalize val_main_v42 (F := Ideal) (ix2 n j) = k at h2 ⊢
  have := n.isLt; have := a.isLt; have := j.isLt
  rw [apart k p (by omega) (by omega)]
  simp only [IntOp.cmpi, IntOp.andi, BitVec.sle, BitVec.slt, h1, h2]
  rw [show (0#32 : BitVec 32).toInt = 0 by decide, show (4096#32 : BitVec 32).toInt = 4096 by decide,
    ofBool_and, ofBool_and, ← Bool.decide_and, ← Bool.decide_and]
  refine congrArg _ (decide_eq_decide.mpr ?_)
  unfold seen
  omega

theorem v62_at (r : Reads X x0 x1 x2) (n : Fin 32) (g : Fin 2) (e : Fin 4) (a : Fin 128) (j : Fin 384) :
    val_main_v62_0 (F := Ideal) x0 (ix6 0 n g e a j)
      = if seen n a j then ((band n j (score X (row n a) (head g e)) : ℝ) : EReal) else ⊥ := by
  pointwise [val_main_v62_0, val_main_v62_1, val_main_call0_v2, val_main_call0_v0, val_main_v61, val_main_cst_8]
  rw [v60_at, v22_at r]
  by_cases h : seen n a j
  · rw [if_pos h, decide_eq_true h]; rfl
  · rw [if_neg h, decide_eq_false h]; exact ofBits_bot

/-- A key the band holds is seen exactly where it is near. -/
theorem seen_iff {n : Fin 32} {a : Fin 128} {j : Fin 384} {t : Fin 4096} (h : n.val * 128 + j.val = t.val + 128) :
    seen n a j ↔ near (row n a) t := by
  unfold seen near row; simp only; omega

/-! ## The row's maximum -/

/-- The maximum of a row's scores, seen keys only. -/
def top (x0 : (⟨S4096x768, .bf16⟩ : BufTy).Contents (Elt Ideal)) (n : Fin 32) (g : Fin 2) (e : Fin 4) (a : Fin 128) : ℝ :=
  (val_main_v65 (F := Ideal) x0 (ix5 0 n g e a)).toReal

theorem v65_sup (n : Fin 32) (g : Fin 2) (e : Fin 4) (a : Fin 128) :
    val_main_v65 (F := Ideal) x0 (ix5 0 n g e a)
      = (Finset.univ : Finset (Fin 384)).sup fun j => val_main_v62_0 (F := Ideal) x0 (ix6 0 n g e a j) := by
  pointwise [val_main_v65, val_main_cst_9]
  rw [fold_last, ofBits_bot]
  rfl

/-- The maximum is one of the row's entries. -/
theorem v65_mem (n : Fin 32) (g : Fin 2) (e : Fin 4) (a : Fin 128) :
    ∃ j : Fin 384, val_main_v62_0 (F := Ideal) x0 (ix6 0 n g e a j) = val_main_v65 (F := Ideal) x0 (ix5 0 n g e a) := by
  rw [v65_sup]
  obtain ⟨j, _, h⟩ := Finset.exists_mem_eq_sup (Finset.univ : Finset (Fin 384)) ⟨0, Finset.mem_univ _⟩
    fun j => val_main_v62_0 (F := Ideal) x0 (ix6 0 n g e a j)
  exact ⟨j, h.symm⟩

theorem v65_at (r : Reads X x0 x1 x2) (n : Fin 32) (g : Fin 2) (e : Fin 4) (a : Fin 128) :
    val_main_v65 (F := Ideal) x0 (ix5 0 n g e a) = top x0 n g e a := by
  refine (EReal.coe_toReal ?_ ?_).symm
  · obtain ⟨j, h⟩ := v65_mem (x0 := x0) n g e a
    rw [← h, v62_at r]
    split
    · exact EReal.coe_ne_top _
    · exact bot_ne_top
  · intro hb
    have := Finset.le_sup (f := fun j => val_main_v62_0 (F := Ideal) x0 (ix6 0 n g e a j))
      (Finset.mem_univ (⟨a.val + 128 - n.val / 31 * 1, by omega⟩ : Fin 384))
    rw [← v65_sup, hb, le_bot_iff, v62_at r, if_pos (by unfold seen; simp only; omega)] at this
    exact EReal.coe_ne_bot _ this

/-- The row's maximum with the sink's logit. -/
def peak (x0 : (⟨S4096x768, .bf16⟩ : BufTy).Contents (Elt Ideal)) (X : Inputs) (n : Fin 32) (g : Fin 2) (e : Fin 4)
    (a : Fin 128) : ℝ := max (top x0 n g e a) (X.sink (head g e))

theorem v64_at (r : Reads X x0 x1 x2) (g : Fin 2) (e : Fin 4) :
    val_main_v64 (F := Ideal) x1 (ix6 0 0 g e 0 0) = X.sink (head g e) := by
  pointwise [val_main_v64, val_main_v63]
  exact r.sink (head g e)

theorem v72_at (r : Reads X x0 x1 x2) (n : Fin 32) (g : Fin 2) (e : Fin 4) (a : Fin 128) :
    val_main_v72 (F := Ideal) x1 (ix6 0 n g e a 0) = X.sink (head g e) := by
  pointwise [val_main_v72]
  exact v64_at r g e

theorem v71_at (r : Reads X x0 x1 x2) (n : Fin 32) (g : Fin 2) (e : Fin 4) (a : Fin 128) :
    val_main_v71 (F := Ideal) x0 (ix6 0 n g e a 0) = top x0 n g e a := by
  pointwise [val_main_v71]
  exact v65_at r n g e a

theorem v73_at (r : Reads X x0 x1 x2) (n : Fin 32) (g : Fin 2) (e : Fin 4) (a : Fin 128) :
    val_main_v73 (F := Ideal) x0 x1 (ix6 0 n g e a 0) = peak x0 X n g e a := by
  rw [val_main_v73_apply, v71_at r, v72_at r]
  exact (EReal.coe_strictMono.monotone.map_max).symm

/-! ## The exponentials, their sum and the weights -/

theorem v94_at (r : Reads X x0 x1 x2) (n : Fin 32) (g : Fin 2) (e : Fin 4) (a : Fin 128) (j : Fin 384) :
    val_main_v94 (F := Ideal) x0 x1 (ix6 0 n g e a j)
      = band n j fun t => expo X (row n a) (head g e) t * Real.exp (-peak x0 X n g e a) := by
  pointwise [val_main_v94, val_main_v93, val_main_v92]
  rw [v62_at r, v73_at r]
  by_cases hb : 128 ≤ n.val * 128 + j.val ∧ n.val * 128 + j.val < 4224
  · have ht : n.val * 128 + j.val = (⟨n.val * 128 + j.val - 128, by omega⟩ : Fin 4096).val + 128 := by simp only; omega
    rw [band_at ht, band_at ht]
    by_cases h : seen n a j
    · rw [if_pos h, expo, if_pos ((seen_iff ht).mp h), ← EReal.coe_sub, exp_coe, ← Real.exp_add, sub_eq_add_neg]
    · rw [if_neg h, expo_off X (fun h' => h ((seen_iff ht).mpr h')), zero_mul]
      rw [show (⊥ : EReal) - _ = ⊥ from EReal.bot_sub _]; exact exp_bot
  · rw [if_neg (fun h => hb h.1), band_none hb]
    rw [show (⊥ : EReal) - _ = ⊥ from EReal.bot_sub _]; exact exp_bot

theorem v95_at (r : Reads X x0 x1 x2) (n : Fin 32) (g : Fin 2) (e : Fin 4) (a : Fin 128) :
    val_main_v95 (F := Ideal) x0 x1 (ix5 0 n g e a)
      = ((∑ t, expo X (row n a) (head g e) t) * Real.exp (-peak x0 X n g e a) : ℝ) := by
  unfold val_main_v95
  pointwise [val_main_cst_17]
  rw [sum_last]
  simp only [v94_at r, coe_sum, Ideal.ofBits_zero_f32, zero_add]
  rw [sum_band n a _ (fun t ht => by rw [expo_off X ht, zero_mul]), Finset.sum_mul]

theorem v99_at (r : Reads X x0 x1 x2) (n : Fin 32) (g : Fin 2) (e : Fin 4) (a : Fin 128) :
    val_main_v99 (F := Ideal) x0 x1 (ix6 0 n g e a 0)
      = (Real.exp (X.sink (head g e)) * Real.exp (-peak x0 X n g e a) : ℝ) := by
  pointwise [val_main_v99, val_main_v98, val_main_v97]
  rw [v64_at r, v73_at r, ← EReal.coe_sub, exp_coe, ← Real.exp_add, sub_eq_add_neg]

theorem v100_at (r : Reads X x0 x1 x2) (n : Fin 32) (g : Fin 2) (e : Fin 4) (a : Fin 128) :
    val_main_v100 (F := Ideal) x0 x1 (ix6 0 n g e a 0)
      = (total X (row n a) (head g e) * Real.exp (-peak x0 X n g e a) : ℝ) := by
  pointwise [val_main_v100, val_main_v96]
  rw [v95_at r, v99_at r, ← EReal.coe_add, ← add_mul, total]

theorem v102_at (r : Reads X x0 x1 x2) (n : Fin 32) (g : Fin 2) (e : Fin 4) (a : Fin 128) (j : Fin 384) :
    val_main_v102 (F := Ideal) x0 x1 (ix6 0 n g e a j) = band n j (weight X (row n a) (head g e)) := by
  pointwise [val_main_v102, val_main_v101]
  rw [v94_at r, v100_at r, div_coe _ _ (mul_ne_zero (total_ne X _ _) (Real.exp_ne_zero _)), band_div]
  exact congrArg _ (band_congr fun t => by rw [mul_div_mul_right _ _ (Real.exp_ne_zero _), weight])

theorem v115_at (r : Reads X x0 x1 x2) (n : Fin 32) (g : Fin 2) (d : Fin 64) (e : Fin 4) (a : Fin 128) :
    val_main_v115 (F := Ideal) x0 x1 (ix6 0 n g d e a) = out X (row n a) (head g e) d := by
  pointwise [val_main_v115]
  simp only [v114_at r, v102_at r, ← EReal.coe_mul, coe_sum, band_mul_band]
  rw [sum_band n a _ (fun t ht => by rw [weight_off X ht, mul_zero]), out, group_head]

end Cert.ReferenceIdeal.Read

end
-- ==== Proof.Saved.lean ====
module

public import proofs.«01_k».proof.Proof.Gen.KernelIdeal.Frame
public import proofs.«01_k».proof.Proof.RefForward
public import Idealize.ShloMosaic.Lib.StableHlo.ReadAt

@[expose] public section

set_option maxRecDepth 16384

noncomputable section

/-! # What the forward pass saved, as the kernel's host lines leave it

The attention's output and the logarithm of each row's sum of exponentials.  The host lines are the reference's own
forward lines, so each array they leave is one of the reference's stages.
-/

namespace Cert.KernelIdeal.Gen

open Idealize.ShloMosaic Idealize.ShloMosaic.TcCoe Idealize.ShloMosaic.Tactic Cert.KernelIdeal
open Cert.ReferenceIdeal.Read

variable (m : (ℓ : Loc nD τ sig) → Buf (Elt Ideal) ℓ) (c : Dev nD)

/-- A buffer after the first `n` host lines. -/
abbrev through (n : ℕ) (b : Ref sig .tc) : Buf (Elt Ideal) ((c : Thread nD τ).loc b) :=
  StableHlo.upto (List.flatten [hostOps0, hostOps0_1, hostOps0_2]) (fun b => m (c, b)) n b

/-- The three arguments as the program finds them. -/
abbrev arg0 := m ((c : Thread nD τ).loc main_arg0)
abbrev arg1 := m ((c : Thread nD τ).loc main_arg1)
abbrev arg2 := m ((c : Thread nD τ).loc main_arg2)

/-! ## The keys and values of three blocks -/

theorem through_10 : through m c 12 main_v10 = val_main_v10 (F := Ideal) := by
  unfold through
  after_reads_simp
  sl_kernel_rfl

theorem through_5 : through m c 12 main_v5 = val_main_v5 (F := Ideal) (arg0 m c) := by
  unfold through
  after_reads_simp
  sl_kernel_rfl

theorem through_13 : through m c 17 main_v13 = val_main_v15 (F := Ideal) (arg0 m c) := by
  unfold through
  after_reads_simp
  dsimp only [Matrix.cons_val]
  have e10 := through_10 m c
  have e5 := through_5 m c
  unfold through at e10 e5
  rw [e10, e5]
  sl_kernel_rfl

theorem through_14 : through m c 17 main_v14 = val_main_v16 (F := Ideal) (arg0 m c) := by
  unfold through
  after_reads_simp
  dsimp only [Matrix.cons_val]
  have e10 := through_10 m c
  have e5 := through_5 m c
  unfold through at e10 e5
  rw [e10, e5]
  sl_kernel_rfl

theorem through_15 : through m c 17 main_v15 = val_main_v17 (F := Ideal) (arg0 m c) := by
  unfold through
  after_reads_simp
  dsimp only [Matrix.cons_val]
  have e10 := through_10 m c
  have e5 := through_5 m c
  unfold through at e10 e5
  rw [e10, e5]
  sl_kernel_rfl

theorem through_78 : through m c 94 main_v78 = val_main_v106 (F := Ideal) := by
  unfold through
  after_reads_simp
  sl_kernel_rfl

theorem through_8 : through m c 94 main_v8 = val_main_v8 (F := Ideal) (arg0 m c) := by
  unfold through
  after_reads_simp
  sl_kernel_rfl

theorem through_81 : through m c 99 main_v81 = val_main_v111 (F := Ideal) (arg0 m c) := by
  unfold through
  after_reads_simp
  dsimp only [Matrix.cons_val]
  have e78 := through_78 m c
  have e8 := through_8 m c
  unfold through at e78 e8
  rw [e78, e8]
  sl_kernel_rfl

theorem through_82 : through m c 99 main_v82 = val_main_v112 (F := Ideal) (arg0 m c) := by
  unfold through
  after_reads_simp
  dsimp only [Matrix.cons_val]
  have e78 := through_78 m c
  have e8 := through_8 m c
  unfold through at e78 e8
  rw [e78, e8]
  sl_kernel_rfl

theorem through_83 : through m c 99 main_v83 = val_main_v113 (F := Ideal) (arg0 m c) := by
  unfold through
  after_reads_simp
  dsimp only [Matrix.cons_val]
  have e78 := through_78 m c
  have e8 := through_8 m c
  unfold through at e78 e8
  rw [e78, e8]
  sl_kernel_rfl

/-! ## Each row's maximum and sum, and the output -/

theorem V_peak : V m c main_v66 = val_main_v73 (F := Ideal) (arg0 m c) (arg1 m c) := by
  unfold V
  after_reads_simp
  dsimp only [Matrix.cons_val]
  have e13 := through_13 m c
  have e14 := through_14 m c
  have e15 := through_15 m c
  unfold through at e13 e14 e15
  rw [e13, e14, e15]
  sl_kernel_rfl

theorem V_total : V m c main_v75 = val_main_v100 (F := Ideal) (arg0 m c) (arg1 m c) := by
  unfold V
  after_reads_simp
  dsimp only [Matrix.cons_val]
  have e13 := through_13 m c
  have e14 := through_14 m c
  have e15 := through_15 m c
  unfold through at e13 e14 e15
  rw [e13, e14, e15]
  sl_kernel_rfl

/-- The saved output. -/
theorem V_out : V m c main_v87
    = shapeCast S4096x512 (val_main_v116 (F := Ideal) (arg0 m c) (arg1 m c)) shapeCasts_S1x32x128x2x4x64_S4096x512 := by
  unfold V
  after_reads_simp
  dsimp only [Matrix.cons_val]
  have e13 := through_13 m c
  have e14 := through_14 m c
  have e15 := through_15 m c
  have e81 := through_81 m c
  have e82 := through_82 m c
  have e83 := through_83 m c
  unfold through at e13 e14 e15 e81 e82 e83
  rw [e13, e14, e15, e81, e82, e83]
  sl_kernel_rfl

/-- The saved logarithms, over a row's maximum and sum. -/
def logs (p s : FVec Ideal S1x32x2x4x128x1 .f32) : FVec Ideal S4096x8 .f32 :=
  shapeCast S4096x8 (transpose S32x128x8 [0, 2, 1] (shapeCast S32x8x128 (addf p (Host.log s) : FVec Ideal S1x32x2x4x128x1 .f32)
    shapeCasts_S1x32x2x4x128x1_S32x8x128) transposes_S32x8x128_S32x128x8_0_2_1) shapeCasts_S32x128x8_S4096x8

theorem V_logs : V m c main_v92 = logs (val_main_v73 (F := Ideal) (arg0 m c) (arg1 m c)) (val_main_v100 (arg0 m c) (arg1 m c)) := by
  unfold V
  after_reads_simp
  dsimp only [Matrix.cons_val]
  have e13 := through_13 m c
  have e14 := through_14 m c
  have e15 := through_15 m c
  unfold through at e13 e14 e15
  rw [e13, e14, e15]
  sl_kernel_rfl

/-! ## At an entry -/

open Banded

variable {m c} {X : Inputs}

theorem out_at (r : Reads X (arg0 m c) (arg1 m c) (arg2 m c)) (n : Fin 32) (a : Fin 128) (g : Fin 2) (e : Fin 4)
    (d : Fin 64) :
    V m c main_v87 (ix2 (row n a) ⟨(head g e).val * 64 + d.val, by omega⟩) = ((out X (row n a) (head g e) d : ℝ) : EReal) := by
  rw [V_out]
  refine Eq.trans ?_ (v115_at r n g d e a)
  unfold val_main_v116
  generalize hy : val_main_v115 (F := Ideal) (arg0 m c) (arg1 m c) = y
  pointwise
  refine congrArg y ?_
  rw [show (⟨(row n a).val / 128, by omega⟩ : Fin 32) = n from Fin.ext (by simp only [row]; omega),
    show (⟨((head g e).val * 64 + d.val) / 256, by have := (head g e).isLt; omega⟩ : Fin 2) = g from
      Fin.ext (by simp only [head]; omega),
    show (⟨(row n a).val % 128, by omega⟩ : Fin 128) = a from Fin.ext (by simp only [row]; omega),
    show (⟨((head g e).val * 64 + d.val) / 64 % 4, by omega⟩ : Fin 4) = e from Fin.ext (by simp only [head]; omega)]

theorem logs_apply (p s : FVec Ideal S1x32x2x4x128x1 .f32) (n : Fin 32) (a : Fin 128) (g : Fin 2) (e : Fin 4) :
    logs p s (ix2 (row n a) (head g e)) = p (ix6 0 n g e a 0) + Ideal.log (s (ix6 0 n g e a 0)) := by
  unfold logs
  pointwise
  have hx : (ix6 (0 : Fin 1) ⟨(row n a).val / 128, by omega⟩ ⟨(head g e).val / 4, by omega⟩ ⟨(head g e).val % 4, by omega⟩
      ⟨(row n a).val % 128, by omega⟩ (0 : Fin 1) : S1x32x2x4x128x1.Idx) = ix6 0 n g e a 0 := by
    rw [show (⟨(row n a).val / 128, by omega⟩ : Fin 32) = n from Fin.ext (by simp only [row]; omega),
      show (⟨(head g e).val / 4, by omega⟩ : Fin 2) = g from Fin.ext (by simp only [head]; omega),
      show (⟨(row n a).val % 128, by omega⟩ : Fin 128) = a from Fin.ext (by simp only [row]; omega),
      show (⟨(head g e).val % 4, by omega⟩ : Fin 4) = e from Fin.ext (by simp only [head]; omega)]
  exact congrArg (fun i => p i + Ideal.log (s i)) hx

theorem logs_at (r : Reads X (arg0 m c) (arg1 m c) (arg2 m c)) (n : Fin 32) (a : Fin 128) (g : Fin 2) (e : Fin 4) :
    V m c main_v92 (ix2 (row n a) (head g e)) = ((Real.log (total X (row n a) (head g e)) : ℝ) : EReal) := by
  have ht := total_pos X (row n a) (head g e)
  rw [V_logs, logs_apply]
  refine (congrArg₂ (fun u v => u + Ideal.log v) (v73_at r n g e a) (v100_at r n g e a)).trans ?_
  rw [log_coe _ (mul_pos ht (Real.exp_pos _)), Real.log_mul ht.ne' (Real.exp_pos _).ne', Real.log_exp, ← EReal.coe_add]
  congr 1
  ring

end Cert.KernelIdeal.Gen
-- ==== Proof.Finite.lean ====
module

public import proofs.«01_k».proof.Defs
public import proofs.«01_k».proof.Proof.Saved
public import Idealize.ShloMosaic.Lib.Pointwise
public import Idealize.ShloMosaic.Lib.ReduceAll

@[expose] public section

noncomputable section

/-! # The precondition says that the arguments are real numbers -/

namespace Cert.KernelIdeal.Run

open Idealize.ShloMosaic
open Banded

/-- A value whose magnitude lies below plus infinity is a real number. -/
theorem real_of_lt (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  constructor
  · rintro rfl
    simp [Ideal.cmp] at h
  · rintro rfl
    simp [Ideal.cmp] at h

variable [Cert.Pre_finite.Facts]

/-- Where the precondition holds the arguments hold inputs. -/
theorem reads_of_finite (x0 : FVec Ideal S4096x768 .bf16) (x1 : FVec Ideal S8 .f32) (x2 : FVec Ideal S4096x512 .f32)
    (h : Cert.Pre_finite.fn (F := Ideal) x0 x1 x2 = fun _ => 1#1) : Reads (inputs x0 x1 x2) x0 x1 x2 := by
  have hs : Subsingleton Cert.Pre_finite.S_.Idx := ⟨fun a b => funext fun i => i.elim0⟩
  have e := congrFun h (fun i => i.elim0)
  unfold Cert.Pre_finite.fn at e
  obtain ⟨e, e2⟩ := IntOp.andi_eq_one.1 e
  obtain ⟨e0, e1⟩ := IntOp.andi_eq_one.1 e
  exact reads_inputs x0 x1 x2
    (fun i => real_of_lt _ (Host.reduce_andi_all _ _ _ _ _ e0 i))
    (fun i => real_of_lt _ (Host.reduce_andi_all _ _ _ _ _ e1 i))
    (fun i => real_of_lt _ (Host.reduce_andi_all _ _ _ _ _ e2 i))

end Cert.KernelIdeal.Run
-- ==== Proof.HeadValue.lean ====
module

public import proofs.«01_k».proof.Proof.Gen.KernelIdeal.Skeleton
public import proofs.«01_k».proof.Proof.Gen.KernelIdeal.Frame
public import proofs.«01_k».proof.Proof.RefForward
public import proofs.«01_k».proof.Proof.Offsets

@[expose] public section

noncomputable section

/-! # One head's arithmetic in one step of the kernel

The kernel treats its eight heads by the same lines.  Here are those lines once, over the blocks they read, and what
they give when the blocks hold the inputs' rows.
-/

namespace Cert.KernelIdeal.Run

open Cert.KernelIdeal Cert.KernelIdeal.Gen
open Idealize.ShloMosaic Idealize.ShloMosaic.TcCoe Idealize.ShloMosaic.Tactic

section
variable {F : FTy → Type} [FloatOps F]

/-- Each row's sum of the output's gradient times the output. -/
def meanOf (doh oh : Vec F S128x64 .f32) : FVec F S128x1 .f32 := k0_pay12 doh oh

/-- The weights. -/
def weightsOf (mask : IVec S128x384 1) (kh : FVec F S384x64 .bf16) (qh : Vec F S128x64 .bf16) (l : Vec F S128x1 .f32) :
    FVec F S128x384 .f32 :=
  k0_pay14 mask kh qh (k0_pay13 l) (constant S128x384 .f32 0x00000000#32)

/-- The gradients of the products of query and key. -/
def slopesOf (mask : IVec S128x384 1) (kh vh : FVec F S384x64 .bf16) (qh : Vec F S128x64 .bf16) (doh oh : Vec F S128x64 .f32)
    (l : Vec F S128x1 .f32) : FVec F S128x384 .bf16 :=
  k0_pay16 mask kh vh qh doh (meanOf doh oh) (k0_pay13 l) (constant S128x384 .f32 0x00000000#32)

/-- The head's gradient of the queries. -/
def queriesOf (mask : IVec S128x384 1) (kh vh : FVec F S384x64 .bf16) (qh : Vec F S128x64 .bf16) (doh oh : Vec F S128x64 .f32)
    (l : Vec F S128x1 .f32) : FVec F S128x64 .f32 :=
  k0_pay17 mask kh vh qh doh (meanOf doh oh) (k0_pay13 l) (constant S128x384 .f32 0x00000000#32)

/-- The gradient of the window's keys so far and the head's share. -/
def keysOf (mask : IVec S128x384 1) (kh vh : FVec F S384x64 .bf16) (qh : Vec F S128x64 .bf16) (doh oh : Vec F S128x64 .f32)
    (l : Vec F S128x1 .f32) (acc : FVec F S384x64 .f32) : FVec F S384x64 .f32 :=
  k0_pay18 mask kh vh acc qh doh (meanOf doh oh) (k0_pay13 l) (constant S128x384 .f32 0x00000000#32)

/-- The gradient of the window's values so far and the head's share. -/
def valuesOf (mask : IVec S128x384 1) (kh : FVec F S384x64 .bf16) (qh : Vec F S128x64 .bf16) (doh : Vec F S128x64 .f32)
    (l : Vec F S128x1 .f32) (acc : FVec F S384x64 .f32) : FVec F S384x64 .f32 :=
  k0_pay19 mask kh acc qh doh (k0_pay13 l) (constant S128x384 .f32 0x00000000#32)

/-- The head's row of the gradient of the sink logits so far, less the step's share. -/
def sinkOf (doh oh : Vec F S128x64 .f32) (l : Vec F S128x1 .f32) (x : Elt F .f32) (prev : Vec F S1x128 .f32) :
    FVec F S1x128 .f32 :=
  k0_pay20 (meanOf doh oh) (k0_pay13 l) x prev

end

open Banded

/-! ## The mask -/

theorem toInt_lo (n j : ℕ) (hn : n < 32) (hj : j < 384) :
    (loWord n + BitVec.ofNat 32 j).toInt = (lo n : ℤ) + j := by
  have h := loWord_toNat ⟨n, hn⟩
  have hl := lo_le n
  rw [show loWord n = BitVec.ofNat 32 (lo n) from BitVec.eq_of_toNat_eq (by rw [h, BitVec.toNat_ofNat]; simp only; omega),
    ← BitVec.ofNat_add, Cert.ReferenceIdeal.Read.toInt_nat _ (by omega)]
  push_cast; rfl

theorem mask_at (i : grid0.Coords) (n : Fin 32) (hn : (i 0).val = n.val) (a : Fin 128) (j : Fin 384) :
    k0_pay7 i (ix2 a j) = BitVec.ofBool (decide (near (row n a) (key n j))) := by
  have hj := toInt_lo n.val j.val n.isLt j.isLt
  have hr := Cert.ReferenceIdeal.Read.toInt_row n.val a.val n.isLt a.isLt
  have hl := lo_le n.val
  have := n.isLt; have := a.isLt; have := j.isLt
  pointwise [k0_pay7]
  rw [show Scalar.muli (BitVec.ofNat 32 (i 0).val) 128#32 = BitVec.ofNat 32 n.val * 128#32 from by rw [hn]; rfl,
    show Scalar.minsi (3712#32) (Scalar.maxsi (0#32) (Scalar.muli (Scalar.subi (BitVec.ofNat 32 (i 0).val) 1#32) 128#32))
      = loWord n.val from by rw [hn]; rfl]
  change IntOp.cmpi .sle (IntOp.absi (IntOp.subi (loWord n.val + BitVec.ofNat 32 j.val)
    (BitVec.ofNat 32 n.val * 128#32 + BitVec.ofNat 32 a.val))) 128#32 = _
  rw [Cert.ReferenceIdeal.Read.apart _ _ (by rw [hj]; omega) (by rw [hr]; omega), hj, hr]
  refine congrArg BitVec.ofBool (decide_eq_decide.mpr ?_)
  show _ ↔ n.val * 128 + a.val ≤ lo n.val + j.val + 128 ∧ lo n.val + j.val ≤ n.val * 128 + a.val + 128
  omega

/-! ## The blocks read, and what the lines give -/

/-- Head `h`'s blocks in step `n` hold the inputs' rows. -/
structure HeadReads (X : Inputs) (n : Fin 32) (h : Fin 8) (mask : IVec S128x384 1) (kh vh : FVec Ideal S384x64 .bf16)
    (qh : Vec Ideal S128x64 .bf16) (doh oh : Vec Ideal S128x64 .f32) (l : Vec Ideal S128x1 .f32) : Prop where
  mask : ∀ (a : Fin 128) (j : Fin 384), mask (ix2 a j) = BitVec.ofBool (decide (near (row n a) (key n j)))
  k : ∀ (j : Fin 384) (d : Fin 64), kh (ix2 j d) = ((X.k (key n j) (group h) d : ℝ) : EReal)
  v : ∀ (j : Fin 384) (d : Fin 64), vh (ix2 j d) = ((X.v (key n j) (group h) d : ℝ) : EReal)
  q : ∀ (a : Fin 128) (d : Fin 64), qh (ix2 a d) = ((X.q (row n a) h d : ℝ) : EReal)
  o' : ∀ (a : Fin 128) (d : Fin 64), doh (ix2 a d) = ((X.o' (row n a) h d : ℝ) : EReal)
  o : ∀ (a : Fin 128) (d : Fin 64), oh (ix2 a d) = ((out X (row n a) h d : ℝ) : EReal)
  l : ∀ a : Fin 128, l (ix2 a 0) = ((Real.log (total X (row n a) h) : ℝ) : EReal)

variable {X : Inputs} {n : Fin 32} {h : Fin 8} {mask : IVec S128x384 1} {kh vh : FVec Ideal S384x64 .bf16}
  {qh : Vec Ideal S128x64 .bf16} {doh oh : Vec Ideal S128x64 .f32} {l : Vec Ideal S128x1 .f32}

theorem mean_at (r : HeadReads X n h mask kh vh qh doh oh l) (a : Fin 128) :
    meanOf doh oh (ix2 a 0) = ((Banded.mean X (row n a) h : ℝ) : EReal) := by
  pointwise [meanOf, k0_pay12]
  simp only [r.o', r.o, ← EReal.coe_mul, coe_sum, sum_out]

theorem weights_at (r : HeadReads X n h mask kh vh qh doh oh l) (a : Fin 128) (j : Fin 384) :
    weightsOf mask kh qh l (ix2 a j) = ((weight X (row n a) h (key n j) : ℝ) : EReal) := by
  pointwise [weightsOf, k0_pay14, k0_pay13]
  simp only [r.k, r.q, r.l, r.mask, ofBits_eighth, ← EReal.coe_mul, coe_sum]
  rw [weight_eq, score, Finset.sum_congr rfl fun d _ => mul_comm (X.q (row n a) h d) (X.k (key n j) (group h) d),
    ← EReal.coe_sub, exp_coe]
  by_cases hn : near (row n a) (key n j)
  · rw [if_pos hn, decide_eq_true hn]; rfl
  · rw [if_neg hn, decide_eq_false hn]; rfl

theorem slopes_at (r : HeadReads X n h mask kh vh qh doh oh l) (a : Fin 128) (j : Fin 384) :
    slopesOf mask kh vh qh doh oh l (ix2 a j) = ((score' X (row n a) h (key n j) : ℝ) : EReal) := by
  have hw := weights_at r a j
  have hm := mean_at r a
  unfold slopesOf k0_pay16
  change weightsOf mask kh qh l (ix2 a j) = _ at hw
  unfold weightsOf at hw
  generalize k0_pay14 mask kh qh (k0_pay13 l) (constant S128x384 .f32 0x00000000#32) = w at hw ⊢
  generalize meanOf doh oh = μ at hm ⊢
  pointwise [k0_pay15]
  rw [hw, hm]
  simp only [r.o', r.v, ofBits_eighth, ← EReal.coe_mul, coe_sum, ← EReal.coe_sub]
  rfl

theorem queries_at (r : HeadReads X n h mask kh vh qh doh oh l) (a : Fin 128) (d : Fin 64) :
    queriesOf mask kh vh qh doh oh l (ix2 a d) = ((q' X (row n a) h d : ℝ) : EReal) := by
  have hs := slopes_at r
  unfold queriesOf k0_pay17
  unfold slopesOf at hs
  generalize k0_pay16 mask kh vh qh doh (meanOf doh oh) (k0_pay13 l) (constant S128x384 .f32 0x00000000#32) = s at hs ⊢
  pointwise
  simp only [hs, r.k, ← EReal.coe_mul, coe_sum]
  rw [sum_key n a (fun t => score' X (row n a) h t * X.k t (group h) d) fun t ht => by rw [score'_off X ht, zero_mul]]
  rfl

theorem keys_at (r : HeadReads X n h mask kh vh qh doh oh l) (acc : FVec Ideal S384x64 .f32) (j : Fin 384) (d : Fin 64) :
    keysOf mask kh vh qh doh oh l acc (ix2 j d)
      = acc (ix2 j d) + ((∑ a, score' X (row n a) h (key n j) * X.q (row n a) h d : ℝ) : EReal) := by
  have hs := slopes_at r
  unfold keysOf k0_pay18
  unfold slopesOf at hs
  generalize k0_pay16 mask kh vh qh doh (meanOf doh oh) (k0_pay13 l) (constant S128x384 .f32 0x00000000#32) = s at hs ⊢
  pointwise
  simp only [hs, r.q, ← EReal.coe_mul, coe_sum]

theorem values_at (r : HeadReads X n h mask kh vh qh doh oh l) (acc : FVec Ideal S384x64 .f32) (j : Fin 384) (d : Fin 64) :
    valuesOf mask kh qh doh l acc (ix2 j d)
      = acc (ix2 j d) + ((∑ a, weight X (row n a) h (key n j) * X.o' (row n a) h d : ℝ) : EReal) := by
  have hw := weights_at r
  unfold valuesOf k0_pay19
  unfold weightsOf at hw
  generalize k0_pay14 mask kh qh (k0_pay13 l) (constant S128x384 .f32 0x00000000#32) = w at hw ⊢
  pointwise [k0_pay15]
  simp only [hw, r.o', ← EReal.coe_mul, coe_sum]

theorem sinks_at (r : HeadReads X n h mask kh vh qh doh oh l) (prev : Vec Ideal S1x128 .f32) (y : Fin 128) :
    sinkOf doh oh l ((X.sink h : ℝ) : EReal) prev (ix2 0 y) = prev (ix2 0 y) + ((-sinkPart X n h : ℝ) : EReal) := by
  have hm := mean_at r
  unfold sinkOf k0_pay20
  generalize meanOf doh oh = μ at hm ⊢
  pointwise [k0_pay13]
  simp only [hm, r.l, ← EReal.coe_sub, exp_coe, exp_sub_log, ← EReal.coe_mul, coe_sum]
  rw [← EReal.coe_zero, ← EReal.coe_sub, zero_sub]
  rfl

end Cert.KernelIdeal.Run
-- ==== Proof.StepText.lean ====
module

public import proofs.«01_k».proof.Proof.Steps
public import proofs.«01_k».proof.Proof.HeadValue

@[expose] public section

noncomputable section

/-! # What a step stores, head by head

The stores of one step, written with `HeadValue`'s lines: eight blocks of the queries' gradient, two windows of the keys'
and of the values', and eight rows of the sinks'.
-/

namespace Cert.KernelIdeal.Run

open Cert.KernelIdeal Cert.KernelIdeal.Gen
open Idealize.ShloMosaic Idealize.ShloMosaic.TcCoe Idealize.ShloMosaic.Tactic

/-- A buffer and what it holds. -/
structure Held (F : FTy → Type) (sp : Space) (S : Shape) (e : EltTy) where
  a : Memref sig .tc sp S e
  whole : a.IsWhole
  x : Vec F S e

/-- A step's place in the grid and its inputs. -/
structure Step (F : FTy → Type) where
  i : grid0.Coords
  sink : Held F .smem S8 .f32
  q : Held F .vmem S128x512 .bf16
  k : Held F .vmem S4096x128 .bf16
  v : Held F .vmem S4096x128 .bf16
  o : Held F .vmem S128x512 .f32
  l : Held F .vmem S128x8 .f32
  o' : Held F .vmem S128x512 .f32

theorem inbHead (h : Fin 8) : ∀ a, (![0, 64 * h.val] : Fin 2 → ℕ) a + S128x64.size a ≤ S128x512.size a := by
  intro a
  have := h.isLt
  match a with
  | 0 => exact (by decide : 0 + 128 ≤ 128)
  | 1 => exact (by omega : 64 * h.val + 64 ≤ 512)

theorem inbLog (h : Fin 8) : ∀ a, (![0, h.val] : Fin 2 → ℕ) a + S128x1.size a ≤ S128x8.size a := by
  intro a
  have := h.isLt
  match a with
  | 0 => exact (by decide : 0 + 128 ≤ 128)
  | 1 => exact (by omega : h.val + 1 ≤ 8)

theorem inbSink (h : Fin 8) : ∀ a, (![h.val] : Fin 1 → ℕ) a + S1.size a ≤ S8.size a := by
  intro a
  have := h.isLt
  match a with
  | 0 => exact (by omega : h.val + 1 ≤ 8)

theorem inbRow (h : Fin 8) : ∀ a, (![h.val, 0] : Fin 2 → ℕ) a + S1x128.size a ≤ S8x128.size a := by
  intro a
  have := h.isLt
  match a with
  | 0 => exact (by omega : h.val + 1 ≤ 8)
  | 1 => exact (by decide : 0 + 128 ≤ 128)

namespace Step

variable {F : FTy → Type} [FloatOps F] (s : Step F)

/-- Head `h`'s queries. -/
def qh (h : Fin 8) : Vec F S128x64 .bf16 :=
  View.readAt (Elt F) s.q.a.view (Rect.unit (s := S128x512) ![0, 64 * h.val] S128x64.size (inbHead h)).toLoadRect (s.q.whole.unread s.q.x)
/-- Head `h`'s outputs. -/
def oh (h : Fin 8) : Vec F S128x64 .f32 :=
  View.readAt (Elt F) s.o.a.view (Rect.unit (s := S128x512) ![0, 64 * h.val] S128x64.size (inbHead h)).toLoadRect (s.o.whole.unread s.o.x)
/-- Head `h`'s gradients of the output. -/
def doh (h : Fin 8) : Vec F S128x64 .f32 :=
  View.readAt (Elt F) s.o'.a.view (Rect.unit (s := S128x512) ![0, 64 * h.val] S128x64.size (inbHead h)).toLoadRect (s.o'.whole.unread s.o'.x)
/-- Head `h`'s logarithms. -/
def lh (h : Fin 8) : Vec F S128x1 .f32 :=
  View.readAt (Elt F) s.l.a.view (Rect.unit (s := S128x8) ![0, h.val] S128x1.size (inbLog h)).toLoadRect (s.l.whole.unread s.l.x)
/-- Head `h`'s sink logit. -/
def sh (h : Fin 8) : Elt F .f32 :=
  View.readAt (Elt F) s.sink.a.view (Rect.unit (s := S8) ![h.val] S1.size (inbSink h)).toLoadRect (s.sink.whole.unread s.sink.x)
    (Shape.Idx.first (s := S1) (by decide))
/-- The window's keys. -/
def kw : Vec F S384x128 .bf16 :=
  View.readAt (Elt F) s.k.a.view (Rect.unit (s := S4096x128) (k0_off1 s.i) S384x128.size (k0_off1_inb s.i)).toLoadRect (s.k.whole.unread s.k.x)
/-- The window's values. -/
def vw : Vec F S384x128 .bf16 :=
  View.readAt (Elt F) s.v.a.view (Rect.unit (s := S4096x128) (k0_off1 s.i) S384x128.size (k0_off1_inb s.i)).toLoadRect (s.v.whole.unread s.v.x)
/-- A group's keys. -/
def kh : Fin 2 → FVec F S384x64 .bf16
  | 0 => k0_pay8 s.kw
  | 1 => k0_pay51 s.kw
/-- A group's values. -/
def vh : Fin 2 → FVec F S384x64 .bf16
  | 0 => k0_pay9 s.vw
  | 1 => k0_pay52 s.vw
/-- Which keys a query sees. -/
def seen : IVec S128x384 1 := k0_pay7 s.i

/-- The queries' gradient. -/
def dq (h : Fin 8) : FVec F S128x64 .f32 :=
  queriesOf s.seen (s.kh (Banded.group h)) (s.vh (Banded.group h)) (s.qh h) (s.doh h) (s.oh h) (s.lh h)
/-- One head's share added to the keys' gradient. -/
def addK (h : Fin 8) (acc : FVec F S384x64 .f32) : FVec F S384x64 .f32 :=
  keysOf s.seen (s.kh (Banded.group h)) (s.vh (Banded.group h)) (s.qh h) (s.doh h) (s.oh h) (s.lh h) acc
/-- One head's share added to the values' gradient. -/
def addV (h : Fin 8) (acc : FVec F S384x64 .f32) : FVec F S384x64 .f32 :=
  valuesOf s.seen (s.kh (Banded.group h)) (s.qh h) (s.doh h) (s.lh h) acc
/-- A group's share of the keys' gradient. -/
def dk (g : Fin 2) : FVec F S384x64 .f32 :=
  s.addK (Banded.head g 3) (s.addK (Banded.head g 2) (s.addK (Banded.head g 1) (s.addK (Banded.head g 0) k0_pay10)))
/-- A group's share of the values' gradient. -/
def dv (g : Fin 2) : FVec F S384x64 .f32 :=
  s.addV (Banded.head g 3) (s.addV (Banded.head g 2) (s.addV (Banded.head g 1) (s.addV (Banded.head g 0) k0_pay11)))
/-- The sinks' row. -/
def ds (h : Fin 8) (prev : Vec F S1x128 .f32) : FVec F S1x128 .f32 :=
  sinkOf (s.doh h) (s.oh h) (s.lh h) (s.sh h) prev

/-- The stores of the queries' gradient, last first. -/
def dqPiece (h : Fin 8) : View.Piece (Elt F) S128x512 .f32 :=
  ⟨Rect.unit (s := S128x512) ![0, 64 * h.val] S128x64.size (inbHead h), s.dq h⟩
def dqPieces : List (View.Piece (Elt F) S128x512 .f32) :=
  [s.dqPiece 7, s.dqPiece 6, s.dqPiece 5, s.dqPiece 4, s.dqPiece 3, s.dqPiece 2, s.dqPiece 1, s.dqPiece 0]

/-- A store into the first or the second half of the window's rows. -/
def lowPiece (p : FVec F S384x64 .f32) : View.Piece (Elt F) S4096x128 .f32 :=
  ⟨Rect.unit (s := S4096x128) (k0_off2 s.i) S384x64.size (k0_off2_inb s.i), p⟩
def highPiece (p : FVec F S384x64 .f32) : View.Piece (Elt F) S4096x128 .f32 :=
  ⟨Rect.unit (s := S4096x128) (k0_off3 s.i) S384x64.size (k0_off3_inb s.i), p⟩

/-- What a buffer holds in the first or the second half of the window's rows. -/
def lowAt (a : Memref sig .tc .vmem S4096x128 .f32) (f : a.view.ty.Contents (Elt F)) : FVec F S384x64 .f32 :=
  View.readAt (Elt F) a.view (Rect.unit (s := S4096x128) (k0_off2 s.i) S384x64.size (k0_off2_inb s.i)).toLoadRect f
def highAt (a : Memref sig .tc .vmem S4096x128 .f32) (f : a.view.ty.Contents (Elt F)) : FVec F S384x64 .f32 :=
  View.readAt (Elt F) a.view (Rect.unit (s := S4096x128) (k0_off3 s.i) S384x64.size (k0_off3_inb s.i)).toLoadRect f

/-- A later step's stores of the keys' and of the values' gradient. -/
def windowPieces (a : Memref sig .tc .vmem S4096x128 .f32) (f : a.view.ty.Contents (Elt F)) (d : Fin 2 → FVec F S384x64 .f32) :
    List (View.Piece (Elt F) S4096x128 .f32) :=
  [s.highPiece (k0_pay2 (d 1) (s.highAt a f)), s.lowPiece (k0_pay2 (d 0) (s.lowAt a f))]

/-- The store of the zeros a first step begins with. -/
def zeroPiece : View.Piece (Elt F) S4096x128 .f32 :=
  ⟨Rect.unit (s := S4096x128) ![0, 0] S4096x128.size inb_S4096x128_S4096x128_0_0, k0_pay4⟩

/-- A first step's stores of the keys' and of the values' gradient. -/
def lowPieces (a : Memref sig .tc .vmem S4096x128 .f32) (d : Fin 2 → FVec F S384x64 .f32) :
    List (View.Piece (Elt F) S4096x128 .f32) :=
  [s.lowPiece (k0_pay2 (d 0) (s.lowAt a (a.view.writes (Elt F) a.view.junk [zeroPiece]))), zeroPiece]
def firstPieces (a : Memref sig .tc .vmem S4096x128 .f32) (d : Fin 2 → FVec F S384x64 .f32) :
    List (View.Piece (Elt F) S4096x128 .f32) :=
  s.highPiece (k0_pay2 (d 1) (s.highAt a (a.view.writes (Elt F) a.view.junk (s.lowPieces a d)))) :: s.lowPieces a d

/-- A store of a row of the sinks' gradient. -/
def rowPiece (h : Fin 8) (prev : Vec F S1x128 .f32) : View.Piece (Elt F) S8x128 .f32 :=
  ⟨Rect.unit (s := S8x128) ![h.val, 0] S1x128.size (inbRow h), s.ds h prev⟩
/-- A buffer's row. -/
def rowAt (a : Memref sig .tc .vmem S8x128 .f32) (f : a.view.ty.Contents (Elt F)) (h : Fin 8) : Vec F S1x128 .f32 :=
  View.readAt (Elt F) a.view (Rect.unit (s := S8x128) ![h.val, 0] S1x128.size (inbRow h)).toLoadRect f
/-- A later step's stores of the sinks' gradient. -/
def rowPieces (a : Memref sig .tc .vmem S8x128 .f32) (f : a.view.ty.Contents (Elt F)) : List (View.Piece (Elt F) S8x128 .f32) :=
  [s.rowPiece 7 (rowAt a f 7), s.rowPiece 6 (rowAt a f 6), s.rowPiece 5 (rowAt a f 5), s.rowPiece 4 (rowAt a f 4),
    s.rowPiece 3 (rowAt a f 3), s.rowPiece 2 (rowAt a f 2), s.rowPiece 1 (rowAt a f 1), s.rowPiece 0 (rowAt a f 0)]
/-- A first step's: the zeros, then a row each. -/
def addRow (a : Memref sig .tc .vmem S8x128 .f32) (L : List (View.Piece (Elt F) S8x128 .f32)) (h : Fin 8) :
    List (View.Piece (Elt F) S8x128 .f32) :=
  s.rowPiece h (a.view.readCov L (Rect.unit (s := S8x128) ![h.val, 0] S1x128.size (inbRow h)).toLoadRect) :: L
def zeroRows : List (View.Piece (Elt F) S8x128 .f32) := [⟨Rect.unit (s := S8x128) ![0, 0] S8x128.size inb_S8x128_S8x128_0_0, k0_pay6⟩]
def firstRows (a : Memref sig .tc .vmem S8x128 .f32) : List (View.Piece (Elt F) S8x128 .f32) :=
  s.addRow a (s.addRow a (s.addRow a (s.addRow a (s.addRow a (s.addRow a (s.addRow a (s.addRow a zeroRows 0) 1) 2) 3) 4) 5) 6) 7

end Step

variable {F : FTy → Type} [FloatOps F] (m : (ℓ : Loc nD τ sig) → Buf (Elt F) ℓ)

/-- The step at a grid point: its buffers and blocks. -/
def stepAt (c : Dev nD) (t : Fin cfg0.N) : Step F where
  i := grid0.coords t
  sink := ⟨st0_0 t, hstage0_0 ((cfg0.slots t 0).cast nbuf0_0), iblk m c 0 t⟩
  q := ⟨st0_1 t, hstage0_1 ((cfg0.slots t 1).cast nbuf0_1), X0_1 m c t⟩
  k := ⟨st0_2 t, hstage0_2 ((cfg0.slots t 2).cast nbuf0_2), iblk m c 2 t⟩
  v := ⟨st0_3 t, hstage0_3 ((cfg0.slots t 3).cast nbuf0_3), iblk m c 3 t⟩
  o := ⟨st0_4 t, hstage0_4 ((cfg0.slots t 4).cast nbuf0_4), iblk m c 4 t⟩
  l := ⟨st0_5 t, hstage0_5 ((cfg0.slots t 5).cast nbuf0_5), iblk m c 5 t⟩
  o' := ⟨st0_6 t, hstage0_6 ((cfg0.slots t 6).cast nbuf0_6), iblk m c 6 t⟩

variable (c : Dev nD) (t : Fin cfg0.N)

theorem later_dq (hc) (y : Left F) : (laterStep m c t hc y).1 = (stepAt m c t).dqPieces := by sl_kernel_rfl
theorem later_dk (hc) (y : Left F) : (laterStep m c t hc y).2.1
    = (stepAt m c t).windowPieces (st0_8 t) ((hstage0_8 ((cfg0.slots t 8).cast nbuf0_8)).unread y.dk) (stepAt m c t).dk := by
  sl_kernel_rfl
theorem later_dv (hc) (y : Left F) : (laterStep m c t hc y).2.2.1
    = (stepAt m c t).windowPieces (st0_9 t) ((hstage0_9 ((cfg0.slots t 9).cast nbuf0_9)).unread y.dv) (stepAt m c t).dv := by
  sl_kernel_rfl
theorem later_ds (hc) (y : Left F) : (laterStep m c t hc y).2.2.2.1
    = (stepAt m c t).rowPieces (st0_10 t) ((hstage0_10 ((cfg0.slots t 10).cast nbuf0_10)).unread y.ds) := by
  sl_kernel_rfl
theorem first_dq (hc) : (firstStep m c t hc).1 = (stepAt m c t).dqPieces := by sl_kernel_rfl
theorem first_dk (hc) : (firstStep m c t hc).2.1 = (stepAt m c t).firstPieces (st0_8 t) (stepAt m c t).dk := by sl_kernel_rfl
theorem first_dv (hc) : (firstStep m c t hc).2.2.1 = (stepAt m c t).firstPieces (st0_9 t) (stepAt m c t).dv := by sl_kernel_rfl
theorem first_ds (hc) : (firstStep m c t hc).2.2.2.1 = (stepAt m c t).firstRows (st0_10 t) := by sl_kernel_rfl

end Cert.KernelIdeal.Run
-- ==== Proof.StepReads.lean ====
module

public import proofs.«01_k».proof.Proof.StepText
public import proofs.«01_k».proof.Proof.Saved
public import Idealize.ShloMosaic.Lib.Pipeline.ValueKit
public import Idealize.ShloMosaic.Lib.WholeRead

@[expose] public section

noncomputable section

/-! # The blocks of a step

The blocks that a step is given are rows and columns of the kernel's arrays.
-/

namespace Cert.KernelIdeal.Run

open Cert.KernelIdeal Cert.KernelIdeal.Gen
open Idealize.ShloMosaic Idealize.ShloMosaic.TcCoe Idealize.ShloMosaic.Tactic
open Banded

variable {m : (ℓ : Loc nD τ sig) → Buf (Elt Ideal) ℓ} {c : Dev nD} {X : Inputs}

/-- A grid point's number. -/
def num (t : Fin cfg0.N) : Fin 32 := ⟨t.val, Nat.lt_of_lt_of_eq t.isLt N_0⟩

theorem coord_num (t : Fin cfg0.N) : ((grid0.coords t) 0).val = (num t).val := by
  have e0 : (grid0.coords t 0).val = t.val / 1 % 32 := Pipeline.Grid.coords_val t 0 (by decide) rfl
  have := (num t).isLt
  unfold num at this ⊢
  simp only at this ⊢
  omega

/-- The windows' block numbers. -/
theorem idx_row : ∀ t : Fin cfg0.N, (cfg0.win 1).index t = ![(grid0.coords t 0).val, 0]
    ∧ (cfg0.win 4).index t = ![(grid0.coords t 0).val, 0] ∧ (cfg0.win 5).index t = ![(grid0.coords t 0).val, 0]
    ∧ (cfg0.win 6).index t = ![(grid0.coords t 0).val, 0] ∧ (cfg0.win 7).index t = ![(grid0.coords t 0).val, 0] := by
  decide +kernel
theorem idx_fix : ∀ t : Fin cfg0.N, (cfg0.win 0).index t = ![0] ∧ (cfg0.win 2).index t = ![0, 4]
    ∧ (cfg0.win 3).index t = ![0, 5] := by
  decide +kernel

section
variable (m c)

theorem block_o (t : Fin cfg0.N) (a : Fin 128) (j : Fin 512) :
    iblk m c 4 t (ix2 a j) = V m c main_v87 (ix2 (row (num t) a) j) := by
  have hi := (idx_row t).2.1
  have hn := coord_num t
  have hr : (row (num t) a).val = (num t).val * 128 + a.val := rfl
  change V m c main_v87 (((cfg0.win 4).blk t).view.emb (ix2 a j)) = _
  refine congrArg _ ?_
  blk_ext [hi, hn, hr]

theorem emb_l (t : Fin cfg0.N) (a : Fin 128) (j : Fin 8) :
    (((cfg0.win 5).blk t).view.emb (ix2 a j) : S4096x8.Idx) = ix2 (row (num t) a) j := by
  have hi := (idx_row t).2.2.1
  have hn := coord_num t
  have hr : (row (num t) a).val = (num t).val * 128 + a.val := rfl
  blk_ext [hi, hn, hr]

theorem block_l (t : Fin cfg0.N) (a : Fin 128) (j : Fin 8) :
    iblk m c 5 t (ix2 a j) = V m c main_v92 (ix2 (row (num t) a) j) := by
  have h : ∀ A : S4096x8.Idx → EReal, (((cfg0.win 5).blk t).view.read (Elt Ideal) A) (ix2 a j) = A (ix2 (row (num t) a) j) :=
    fun A => congrArg A (emb_l t a j)
  exact h (V m c main_v92)

theorem block_o' (t : Fin cfg0.N) (a : Fin 128) (j : Fin 512) :
    iblk m c 6 t (ix2 a j) = arg2 m c (ix2 (row (num t) a) j) := by
  have hi := (idx_row t).2.2.2.1
  have hn := coord_num t
  have hr : (row (num t) a).val = (num t).val * 128 + a.val := rfl
  rw [show arg2 m c = V m c main_arg2 from (V_main_arg2 m c).symm]
  change V m c main_arg2 (((cfg0.win 6).blk t).view.emb (ix2 a j)) = _
  refine congrArg _ ?_
  blk_ext [hi, hn, hr]

theorem block_q (t : Fin cfg0.N) (a : Fin 128) (j : Fin 512) :
    X0_1 m c t (ix2 a j) = arg0 m c (ix2 (row (num t) a) ⟨j.val, by omega⟩) := by
  have hi := (idx_row t).1
  have hn := coord_num t
  have hr : (row (num t) a).val = (num t).val * 128 + a.val := rfl
  rw [show arg0 m c = V m c main_arg0 from (V_main_arg0 m c).symm]
  unfold X0_1 Pipeline.Window.fill
  rw [dif_pos (moved0_1 t _)]
  change V m c main_arg0 (((cfg0.win 1).blk t).view.emb (_)) = _
  refine congrArg _ ?_
  blk_ext [hi, hn, hr]

theorem block_k (t : Fin cfg0.N) (y : Fin 4096) (j : Fin 128) :
    iblk m c 2 t (ix2 y j) = arg0 m c (ix2 y ⟨512 + j.val, by omega⟩) := by
  have hi := (idx_fix t).2.1
  rw [show arg0 m c = V m c main_arg0 from (V_main_arg0 m c).symm]
  change V m c main_arg0 (((cfg0.win 2).blk t).view.emb (ix2 y j)) = _
  refine congrArg _ ?_
  blk_ext [hi]

theorem block_v (t : Fin cfg0.N) (y : Fin 4096) (j : Fin 128) :
    iblk m c 3 t (ix2 y j) = arg0 m c (ix2 y ⟨640 + j.val, by omega⟩) := by
  have hi := (idx_fix t).2.2
  rw [show arg0 m c = V m c main_arg0 from (V_main_arg0 m c).symm]
  change V m c main_arg0 (((cfg0.win 3).blk t).view.emb (ix2 y j)) = _
  refine congrArg _ ?_
  blk_ext [hi]

theorem block_sink (t : Fin cfg0.N) (h : Fin 8) : iblk m c 0 t (ix1 h) = arg1 m c (ix1 h) := by
  have hi := (idx_fix t).1
  rw [show arg1 m c = V m c main_arg1 from (V_main_arg1 m c).symm]
  change V m c main_arg1 (((cfg0.win 0).blk t).view.emb (ix1 h)) = _
  refine congrArg _ ?_
  blk_ext [hi]

end

end Cert.KernelIdeal.Run
-- ==== Proof.StepHeads.lean ====
module

public import proofs.«01_k».proof.Proof.StepReads
public import Idealize.ShloMosaic.Lib.Pipeline.ValueKit
public import Idealize.ShloMosaic.Lib.WholeRead

@[expose] public section

noncomputable section

/-! # What a step reads

Every block a step reads holds the inputs' rows, the saved outputs and the saved logarithms.
-/

namespace Cert.KernelIdeal.Run

open Cert.KernelIdeal Cert.KernelIdeal.Gen
open Idealize.ShloMosaic Idealize.ShloMosaic.TcCoe Idealize.ShloMosaic.Tactic
open Banded

variable {m : (ℓ : Loc nD τ sig) → Buf (Elt Ideal) ℓ} {c : Dev nD} {X : Inputs}

/-! ## A read through a rectangle, at an entry -/

section
variable {F : FTy → Type} {sp : Space} {e : EltTy}

theorem head_at (b : Held F sp S128x512 e) (h : Fin 8) (a : Fin 128) (d : Fin 64) :
    View.readAt (Elt F) b.a.view (Rect.unit (s := S128x512) ![0, 64 * h.val] S128x64.size (inbHead h)).toLoadRect
      (b.whole.unread b.x) (ix2 a d) = b.x (ix2 a ⟨h.val * 64 + d.val, by omega⟩) := by
  rw [Memref.IsWhole.readAt_unread]
  refine congrArg b.x ?_
  blk_ext
  · refine (Rect.idx_unit_val _ _ _ _ _).trans ?_
    show 0 + a.val = a.val; omega
  · refine (Rect.idx_unit_val _ _ _ _ _).trans ?_
    show 64 * h.val + d.val = h.val * 64 + d.val; omega

theorem log_at (b : Held F sp S128x8 e) (h : Fin 8) (a : Fin 128) :
    View.readAt (Elt F) b.a.view (Rect.unit (s := S128x8) ![0, h.val] S128x1.size (inbLog h)).toLoadRect
      (b.whole.unread b.x) (ix2 a 0) = b.x (ix2 a h) := by
  rw [Memref.IsWhole.readAt_unread]
  refine congrArg b.x ?_
  blk_ext
  · refine (Rect.idx_unit_val _ _ _ _ _).trans ?_
    show 0 + a.val = a.val; omega
  · refine (Rect.idx_unit_val _ _ _ _ _).trans ?_
    show h.val + 0 = h.val; omega

theorem sink_at (b : Held F sp S8 e) (h : Fin 8) :
    View.readAt (Elt F) b.a.view (Rect.unit (s := S8) ![h.val] S1.size (inbSink h)).toLoadRect
      (b.whole.unread b.x) (Shape.Idx.first (s := S1) (by decide)) = b.x (ix1 h) := by
  rw [Memref.IsWhole.readAt_unread]
  refine congrArg b.x ?_
  blk_ext
  refine (Rect.idx_unit_val _ _ _ _ _).trans ?_
  show h.val + 0 = h.val; omega

theorem window_at (b : Held F sp S4096x128 e) (i : grid0.Coords) (n : Fin 32) (hn : (i 0).val = n.val) (j : Fin 384) (d : Fin 128) :
    View.readAt (Elt F) b.a.view (Rect.unit (s := S4096x128) (k0_off1 i) S384x128.size (k0_off1_inb i)).toLoadRect
      (b.whole.unread b.x) (ix2 j d) = b.x (ix2 (key n j) d) := by
  have h0 : k0_off1 i 0 = Banded.lo n := (congrFun (off1_eq i) 0).trans (by rw [hn]; rfl)
  have h1 : k0_off1 i 1 = 0 := congrFun (off1_eq i) 1
  have hk : (key n j).val = Banded.lo n + j.val := rfl
  rw [Memref.IsWhole.readAt_unread]
  refine congrArg b.x ?_
  blk_ext [hk]
  · refine (Rect.idx_unit_val _ _ _ _ _).trans ?_
    rw [h0]; rfl
  · refine (Rect.idx_unit_val _ _ _ _ _).trans ?_
    rw [h1]; show 0 + d.val = d.val; omega

end

theorem keyHead_at (s : Step Ideal) (w : Fin 4096 → Fin 128 → EReal) (n : Fin 32) (hn : (s.i 0).val = n.val)
    (hw : ∀ y d, s.k.x (ix2 y d) = w y d) (g : Fin 2) (j : Fin 384) (d : Fin 64) :
    s.kh g (ix2 j d) = w (key n j) ⟨g.val * 64 + d.val, by omega⟩ := by
  have h := fun d => (window_at s.k s.i n hn j d).trans (hw _ _)
  unfold Step.kh Step.kw
  generalize View.readAt (Elt Ideal) s.k.a.view _ _ = K at h
  match g with
  | 0 =>
    pointwise [k0_pay8]
    exact h _
  | 1 =>
    pointwise [k0_pay51]
    exact (h _).trans (congrArg (w _) (Fin.ext (show 64 + d.val = 1 * 64 + d.val by omega)))

theorem valueHead_at (s : Step Ideal) (w : Fin 4096 → Fin 128 → EReal) (n : Fin 32) (hn : (s.i 0).val = n.val)
    (hw : ∀ y d, s.v.x (ix2 y d) = w y d) (g : Fin 2) (j : Fin 384) (d : Fin 64) :
    s.vh g (ix2 j d) = w (key n j) ⟨g.val * 64 + d.val, by omega⟩ := by
  have h := fun d => (window_at s.v s.i n hn j d).trans (hw _ _)
  unfold Step.vh Step.vw
  generalize View.readAt (Elt Ideal) s.v.a.view _ _ = K at h
  match g with
  | 0 =>
    pointwise [k0_pay9]
    exact h _
  | 1 =>
    pointwise [k0_pay52]
    exact (h _).trans (congrArg (w _) (Fin.ext (show 64 + d.val = 1 * 64 + d.val by omega)))

theorem heads (h : Fin 8) : ∃ (g : Fin 2) (e : Fin 4), h = head g e :=
  ⟨group h, ⟨h.val % 4, by omega⟩, Fin.ext (by simp only [head, group]; omega)⟩

variable (r : Reads X (arg0 m c) (arg1 m c) (arg2 m c)) (t : Fin cfg0.N) (h : Fin 8)
include r
theorem read_k (j : Fin 384) (d : Fin 64) :
    (stepAt m c t).kh (group h) (ix2 j d) = ((X.k (key (num t) j) (group h) d : ℝ) : EReal) :=
  (keyHead_at (stepAt m c t) (fun y d => arg0 m c (ix2 y ⟨512 + d.val, by omega⟩)) (num t) (coord_num t)
    (fun y d => block_k m c t y d) (group h) j d).trans (r.k _ _ _ _)

theorem read_v (j : Fin 384) (d : Fin 64) :
    (stepAt m c t).vh (group h) (ix2 j d) = ((X.v (key (num t) j) (group h) d : ℝ) : EReal) :=
  (valueHead_at (stepAt m c t) (fun y d => arg0 m c (ix2 y ⟨640 + d.val, by omega⟩)) (num t) (coord_num t)
    (fun y d => block_v m c t y d) (group h) j d).trans (r.v _ _ _ _)

theorem read_q (a : Fin 128) (d : Fin 64) :
    (stepAt m c t).qh h (ix2 a d) = ((X.q (row (num t) a) h d : ℝ) : EReal) :=
  (head_at (stepAt m c t).q h a d).trans ((block_q m c t a _).trans (r.q _ _ _ _))

theorem read_o' (a : Fin 128) (d : Fin 64) :
    (stepAt m c t).doh h (ix2 a d) = ((X.o' (row (num t) a) h d : ℝ) : EReal) :=
  (head_at (stepAt m c t).o' h a d).trans ((block_o' m c t a _).trans (r.o' _ _ _ _))

theorem read_o (a : Fin 128) (d : Fin 64) :
    (stepAt m c t).oh h (ix2 a d) = ((out X (row (num t) a) h d : ℝ) : EReal) := by
  obtain ⟨g, e, rfl⟩ := heads h
  exact (head_at (stepAt m c t).o (head g e) a d).trans ((block_o m c t a _).trans (out_at r (num t) a g e d))

theorem read_l (a : Fin 128) :
    (stepAt m c t).lh h (ix2 a 0) = ((Real.log (total X (row (num t) a) h) : ℝ) : EReal) := by
  obtain ⟨g, e, rfl⟩ := heads h
  exact (log_at (stepAt m c t).l (head g e) a).trans ((block_l m c t a _).trans (logs_at r (num t) a g e))

/-- Head `h`'s reads at a grid point. -/
theorem reads :
    HeadReads X (num t) h (stepAt m c t).seen ((stepAt m c t).kh (group h)) ((stepAt m c t).vh (group h))
      ((stepAt m c t).qh h) ((stepAt m c t).doh h) ((stepAt m c t).oh h) ((stepAt m c t).lh h) where
  mask := mask_at _ (num t) (coord_num t)
  k := read_k r t h
  v := read_v r t h
  q := read_q r t h
  o' := read_o' r t h
  o := read_o r t h
  l := read_l r t h

theorem sink_read : (stepAt m c t).sh h = ((X.sink h : ℝ) : EReal) :=
  (sink_at (stepAt m c t).sink h).trans ((block_sink m c t h).trans (r.sink _))

end Cert.KernelIdeal.Run
-- ==== Proof.StepStores.lean ====
module

public import proofs.«01_k».proof.Proof.StepText
public import Idealize.ShloMosaic.Lib.Pipeline.ValueKit
public import Idealize.ShloMosaic.Lib.WholeRead
public import Idealize.ShloMosaic.Lib.WritesUnit

@[expose] public section

noncomputable section

/-! # What a step's stores leave, place by place

The two windows' stores and the eight rows' stores touch separate places: each place holds what the one store over it
wrote, or what it held before.
-/

namespace Cert.KernelIdeal.Run

open Cert.KernelIdeal Cert.KernelIdeal.Gen
open Idealize.ShloMosaic Idealize.ShloMosaic.TcCoe Idealize.ShloMosaic.Tactic
open Banded

/-- Column `d` of group `g`. -/
def col (g : Fin 2) (d : Fin 64) : Fin 128 := ⟨g.val * 64 + d.val, by omega⟩

variable {F : FTy → Type} [FloatOps F] (s : Step F) (n : Fin 32) (hn : (s.i 0).val = n.val)

namespace Step

/-- A store into a group's half of the window's rows. -/
def piece : Fin 2 → FVec F S384x64 .f32 → View.Piece (Elt F) S4096x128 .f32
  | 0, p => s.lowPiece p
  | 1, p => s.highPiece p

/-- What a buffer holds in a group's half of the window's rows. -/
def halfAt (a : Memref sig .tc .vmem S4096x128 .f32) (f : a.view.ty.Contents (Elt F)) : Fin 2 → FVec F S384x64 .f32
  | 0 => s.lowAt a f
  | 1 => s.highAt a f

end Step

variable {s n}
include hn

theorem off2_at : k0_off2 s.i = ![Banded.lo n, 0] := by rw [off2_eq, hn]; rfl
theorem off3_at : k0_off3 s.i = ![Banded.lo n, 64] := by rw [off3_eq, hn]; rfl

section
variable {κ : Kind} {sp : Space} (v : View sig κ sp S4096x128 .f32) (f : v.ty.Contents (Elt F))
  (L : List (View.Piece (Elt F) S4096x128 .f32))

theorem piece_in (g : Fin 2) (p : FVec F S384x64 .f32) (j : Fin 384) (d : Fin 64) :
    v.read (Elt F) (v.writes (Elt F) f (s.piece g p :: L)) (ix2 (key n j) (col g d)) = p (ix2 j d) := by
  match g with
  | 0 =>
    refine View.read_writes_cons_unit_of_mem v f (k0_off2_inb s.i) p L _ (ix2 j d) (off2_at hn) fun a => ?_
    match a with
    | 0 => rfl
    | 1 => show 0 * 64 + d.val = 0 + d.val; omega
  | 1 =>
    refine View.read_writes_cons_unit_of_mem v f (k0_off3_inb s.i) p L _ (ix2 j d) (off3_at hn) fun a => ?_
    match a with
    | 0 => rfl
    | 1 => rfl

theorem piece_other (g g' : Fin 2) (h : g ≠ g') (p : FVec F S384x64 .f32) (y : Fin 4096) (d : Fin 64) :
    v.read (Elt F) (v.writes (Elt F) f (s.piece g p :: L)) (ix2 y (col g' d))
      = v.read (Elt F) (v.writes (Elt F) f L) (ix2 y (col g' d)) := by
  have hd := d.isLt
  match g, g' with
  | 0, 0 => exact absurd rfl h
  | 1, 1 => exact absurd rfl h
  | 0, 1 =>
    exact View.read_writes_cons_unit_of_not_mem v f (k0_off2_inb s.i) p L _ (off2_at hn) 1
      (.inr (show 0 + 64 ≤ 1 * 64 + d.val by omega))
  | 1, 0 =>
    exact View.read_writes_cons_unit_of_not_mem v f (k0_off3_inb s.i) p L _ (off3_at hn) 1
      (.inl (show 0 * 64 + d.val < 64 by omega))

theorem piece_out (g : Fin 2) (p : FVec F S384x64 .f32) (y : Fin 4096) (e : Fin 128)
    (hy : ¬(Banded.lo n ≤ y.val ∧ y.val < Banded.lo n + 384)) :
    v.read (Elt F) (v.writes (Elt F) f (s.piece g p :: L)) (ix2 y e) = v.read (Elt F) (v.writes (Elt F) f L) (ix2 y e) := by
  have ho : y.val < Banded.lo n ∨ Banded.lo n + 384 ≤ y.val := by omega
  match g with
  | 0 => exact View.read_writes_cons_unit_of_not_mem v f (k0_off2_inb s.i) p L _ (off2_at hn) 0 ho
  | 1 => exact View.read_writes_cons_unit_of_not_mem v f (k0_off3_inb s.i) p L _ (off3_at hn) 0 ho

end

theorem half_at (a : Memref sig .tc .vmem S4096x128 .f32) (f : a.view.ty.Contents (Elt F)) (g : Fin 2) (j : Fin 384) (d : Fin 64) :
    s.halfAt a f g (ix2 j d) = a.view.read (Elt F) f (ix2 (key n j) (col g d)) := by
  match g with
  | 0 =>
    refine congrArg (a.view.read (Elt F) f) (funext fun b => Fin.ext ?_)
    refine (Rect.idx_unit_val _ _ _ _ _).trans ?_
    refine (congrArg (fun o : Fin 2 → ℕ => o b + (ix2 j d b).val) (off2_at hn)).trans ?_
    match b with
    | 0 => rfl
    | 1 => show 0 + d.val = 0 * 64 + d.val; omega
  | 1 =>
    refine congrArg (a.view.read (Elt F) f) (funext fun b => Fin.ext ?_)
    refine (Rect.idx_unit_val _ _ _ _ _).trans ?_
    refine (congrArg (fun o : Fin 2 → ℕ => o b + (ix2 j d b).val) (off3_at hn)).trans ?_
    match b with
    | 0 => rfl
    | 1 => rfl

/-! ## The windows' stores -/

theorem pay2_at {F : FTy → Type} [FloatOps F] (p prev : FVec F S384x64 .f32) (j : Fin 384) (d : Fin 64) :
    k0_pay2 p prev (ix2 j d) = FloatOps.addf (prev (ix2 j d)) (p (ix2 j d)) := by
  pointwise [k0_pay2]

theorem later_in (a : Memref sig .tc .vmem S4096x128 .f32) (f : a.view.ty.Contents (Elt F)) (D : Fin 2 → FVec F S384x64 .f32)
    (g : Fin 2) (j : Fin 384) (d : Fin 64) :
    a.view.read (Elt F) (a.view.writes (Elt F) f (s.windowPieces a f D)) (ix2 (key n j) (col g d))
      = FloatOps.addf (a.view.read (Elt F) f (ix2 (key n j) (col g d))) (D g (ix2 j d)) := by
  rw [← half_at hn a f g j d, ← pay2_at hn]
  match g with
  | 0 => exact (piece_other hn a.view f _ 1 0 (by decide) _ _ _).trans (piece_in hn a.view f _ 0 _ j d)
  | 1 => exact piece_in hn a.view f _ 1 _ j d

theorem later_out (a : Memref sig .tc .vmem S4096x128 .f32) (f : a.view.ty.Contents (Elt F)) (D : Fin 2 → FVec F S384x64 .f32)
    (y : Fin 4096) (e : Fin 128) (hy : ¬(Banded.lo n ≤ y.val ∧ y.val < Banded.lo n + 384)) :
    a.view.read (Elt F) (a.view.writes (Elt F) f (s.windowPieces a f D)) (ix2 y e) = a.view.read (Elt F) f (ix2 y e) :=
  (piece_out hn a.view f _ 1 _ y e hy).trans (piece_out hn a.view f [] 0 _ y e hy)

omit hn in
theorem zero_at (v : View sig .tc .vmem S4096x128 .f32) (f : v.ty.Contents (Elt F)) (y : Fin 4096) (e : Fin 128) :
    v.read (Elt F) (v.writes (Elt F) f [Step.zeroPiece]) (ix2 y e) = k0_pay4 (ix2 y e) :=
  View.read_writes_cons_unit_of_mem v f inb_S4096x128_S4096x128_0_0 k0_pay4 [] _ (ix2 y e) rfl fun a => by
    match a with
    | 0 => exact (Nat.zero_add _).symm
    | 1 => exact (Nat.zero_add _).symm

theorem first_in (a : Memref sig .tc .vmem S4096x128 .f32) (v : View sig .tc .vmem S4096x128 .f32) (f : v.ty.Contents (Elt F))
    (D : Fin 2 → FVec F S384x64 .f32) (g : Fin 2) (j : Fin 384) (d : Fin 64) :
    v.read (Elt F) (v.writes (Elt F) f (s.firstPieces a D)) (ix2 (key n j) (col g d))
      = FloatOps.addf (k0_pay4 (ix2 (key n j) (col g d))) (D g (ix2 j d)) := by
  match g with
  | 0 =>
    refine (piece_other hn v f _ 1 0 (by decide) _ _ _).trans ((piece_in hn v f _ 0 _ j d).trans ?_)
    rw [pay2_at hn]
    exact congrArg (FloatOps.addf · _) ((half_at hn a _ 0 j d).trans (zero_at a.view _ _ _))
  | 1 =>
    refine (piece_in hn v f _ 1 _ j d).trans ?_
    rw [pay2_at hn]
    exact congrArg (FloatOps.addf · _) ((half_at hn a _ 1 j d).trans
      ((piece_other hn a.view _ _ 0 1 (by decide) _ _ _).trans (zero_at a.view _ _ _)))

theorem first_out (a : Memref sig .tc .vmem S4096x128 .f32) (v : View sig .tc .vmem S4096x128 .f32) (f : v.ty.Contents (Elt F))
    (D : Fin 2 → FVec F S384x64 .f32) (y : Fin 4096) (e : Fin 128) (hy : ¬(Banded.lo n ≤ y.val ∧ y.val < Banded.lo n + 384)) :
    v.read (Elt F) (v.writes (Elt F) f (s.firstPieces a D)) (ix2 y e) = k0_pay4 (ix2 y e) :=
  (piece_out hn v f _ 1 _ y e hy).trans ((piece_out hn v f _ 0 _ y e hy).trans (zero_at v f y e))

omit hn

/-! ## The rows' stores -/

section
variable (v : View sig .tc .vmem S8x128 .f32) (f : v.ty.Contents (Elt F)) (L : List (View.Piece (Elt F) S8x128 .f32))

theorem row_in (h : Fin 8) (prev : Vec F S1x128 .f32) (y : Fin 128) :
    v.read (Elt F) (v.writes (Elt F) f (s.rowPiece h prev :: L)) (ix2 h y) = s.ds h prev (ix2 0 y) :=
  View.read_writes_cons_unit_of_mem v f (inbRow h) (s.ds h prev) L _ (ix2 0 y) rfl fun a => by
    match a with
    | 0 => rfl
    | 1 => exact (Nat.zero_add _).symm

theorem row_other (h h' : Fin 8) (hh : h ≠ h') (prev : Vec F S1x128 .f32) (y : Fin 128) :
    v.read (Elt F) (v.writes (Elt F) f (s.rowPiece h prev :: L)) (ix2 h' y) = v.read (Elt F) (v.writes (Elt F) f L) (ix2 h' y) := by
  have hv : h.val ≠ h'.val := fun e => hh (Fin.ext e)
  exact View.read_writes_cons_unit_of_not_mem v f (inbRow h) (s.ds h prev) L _ rfl 0
    (show h'.val < h.val ∨ h.val + 1 ≤ h'.val by omega)

theorem row_step (k h : Fin 8) (prev : Vec F S1x128 .f32) (y : Fin 128) :
    v.read (Elt F) (v.writes (Elt F) f (s.rowPiece k prev :: L)) (ix2 h y)
      = if k = h then s.ds k prev (ix2 0 y) else v.read (Elt F) (v.writes (Elt F) f L) (ix2 h y) := by
  split
  · next e => subst e; exact row_in v f L _ _ _
  · next e => exact row_other v f L _ _ e _ _

end

omit [FloatOps F] in
theorem row_read (a : Memref sig .tc .vmem S8x128 .f32) (f : a.view.ty.Contents (Elt F)) (h : Fin 8) (y : Fin 128) :
    View.readAt (Elt F) a.view (Rect.unit (s := S8x128) ![h.val, 0] S1x128.size (inbRow h)).toLoadRect f (ix2 0 y)
      = a.view.read (Elt F) f (ix2 h y) := by
  refine congrArg (a.view.read (Elt F) f) (funext fun b => Fin.ext ?_)
  refine (Rect.idx_unit_val _ _ _ _ _).trans ?_
  match b with
  | 0 => rfl
  | 1 => exact Nat.zero_add _

theorem eight {p : Fin 8 → Prop} (h : Fin 8) (h7 : 7 = h → p h) (h6 : 6 = h → p h) (h5 : 5 = h → p h) (h4 : 4 = h → p h)
    (h3 : 3 = h → p h) (h2 : 2 = h → p h) (h1 : 1 = h → p h) (h0 : 0 = h → p h) : p h := by
  obtain ⟨h, hh⟩ := h
  rcases (by omega : h = 7 ∨ h = 6 ∨ h = 5 ∨ h = 4 ∨ h = 3 ∨ h = 2 ∨ h = 1 ∨ h = 0) with
    rfl | rfl | rfl | rfl | rfl | rfl | rfl | rfl
  · exact h7 rfl
  · exact h6 rfl
  · exact h5 rfl
  · exact h4 rfl
  · exact h3 rfl
  · exact h2 rfl
  · exact h1 rfl
  · exact h0 rfl

variable (Δ : Fin 8 → Elt F .f32 → Elt F .f32) (hΔ : ∀ h prev y, s.ds h prev (ix2 0 y) = Δ h (prev (ix2 0 y)))
include hΔ

theorem rows_later (a : Memref sig .tc .vmem S8x128 .f32) (f : a.view.ty.Contents (Elt F)) (h : Fin 8) (y : Fin 128) :
    a.view.read (Elt F) (a.view.writes (Elt F) f (s.rowPieces a f)) (ix2 h y) = Δ h (a.view.read (Elt F) f (ix2 h y)) := by
  have hk : ∀ k, k = h → s.ds k (Step.rowAt a f k) (ix2 0 y) = Δ h (a.view.read (Elt F) f (ix2 h y)) := by
    rintro k rfl
    rw [hΔ]
    exact congrArg _ (row_read a f k y)
  rw [Step.rowPieces, row_step, row_step, row_step, row_step, row_step, row_step, row_step, row_step]
  split
  · next e => exact hk _ e
  split
  · next e => exact hk _ e
  split
  · next e => exact hk _ e
  split
  · next e => exact hk _ e
  split
  · next e => exact hk _ e
  split
  · next e => exact hk _ e
  split
  · next e => exact hk _ e
  split
  · next e => exact hk _ e
  next e7 e6 e5 e4 e3 e2 e1 e0 =>
    exact eight (p := fun _ => False) h e7 e6 e5 e4 e3 e2 e1 e0 |>.elim

/-- A row's store over a list of stores. -/
theorem row_add (a : Memref sig .tc .vmem S8x128 .f32) (L : List (View.Piece (Elt F) S8x128 .f32)) (k h : Fin 8) (y : Fin 128) :
    View.canon (s.addRow a L k) (ix2 h y)
      = if k = h then Δ h (View.canon L (ix2 h y)) else View.canon L (ix2 h y) := by
  rw [← View.read_writes_junk_apply_eq_canon a.view, ← View.read_writes_junk_apply_eq_canon a.view, Step.addRow, row_step]
  split
  · next e =>
    subst e
    rw [hΔ]
    exact congrArg _ (row_read a _ k y)
  · rfl

/-- The rows up to `i` added. -/
theorem row_next (a : Memref sig .tc .vmem S8x128 .f32) (L : List (View.Piece (Elt F) S8x128 .f32)) (z : Elt F .f32) (k : Fin 8)
    (hL : ∀ h y, View.canon L (ix2 h y) = if h.val < k.val then Δ h z else z) (h : Fin 8) (y : Fin 128) :
    View.canon (s.addRow a L k) (ix2 h y) = if h.val < k.val + 1 then Δ h z else z := by
  rw [row_add Δ hΔ, hL]
  by_cases e : k = h
  · subst e
    rw [if_pos rfl, if_neg (lt_irrefl _), if_pos (Nat.lt_succ_self _)]
  · have hv : k.val ≠ h.val := fun e' => e (Fin.ext e')
    rw [if_neg e]
    by_cases hl : h.val < k.val
    · rw [if_pos hl, if_pos (by omega)]
    · rw [if_neg hl, if_neg (by omega)]

omit hΔ in
theorem zero_rows (v : View sig .tc .vmem S8x128 .f32) (f : v.ty.Contents (Elt F)) (h : Fin 8) (y : Fin 128) :
    v.read (Elt F) (v.writes (Elt F) f Step.zeroRows) (ix2 h y) = k0_pay6 (ix2 h y) :=
  View.read_writes_cons_unit_of_mem v f inb_S8x128_S8x128_0_0 k0_pay6 [] _ (ix2 h y) rfl fun a => by
    match a with
    | 0 => exact (Nat.zero_add _).symm
    | 1 => exact (Nat.zero_add _).symm

theorem rows_first (z : Elt F .f32) (hz : ∀ i, k0_pay6 (F := F) i = z) (a : Memref sig .tc .vmem S8x128 .f32) (h : Fin 8) (y : Fin 128) :
    View.canon (s.firstRows a) (ix2 h y) = Δ h z := by
  have h0 : ∀ h y, View.canon (Val := Elt F) Step.zeroRows (ix2 h y) = if h.val < (0 : Fin 8).val then Δ h z else z := by
    intro h y
    refine Eq.trans ?_ (if_neg (Nat.not_lt_zero h.val)).symm
    rw [← View.read_writes_junk_apply_eq_canon a.view, zero_rows, hz]
  have h1 := row_next Δ hΔ a _ z 0 h0
  have h2 := row_next Δ hΔ a _ z 1 h1
  have h3 := row_next Δ hΔ a _ z 2 h2
  have h4 := row_next Δ hΔ a _ z 3 h3
  have h5 := row_next Δ hΔ a _ z 4 h4
  have h6 := row_next Δ hΔ a _ z 5 h5
  have h7 := row_next Δ hΔ a _ z 6 h6
  have h8 := row_next Δ hΔ a _ z 7 h7 h y
  exact h8.trans (if_pos h.isLt)

end Cert.KernelIdeal.Run
-- ==== Proof.StepValue.lean ====
module

public import proofs.«01_k».proof.Proof.StepHeads
public import proofs.«01_k».proof.Proof.StepStores

@[expose] public section

noncomputable section

/-! # What a step leaves

The block of the queries' gradient, and the three running sums: after step `n` each holds the shares of the steps up to
`n`.
-/

namespace Cert.KernelIdeal.Run

open Cert.KernelIdeal Cert.KernelIdeal.Gen
open Idealize.ShloMosaic Idealize.ShloMosaic.TcCoe Idealize.ShloMosaic.Tactic
open Banded

variable {m : (ℓ : Loc nD τ sig) → Buf (Elt Ideal) ℓ} {c : Dev nD} {X : Inputs}
variable (r : Reads X (arg0 m c) (arg1 m c) (arg2 m c)) (t : Fin cfg0.N)
include r

/-! ## The shares of a step -/

theorem share_dq (h : Fin 8) (a : Fin 128) (d : Fin 64) :
    (stepAt m c t).dq h (ix2 a d) = ((q' X (row (num t) a) h d : ℝ) : EReal) := queries_at (reads r t h) a d

theorem share_dk (g : Fin 2) (j : Fin 384) (d : Fin 64) :
    (stepAt m c t).dk g (ix2 j d) = ((kPart X (num t) (key (num t) j) g d : ℝ) : EReal) := by
  have h : ∀ (e : Fin 4) (acc : FVec Ideal S384x64 .f32), (stepAt m c t).addK (head g e) acc (ix2 j d) = acc (ix2 j d)
      + ((∑ a, score' X (row (num t) a) (head g e) (key (num t) j) * X.q (row (num t) a) (head g e) d : ℝ) : EReal) :=
    fun e acc => keys_at (reads r t (head g e)) acc j d
  have hz : (k0_pay10 (F := Ideal)) (ix2 j d) = 0 := by pointwise [k0_pay10]
  unfold Step.dk kPart
  rw [h, h, h, h, hz, zero_add, Finset.sum_comm, Fin.sum_univ_four]
  simp only [EReal.coe_add]

theorem share_dv (g : Fin 2) (j : Fin 384) (d : Fin 64) :
    (stepAt m c t).dv g (ix2 j d) = ((vPart X (num t) (key (num t) j) g d : ℝ) : EReal) := by
  have h : ∀ (e : Fin 4) (acc : FVec Ideal S384x64 .f32), (stepAt m c t).addV (head g e) acc (ix2 j d) = acc (ix2 j d)
      + ((∑ a, weight X (row (num t) a) (head g e) (key (num t) j) * X.o' (row (num t) a) (head g e) d : ℝ) : EReal) :=
    fun e acc => values_at (reads r t (head g e)) acc j d
  have hz : (k0_pay11 (F := Ideal)) (ix2 j d) = 0 := by pointwise [k0_pay11]
  unfold Step.dv vPart
  rw [h, h, h, h, hz, zero_add, Finset.sum_comm, Fin.sum_univ_four]
  simp only [EReal.coe_add]

theorem share_ds (h : Fin 8) (prev : Vec Ideal S1x128 .f32) (y : Fin 128) :
    (stepAt m c t).ds h prev (ix2 0 y) = prev (ix2 0 y) + ((-sinkPart X (num t) h : ℝ) : EReal) := by
  unfold Step.ds
  rw [sink_read r t h]
  exact sinks_at (reads r t h) prev y

/-! ## The queries' block -/

/-- The queries' gradient in block `n`. -/
def qBlock (X : Inputs) (n : Fin 32) (y : S128x512.Idx) : EReal :=
  ((q' X (row n (y 0)) ⟨(y 1).val / 64, by have : (y 1).val < 512 := (y 1).isLt; omega⟩ ⟨(y 1).val % 64, by omega⟩ : ℝ) : EReal)

omit r in
theorem qBlock_at (n : Fin 32) (y : S128x512.Idx) (h : Fin 8) (a : Fin 128) (d : Fin 64) (h0 : (y 0).val = a.val)
    (h1 : (y 1).val = 64 * h.val + d.val) : ((q' X (row n a) h d : ℝ) : EReal) = qBlock X n y := by
  have e0 : y 0 = a := Fin.ext h0
  unfold qBlock
  rw [e0]
  congr 2
  · exact Fin.ext (by show h.val = (y 1).val / 64; omega)
  · exact Fin.ext (by show d.val = (y 1).val % 64; omega)

theorem piece_dq (h : Fin 8) (x : ((stepAt m c t).dqPiece h).1.shape.Idx) :
    ((stepAt m c t).dqPiece h).2 x = qBlock X (num t) (((stepAt m c t).dqPiece h).1.emb x) := by
  obtain ⟨a, d, e⟩ : ∃ (a : Fin 128) (d : Fin 64), x = (ix2 a d : S128x64.Idx) := ⟨x 0, x 1, funext fun b => by
    match b with
    | 0 => rfl
    | 1 => rfl⟩
  subst e
  refine (share_dq r t h a d).trans (qBlock_at (num t) _ h a d ?_ ?_)
  · refine (Rect.idx_unit_val (s := S128x512) ![0, 64 * h.val] S128x64.size (inbHead h) (ix2 a d : S128x64.Idx) 0).trans ?_
    exact Nat.zero_add _
  · exact Rect.idx_unit_val (s := S128x512) ![0, 64 * h.val] S128x64.size (inbHead h) (ix2 a d : S128x64.Idx) 1

theorem canon_dq (hc : ∀ y : S128x512.Idx, ∃ p ∈ (stepAt m c t).dqPieces, y ∈ p.1.set) :
    View.canon (stepAt m c t).dqPieces = qBlock X (num t) := by
  funext y
  refine View.canon_apply_of_pieces (qBlock X (num t)) _ (fun p hm => ?_) y (hc y)
  simp only [Step.dqPieces, List.mem_cons, List.not_mem_nil, or_false] at hm
  rcases hm with rfl | rfl | rfl | rfl | rfl | rfl | rfl | rfl <;> exact piece_dq r t _

theorem leftAt_dq : (leftAt m c t.val t.isLt).dq = qBlock X (num t) := by
  by_cases hf : first (grid0.coords t)
  · rw [leftAt_first m c t hf]
    unfold leftFirst
    dsimp only
    rw [View.read_writes_junk_eq_canon, first_dq]
    exact canon_dq r t fun y => by rw [← first_dq m c t hf]; exact coverA_7 m c t hf y
  · rw [leftAt_later m c t hf]
    unfold leftLater
    dsimp only
    rw [View.read_writes_junk_eq_canon, later_dq]
    refine canon_dq r t fun y => ?_
    rw [← later_dq m c t hf (leftAt m c (t.val - 1) (Nat.lt_of_le_of_lt (Nat.sub_le _ _) t.isLt))]
    exact coverB_7 m c t hf _ y

/-! ## The running sums -/

omit r in
theorem in_window (n : Fin 32) (y : Fin 4096) (hy : Banded.lo n ≤ y.val ∧ y.val < Banded.lo n + 384) :
    ∃ j : Fin 384, y = key n j := ⟨⟨y.val - Banded.lo n, by omega⟩, Fin.ext (by show y.val = Banded.lo n + (y.val - Banded.lo n); omega)⟩

theorem later_dk_at (hf : ¬first (grid0.coords t)) (y : Left Ideal) (i : Fin 4096) (g : Fin 2) (d : Fin 64) :
    (leftLater m c t hf y).dk (ix2 i (col g d)) = y.dk (ix2 i (col g d)) + ((kPart X (num t) i g d : ℝ) : EReal) := by
  unfold leftLater
  dsimp only
  rw [later_dk]
  by_cases hy : Banded.lo (num t) ≤ i.val ∧ i.val < Banded.lo (num t) + 384
  · obtain ⟨j, rfl⟩ := in_window _ _ hy
    refine (later_in (coord_num t) _ _ _ g j d).trans ?_
    rw [Memref.IsWhole.read_unread, share_dk r]
    rfl
  · refine (later_out (coord_num t) _ _ _ i _ hy).trans ?_
    rw [Memref.IsWhole.read_unread, kPart_off X i g d _ fun a => lo_off _ a i hy, EReal.coe_zero, add_zero]

theorem later_dv_at (hf : ¬first (grid0.coords t)) (y : Left Ideal) (i : Fin 4096) (g : Fin 2) (d : Fin 64) :
    (leftLater m c t hf y).dv (ix2 i (col g d)) = y.dv (ix2 i (col g d)) + ((vPart X (num t) i g d : ℝ) : EReal) := by
  unfold leftLater
  dsimp only
  rw [later_dv]
  by_cases hy : Banded.lo (num t) ≤ i.val ∧ i.val < Banded.lo (num t) + 384
  · obtain ⟨j, rfl⟩ := in_window _ _ hy
    refine (later_in (coord_num t) _ _ _ g j d).trans ?_
    rw [Memref.IsWhole.read_unread, share_dv r]
    rfl
  · refine (later_out (coord_num t) _ _ _ i _ hy).trans ?_
    rw [Memref.IsWhole.read_unread, vPart_off X i g d _ fun a => lo_off _ a i hy, EReal.coe_zero, add_zero]

theorem later_ds_at (hf : ¬first (grid0.coords t)) (y : Left Ideal) (h : Fin 8) (e : Fin 128) :
    (leftLater m c t hf y).ds (ix2 h e) = y.ds (ix2 h e) + ((-sinkPart X (num t) h : ℝ) : EReal) := by
  unfold leftLater
  dsimp only
  rw [later_ds]
  refine (rows_later (fun h z => z + ((-sinkPart X (num t) h : ℝ) : EReal)) (share_ds r t) _ _ h e).trans ?_
  rw [Memref.IsWhole.read_unread]

omit r in
theorem zero_pay4 (i : S4096x128.Idx) : (k0_pay4 (F := Ideal)) i = 0 := by
  pointwise [k0_pay4]

omit r in
theorem zero_pay6 (i : S8x128.Idx) : (k0_pay6 (F := Ideal)) i = 0 := by
  pointwise [k0_pay6]

theorem first_dk_at (hf : first (grid0.coords t)) (i : Fin 4096) (g : Fin 2) (d : Fin 64) :
    (leftFirst m c t hf).dk (ix2 i (col g d)) = ((kPart X (num t) i g d : ℝ) : EReal) := by
  unfold leftFirst
  dsimp only
  rw [first_dk]
  by_cases hy : Banded.lo (num t) ≤ i.val ∧ i.val < Banded.lo (num t) + 384
  · obtain ⟨j, rfl⟩ := in_window _ _ hy
    refine (first_in (coord_num t) _ _ _ _ g j d).trans ?_
    rw [zero_pay4, share_dk r]
    exact zero_add _
  · refine (first_out (coord_num t) _ _ _ _ i _ hy).trans ?_
    rw [zero_pay4, kPart_off X i g d _ fun a => lo_off _ a i hy, EReal.coe_zero]

theorem first_dv_at (hf : first (grid0.coords t)) (i : Fin 4096) (g : Fin 2) (d : Fin 64) :
    (leftFirst m c t hf).dv (ix2 i (col g d)) = ((vPart X (num t) i g d : ℝ) : EReal) := by
  unfold leftFirst
  dsimp only
  rw [first_dv]
  by_cases hy : Banded.lo (num t) ≤ i.val ∧ i.val < Banded.lo (num t) + 384
  · obtain ⟨j, rfl⟩ := in_window _ _ hy
    refine (first_in (coord_num t) _ _ _ _ g j d).trans ?_
    rw [zero_pay4, share_dv r]
    exact zero_add _
  · refine (first_out (coord_num t) _ _ _ _ i _ hy).trans ?_
    rw [zero_pay4, vPart_off X i g d _ fun a => lo_off _ a i hy, EReal.coe_zero]

theorem first_ds_at (hf : first (grid0.coords t)) (h : Fin 8) (e : Fin 128) :
    (leftFirst m c t hf).ds (ix2 h e) = ((-sinkPart X (num t) h : ℝ) : EReal) := by
  unfold leftFirst
  dsimp only
  rw [first_ds, View.read_writes_junk_eq_canon]
  refine (rows_first (fun h z => z + ((-sinkPart X (num t) h : ℝ) : EReal)) (share_ds r t) 0 zero_pay6 _ h e).trans ?_
  exact zero_add _

omit t

/-- The sum of `f` over the steps up to `n`. -/
def upTo (f : Fin 32 → ℝ) (n : ℕ) : ℝ := ∑ k ∈ Finset.range (n + 1), if h : k < 32 then f ⟨k, h⟩ else 0

omit r in
theorem upTo_last (f : Fin 32 → ℝ) : upTo f 31 = ∑ n, f n := by
  unfold upTo
  rw [Finset.sum_range]
  exact Finset.sum_congr rfl fun k _ => dif_pos k.isLt

theorem left_sums (n : ℕ) (hn : n < cfg0.N) :
    (∀ i g d, (leftAt m c n hn).dk (ix2 i (col g d)) = ((upTo (fun k => kPart X k i g d) n : ℝ) : EReal))
    ∧ (∀ i g d, (leftAt m c n hn).dv (ix2 i (col g d)) = ((upTo (fun k => vPart X k i g d) n : ℝ) : EReal))
    ∧ (∀ h e, (leftAt m c n hn).ds (ix2 h e) = ((upTo (fun k => -sinkPart X k h) n : ℝ) : EReal)) := by
  induction n with
  | zero =>
    have hf : first (grid0.coords ⟨0, hn⟩) := (first_iff ⟨0, hn⟩).mpr rfl
    have h0 : ∀ f : Fin 32 → ℝ, upTo f 0 = f (num ⟨0, hn⟩) := fun f => by
      unfold upTo
      rw [Finset.sum_range_one]
      exact dif_pos (by decide)
    refine ⟨fun i g d => ?_, fun i g d => ?_, fun h e => ?_⟩ <;> rw [h0]
    · exact first_dk_at r ⟨0, hn⟩ hf i g d
    · exact first_dv_at r ⟨0, hn⟩ hf i g d
    · exact first_ds_at r ⟨0, hn⟩ hf h e
  | succ n ih =>
    have hn' : n + 1 < 32 := Nat.lt_of_lt_of_eq hn N_0
    have hf : ¬first (grid0.coords ⟨n + 1, hn⟩) := fun h => Nat.succ_ne_zero n ((first_iff ⟨n + 1, hn⟩).mp h)
    have h0 : ∀ f : Fin 32 → ℝ, upTo f (n + 1) = upTo f n + f (num ⟨n + 1, hn⟩) := fun f => by
      unfold upTo
      rw [Finset.sum_range_succ]
      exact congrArg (_ + ·) (dif_pos hn')
    obtain ⟨h1, h2, h3⟩ := ih (Nat.lt_of_succ_lt hn)
    refine ⟨fun i g d => ?_, fun i g d => ?_, fun h e => ?_⟩ <;> rw [h0, EReal.coe_add]
    · rw [← h1]; exact later_dk_at r ⟨n + 1, hn⟩ hf _ i g d
    · rw [← h2]; exact later_dv_at r ⟨n + 1, hn⟩ hf _ i g d
    · rw [← h3 h e]; exact later_ds_at r ⟨n + 1, hn⟩ hf _ h e

end Cert.KernelIdeal.Run
-- ==== Proof.RefBackward.lean ====
module

public import proofs.«01_k».proof.Proof.RefForward

@[expose] public section

noncomputable section

/-! # The reference's backward stages, at an entry, and its four results

The derivative of the row's maximum contributes nothing: what is passed to it is zero, as the weights and the sink's
weight add up to one.
-/

namespace Cert.ReferenceIdeal.Read

open Idealize.ShloMosaic Cert.ReferenceIdeal Banded

variable {x0 : (⟨S4096x768, .bf16⟩ : BufTy).Contents (Elt Ideal)} {x1 : (⟨S8, .f32⟩ : BufTy).Contents (Elt Ideal)}
  {x2 : (⟨S4096x512, .f32⟩ : BufTy).Contents (Elt Ideal)} {X : Inputs}

theorem v120_at (r : Reads X x0 x1 x2) (n : Fin 32) (g : Fin 2) (d : Fin 64) (e : Fin 4) (a : Fin 128) :
    val_main_v120 (F := Ideal) x2 (ix6 0 n g d e a) = X.o' (row n a) (head g e) d := by
  pointwise [val_main_v120, val_main_v119, val_main_v118]
  rw [← r.o' (row n a) (head g e) d (by have := (head g e).isLt; omega)]
  refine congrArg x2 (congrArg (ix2 _) (Fin.ext ?_))
  simp only [head]; omega

theorem v121_at (r : Reads X x0 x1 x2) (n : Fin 32) (g : Fin 2) (e : Fin 4) (a : Fin 128) (j : Fin 384) :
    val_main_v121 (F := Ideal) x0 x2 (ix6 0 n g e a j) = band n j (weight' X (row n a) (head g e)) := by
  rw [val_main_v121]
  generalize hy : val_main_v120 (F := Ideal) x2 = y
  pointwise
  subst hy
  simp only [v120_at r, v114_at r, ← EReal.coe_mul, coe_sum, mul_band, band_sum]
  exact congrArg _ (band_congr fun t => by rw [weight', group_head])

/-- The row's sum of exponentials as the reference holds it, divided by the exponential of its maximum. -/
def scaled (x0 : (⟨S4096x768, .bf16⟩ : BufTy).Contents (Elt Ideal)) (X : Inputs) (n : Fin 32) (g : Fin 2) (e : Fin 4)
    (a : Fin 128) : ℝ := total X (row n a) (head g e) * Real.exp (-peak x0 X n g e a)

theorem scaled_ne (x0 : (⟨S4096x768, .bf16⟩ : BufTy).Contents (Elt Ideal)) (X : Inputs) (n : Fin 32) (g : Fin 2)
    (e : Fin 4) (a : Fin 128) : scaled x0 X n g e a ≠ 0 := mul_ne_zero (total_ne X _ _) (Real.exp_ne_zero _)

/-- An exponential over the row's sum is the weight, whatever both were divided by. -/
theorem expo_scaled (x0 : (⟨S4096x768, .bf16⟩ : BufTy).Contents (Elt Ideal)) (X : Inputs) (n : Fin 32) (g : Fin 2)
    (e : Fin 4) (a : Fin 128) (t : Fin 4096) :
    expo X (row n a) (head g e) t * Real.exp (-peak x0 X n g e a) / scaled x0 X n g e a = weight X (row n a) (head g e) t := by
  rw [scaled, mul_div_mul_right _ _ (Real.exp_ne_zero _), weight]

theorem v105_at (r : Reads X x0 x1 x2) (n : Fin 32) (g : Fin 2) (e : Fin 4) (a : Fin 128) :
    val_main_v105 (F := Ideal) x0 x1 (ix6 0 n g e a 0) = (1 / (scaled x0 X n g e a * scaled x0 X n g e a) : ℝ) := by
  pointwise [val_main_v105, val_main_v104, val_main_v103, val_main_cst_18]
  rw [v100_at r, ← scaled, ← EReal.coe_mul, ← EReal.coe_one,
    div_coe _ _ (mul_ne_zero (scaled_ne x0 X n g e a) (scaled_ne x0 X n g e a))]

theorem v138_at (r : Reads X x0 x1 x2) (n : Fin 32) (g : Fin 2) (e : Fin 4) (a : Fin 128) (j : Fin 384) :
    val_main_v138 (F := Ideal) x0 x1 x2 (ix6 0 n g e a j)
      = band n j fun t => weight X (row n a) (head g e) t * weight' X (row n a) (head g e) t / scaled x0 X n g e a := by
  pointwise [val_main_v138, val_main_v137, val_main_v136]
  rw [v121_at r, v105_at r, v94_at r, ← EReal.coe_mul, ← EReal.coe_mul, band_mul, band_mul_band]
  refine congrArg _ (band_congr fun t => ?_)
  rw [← expo_scaled x0]
  have := scaled_ne x0 X n g e a
  field_simp

theorem v139_at (r : Reads X x0 x1 x2) (n : Fin 32) (g : Fin 2) (e : Fin 4) (a : Fin 128) :
    val_main_v139 (F := Ideal) x0 x1 x2 (ix5 0 n g e a) = (mean X (row n a) (head g e) / scaled x0 X n g e a : ℝ) := by
  unfold val_main_v139
  pointwise [val_main_cst_25]
  rw [sum_last]
  simp only [v138_at r, coe_sum, Ideal.ofBits_zero_f32, zero_add]
  rw [sum_band n a _ (fun t ht => by rw [weight_off X ht, zero_mul, zero_div]), ← Finset.sum_div, mean]

theorem v141_at (r : Reads X x0 x1 x2) (n : Fin 32) (g : Fin 2) (e : Fin 4) (a : Fin 128) :
    val_main_v141 (F := Ideal) x0 x1 x2 (ix6 0 n g e a 0) = (-(mean X (row n a) (head g e) / scaled x0 X n g e a) : ℝ) := by
  pointwise [val_main_v141, val_main_v140]
  rw [v139_at r, ← EReal.coe_neg]

theorem v144_at (r : Reads X x0 x1 x2) (n : Fin 32) (g : Fin 2) (e : Fin 4) (a : Fin 128) :
    val_main_v144 (F := Ideal) x0 x1 x2 (ix6 0 n g e a 0)
      = (-(Real.exp (X.sink (head g e)) / total X (row n a) (head g e) * mean X (row n a) (head g e)) : ℝ) := by
  pointwise [val_main_v144]
  rw [v141_at r, v99_at r, ← EReal.coe_mul]
  refine congrArg _ ?_
  have := total_ne X (row n a) (head g e)
  have := Real.exp_ne_zero (-peak x0 X n g e a)
  rw [scaled]; field_simp

theorem v150_at (r : Reads X x0 x1 x2) (n : Fin 32) (g : Fin 2) (e : Fin 4) (a : Fin 128) (j : Fin 384) :
    val_main_v150 (F := Ideal) x0 x1 x2 (ix6 0 n g e a j) = (-(mean X (row n a) (head g e) / scaled x0 X n g e a) : ℝ) := by
  pointwise [val_main_v150, val_main_v149]
  unfold val_main_v148
  pointwise [val_main_cst_27]
  rw [sum_ends, v141_at r, zero_add]

theorem v152_at (r : Reads X x0 x1 x2) (n : Fin 32) (g : Fin 2) (e : Fin 4) (a : Fin 128) (j : Fin 384) :
    val_main_v152 (F := Ideal) x0 x1 x2 (ix6 0 n g e a j) = band n j (slope X (row n a) (head g e)) := by
  pointwise [val_main_v152, val_main_v151, val_main_v143, val_main_v142]
  rw [v121_at r, v100_at r, ← scaled, v150_at r, v94_at r, div_coe _ _ (scaled_ne x0 X n g e a), ← EReal.coe_add, ← EReal.coe_mul]
  refine congrArg _ ?_
  by_cases hb : 128 ≤ n.val * 128 + j.val ∧ n.val * 128 + j.val < 4224
  · have ht : n.val * 128 + j.val = (⟨n.val * 128 + j.val - 128, by omega⟩ : Fin 4096).val + 128 := by simp only; omega
    rw [band_at ht, band_at ht, band_at ht, Banded.slope, ← expo_scaled x0]
    have h := scaled_ne x0 X n g e a
    field_simp
    ring
  · rw [band_none hb, band_none hb, band_none hb, mul_zero]

theorem v156_at (r : Reads X x0 x1 x2) (n : Fin 32) (g : Fin 2) (e : Fin 4) (a : Fin 128) :
    val_main_v156 (F := Ideal) x0 x1 x2 (ix6 0 n g e a 0) = 0 := by
  pointwise [val_main_v156, val_main_v155, val_main_v147]
  unfold val_main_v154
  pointwise [val_main_cst_28, val_main_v153]
  rw [sum_last]
  pointwise [val_main_v153]
  simp only [v152_at r, v144_at r, ← EReal.coe_neg, coe_sum, Ideal.ofBits_zero_f32, zero_add, Finset.sum_neg_distrib]
  rw [sum_band n a _ (fun t ht => slope_off X ht), sum_slope, ← EReal.coe_add, neg_neg, add_neg_cancel, EReal.coe_zero]

/-- The row's maximum is attained, so its entries that equal it number at least one. -/
theorem v70_ne (r : Reads X x0 x1 x2) (n : Fin 32) (g : Fin 2) (e : Fin 4) (a : Fin 128) :
    val_main_v70 (F := Ideal) x0 (ix5 0 n g e a) ≠ 0 := by
  obtain ⟨j, hj⟩ := v65_mem (x0 := x0) n g e a
  unfold val_main_v70
  pointwise [val_main_cst_10]
  rw [sum_last, zero_add]
  have h0 : ∀ k : Fin 384, 0 ≤ val_main_v69 (F := Ideal) x0 (ix6 0 n g e a k) := fun k => by
    rw [val_main_v69_apply]
    show (0 : EReal) ≤ (((_ : ℕ) : ℝ) : EReal)
    exact_mod_cast Nat.zero_le _
  have h1 : val_main_v69 (F := Ideal) x0 (ix6 0 n g e a j) = 1 := by
    rw [val_main_v69_apply]
    pointwise [val_main_v68, val_main_v67, val_main_v66]
    rw [decide_eq_true hj]
    show (((BitVec.ofBool true).toNat : ℝ) : EReal) = 1
    simp
  have := Finset.single_le_sum (fun k _ => h0 k) (Finset.mem_univ j)
  rw [h1] at this
  exact (lt_of_lt_of_le zero_lt_one this).ne'

theorem v166_at (r : Reads X x0 x1 x2) (n : Fin 32) (g : Fin 2) (e : Fin 4) (a : Fin 128) (j : Fin 384) :
    val_main_v166 (F := Ideal) x0 x1 x2 (ix6 0 n g e a j) = 0 := by
  pointwise [val_main_v166, val_main_v165, val_main_v164, val_main_v163]
  unfold val_main_v162
  pointwise [val_main_cst_30]
  rw [sum_ends]
  pointwise [val_main_v161]
  rw [v156_at r, zero_mul, Ideal.div, if_neg (v70_ne r n g e a), zero_mul, zero_mul]

theorem v172_at (r : Reads X x0 x1 x2) (n : Fin 32) (g : Fin 2) (e : Fin 4) (a : Fin 128) (j : Fin 384) :
    val_main_v172 (F := Ideal) x0 x1 x2 (ix6 0 n g e a j) = band n j (score' X (row n a) (head g e)) := by
  pointwise [val_main_v172, val_main_v171, val_main_cst_32]
  rw [ofBits_eighth, show band n j (score' X (row n a) (head g e)) = band n j (slope X (row n a) (head g e)) * (1 / 8) by
    rw [band_mul]; rfl, EReal.coe_mul]
  refine congrArg (· * _) ?_
  rw [val_main_v170_apply, val_main_v167_apply, v152_at r, v166_at r]
  pointwise [val_main_v62_1, val_main_v61, val_main_call1_v0, val_main_call1_cst]
  rw [v60_at]
  by_cases h : seen n a j
  · rw [decide_eq_true h]; rfl
  · rw [decide_eq_false h]
    by_cases hb : 128 ≤ n.val * 128 + j.val ∧ n.val * 128 + j.val < 4224
    · have ht : n.val * 128 + j.val = (⟨n.val * 128 + j.val - 128, by omega⟩ : Fin 4096).val + 128 := by
        simp only; omega
      rw [band_at ht, slope_off X (fun h' => h ((seen_iff ht).mpr h'))]; rfl
    · rw [band_none hb]; rfl

theorem v173_at (r : Reads X x0 x1 x2) (n : Fin 32) (g : Fin 2) (j : Fin 384) (a : Fin 128) (e : Fin 4) :
    val_main_v173 (F := Ideal) x0 x1 x2 (ix6 0 n g j a e) = band n j (score' X (row n a) (head g e)) := by
  pointwise [val_main_v173]
  exact v172_at r n g e a j

/-! ## The gradient of the queries -/

theorem v174_at (r : Reads X x0 x1 x2) (n : Fin 32) (g : Fin 2) (a : Fin 128) (e : Fin 4) (d : Fin 64) :
    val_main_v174 (F := Ideal) x0 x1 x2 (ix6 0 n g a e d) = q' X (row n a) (head g e) d := by
  rw [val_main_v174]
  generalize hy : val_main_v173 (F := Ideal) x0 x1 x2 = y
  pointwise
  subst hy
  simp only [v173_at r, v18_at r, ← EReal.coe_mul, coe_sum, band_mul_band]
  rw [sum_band n a _ (fun t ht => by rw [score'_off X ht, zero_mul]), q', group_head]

theorem dq_at (r : Reads X x0 x1 x2) (n : Fin 32) (a : Fin 128) (g : Fin 2) (e : Fin 4) (d : Fin 64) :
    val_main_v191 (F := Ideal) x0 x1 x2 (ix2 (row n a) ⟨(head g e).val * 64 + d.val, by have := (head g e).isLt; omega⟩)
      = q' X (row n a) (head g e) d := by
  rw [← v174_at r]
  generalize hy : val_main_v174 (F := Ideal) x0 x1 x2 = y
  unfold val_main_v191 val_main_v190 val_main_v175
  rw [hy]
  pointwise
  refine congrArg y ?_
  rw [show (⟨(row n a).val / 128, by omega⟩ : Fin 32) = n from Fin.ext (by simp only [row]; omega),
    show (⟨((head g e).val * 64 + d.val) / 256, by have := (head g e).isLt; omega⟩ : Fin 2) = g from
      Fin.ext (by simp only [head]; omega),
    show (⟨(row n a).val % 128, by omega⟩ : Fin 128) = a from Fin.ext (by simp only [row]; omega),
    show (⟨((head g e).val * 64 + d.val) / 64 % 4, by omega⟩ : Fin 4) = e from Fin.ext (by simp only [head]; omega)]

/-! ## The gradients of the keys and values -/

theorem v176_at (r : Reads X x0 x1 x2) (n : Fin 32) (g : Fin 2) (j : Fin 384) (d : Fin 64) :
    val_main_v176 (F := Ideal) x0 x1 x2 (ix5 0 n g j d) = band n j fun t => kPart X n t g d := by
  rw [val_main_v176]
  generalize hy : val_main_v173 (F := Ideal) x0 x1 x2 = y
  pointwise
  subst hy
  simp only [v173_at r, v9_at r, ← EReal.coe_mul, coe_sum, band_mul, band_sum]
  rfl

theorem v122_at (r : Reads X x0 x1 x2) (n : Fin 32) (g : Fin 2) (d : Fin 64) (j : Fin 384) :
    val_main_v122 (F := Ideal) x0 x1 x2 (ix5 0 n g d j) = band n j fun t => vPart X n t g d := by
  rw [val_main_v122]
  generalize hy : val_main_v120 (F := Ideal) x2 = y
  generalize hz : val_main_v102 (F := Ideal) x0 x1 = z
  pointwise
  subst hy hz
  simp only [v120_at r, v102_at r, ← EReal.coe_mul, coe_sum, mul_band, band_sum]
  refine congrArg _ (band_congr fun t => ?_)
  rw [vPart, Finset.sum_comm]
  exact Finset.sum_congr rfl fun a _ => Finset.sum_congr rfl fun e _ => mul_comm _ _

/-- The three shifted blocks added: each key's sum over every block. -/
theorem three_blocks (t : Fin 4096) (y : Fin 32 → Fin 384 → EReal) (f : Fin 32 → Fin 4096 → ℝ)
    (hy : ∀ n j, y n j = band n j (f n)) (hf : ∀ n, (∀ a, ¬near (row n a) t) → f n t = 0) :
    (((if h : (2 ≤ (128 + t.val) / 128 ∧ (128 + t.val) / 128 - 2 < 32) ∧ (128 + t.val) % 128 < 128 then
          y ⟨(128 + t.val) / 128 - 2, by omega⟩ ⟨256 + (128 + t.val) % 128, by omega⟩
        else 0) +
        if h : (1 ≤ (128 + t.val) / 128 ∧ (128 + t.val) / 128 - 1 < 32) ∧ (128 + t.val) % 128 < 128 then
          y ⟨(128 + t.val) / 128 - 1, by omega⟩ ⟨128 + (128 + t.val) % 128, by omega⟩
        else 0) +
      if h : (128 + t.val) / 128 < 32 ∧ (128 + t.val) % 128 < 128 then
        y ⟨(128 + t.val) / 128, by omega⟩ ⟨(128 + t.val) % 128, by omega⟩
      else 0) = ((∑ n, f n t : ℝ) : EReal) := by
  rw [← sum_blocks t (fun n => f n t) (fun n hn => hf n (block_off t n hn)), EReal.coe_add, EReal.coe_add]
  congr 1
  · congr 1
    · by_cases h : 1 ≤ t.val / 128
      · rw [dif_pos (by omega), dif_pos h, hy, band_at (t := t) (by simp only; omega)]
        exact congrArg (fun n => ((f n t : ℝ) : EReal)) (Fin.ext (by simp only; omega))
      · rw [dif_neg (by omega), dif_neg h]; rfl
    · rw [dif_pos (by omega), hy, band_at (t := t) (by simp only; omega)]
      exact congrArg (fun n => ((f n t : ℝ) : EReal)) (Fin.ext (by simp only; omega))
  · by_cases h : t.val / 128 + 1 < 32
    · rw [dif_pos (by omega), dif_pos h, hy, band_at (t := t) (by simp only; omega)]
      exact congrArg (fun n => ((f n t : ℝ) : EReal)) (Fin.ext (by simp only; omega))
    · rw [dif_neg (by omega), dif_neg h]; rfl

theorem dk_at (r : Reads X x0 x1 x2) (t : Fin 4096) (g : Fin 2) (d : Fin 64) :
    val_main_v192 (F := Ideal) x0 x1 x2 (ix2 t ⟨g.val * 64 + d.val, by omega⟩) = k' X t g d := by
  have h := v176_at r (x0 := x0)
  generalize hy : val_main_v176 (F := Ideal) x0 x1 x2 = y at h
  unfold val_main_v192 val_main_v188 val_main_v186 val_main_v185 val_main_v184 val_main_v183 val_main_v182
    val_main_v181 val_main_v180 val_main_v179 val_main_v178 val_main_v177
  rw [hy]
  pointwise [val_main_cst_33, val_main_cst_34, val_main_cst_35]
  exact three_blocks t (fun n j => y (ix5 0 n g j d)) (fun n t => kPart X n t g d) (fun n j => h n g j d)
    (kPart_off X t g d)

theorem dv_at (r : Reads X x0 x1 x2) (t : Fin 4096) (g : Fin 2) (d : Fin 64) :
    val_main_v193 (F := Ideal) x0 x1 x2 (ix2 t ⟨g.val * 64 + d.val, by omega⟩) = v' X t g d := by
  have h := v122_at r (x0 := x0)
  generalize hy : val_main_v122 (F := Ideal) x0 x1 x2 = y at h
  unfold val_main_v193 val_main_v134 val_main_v132 val_main_v131 val_main_v130 val_main_v129 val_main_v128
    val_main_v127 val_main_v126 val_main_v125 val_main_v124 val_main_v123
  rw [hy]
  pointwise [val_main_cst_22, val_main_cst_23, val_main_cst_24]
  exact three_blocks t (fun n j => y (ix5 0 n g d j)) (fun n t => vPart X n t g d) (fun n j => h n g d j)
    (vPart_off X t g d)

/-! ## The gradient of the sink logits -/

theorem v145_at (r : Reads X x0 x1 x2) (g : Fin 2) (e : Fin 4) :
    val_main_v145 (F := Ideal) x0 x1 x2 (ix4 0 g e 0) = sink' X (head g e) := by
  unfold val_main_v145
  pointwise [val_main_cst_26]
  rw [sum_rows, zero_add]
  simp only [v144_at r, coe_sum, Finset.sum_neg_distrib]
  rfl

theorem v158_at (r : Reads X x0 x1 x2) (g : Fin 2) (e : Fin 4) :
    val_main_v158 (F := Ideal) x0 x1 x2 (ix4 0 g e 0) = 0 := by
  unfold val_main_v158
  pointwise [val_main_cst_29]
  rw [sum_rows, zero_add]
  refine Finset.sum_eq_zero fun n _ => Finset.sum_eq_zero fun a _ => ?_
  rw [val_main_v157_apply, v156_at r]
  exact zero_mul _

theorem v168_at (r : Reads X x0 x1 x2) (g : Fin 2) (e : Fin 4) :
    val_main_v168 (F := Ideal) x0 x1 x2 (ix2 g e) = sink' X (head g e) := by
  unfold val_main_v168
  pointwise [val_main_cst_31]
  rw [sum_ones, zero_add]
  pointwise [val_main_v160, val_main_v159, val_main_v146]
  rw [v145_at r, v158_at r, add_zero]

theorem dsink_at (r : Reads X x0 x1 x2) (g : Fin 2) (e : Fin 4) (l : Fin 128) :
    val_main_v195 (F := Ideal) x0 x1 x2 (ix2 (head g e) l) = sink' X (head g e) := by
  rw [← v168_at r]
  generalize hy : val_main_v168 (F := Ideal) x0 x1 x2 = y
  unfold val_main_v195 val_main_v194 val_main_v169
  rw [hy]
  pointwise
  refine congrArg y ?_
  rw [show (⟨(head g e).val / 4, by omega⟩ : Fin 2) = g from Fin.ext (by simp only [head]; omega),
    show (⟨(head g e).val % 4, by omega⟩ : Fin 4) = e from Fin.ext (by simp only [head]; omega)]

end Cert.ReferenceIdeal.Read

end
-- ==== Proof.Results.lean ====
module

public import proofs.«01_k».proof.Proof.StepValue
public import proofs.«01_k».proof.Proof.RefBackward

@[expose] public section

set_option maxRecDepth 16384

noncomputable section

/-! # The results' arrays after the last step, and the reference's -/

namespace Cert.KernelIdeal.Run

open Cert.KernelIdeal Cert.KernelIdeal.Gen
open Idealize.ShloMosaic Idealize.ShloMosaic.TcCoe Idealize.ShloMosaic.Tactic
open Cert.ReferenceIdeal.Read (val_main_v191 val_main_v192 val_main_v193 val_main_v195)
open Cert.ReferenceIdeal.Read (dq_at dk_at dv_at dsink_at)
open Banded

variable {m : (ℓ : Loc nD τ sig) → Buf (Elt Ideal) ℓ} {c : Dev nD} {X : Inputs}
variable (r : Reads X (arg0 m c) (arg1 m c) (arg2 m c))

/-- The last step. -/
def last : Fin cfg0.N := ⟨31, by decide⟩

omit X in
theorem pair {a b : ℕ} (i : Shape.Idx ⟨2, ![a, b]⟩) : i = ix2 (i 0) (i 1) := funext fun x => by
  match x with
  | 0 => rfl
  | 1 => rfl

/-- A column of the keys or values belongs to a group. -/
theorem col_of (x : Fin 128) : ∃ g d, x = col g d :=
  ⟨⟨x.val / 64, by omega⟩, ⟨x.val % 64, by omega⟩, Fin.ext (by show x.val = x.val / 64 * 64 + x.val % 64; omega)⟩

/-- A row belongs to a block. -/
theorem row_of (x : Fin 4096) : ∃ n a, x = row n a :=
  ⟨⟨x.val / 128, by omega⟩, ⟨x.val % 128, by omega⟩, Fin.ext (by show x.val = x.val / 128 * 128 + x.val % 128; omega)⟩

include r

theorem block_dq (n : Fin 32) (y : S128x512.Idx) :
    qBlock X n y = val_main_v191 (F := Ideal) (arg0 m c) (arg1 m c) (arg2 m c) (ix2 (row n (y 0)) (y 1)) := by
  have hy : (y 1).val < 512 := (y 1).isLt
  obtain ⟨g, e, he⟩ := heads ⟨(y 1).val / 64, by omega⟩
  have hv : (y 1).val / 64 = (head g e).val := congrArg Fin.val he
  have e1 : y 1 = (⟨(head g e).val * 64 + (y 1).val % 64, by have := (head g e).isLt; omega⟩ : Fin 512) :=
    Fin.ext (by show (y 1).val = (head g e).val * 64 + (y 1).val % 64; omega)
  have h := dq_at r n (y 0) g e ⟨(y 1).val % 64, by omega⟩
  unfold qBlock
  rw [he]
  refine h.symm.trans ?_
  exact congrArg (fun z => val_main_v191 (F := Ideal) (arg0 m c) (arg1 m c) (arg2 m c) (ix2 (row n (y 0)) z)) e1.symm

theorem last_dk (i : S4096x128.Idx) :
    (leftAt m c last.val last.isLt).dk i = val_main_v192 (F := Ideal) (arg0 m c) (arg1 m c) (arg2 m c) i := by
  rw [pair i]
  generalize i 0 = t
  generalize i 1 = x
  obtain ⟨g, d, rfl⟩ := col_of x
  refine ((left_sums r 31 last.isLt).1 t g d).trans ?_
  rw [upTo_last]
  exact (dk_at r t g d).symm

theorem last_dv (i : S4096x128.Idx) :
    (leftAt m c last.val last.isLt).dv i = val_main_v193 (F := Ideal) (arg0 m c) (arg1 m c) (arg2 m c) i := by
  rw [pair i]
  generalize i 0 = t
  generalize i 1 = x
  obtain ⟨g, d, rfl⟩ := col_of x
  refine ((left_sums r 31 last.isLt).2.1 t g d).trans ?_
  rw [upTo_last]
  exact (dv_at r t g d).symm

theorem last_ds (i : S8x128.Idx) :
    (leftAt m c last.val last.isLt).ds i = val_main_v195 (F := Ideal) (arg0 m c) (arg1 m c) (arg2 m c) i := by
  rw [pair i]
  generalize i 0 = h
  generalize i 1 = x
  obtain ⟨g, e, rfl⟩ := heads h
  refine ((left_sums r 31 last.isLt).2.2 (head g e) x).trans ?_
  rw [upTo_last, Finset.sum_neg_distrib]
  exact (dsink_at r g e x).symm

theorem final_dq : (dats m 0 c).arrAt 7 cfg0.N = val_main_v191 (F := Ideal) (arg0 m c) (arg1 m c) (arg2 m c) := by
  generalize hG : val_main_v191 (F := Ideal) (arg0 m c) (arg1 m c) (arg2 m c) = G
  refine (dats m 0 c).arrAt_eq_of_covers 7 _ (by decide +kernel) fun t hf y => ?_
  blk_simp
  rw [after7, leftAt_dq r]
  refine (block_dq r (num t) y).trans ?_
  rw [hG]
  refine congrArg G ?_
  have hi := (idx_row t).2.2.2.2
  have hn := coord_num t
  have hr : (row (num t) (y 0)).val = (num t).val * 128 + (y 0).val := rfl
  blk_ext [hi, hn, hr]

theorem final_dk : (dats m 0 c).arrAt 8 cfg0.N = val_main_v192 (F := Ideal) (arg0 m c) (arg1 m c) (arg2 m c) := by
  have h := last_dk r
  generalize val_main_v192 (F := Ideal) (arg0 m c) (arg1 m c) (arg2 m c) = G at h
  refine (dats m 0 c).arrAt_eq_of_after_last 8 last (by decide +kernel) _ fun j => ?_
  blk_simp
  rw [after8]
  exact h j

theorem final_dv : (dats m 0 c).arrAt 9 cfg0.N = val_main_v193 (F := Ideal) (arg0 m c) (arg1 m c) (arg2 m c) := by
  have h := last_dv r
  generalize val_main_v193 (F := Ideal) (arg0 m c) (arg1 m c) (arg2 m c) = G at h
  refine (dats m 0 c).arrAt_eq_of_after_last 9 last (by decide +kernel) _ fun j => ?_
  blk_simp
  rw [after9]
  exact h j

theorem final_ds : (dats m 0 c).arrAt 10 cfg0.N = val_main_v195 (F := Ideal) (arg0 m c) (arg1 m c) (arg2 m c) := by
  have h := last_ds r
  generalize val_main_v195 (F := Ideal) (arg0 m c) (arg1 m c) (arg2 m c) = G at h
  refine (dats m 0 c).arrAt_eq_of_after_last 10 last (by decide +kernel) _ fun j => ?_
  blk_simp
  rw [after10]
  exact h j

end Cert.KernelIdeal.Run
-- ==== Proof.CallUp.lean ====
module

public import proofs.«01_k».proof.Defs
public import proofs.«01_k».proof.Proof.Gen.KernelUp
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import Idealize.ShloMosaic.Adequacy
public import Idealize.ShloMosaic.Init
public import Idealize.ShloMosaic.Lib.Pointwise
public import Idealize.ShloMosaic.Lib.Pipeline.ValueKit

@[expose] public section

noncomputable section

/-! # The up-projection of the feed-forward part

Each of the 16 steps makes one block of the product, over the whole inner axis.
-/

namespace Cert.KernelUpIdeal.Call

open Cert.KernelUpIdeal Cert.KernelUpIdeal.Gen Idealize.ShloMosaic Idealize.ShloMosaic.TcCoe Idealize.ShloMosaic.Tactic Idealize.SL.Sem

theorem index_left : ∀ t : Fin cfg0.N, win0_0.index t = ![(grid0.coords t 0).val, 0] := by decide +kernel
theorem index_right : ∀ t : Fin cfg0.N, win0_1.index t = ![(grid0.coords t 1).val, 0] := by decide +kernel
theorem index_out : ∀ t : Fin cfg0.N, win0_2.index t = ![(grid0.coords t 0).val, (grid0.coords t 1).val] := by decide +kernel

variable (m : (ℓ : Loc nD τ sig) → Buf (Elt Ideal) ℓ) (c : Dev nD)

/-- One block of the product is the sum over the whole inner axis. -/
theorem block_at (x : FVec Ideal S1024x1024 .bf16) (w : FVec Ideal S1408x1024 .bf16) (y : S1024x1408.Idx) :
    k0_pay1 x w y = ∑ k : Fin 1024, x (ix2 (y 0) k) * w (ix2 (y 1) k) := by
  pointwise [k0_pay1]

/-- The reference's element is the same sum. -/
theorem reference_at (x : FVec Ideal S4096x1024 .bf16) (w : FVec Ideal S5632x1024 .bf16) (i : S4096x5632.Idx) :
    Cert.ReferenceUpIdeal.Read.val_main_v4 (F := Ideal) x w i = ∑ k : Fin 1024, x (ix2 (i 0) k) * w (ix2 (i 1) k) := by
  pointwise [Cert.ReferenceUpIdeal.Read.val_main_v4, Cert.ReferenceUpIdeal.Read.val_main_v3, Cert.ReferenceUpIdeal.Read.val_main_v2, Cert.ReferenceUpIdeal.Read.val_main_v1, Cert.ReferenceUpIdeal.Read.val_main_v0]

/-- The array of results at the end is the reference's. -/
theorem final : (dats m 0 c).arrAt 2 cfg0.N
    = Cert.ReferenceUpIdeal.Read.val_main_v4 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold outsAt0
  frame_out
  refine (block_at _ _ _).trans (Eq.trans ?_ (reference_at _ _ _).symm)
  refine Finset.sum_congr rfl fun k _ => congrArg₂ (· * ·) (congrArg (m ((c.tc : Thread nD τ).loc main_arg0)) ?_) (congrArg (m ((c.tc : Thread nD τ).loc main_arg1)) ?_)
  · blk_ext [index_left, index_out]
  · blk_ext [index_right, index_out]

theorem frame_ideal : Cert.quiescent_KernelUpIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

/-- The kernel as printed has the same text, so its frame is this one over the machine's floats. -/
theorem same_text : Cert.quiescent_KernelUp = FrameAt Bits := by sl_kernel_rfl

theorem frame_bits : Cert.quiescent_KernelUp := same_text.mpr fun m ρ _ => frame m ρ

theorem frame_reference : Cert.quiescent_ReferenceUpIdeal := fun m ρ _ =>
  (θ_run Cert.ReferenceUpIdeal.defs _ _).mono
    (fun r h => ⟨fun c => (h c).2, sem_eq_zero_of_no_sems (by decide) r.2⟩)
    (Cert.ReferenceUpIdeal.Value.run (F := Ideal) m ρ)

/-- The kernel's result at exact arithmetic is the reference's. -/
theorem equal_results : Cert.algebraic_KernelUpIdeal_ReferenceUpIdeal := by
  intro m g m' g' _ ha
  refine ⟨_, (θ_run _ _ _).mono (fun r h c => ⟨(h c).1.trans (final m c), (h c).2⟩) (Value.run_blocks m g), ?_⟩
  refine (θ_run _ _ _).mono (fun r h c => ?_) (Cert.ReferenceUpIdeal.Value.run (F := Ideal) m' g')
  exact ⟨(h c).1.trans ((Cert.ReferenceUpIdeal.Read.val_main_v4_eq _ _).trans
    (congr (congrArg (Cert.ReferenceUpIdeal.Read.val_main_v4 (F := Ideal)) (ha c).1) (ha c).2)), (h c).2⟩

end Cert.KernelUpIdeal.Call

end
-- ==== Proof.CallDownDw.lean ====
module

public import proofs.«01_k».proof.Defs
public import proofs.«01_k».proof.Proof.Gen.KernelDownDw
public import proofs.«01_k».proof.Proof.Gen.KernelDownDwIdeal
public import proofs.«01_k».proof.Proof.Gen.KernelDownDwIdeal.Skeleton
public import proofs.«01_k».proof.Proof.Gen.KernelDownDwIdeal.Launch
public import proofs.«01_k».proof.Proof.Gen.KernelDownDwIdeal.Points
public import proofs.«01_k».proof.Proof.Gen.KernelDownDwIdeal.Frame
public import proofs.«01_k».proof.Proof.Gen.KernelDownDwIdeal.Value
public import proofs.«01_k».proof.Proof.Gen.ReferenceDownDwIdeal
public import proofs.«01_k».proof.Proof.Gen.ReferenceDownDwIdeal.Run
public import proofs.«01_k».proof.Proof.Gen.ReferenceDownDwIdeal.Read
public import Idealize.ShloMosaic.Adequacy
public import Idealize.ShloMosaic.Init
public import Idealize.ShloMosaic.Lib.Pointwise
public import Idealize.ShloMosaic.Lib.Pipeline.ValueKit

@[expose] public section

noncomputable section

/-! # The gradient of the weights of the feed-forward part's down-projection

Each of the 11 steps makes one block of rows, summed over all the positions.
-/

namespace Cert.KernelDownDwIdeal.Call

open Cert.KernelDownDwIdeal Cert.KernelDownDwIdeal.Gen Idealize.ShloMosaic Idealize.ShloMosaic.TcCoe Idealize.ShloMosaic.Tactic Idealize.SL.Sem

theorem index_left : ∀ t : Fin cfg0.N, win0_0.index t = ![0, (grid0.coords t 0).val] := by decide +kernel
theorem index_right : ∀ t : Fin cfg0.N, win0_1.index t = ![0, 0] := by decide +kernel
theorem index_out : ∀ t : Fin cfg0.N, win0_2.index t = ![(grid0.coords t 0).val, 0] := by decide +kernel

variable (m : (ℓ : Loc nD τ sig) → Buf (Elt Ideal) ℓ) (c : Dev nD)

/-- One block of the product is the sum over all the positions. -/
theorem block_at (x : FVec Ideal S4096x256 .bf16) (w : FVec Ideal S4096x1024 .bf16) (y : S256x1024.Idx) :
    k0_pay1 (F := Ideal) x w y = ∑ k : Fin 4096, x (ix2 k (y 0)) * w (ix2 k (y 1)) := by
  pointwise [k0_pay1]

/-- The reference's element is the same sum, its factors in the other order. -/
theorem reference_at (x : FVec Ideal S4096x2816 .bf16) (w : FVec Ideal S4096x1024 .bf16) (i : S2816x1024.Idx) :
    Cert.ReferenceDownDwIdeal.Read.val_main_v5 (F := Ideal) x w i = ∑ k : Fin 4096, x (ix2 k (i 0)) * w (ix2 k (i 1)) := by
  refine Eq.trans ?_ (Finset.sum_congr rfl fun k _ => mul_comm (w (ix2 k (i 1))) (x (ix2 k (i 0))))
  pointwise [Cert.ReferenceDownDwIdeal.Read.val_main_v5, Cert.ReferenceDownDwIdeal.Read.val_main_v4, Cert.ReferenceDownDwIdeal.Read.val_main_v3, Cert.ReferenceDownDwIdeal.Read.val_main_v1]

/-- The array of results at the end is the reference's. -/
theorem final : (dats m 0 c).arrAt 2 cfg0.N
    = Cert.ReferenceDownDwIdeal.Read.val_main_v5 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold outsAt0
  frame_out
  refine (block_at _ _ _).trans (Eq.trans ?_ (reference_at _ _ _).symm)
  refine Finset.sum_congr rfl fun k _ => congrArg₂ (· * ·) (congrArg (m ((c.tc : Thread nD τ).loc main_arg0)) ?_) (congrArg (m ((c.tc : Thread nD τ).loc main_arg1)) ?_)
  · blk_ext [index_left, index_out]
  · blk_ext [index_right, index_out]

theorem frame_ideal : Cert.quiescent_KernelDownDwIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

/-- The kernel as printed has the same text, so its frame is this one over the machine's floats. -/
theorem same_text : Cert.quiescent_KernelDownDw = FrameAt Bits := by sl_kernel_rfl

theorem frame_bits : Cert.quiescent_KernelDownDw := same_text.mpr fun m ρ _ => frame m ρ

theorem frame_reference : Cert.quiescent_ReferenceDownDwIdeal := fun m ρ _ =>
  (θ_run Cert.ReferenceDownDwIdeal.defs _ _).mono
    (fun r h => ⟨fun c => (h c).2, sem_eq_zero_of_no_sems (by decide) r.2⟩)
    (Cert.ReferenceDownDwIdeal.Value.run (F := Ideal) m ρ)

/-- The kernel's result at exact arithmetic is the reference's. -/
theorem equal_results : Cert.algebraic_KernelDownDwIdeal_ReferenceDownDwIdeal := by
  intro m g m' g' _ ha
  refine ⟨_, (θ_run _ _ _).mono (fun r h c => ⟨(h c).1.trans (final m c), (h c).2⟩) (Value.run_blocks m g), ?_⟩
  refine (θ_run _ _ _).mono (fun r h c => ?_) (Cert.ReferenceDownDwIdeal.Value.run (F := Ideal) m' g')
  exact ⟨(h c).1.trans ((Cert.ReferenceDownDwIdeal.Read.val_main_v5_eq _ _).trans
    (congr (congrArg (Cert.ReferenceDownDwIdeal.Read.val_main_v5 (F := Ideal)) (ha c).1) (ha c).2)), (h c).2⟩

end Cert.KernelDownDwIdeal.Call

end
-- ==== Proof.CallOutDw.lean ====
module

public import proofs.«01_k».proof.Defs
public import proofs.«01_k».proof.Proof.Gen.KernelOutDw
public import proofs.«01_k».proof.Proof.Gen.KernelOutDwIdeal
public import proofs.«01_k».proof.Proof.Gen.KernelOutDwIdeal.Skeleton
public import proofs.«01_k».proof.Proof.Gen.KernelOutDwIdeal.Launch
public import proofs.«01_k».proof.Proof.Gen.KernelOutDwIdeal.Points
public import proofs.«01_k».proof.Proof.Gen.KernelOutDwIdeal.Frame
public import proofs.«01_k».proof.Proof.Gen.KernelOutDwIdeal.Value
public import proofs.«01_k».proof.Proof.Gen.ReferenceOutDwIdeal
public import proofs.«01_k».proof.Proof.Gen.ReferenceOutDwIdeal.Run
public import proofs.«01_k».proof.Proof.Gen.ReferenceOutDwIdeal.Read
public import Idealize.ShloMosaic.Adequacy
public import Idealize.ShloMosaic.Init
public import Idealize.ShloMosaic.Lib.Pointwise
public import Idealize.ShloMosaic.Lib.Pipeline.ValueKit

@[expose] public section

noncomputable section

/-! # The gradient of the weights of the output projection

Each of the 2 steps makes one block of rows, summed over all the positions.
-/

namespace Cert.KernelOutDwIdeal.Call

open Cert.KernelOutDwIdeal Cert.KernelOutDwIdeal.Gen Idealize.ShloMosaic Idealize.ShloMosaic.TcCoe Idealize.ShloMosaic.Tactic Idealize.SL.Sem

theorem index_left : ∀ t : Fin cfg0.N, win0_0.index t = ![0, (grid0.coords t 0).val] := by decide +kernel
theorem index_right : ∀ t : Fin cfg0.N, win0_1.index t = ![0, 0] := by decide +kernel
theorem index_out : ∀ t : Fin cfg0.N, win0_2.index t = ![(grid0.coords t 0).val, 0] := by decide +kernel

variable (m : (ℓ : Loc nD τ sig) → Buf (Elt Ideal) ℓ) (c : Dev nD)

/-- One block of the product is the sum over all the positions. -/
theorem block_at (x : FVec Ideal S4096x512 .bf16) (w : FVec Ideal S4096x1024 .bf16) (y : S512x1024.Idx) :
    k0_pay1 (F := Ideal) x w y = ∑ k : Fin 4096, x (ix2 k (y 0)) * w (ix2 k (y 1)) := by
  pointwise [k0_pay1]

/-- The reference's element is the same sum, its factors in the other order. -/
theorem reference_at (x : FVec Ideal S4096x1024 .bf16) (w : FVec Ideal S4096x1024 .bf16) (i : S1024x1024.Idx) :
    Cert.ReferenceOutDwIdeal.Read.val_main_v5 (F := Ideal) x w i = ∑ k : Fin 4096, x (ix2 k (i 0)) * w (ix2 k (i 1)) := by
  refine Eq.trans ?_ (Finset.sum_congr rfl fun k _ => mul_comm (w (ix2 k (i 1))) (x (ix2 k (i 0))))
  pointwise [Cert.ReferenceOutDwIdeal.Read.val_main_v5, Cert.ReferenceOutDwIdeal.Read.val_main_v4, Cert.ReferenceOutDwIdeal.Read.val_main_v3, Cert.ReferenceOutDwIdeal.Read.val_main_v1]

/-- The array of results at the end is the reference's. -/
theorem final : (dats m 0 c).arrAt 2 cfg0.N
    = Cert.ReferenceOutDwIdeal.Read.val_main_v5 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold outsAt0
  frame_out
  refine (block_at _ _ _).trans (Eq.trans ?_ (reference_at _ _ _).symm)
  refine Finset.sum_congr rfl fun k _ => congrArg₂ (· * ·) (congrArg (m ((c.tc : Thread nD τ).loc main_arg0)) ?_) (congrArg (m ((c.tc : Thread nD τ).loc main_arg1)) ?_)
  · blk_ext [index_left, index_out]
  · blk_ext [index_right, index_out]

theorem frame_ideal : Cert.quiescent_KernelOutDwIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

/-- The kernel as printed has the same text, so its frame is this one over the machine's floats. -/
theorem same_text : Cert.quiescent_KernelOutDw = FrameAt Bits := by sl_kernel_rfl

theorem frame_bits : Cert.quiescent_KernelOutDw := same_text.mpr fun m ρ _ => frame m ρ

theorem frame_reference : Cert.quiescent_ReferenceOutDwIdeal := fun m ρ _ =>
  (θ_run Cert.ReferenceOutDwIdeal.defs _ _).mono
    (fun r h => ⟨fun c => (h c).2, sem_eq_zero_of_no_sems (by decide) r.2⟩)
    (Cert.ReferenceOutDwIdeal.Value.run (F := Ideal) m ρ)

/-- The kernel's result at exact arithmetic is the reference's. -/
theorem equal_results : Cert.algebraic_KernelOutDwIdeal_ReferenceOutDwIdeal := by
  intro m g m' g' _ ha
  refine ⟨_, (θ_run _ _ _).mono (fun r h c => ⟨(h c).1.trans (final m c), (h c).2⟩) (Value.run_blocks m g), ?_⟩
  refine (θ_run _ _ _).mono (fun r h c => ?_) (Cert.ReferenceOutDwIdeal.Value.run (F := Ideal) m' g')
  exact ⟨(h c).1.trans ((Cert.ReferenceOutDwIdeal.Read.val_main_v5_eq _ _).trans
    (congr (congrArg (Cert.ReferenceOutDwIdeal.Read.val_main_v5 (F := Ideal)) (ha c).1) (ha c).2)), (h c).2⟩

end Cert.KernelOutDwIdeal.Call

end
-- ==== Proof.CallInDw.lean ====
module

public import proofs.«01_k».proof.Defs
public import proofs.«01_k».proof.Proof.Gen.KernelInDw
public import proofs.«01_k».proof.Proof.Gen.KernelInDwIdeal
public import proofs.«01_k».proof.Proof.Gen.KernelInDwIdeal.Skeleton
public import proofs.«01_k».proof.Proof.Gen.KernelInDwIdeal.Launch
public import proofs.«01_k».proof.Proof.Gen.KernelInDwIdeal.Points
public import proofs.«01_k».proof.Proof.Gen.KernelInDwIdeal.Frame
public import proofs.«01_k».proof.Proof.Gen.KernelInDwIdeal.Value
public import proofs.«01_k».proof.Proof.Gen.ReferenceInDwIdeal
public import proofs.«01_k».proof.Proof.Gen.ReferenceInDwIdeal.Run
public import proofs.«01_k».proof.Proof.Gen.ReferenceInDwIdeal.Read
public import Idealize.ShloMosaic.Adequacy
public import Idealize.ShloMosaic.Init
public import Idealize.ShloMosaic.Lib.Pointwise
public import Idealize.ShloMosaic.Lib.Pipeline.ValueKit

@[expose] public section

noncomputable section

/-! # The gradient of the weights of the input projection

Each of the 2 steps makes one block of rows, summed over all the positions.
-/

namespace Cert.KernelInDwIdeal.Call

open Cert.KernelInDwIdeal Cert.KernelInDwIdeal.Gen Idealize.ShloMosaic Idealize.ShloMosaic.TcCoe Idealize.ShloMosaic.Tactic Idealize.SL.Sem

theorem index_left : ∀ t : Fin cfg0.N, win0_0.index t = ![0, (grid0.coords t 0).val] := by decide +kernel
theorem index_right : ∀ t : Fin cfg0.N, win0_1.index t = ![0, 0] := by decide +kernel
theorem index_out : ∀ t : Fin cfg0.N, win0_2.index t = ![(grid0.coords t 0).val, 0] := by decide +kernel

variable (m : (ℓ : Loc nD τ sig) → Buf (Elt Ideal) ℓ) (c : Dev nD)

/-- One block of the product is the sum over all the positions. -/
theorem block_at (x : FVec Ideal S4096x640 .bf16) (w : FVec Ideal S4096x1024 .bf16) (y : S640x1024.Idx) :
    k0_pay1 (F := Ideal) x w y = ∑ k : Fin 4096, x (ix2 k (y 0)) * w (ix2 k (y 1)) := by
  pointwise [k0_pay1]

/-- The reference's element is the same sum. -/
theorem reference_at (x : FVec Ideal S4096x1280 .bf16) (w : FVec Ideal S4096x1024 .bf16) (i : S1280x1024.Idx) :
    Cert.ReferenceInDwIdeal.Read.val_main_v7 (F := Ideal) x w i = ∑ k : Fin 4096, x (ix2 k (i 0)) * w (ix2 k (i 1)) := by
  pointwise [Cert.ReferenceInDwIdeal.Read.val_main_v7, Cert.ReferenceInDwIdeal.Read.val_main_v6, Cert.ReferenceInDwIdeal.Read.val_main_v5, Cert.ReferenceInDwIdeal.Read.val_main_v4, Cert.ReferenceInDwIdeal.Read.val_main_v3, Cert.ReferenceInDwIdeal.Read.val_main_v2, Cert.ReferenceInDwIdeal.Read.val_main_v1]

/-- The array of results at the end is the reference's. -/
theorem final : (dats m 0 c).arrAt 2 cfg0.N
    = Cert.ReferenceInDwIdeal.Read.val_main_v7 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold outsAt0
  frame_out
  refine (block_at _ _ _).trans (Eq.trans ?_ (reference_at _ _ _).symm)
  refine Finset.sum_congr rfl fun k _ => congrArg₂ (· * ·) (congrArg (m ((c.tc : Thread nD τ).loc main_arg0)) ?_) (congrArg (m ((c.tc : Thread nD τ).loc main_arg1)) ?_)
  · blk_ext [index_left, index_out]
  · blk_ext [index_right, index_out]

theorem frame_ideal : Cert.quiescent_KernelInDwIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

/-- The kernel as printed has the same text, so its frame is this one over the machine's floats. -/
theorem same_text : Cert.quiescent_KernelInDw = FrameAt Bits := by sl_kernel_rfl

theorem frame_bits : Cert.quiescent_KernelInDw := same_text.mpr fun m ρ _ => frame m ρ

theorem frame_reference : Cert.quiescent_ReferenceInDwIdeal := fun m ρ _ =>
  (θ_run Cert.ReferenceInDwIdeal.defs _ _).mono
    (fun r h => ⟨fun c => (h c).2, sem_eq_zero_of_no_sems (by decide) r.2⟩)
    (Cert.ReferenceInDwIdeal.Value.run (F := Ideal) m ρ)

/-- The kernel's result at exact arithmetic is the reference's. -/
theorem equal_results : Cert.algebraic_KernelInDwIdeal_ReferenceInDwIdeal := by
  intro m g m' g' _ ha
  refine ⟨_, (θ_run _ _ _).mono (fun r h c => ⟨(h c).1.trans (final m c), (h c).2⟩) (Value.run_blocks m g), ?_⟩
  refine (θ_run _ _ _).mono (fun r h c => ?_) (Cert.ReferenceInDwIdeal.Value.run (F := Ideal) m' g')
  exact ⟨(h c).1.trans ((Cert.ReferenceInDwIdeal.Read.val_main_v7_eq _ _).trans
    (congr (congrArg (Cert.ReferenceInDwIdeal.Read.val_main_v7 (F := Ideal)) (ha c).1) (ha c).2)), (h c).2⟩

end Cert.KernelInDwIdeal.Call

end
-- ==== Proof.RmsGrad.lean ====
module

public import Idealize.ShloMosaic.Lib.Pointwise

@[expose] public section

noncomputable section

/-! # The gradient of a norm by the root of the mean square

One row of the norm: `x * r * g`, where `r` is the inverse root of the mean square and a small number. The derivative
of `r` is written here with `r / v`, there with `r * r * r`; the two are equal where `v` is positive. Every
statement holds for all the extended reals.
-/

namespace Cert.Rms

open Idealize.ShloMosaic

/-- A square is not negative. -/
theorem square_nonneg (x : EReal) : 0 ≤ x * x := by
  rcases le_total 0 x with h | h
  · exact mul_nonneg h h
  · have h' : 0 ≤ -x := EReal.neg_nonneg.mpr h
    have := mul_nonneg h' h'
    rwa [neg_mul_neg] at this

/-- Division by a number other than zero is multiplication by its inverse. -/
theorem div_coe (x : EReal) (c : ℝ) (hc : c ≠ 0) : Ideal.div x (c : EReal) = x * ((c⁻¹ : ℝ) : EReal) := by
  unfold Ideal.div
  rw [if_neg (by exact_mod_cast hc), EReal.coe_inv]

/-- The inverse root over its number is the cube of the inverse root. -/
theorem root_div (v : EReal) (hv : 0 < v) :
    Ideal.div (Ideal.rsqrt v) v = Ideal.rsqrt v * Ideal.rsqrt v * Ideal.rsqrt v := by
  induction v with
  | bot => exact absurd hv (by simp)
  | top => simp [Ideal.div]
  | coe v =>
    have h : 0 < v := by exact_mod_cast hv
    rw [div_coe _ _ h.ne', Ideal.rsqrt_coe, if_neg (not_lt.mpr h.le), if_neg h.ne', ← EReal.coe_mul, ← EReal.coe_mul, ← EReal.coe_mul]
    refine congrArg _ ?_
    rw [mul_assoc, ← mul_inv (√v) (√v), Real.mul_self_sqrt h.le]

/-- Two halves with the sign changed make the number with the sign changed. -/
theorem halves (p : EReal) : ((-(1 / 2) : ℝ) : EReal) * p + ((-(1 / 2) : ℝ) : EReal) * p = -p := by
  induction p with
  | bot => rw [EReal.coe_mul_bot_of_neg (by norm_num)]; simp
  | top => rw [EReal.coe_mul_top_of_neg (by norm_num)]; simp
  | coe p => rw [← EReal.coe_mul, ← EReal.coe_add, ← EReal.coe_neg]; refine congrArg _ ?_; ring

/-- The mean square with the small number is positive. -/
theorem mean_pos (s : EReal) (c e : ℝ) (hc : 0 < c) (he : 0 < e) (hs : 0 ≤ s) : 0 < Ideal.div s (c : EReal) + (e : EReal) := by
  rw [div_coe _ _ hc.ne']
  refine lt_of_lt_of_le (by exact_mod_cast he : (0 : EReal) < e) (le_add_of_nonneg_left ?_)
  exact mul_nonneg hs (by exact_mod_cast (inv_pos.mpr hc).le)

/-- One element of the gradient: the two parts of the derivative of the inverse root, each a half, are the whole. -/
theorem element (v x a M : EReal) (c : ℝ) (hc : 0 < c) (hv : 0 < v) :
    a * Ideal.rsqrt v + x * Ideal.div (M * (((-(1 / 2) : ℝ) : EReal) * Ideal.div (Ideal.rsqrt v) v)) (c : EReal)
      + Ideal.div (M * (((-(1 / 2) : ℝ) : EReal) * Ideal.div (Ideal.rsqrt v) v)) (c : EReal) * x
    = Ideal.rsqrt v * a - x * (Ideal.rsqrt v * Ideal.rsqrt v * Ideal.rsqrt v) * Ideal.div M (c : EReal) := by
  rw [root_div v hv, div_coe _ _ hc.ne', div_coe _ _ hc.ne', add_assoc, mul_comm a, sub_eq_add_neg]
  refine congrArg (Ideal.rsqrt v * a + ·) (Eq.trans ?_ (halves (x * (Ideal.rsqrt v * Ideal.rsqrt v * Ideal.rsqrt v) * (M * ((c⁻¹ : ℝ) : EReal)))))
  refine congrArg₂ (· + ·) ?_ ?_ <;> ac_rfl

theorem word_1024 : Ideal.ofBits .f32 0x44800000#32 = ((1024 : ℝ) : EReal) := by
  rw [show Ideal.ofBits .f32 0x44800000#32 = _ from by simp [Ideal.ofBits, Ideal.ieee]; rfl]
  norm_cast
  norm_num

theorem word_512 : Ideal.ofBits .f32 0x44000000#32 = ((512 : ℝ) : EReal) := by
  rw [show Ideal.ofBits .f32 0x44000000#32 = _ from by simp [Ideal.ofBits, Ideal.ieee]; rfl]
  norm_cast
  norm_num

theorem word_half : Ideal.ofBits .f32 0x3F000000#32 = ((1 / 2 : ℝ) : EReal) := by
  rw [show Ideal.ofBits .f32 0x3F000000#32 = _ from by simp [Ideal.ofBits, Ideal.ieee]; rfl]
  norm_cast
  norm_num

theorem word_minus_half : Ideal.ofBits .f32 0xBF000000#32 = ((-(1 / 2) : ℝ) : EReal) := by
  rw [show Ideal.ofBits .f32 0xBF000000#32 = _ from by simp [Ideal.ofBits, Ideal.ieee]; rfl]
  norm_cast
  norm_num

theorem word_one : Ideal.ofBits .f32 0x3F800000#32 = ((1 : ℝ) : EReal) := by
  rw [show Ideal.ofBits .f32 0x3F800000#32 = _ from by simp [Ideal.ofBits, Ideal.ieee]; rfl]
  norm_cast
  norm_num

theorem word_two : Ideal.ofBits .f32 0x40000000#32 = ((2 : ℝ) : EReal) := by
  rw [show Ideal.ofBits .f32 0x40000000#32 = _ from by simp [Ideal.ofBits, Ideal.ieee]; rfl]
  norm_cast
  norm_num

theorem word_share : Ideal.ofBits .f32 0x3A800000#32 = ((1 / 1024 : ℝ) : EReal) := by
  rw [show Ideal.ofBits .f32 0x3A800000#32 = _ from by simp [Ideal.ofBits, Ideal.ieee]; rfl]
  norm_cast
  norm_num

/-- The derivative of half the mean of the squares: half, the mean's share, and the two of the square. -/
theorem word_mean (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [word_half, word_one, word_1024, word_two, word_share, ← EReal.coe_mul, div_coe _ _ (by norm_num), ← EReal.coe_mul, ← mul_assoc,
    ← EReal.coe_mul, mul_comm]
  refine congrArg (e * ·) (congrArg _ ?_)
  norm_num

/-- A number that is not negative goes into a sum of such numbers. -/
theorem mul_sum_nonneg {n : ℕ} (c : EReal) (f : Fin n → EReal) (hf : ∀ k, 0 ≤ f k) : ∑ k, c * f k = c * ∑ k, f k := by
  induction n with
  | zero => simp
  | succ n ih =>
    rw [Fin.sum_univ_succ, Fin.sum_univ_succ, ih _ fun k => hf k.succ,
      EReal.left_distrib_of_nonneg (hf 0) (Finset.sum_nonneg fun k _ => hf k.succ)]

/-- The small number added to the mean square. -/
theorem word_small : ∃ e : ℝ, 0 < e ∧ Ideal.ofBits .f32 0x358637BD#32 = (e : EReal) := by
  rw [show Ideal.ofBits .f32 0x358637BD#32 = _ from by simp [Ideal.ofBits, Ideal.ieee]; rfl]
  exact ⟨8796093 * (2 ^ 43)⁻¹, by norm_num, by norm_cast⟩

/-- The inverse root of the mean square of a row, the mean by the word `w`. -/
def root {n : ℕ} (w : EReal) (X : Fin n → EReal) : EReal :=
  Ideal.rsqrt (Ideal.div (∑ k, X k * X k) w + Ideal.ofBits .f32 0x358637BD#32)

/-- The gradient of the row `X`, of which `A` is the gradient of the normalised row. -/
def gradient {n : ℕ} (w : EReal) (X A : Fin n → EReal) (x a : EReal) : EReal :=
  root w X * a - x * (root w X * root w X * root w X) * Ideal.div (∑ k, A k * X k) w

theorem root_congr {n : ℕ} {w : EReal} {X X' : Fin n → EReal} (hX : ∀ k, X k = X' k) : root w X = root w X' := by
  rw [show X = X' from funext hX]

theorem gradient_congr {n : ℕ} {w : EReal} {X X' A A' : Fin n → EReal} {x x' a a' : EReal} (hX : ∀ k, X k = X' k)
    (hA : ∀ k, A k = A' k) (hx : x = x') (ha : a = a') : gradient w X A x a = gradient w X' A' x' a' := by
  rw [show X = X' from funext hX, show A = A' from funext hA, hx, ha]

/-- The part of the derivative that comes through the inverse root, as the chain rule writes it: twice it is added. -/
def through {n : ℕ} (w : EReal) (X A : Fin n → EReal) : EReal :=
  ∑ _i : Fin 1, Ideal.div ((∑ k, X k * A k) * (Ideal.ofBits .f32 0xBF000000#32 *
    Ideal.div (root w X) (Ideal.div (∑ k, X k * X k) w + Ideal.ofBits .f32 0x358637BD#32))) w

/-- The chain rule's sum is the gradient. -/
theorem chain {n : ℕ} (w : EReal) (c : ℝ) (hw : w = (c : EReal)) (hc : 0 < c) (X A : Fin n → EReal) (x a : EReal) :
    a * root w X + x * through w X A + through w X A * x = gradient w X A x a := by
  obtain ⟨e, he, hE⟩ := word_small
  have hs : 0 ≤ ∑ k, X k * X k := Finset.sum_nonneg fun k _ => square_nonneg (X k)
  have hv := mean_pos (∑ k, X k * X k) c e hc he hs
  unfold through gradient root
  rw [Fin.sum_univ_one, hw, hE, word_minus_half, show ∑ k, A k * X k = ∑ k, X k * A k from Finset.sum_congr rfl fun k _ => mul_comm _ _]
  exact element _ x a _ c hc hv

/-- A norm's value at one place of an array of rows. -/
def norm {n l : ℕ} (w : EReal) (x : FVec Ideal ⟨2, ![n, l]⟩ .f32) (g : FVec Ideal ⟨2, ![1, l]⟩ .f32) (r : Fin n) (j : Fin l) : EReal :=
  x (ix2 r j) * root w (fun k => x (ix2 r k)) * g (ix2 0 j)

theorem norm_congr {n n' l : ℕ} {w : EReal} {x : FVec Ideal ⟨2, ![n, l]⟩ .f32} {x' : FVec Ideal ⟨2, ![n', l]⟩ .f32}
    {g g' : FVec Ideal ⟨2, ![1, l]⟩ .f32} {r : Fin n} {r' : Fin n'} (hx : ∀ k, x (ix2 r k) = x' (ix2 r' k)) (hg : ∀ k, g (ix2 0 k) = g' (ix2 0 k))
    (j : Fin l) : norm w x g r j = norm w x' g' r' j :=
  congrArg₂ (· * ·) (congrArg₂ (· * ·) (hx j) (root_congr hx)) (hg j)

end Cert.Rms

end
-- ==== Proof.CallInDx.lean ====
module

public import proofs.«01_k».proof.Defs
public import proofs.«01_k».proof.Proof.Gen.KernelInDx
public import proofs.«01_k».proof.Proof.Gen.KernelInDxIdeal
public import proofs.«01_k».proof.Proof.Gen.KernelInDxIdeal.Skeleton
public import proofs.«01_k».proof.Proof.Gen.KernelInDxIdeal.Launch
public import proofs.«01_k».proof.Proof.Gen.KernelInDxIdeal.Points
public import proofs.«01_k».proof.Proof.Gen.KernelInDxIdeal.Frame
public import proofs.«01_k».proof.Proof.Gen.KernelInDxIdeal.Value
public import proofs.«01_k».proof.Proof.Gen.ReferenceInDxIdeal
public import proofs.«01_k».proof.Proof.Gen.ReferenceInDxIdeal.Run
public import proofs.«01_k».proof.Proof.Gen.ReferenceInDxIdeal.Read
public import proofs.«01_k».proof.Proof.RmsGrad
public import Idealize.ShloMosaic.Adequacy
public import Idealize.ShloMosaic.Init
public import Idealize.ShloMosaic.Lib.Pointwise
public import Idealize.ShloMosaic.Lib.Pipeline.ValueKit

@[expose] public section

noncomputable section

/-! # The gradients of the residual stream and of the norm's gain through the input projection

Each of the 8 steps makes 512 rows of the gradient of the stream, and adds its rows' part to the gradient of the gain.
-/

namespace Cert.KernelInDxIdeal.Call

open Cert.KernelInDxIdeal Cert.KernelInDxIdeal.Gen Idealize.ShloMosaic Idealize.ShloMosaic.TcCoe Idealize.ShloMosaic.Tactic Idealize.SL.Sem

theorem index : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- One row of the product: the gradient of the norm's output. -/
def inner {n : ℕ} (p : FVec Ideal ⟨2, ![n, 1280]⟩ .bf16) (w : FVec Ideal S1280x1024 .bf16) (r : Fin n) (j : Fin 1024) : EReal :=
  ∑ k : Fin 1280, p (ix2 r k) * w (ix2 k j)

theorem inner_congr {n n' : ℕ} {p : FVec Ideal ⟨2, ![n, 1280]⟩ .bf16} {p' : FVec Ideal ⟨2, ![n', 1280]⟩ .bf16} {w w' : FVec Ideal S1280x1024 .bf16}
    {r : Fin n} {r' : Fin n'} {j j' : Fin 1024} (hp : ∀ k, p (ix2 r k) = p' (ix2 r' k)) (hw : ∀ k, w (ix2 k j) = w' (ix2 k j')) :
    inner p w r j = inner p' w' r' j' :=
  Finset.sum_congr rfl fun k _ => congrArg₂ (· * ·) (hp k) (hw k)

/-- A step's rows: the gradient of the row, and the gradient that came along the stream. -/
theorem rows_at (p : FVec Ideal S512x1280 .bf16) (w : FVec Ideal S1280x1024 .bf16) (x : FVec Ideal S512x1024 .f32)
    (g : FVec Ideal S1x1024 .f32) (d : FVec Ideal S512x1024 .f32) (y : S512x1024.Idx) :
    k0_pay6 (F := Ideal) p w x g d y = Rms.gradient (Ideal.ofBits .f32 0x44800000#32) (fun k : Fin 1024 => x (ix2 (y 0) k))
      (fun k => inner p w (y 0) k * g (ix2 0 k)) (x y) (inner p w (y 0) (y 1) * g (ix2 0 (y 1))) + d y := by
  unfold Rms.gradient Rms.root inner
  pointwise [k0_pay6, k0_pay3, k0_pay4]

/-- A step's part of the gradient of the gain. -/
def part (p : FVec Ideal S512x1280 .bf16) (w : FVec Ideal S1280x1024 .bf16) (x : FVec Ideal S512x1024 .f32) (j : Fin 1024) : EReal :=
  ∑ r : Fin 512, inner p w r j * x (ix2 r j) * Rms.root (Ideal.ofBits .f32 0x44800000#32) (fun k : Fin 1024 => x (ix2 r k))

theorem added (p : FVec Ideal S512x1280 .bf16) (w : FVec Ideal S1280x1024 .bf16) (x : FVec Ideal S512x1024 .f32)
    (a : FVec Ideal S1x1024 .f32) (y : S1x1024.Idx) : k0_pay2 (F := Ideal) (k0_pay5 p w x) a y = a y + part p w x (y 1) := by
  unfold part Rms.root inner
  pointwise [k0_pay2, k0_pay5, k0_pay3, k0_pay4]

theorem zeros (y : S1x1024.Idx) : k0_pay1 (F := Ideal) y = 0 := by pointwise [k0_pay1]

section
open Cert.ReferenceInDxIdeal.Read

/-- The reference's rows, by the chain rule. -/
theorem reference_rows (p : FVec Ideal S4096x1280 .bf16) (w : FVec Ideal S1280x1024 .bf16) (x : FVec Ideal S4096x1024 .f32)
    (g : FVec Ideal S1x1024 .f32) (d : FVec Ideal S4096x1024 .f32) (i : S4096x1024.Idx) :
    val_main_v42 (F := Ideal) p w x g d i = Rms.gradient (Ideal.ofBits .f32 0x44800000#32) (fun k : Fin 1024 => x (ix2 (i 0) k))
      (fun k => inner p w (i 0) k * g (ix2 0 k)) (x i) (inner p w (i 0) (i 1) * g (ix2 0 (i 1))) + d i := by
  rw [← Rms.chain _ 1024 Rms.word_1024 (by norm_num), add_comm _ (d i), ← add_assoc, ← add_assoc]
  unfold Rms.through Rms.root inner
  pointwise [val_main_v42, val_main_v41, val_main_v40, val_main_v39, val_main_v33, val_main_v32, val_main_v31, val_main_v38, val_main_v37, val_main_v36, val_main_v35, val_main_cst_7, val_main_cst_6, val_main_v34, val_main_v30, val_main_v29, val_main_v28, val_main_cst_5, val_main_v26, val_main_v25, val_main_v14, val_main_v0, val_main_v21, val_main_v20, val_main_v18, val_main_v17, val_main_v11, val_main_v9, val_main_v10, val_main_cst_2, val_main_v8, val_main_v7, val_main_v6, val_main_cst_1, val_main_v5, val_main_v4, val_main_cst_0, val_main_v3, val_main_v2, val_main_cst, val_main_v1]

/-- The reference's gradient of the gain. -/
theorem reference_gain (p : FVec Ideal S4096x1280 .bf16) (w : FVec Ideal S1280x1024 .bf16) (x : FVec Ideal S4096x1024 .f32) (i : S1x1024.Idx) :
    val_main_v43 (F := Ideal) p w x i = ∑ r : Fin 4096, inner p w r (i 1) * x (ix2 r (i 1))
      * Rms.root (Ideal.ofBits .f32 0x44800000#32) (fun k : Fin 1024 => x (ix2 r k)) := by
  unfold Rms.root inner
  pointwise [val_main_v43, val_main_v27, val_main_cst_4, val_main_v24, val_main_v23, val_main_cst_3, val_main_v22, val_main_v13, val_main_v12, val_main_v21, val_main_v20, val_main_v18, val_main_v17, val_main_v8, val_main_v7, val_main_v6, val_main_cst_1, val_main_v5, val_main_v4, val_main_cst_0, val_main_v3, val_main_v2, val_main_cst, val_main_v1]
  rw [Fin.sum_univ_one]
  refine Finset.sum_congr rfl fun r _ => ?_
  rw [mul_comm, mul_assoc]

end

variable (m : (ℓ : Loc nD τ sig) → Buf (Elt Ideal) ℓ) (c : Dev nD)

/-- What a step leaves of the rows is the same at the first step and at the later ones. -/
theorem rows_left (t : Fin cfg0.N) : (outsAt0 m c t.val t.isLt).1
    = k0_pay6 (F := Ideal) (iblk m c 0 t) (iblk m c 1 t) (iblk m c 2 t) (iblk m c 3 t) (iblk m c 4 t) := by
  by_cases h0 : t.val % 8 = 0
  · rw [outsAt0_A m c t h0]
    frame_out
  · rw [outsAt0_B m c t h0]
    frame_out

theorem final_rows : (dats m 0 c).arrAt 5 cfg0.N
    = Cert.ReferenceInDxIdeal.Read.val_main_v42 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5, rows_left]
  refine (rows_at _ _ _ _ _ _).trans (Eq.trans ?_ (reference_rows _ _ _ _ _ _).symm)
  refine congrArg₂ (· + ·) (Rms.gradient_congr (fun k => ?_) (fun k => congrArg₂ (· * ·) (inner_congr (fun l => ?_) fun l => ?_) ?_) ?_
    (congrArg₂ (· * ·) (inner_congr (fun l => ?_) fun l => ?_) ?_)) ?_ <;> blk_ext [iblk, V, index t]

theorem final_gain : (dats m 0 c).arrAt 6 cfg0.N
    = Cert.ReferenceInDxIdeal.Read.val_main_v43 (F := Ideal) (m ((c.tc : Thread nD τ).loc main_arg0)) (m ((c.tc : Thread nD τ).loc main_arg1))
      (m ((c.tc : Thread nD τ).loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) _
    (fun t h j => by rw [outsAt0_A m c t h]; frame_out; rw [added, zeros])
    (fun t h j => by rw [outsAt0_B m c t h]; frame_out; rw [added])
    (le_of_eq N_0) t0_7 rfl j, zero_add, reference_gain]
  unfold part
  refine Fin.sum_mul_add_congr fun t r hl => ?_
  refine congrArg₂ (· * ·) (congrArg₂ (· * ·) (inner_congr (fun l => ?_) fun l => ?_) ?_) (Rms.root_congr fun k => ?_) <;> blk_ext [iblk, V, index t]

theorem frame_ideal : Cert.quiescent_KernelInDxIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The kernel as printed has the same text, so its frame is this one over the machine's floats. -/
theorem same_text : Cert.quiescent_KernelInDx = FrameAt Bits := by sl_kernel_rfl

theorem frame_bits : Cert.quiescent_KernelInDx := same_text.mpr fun m ρ _ => frame m ρ

theorem frame_reference : Cert.quiescent_ReferenceInDxIdeal := fun m ρ _ =>
  (θ_run Cert.ReferenceInDxIdeal.defs _ _).mono
    (fun r h => ⟨fun c => (h c).2.2, sem_eq_zero_of_no_sems (by decide) r.2⟩)
    (Cert.ReferenceInDxIdeal.Value.run (F := Ideal) m ρ)

/-- The kernel's results at exact arithmetic are the reference's. -/
theorem equal_results : Cert.algebraic_KernelInDxIdeal_ReferenceInDxIdeal := by
  intro m g m' g' _ ha
  refine ⟨_, _, (θ_run _ _ _).mono (fun r h c => ⟨(h c).1.trans (final_rows m c), (h c).2.1.trans (final_gain m c), (h c).2.2⟩)
    (Value.run_blocks m g), ?_⟩
  refine (θ_run _ _ _).mono (fun r h c => ?_) (Cert.ReferenceInDxIdeal.Value.run (F := Ideal) m' g')
  obtain ⟨a0, a1, a2, a3, a4⟩ := ha c
  refine ⟨(h c).1.trans ((Cert.ReferenceInDxIdeal.Read.val_main_v42_eq _ _).trans ?_),
    (h c).2.1.trans ((Cert.ReferenceInDxIdeal.Read.val_main_v43_eq _ _ _).trans ?_), (h c).2.2⟩
  · exact congr (congr (congr (congr (congrArg (Cert.ReferenceInDxIdeal.Read.val_main_v42 (F := Ideal)) a0) a1) a2) a3) a4
  · exact congr (congr (congrArg (Cert.ReferenceInDxIdeal.Read.val_main_v43 (F := Ideal)) a0) a1) a2

end Cert.KernelInDxIdeal.Call

end
-- ==== Proof.CallOutDx.lean ====
module

public import proofs.«01_k».proof.Defs
public import proofs.«01_k».proof.Proof.Gen.KernelOutDx
public import proofs.«01_k».proof.Proof.Gen.KernelOutDxIdeal
public import proofs.«01_k».proof.Proof.Gen.KernelOutDxIdeal.Skeleton
public import proofs.«01_k».proof.Proof.Gen.KernelOutDxIdeal.Launch
public import proofs.«01_k».proof.Proof.Gen.KernelOutDxIdeal.Points
public import proofs.«01_k».proof.Proof.Gen.KernelOutDxIdeal.Frame
public import proofs.«01_k».proof.Proof.Gen.KernelOutDxIdeal.Value
public import proofs.«01_k».proof.Proof.Gen.ReferenceOutDxIdeal
public import proofs.«01_k».proof.Proof.Gen.ReferenceOutDxIdeal.Run
public import proofs.«01_k».proof.Proof.Gen.ReferenceOutDxIdeal.Read
public import proofs.«01_k».proof.Proof.RmsGrad
public import Idealize.ShloMosaic.Adequacy
public import Idealize.ShloMosaic.Init
public import Idealize.ShloMosaic.Lib.Pointwise
public import Idealize.ShloMosaic.Lib.Pipeline.ValueKit

@[expose] public section

noncomputable section

/-! # The gradients of the two branches and of their norms' gains through the output projection

Each of the 8 steps makes 512 rows of both gradients, and adds its rows' part to the gradients of the gains. The two halves
of the projection's columns go through one and the same computation, each with its own norm.
-/

namespace Cert.KernelOutDxIdeal.Call

open Cert.KernelOutDxIdeal Cert.KernelOutDxIdeal.Gen Idealize.ShloMosaic Idealize.ShloMosaic.TcCoe Idealize.ShloMosaic.Tactic Idealize.SL.Sem

theorem index : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

/-- The word 512, by which a mean divides. -/
abbrev W : EReal := Ideal.ofBits .f32 0x44000000#32

/-- The gradient of a branch's row, from the gradient of its norm. -/
def rows {n : ℕ} (d x : FVec Ideal ⟨2, ![n, 512]⟩ .f32) (g : FVec Ideal S1x512 .f32) (y : Shape.Idx ⟨2, ![n, 512]⟩) : EReal :=
  Rms.gradient W (fun k => x (ix2 (y 0) k)) (fun k => d (ix2 (y 0) k) * g (ix2 0 k)) (x y) (d (ix2 (y 0) (y 1)) * g (ix2 0 (y 1)))

/-- A row's part of the gradient of the gain. -/
def gain {n : ℕ} (d x : FVec Ideal ⟨2, ![n, 512]⟩ .f32) (r : Fin n) (j : Fin 512) : EReal :=
  d (ix2 r j) * x (ix2 r j) * Rms.root W (fun k => x (ix2 r k))

theorem rows_congr {n n' : ℕ} {d x : FVec Ideal ⟨2, ![n, 512]⟩ .f32} {d' x' : FVec Ideal ⟨2, ![n', 512]⟩ .f32} {g g' : FVec Ideal S1x512 .f32}
    {y : Shape.Idx ⟨2, ![n, 512]⟩} {r : Fin n'} (hd : ∀ k, d (ix2 (y 0) k) = d' (ix2 r k)) (hx : ∀ k, x (ix2 (y 0) k) = x' (ix2 r k))
    (hy : x y = x' (ix2 r (y 1))) (hg : ∀ k, g (ix2 0 k) = g' (ix2 0 k)) : rows d x g y = rows d' x' g' (ix2 r (y 1)) :=
  Rms.gradient_congr hx (fun k => congrArg₂ (· * ·) (hd k) (hg k)) hy (congrArg₂ (· * ·) (hd (y 1)) (hg (y 1)))

theorem gain_congr {n n' : ℕ} {d x : FVec Ideal ⟨2, ![n, 512]⟩ .f32} {d' x' : FVec Ideal ⟨2, ![n', 512]⟩ .f32}
    {r : Fin n} {r' : Fin n'} (hd : ∀ k, d (ix2 r k) = d' (ix2 r' k)) (hx : ∀ k, x (ix2 r k) = x' (ix2 r' k)) (j : Fin 512) :
    gain d x r j = gain d' x' r' j :=
  congrArg₂ (· * ·) (congrArg₂ (· * ·) (hd j) (hx j)) (Rms.root_congr hx)

/-- The columns of the first branch, and those of the second. -/
def low (j : Fin 512) : Fin 1024 := ⟨j.val, by omega⟩
def high (j : Fin 512) : Fin 1024 := ⟨512 + j.val, by omega⟩

section
variable (p : FVec Ideal S512x1024 .bf16) (w : FVec Ideal S1024x1024 .bf16) (x : FVec Ideal S512x512 .f32) (g a : FVec Ideal S1x512 .f32)

theorem product_at (y : S512x1024.Idx) : k0_pay4 (F := Ideal) p w y = ∑ k : Fin 1024, p (ix2 (y 0) k) * w (ix2 (y 1) k) := by
  pointwise [k0_pay4]

theorem low_at (r k : Fin 512) : k0_pay5 (F := Ideal) p w (ix2 r k) = k0_pay4 (F := Ideal) p w (ix2 r (low k)) := by
  refine congrArg (k0_pay4 (F := Ideal) p w) ?_
  blk_ext [low] <;> rfl

theorem high_at (q : FVec Ideal S512x1024 .f32) (r k : Fin 512) : k0_pay10 (F := Ideal) q (ix2 r k) = q (ix2 r (high k)) := by
  refine congrArg q ?_
  blk_ext [high] <;> rfl

theorem low_rows_at (y : S512x512.Idx) : k0_pay7 (F := Ideal) p w x g y = rows (k0_pay5 (F := Ideal) p w) x g y := by
  unfold rows Rms.gradient Rms.root
  pointwise [k0_pay7, k0_pay6]

theorem high_rows_at (q : FVec Ideal S512x1024 .f32) (y : S512x512.Idx) : k0_pay12 (F := Ideal) q x g y = rows (k0_pay10 (F := Ideal) q) x g y := by
  unfold rows Rms.gradient Rms.root
  pointwise [k0_pay12, k0_pay11]

theorem low_added (y : S1x512.Idx) :
    k0_pay9 (F := Ideal) (k0_pay8 p w x) a y = a y + ∑ r : Fin 512, gain (k0_pay5 (F := Ideal) p w) x r (y 1) := by
  unfold gain Rms.root
  pointwise [k0_pay9, k0_pay8, k0_pay6]

theorem high_added (q : FVec Ideal S512x1024 .f32) (y : S1x512.Idx) :
    k0_pay1 (F := Ideal) (k0_pay13 q x) (k0_pay14 a) y = a y + ∑ r : Fin 512, gain (k0_pay10 (F := Ideal) q) x r (y 1) := by
  unfold gain Rms.root
  pointwise [k0_pay1, k0_pay13, k0_pay14, k0_pay11]

theorem zeros_low (y : S1x512.Idx) : k0_pay2 (F := Ideal) y = 0 := by pointwise [k0_pay2]
theorem zeros_high (y : S1x512.Idx) : k0_pay3 (F := Ideal) y = 0 := by pointwise [k0_pay3]

end

section
open Cert.ReferenceOutDxIdeal.Read

variable (p : FVec Ideal S4096x1024 .bf16) (w : FVec Ideal S1024x1024 .bf16) (x : FVec Ideal S4096x512 .f32) (g : FVec Ideal S1x512 .f32)

theorem reference_product (i : S4096x1024.Idx) :
    val_main_v38 (F := Ideal) p w i = ∑ k : Fin 1024, p (ix2 (i 0) k) * w (ix2 (i 1) k) := by
  pointwise [val_main_v38, val_main_v37, val_main_v35]

theorem reference_low (r : Fin 4096) (k : Fin 512) :
    val_main_v39 (F := Ideal) p w (ix2 r k) = val_main_v38 (F := Ideal) p w (ix2 r (low k)) := by
  refine congrArg (val_main_v38 (F := Ideal) p w) ?_
  blk_ext [low] <;> rfl

theorem reference_high (r : Fin 4096) (k : Fin 512) :
    val_main_v40 (F := Ideal) p w (ix2 r k) = val_main_v38 (F := Ideal) p w (ix2 r (high k)) := by
  refine congrArg (val_main_v38 (F := Ideal) p w) ?_
  blk_ext [high] <;> rfl

/-- The reference's rows of the first branch, by the chain rule. -/
theorem reference_low_rows (i : S4096x512.Idx) : val_main_v80 (F := Ideal) p w x g i = rows (val_main_v39 (F := Ideal) p w) x g i := by
  unfold rows
  rw [← Rms.chain _ 512 Rms.word_512 (by norm_num)]
  unfold Rms.through Rms.root
  pointwise [val_main_v80, val_main_v79, val_main_v78, val_main_v77, val_main_v76, val_main_v75, val_main_cst_16, val_main_v74, val_main_v73, val_main_cst_15, val_main_v72, val_main_v71, val_main_v70, val_main_v69, val_main_v68, val_main_cst_14, val_main_v67, val_main_v65, val_main_v64, val_main_v15, val_main_v0, val_main_v12, val_main_v11, val_main_cst_2, val_main_v10, val_main_v9, val_main_v8, val_main_cst_1, val_main_v7, val_main_v6, val_main_cst_0, val_main_v5, val_main_v4, val_main_v3, val_main_cst, val_main_v2]

/-- The reference's rows of the second branch. -/
theorem reference_high_rows (i : S4096x512.Idx) : val_main_v60 (F := Ideal) p w x g i = rows (val_main_v40 (F := Ideal) p w) x g i := by
  unfold rows
  rw [← Rms.chain _ 512 Rms.word_512 (by norm_num)]
  unfold Rms.through Rms.root
  pointwise [val_main_v60, val_main_v59, val_main_v58, val_main_v57, val_main_v56, val_main_v55, val_main_cst_11, val_main_v54, val_main_v53, val_main_cst_10, val_main_v52, val_main_v51, val_main_v50, val_main_v49, val_main_v48, val_main_cst_9, val_main_v47, val_main_v45, val_main_v44, val_main_v31, val_main_v1, val_main_v28, val_main_v27, val_main_cst_6, val_main_v26, val_main_v25, val_main_v24, val_main_cst_5, val_main_v23, val_main_v22, val_main_cst_4, val_main_v21, val_main_v20, val_main_v19, val_main_cst_3, val_main_v18]

theorem reference_low_gain (i : S1x512.Idx) :
    val_main_v81 (F := Ideal) p w x i = ∑ r : Fin 4096, gain (val_main_v39 (F := Ideal) p w) x r (i 1) := by
  unfold gain Rms.root
  pointwise [val_main_v81, val_main_v66, val_main_cst_13, val_main_v63, val_main_v62, val_main_cst_12, val_main_v61, val_main_v14, val_main_v13, val_main_v9, val_main_v8, val_main_cst_1, val_main_v7, val_main_v6, val_main_cst_0, val_main_v5, val_main_v4, val_main_v3, val_main_cst, val_main_v2]
  rw [Fin.sum_univ_one]
  exact Finset.sum_congr rfl fun r _ => (mul_comm _ _).trans (mul_assoc _ _ _).symm

theorem reference_high_gain (i : S1x512.Idx) :
    val_main_v82 (F := Ideal) p w x i = ∑ r : Fin 4096, gain (val_main_v40 (F := Ideal) p w) x r (i 1) := by
  unfold gain Rms.root
  pointwise [val_main_v82, val_main_v46, val_main_cst_8, val_main_v43, val_main_v42, val_main_cst_7, val_main_v41, val_main_v30, val_main_v29, val_main_v25, val_main_v24, val_main_cst_5, val_main_v23, val_main_v22, val_main_cst_4, val_main_v21, val_main_v20, val_main_v19, val_main_cst_3, val_main_v18]
  rw [Fin.sum_univ_one]
  exact Finset.sum_congr rfl fun r _ => (mul_comm _ _).trans (mul_assoc _ _ _).symm

end

variable (m : (ℓ : Loc nD τ sig) → Buf (Elt Ideal) ℓ) (c : Dev nD)

/-- The row of the array at which a step's row stands. -/
def row (t : Fin cfg0.N) (r : Fin 512) : Fin 4096 := ⟨t.val * 512 + r.val, by have := t.isLt; have : cfg0.N = 8 := N_0; omega⟩

theorem product_eq (t : Fin cfg0.N) (r : Fin 512) (j : Fin 1024) : k0_pay4 (F := Ideal) (iblk m c 0 t) (iblk m c 1 t) (ix2 r j)
    = Cert.ReferenceOutDxIdeal.Read.val_main_v38 (F := Ideal) (m ((c.tc : Thread nD τ).loc main_arg0)) (m ((c.tc : Thread nD τ).loc main_arg1)) (ix2 (row t r) j) := by
  refine (product_at _ _ _).trans (Eq.trans ?_ (reference_product _ _ _).symm)
  refine Finset.sum_congr rfl fun k _ => congrArg₂ (· * ·) ?_ ?_ <;> blk_ext [iblk, V, index t, row]

theorem low_eq (t : Fin cfg0.N) (r : Fin 512) (k : Fin 512) : k0_pay5 (F := Ideal) (iblk m c 0 t) (iblk m c 1 t) (ix2 r k)
    = Cert.ReferenceOutDxIdeal.Read.val_main_v39 (F := Ideal) (m ((c.tc : Thread nD τ).loc main_arg0)) (m ((c.tc : Thread nD τ).loc main_arg1)) (ix2 (row t r) k) :=
  (low_at _ _ r k).trans ((product_eq m c t r (low k)).trans (reference_low _ _ (row t r) k).symm)

theorem high_eq (t : Fin cfg0.N) (r : Fin 512) (k : Fin 512) : k0_pay10 (F := Ideal) (k0_pay4 (iblk m c 0 t) (iblk m c 1 t)) (ix2 r k)
    = Cert.ReferenceOutDxIdeal.Read.val_main_v40 (F := Ideal) (m ((c.tc : Thread nD τ).loc main_arg0)) (m ((c.tc : Thread nD τ).loc main_arg1)) (ix2 (row t r) k) :=
  (high_at _ r k).trans ((product_eq m c t r (high k)).trans (reference_high _ _ (row t r) k).symm)

theorem attention_eq (t : Fin cfg0.N) (i : S512x512.Idx) : iblk m c 2 t i = (m ((c.tc : Thread nD τ).loc main_arg2)) (ix2 (row t (i 0)) (i 1)) := by
  blk_ext [iblk, V, index t, row]

theorem space_eq (t : Fin cfg0.N) (i : S512x512.Idx) : iblk m c 3 t i = (m ((c.tc : Thread nD τ).loc main_arg3)) (ix2 (row t (i 0)) (i 1)) := by
  blk_ext [iblk, V, index t, row]

theorem attention_gain_eq (t : Fin cfg0.N) (i : S1x512.Idx) : iblk m c 4 t i = (m ((c.tc : Thread nD τ).loc main_arg4)) i := by
  blk_ext [iblk, V, index t]

theorem space_gain_eq (t : Fin cfg0.N) (i : S1x512.Idx) : iblk m c 5 t i = (m ((c.tc : Thread nD τ).loc main_arg5)) i := by
  blk_ext [iblk, V, index t]

/-- What a step leaves of the rows is the same at the first step and at the later ones. -/
theorem low_left (t : Fin cfg0.N) : (outsAt0 m c t.val t.isLt).1
    = k0_pay7 (F := Ideal) (iblk m c 0 t) (iblk m c 1 t) (iblk m c 2 t) (iblk m c 4 t) := by
  by_cases h0 : t.val % 8 = 0
  · rw [outsAt0_A m c t h0]
    frame_out
  · rw [outsAt0_B m c t h0]
    frame_out

theorem high_left (t : Fin cfg0.N) : (outsAt0 m c t.val t.isLt).2.1
    = k0_pay12 (F := Ideal) (k0_pay4 (iblk m c 0 t) (iblk m c 1 t)) (iblk m c 3 t) (iblk m c 5 t) := by
  by_cases h0 : t.val % 8 = 0
  · rw [outsAt0_A m c t h0]
    frame_out
  · rw [outsAt0_B m c t h0]
    frame_out

theorem final_low : (dats m 0 c).arrAt 6 cfg0.N = Cert.ReferenceOutDxIdeal.Read.val_main_v80 (F := Ideal) (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 6 _ (by decide +kernel) fun t hf y => ?_
  blk_simp
  rw [after0_6, low_left]
  have he : (win0_6.blk t).view.emb y = ix2 (row t (y 0)) (y 1) := by blk_ext [index t, row]
  refine (low_rows_at _ _ _ _ _).trans (Eq.trans ?_ (Eq.trans (reference_low_rows _ _ _ _ _).symm (congrArg _ he.symm)))
  exact rows_congr (fun k => low_eq m c t (y 0) k) (fun k => attention_eq m c t (ix2 (y 0) k)) (attention_eq m c t y)
    fun k => attention_gain_eq m c t (ix2 0 k)

theorem final_high : (dats m 0 c).arrAt 7 cfg0.N = Cert.ReferenceOutDxIdeal.Read.val_main_v60 (F := Ideal) (m ((c.tc : Thread nD τ).loc main_arg0)) (m ((c.tc : Thread nD τ).loc main_arg1)) (m ((c.tc : Thread nD τ).loc main_arg3)) (m ((c.tc : Thread nD τ).loc main_arg5)) := by
  refine (dats m 0 c).arrAt_eq_of_covers 7 _ (by decide +kernel) fun t hf y => ?_
  blk_simp
  rw [after0_7, high_left]
  have he : (win0_7.blk t).view.emb y = ix2 (row t (y 0)) (y 1) := by blk_ext [index t, row]
  refine (high_rows_at _ _ _ _).trans (Eq.trans ?_ (Eq.trans (reference_high_rows _ _ _ _ _).symm (congrArg _ he.symm)))
  exact rows_congr (fun k => high_eq m c t (y 0) k) (fun k => space_eq m c t (ix2 (y 0) k)) (space_eq m c t y)
    fun k => space_gain_eq m c t (ix2 0 k)

theorem final_low_gain : (dats m 0 c).arrAt 8 cfg0.N = Cert.ReferenceOutDxIdeal.Read.val_main_v81 (F := Ideal) (m ((c.tc : Thread nD τ).loc main_arg0)) (m ((c.tc : Thread nD τ).loc main_arg1)) (m ((c.tc : Thread nD τ).loc main_arg2)) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0) _
    (fun t h j => by rw [outsAt0_A m c t h]; frame_out; rw [low_added, zeros_low])
    (fun t h j => by rw [outsAt0_B m c t h]; frame_out; rw [low_added])
    (le_of_eq N_0) t0_7 rfl j, zero_add, reference_low_gain]
  refine Fin.sum_mul_add_congr fun t r hl => ?_
  exact gain_congr (fun k => low_eq m c t r k) (fun k => attention_eq m c t (ix2 r k)) (j 1)

theorem final_high_gain : (dats m 0 c).arrAt 9 cfg0.N = Cert.ReferenceOutDxIdeal.Read.val_main_v82 (F := Ideal) (m ((c.tc : Thread nD τ).loc main_arg0)) (m ((c.tc : Thread nD τ).loc main_arg1)) (m ((c.tc : Thread nD τ).loc main_arg3)) := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0) _
    (fun t h j => by rw [outsAt0_A m c t h]; frame_out; rw [high_added, zeros_high])
    (fun t h j => by rw [outsAt0_B m c t h]; frame_out; rw [high_added])
    (le_of_eq N_0) t0_7 rfl j, zero_add, reference_high_gain]
  refine Fin.sum_mul_add_congr fun t r hl => ?_
  exact gain_congr (fun k => high_eq m c t r k) (fun k => space_eq m c t (ix2 r k)) (j 1)

theorem frame_ideal : Cert.quiescent_KernelOutDxIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

/-- The kernel as printed has the same text, so its frame is this one over the machine's floats. -/
theorem same_text : Cert.quiescent_KernelOutDx = FrameAt Bits := by sl_kernel_rfl

theorem frame_bits : Cert.quiescent_KernelOutDx := same_text.mpr fun m ρ _ => frame m ρ

theorem frame_reference : Cert.quiescent_ReferenceOutDxIdeal := fun m ρ _ =>
  (θ_run Cert.ReferenceOutDxIdeal.defs _ _).mono
    (fun r h => ⟨fun c => (h c).2.2.2.2, sem_eq_zero_of_no_sems (by decide) r.2⟩)
    (Cert.ReferenceOutDxIdeal.Value.run (F := Ideal) m ρ)

/-- The kernel's results at exact arithmetic are the reference's. -/
theorem equal_results : Cert.algebraic_KernelOutDxIdeal_ReferenceOutDxIdeal := by
  intro m g m' g' _ ha
  refine ⟨_, _, _, _, (θ_run _ _ _).mono (fun r h c => ⟨(h c).1.trans (final_low m c), (h c).2.1.trans (final_high m c),
    (h c).2.2.1.trans (final_low_gain m c), (h c).2.2.2.1.trans (final_high_gain m c), (h c).2.2.2.2⟩) (Value.run_blocks m g), ?_⟩
  refine (θ_run _ _ _).mono (fun r h c => ?_) (Cert.ReferenceOutDxIdeal.Value.run (F := Ideal) m' g')
  obtain ⟨a0, a1, a2, a3, a4, a5⟩ := ha c
  refine ⟨(h c).1.trans ((Cert.ReferenceOutDxIdeal.Read.val_main_v80_eq _ _).trans ?_), (h c).2.1.trans ((Cert.ReferenceOutDxIdeal.Read.val_main_v60_eq _ _).trans ?_),
    (h c).2.2.1.trans ((Cert.ReferenceOutDxIdeal.Read.val_main_v81_eq _ _ _).trans ?_), (h c).2.2.2.1.trans ((Cert.ReferenceOutDxIdeal.Read.val_main_v82_eq _ _ _).trans ?_), (h c).2.2.2.2⟩
  · exact congr (congr (congr (congrArg (Cert.ReferenceOutDxIdeal.Read.val_main_v80 (F := Ideal)) a0) a1) a2) a4
  · exact congr (congr (congr (congrArg (Cert.ReferenceOutDxIdeal.Read.val_main_v60 (F := Ideal)) a0) a1) a3) a5
  · exact congr (congr (congrArg (Cert.ReferenceOutDxIdeal.Read.val_main_v81 (F := Ideal)) a0) a1) a2
  · exact congr (congr (congrArg (Cert.ReferenceOutDxIdeal.Read.val_main_v82 (F := Ideal)) a0) a1) a3

end Cert.KernelOutDxIdeal.Call

end
-- ==== Proof.CallDown.lean ====
module

public import proofs.«01_k».proof.Defs
public import proofs.«01_k».proof.Proof.Gen.KernelDown
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.RmsGrad
public import Idealize.ShloMosaic.Adequacy
public import Idealize.ShloMosaic.Init
public import Idealize.ShloMosaic.Lib.Pointwise
public import Idealize.ShloMosaic.Lib.Pipeline.ValueKit

@[expose] public section

noncomputable section

/-! # The down-projection, the loss and its first gradients

Each of the 8 steps makes 512 rows of the residual stream, and from them their part of the loss, their gradient, and their
part of the gradient of the last norm's gain.
-/

namespace Cert.KernelDownIdeal.Call

open Cert.KernelDownIdeal Cert.KernelDownIdeal.Gen Idealize.ShloMosaic Idealize.ShloMosaic.TcCoe Idealize.ShloMosaic.Tactic Idealize.SL.Sem

theorem index : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] :=
  (by decide +kernel : ∀ t : Fin grid0.N, _)

/-- The word 1024, by which a mean divides. -/
abbrev W : EReal := Ideal.ofBits .f32 0x44800000#32

/-- The difference of the normalised stream from the target. -/
def err {n : ℕ} (s t : FVec Ideal ⟨2, ![n, 1024]⟩ .f32) (g : FVec Ideal S1x1024 .f32) (r : Fin n) (j : Fin 1024) : EReal :=
  s (ix2 r j) * Rms.root W (fun k => s (ix2 r k)) * g (ix2 0 j) - t (ix2 r j)

/-- The gradient of the loss in the normalised stream. -/
def slope {n : ℕ} (s t : FVec Ideal ⟨2, ![n, 1024]⟩ .f32) (g : FVec Ideal S1x1024 .f32) (r : Fin n) (j : Fin 1024) : EReal :=
  err s t g r j * Ideal.ofBits .f32 0x3A800000#32

/-- The gradient of a row of the stream. -/
def rows {n : ℕ} (s t : FVec Ideal ⟨2, ![n, 1024]⟩ .f32) (g : FVec Ideal S1x1024 .f32) (y : Shape.Idx ⟨2, ![n, 1024]⟩) : EReal :=
  Rms.gradient W (fun k => s (ix2 (y 0) k)) (fun k => slope s t g (y 0) k * g (ix2 0 k)) (s y) (slope s t g (y 0) (y 1) * g (ix2 0 (y 1)))

/-- A row's part of the gradient of the gain. -/
def gain {n : ℕ} (s t : FVec Ideal ⟨2, ![n, 1024]⟩ .f32) (g : FVec Ideal S1x1024 .f32) (r : Fin n) (j : Fin 1024) : EReal :=
  slope s t g r j * s (ix2 r j) * Rms.root W (fun k => s (ix2 r k))

/-- A row's mean of the squares. -/
def loss {n : ℕ} (s t : FVec Ideal ⟨2, ![n, 1024]⟩ .f32) (g : FVec Ideal S1x1024 .f32) (r : Fin n) : EReal :=
  Ideal.div (∑ j : Fin 1024, err s t g r j * err s t g r j) W

theorem loss_nonneg {n : ℕ} (s t : FVec Ideal ⟨2, ![n, 1024]⟩ .f32) (g : FVec Ideal S1x1024 .f32) (r : Fin n) : 0 ≤ loss s t g r := by
  unfold loss W
  rw [Rms.word_1024, Rms.div_coe _ _ (by norm_num)]
  exact mul_nonneg (Finset.sum_nonneg fun j _ => Rms.square_nonneg _) (by norm_num)

theorem stream_at (p : FVec Ideal S512x2816 .bf16) (w : FVec Ideal S2816x1024 .bf16) (x : FVec Ideal S512x1024 .f32) (y : S512x1024.Idx) :
    k0_pay6 (F := Ideal) p w x y = ∑ k : Fin 2816, p (ix2 (y 0) k) * w (ix2 k (y 1)) + x y := by
  pointwise [k0_pay6]

theorem rows_at (p : FVec Ideal S512x2816 .bf16) (w : FVec Ideal S2816x1024 .bf16) (x t : FVec Ideal S512x1024 .f32)
    (g : FVec Ideal S1x1024 .f32) (y : S512x1024.Idx) :
    k0_pay3 (F := Ideal) (k0_pay6 p w x) g (k0_pay9 p w x) (k0_pay10 p w x g t) y = rows (k0_pay6 (F := Ideal) p w x) t g y := by
  unfold rows slope err Rms.gradient Rms.root
  pointwise [k0_pay3, k0_pay2, k0_pay9, k0_pay10]

theorem rows_short_at (p : FVec Ideal S512x2816 .bf16) (w : FVec Ideal S2816x1024 .bf16) (x t : FVec Ideal S512x1024 .f32)
    (g : FVec Ideal S1x1024 .f32) (y : S512x1024.Idx) :
    k0_pay4 (F := Ideal) (k0_pay6 p w x) g (k0_pay9 p w x) (k0_pay10 p w x g t) y = rows (k0_pay6 (F := Ideal) p w x) t g y :=
  rows_at p w x t g y

theorem gain_added (p : FVec Ideal S512x2816 .bf16) (w : FVec Ideal S2816x1024 .bf16) (x t : FVec Ideal S512x1024 .f32)
    (g a : FVec Ideal S1x1024 .f32) (y : S1x1024.Idx) :
    k0_pay5 (F := Ideal) (k0_pay6 p w x) (k0_pay9 p w x) (k0_pay10 p w x g t) a y
      = a y + ∑ r : Fin 512, gain (k0_pay6 (F := Ideal) p w x) t g r (y 1) := by
  unfold gain slope err Rms.root
  pointwise [k0_pay5, k0_pay2, k0_pay9, k0_pay10]

theorem loss_added (p : FVec Ideal S512x2816 .bf16) (w : FVec Ideal S2816x1024 .bf16) (x t : FVec Ideal S512x1024 .f32)
    (g : FVec Ideal S1x1024 .f32) (a : FVec Ideal S1x1 .f32) (y : S1x1.Idx) :
    k0_pay1 (F := Ideal) (k0_pay11 a) (k0_pay12 p w x g t) y
      = a y + Ideal.ofBits .f32 0x3F000000#32 * ∑ r : Fin 512, loss (k0_pay6 (F := Ideal) p w x) t g r := by
  unfold loss err Rms.root
  pointwise [k0_pay1, k0_pay11, k0_pay12, k0_pay9, k0_pay10]

theorem zeros_loss (y : S1x1.Idx) : k0_pay7 (F := Ideal) y = 0 := by pointwise [k0_pay7]
theorem zeros_gain (y : S1x1024.Idx) : k0_pay8 (F := Ideal) y = 0 := by pointwise [k0_pay8]

section
open Cert.ReferenceDownIdeal.Read

variable (p : FVec Ideal S4096x2816 .bf16) (w : FVec Ideal S2816x1024 .bf16) (x t : FVec Ideal S4096x1024 .f32) (g : FVec Ideal S1x1024 .f32)

theorem reference_stream (i : S4096x1024.Idx) :
    val_main_v3 (F := Ideal) p w x i = ∑ k : Fin 2816, p (ix2 (i 0) k) * w (ix2 k (i 1)) + x i := by
  rw [add_comm]
  pointwise [val_main_v3, val_main_v2, val_main_v1, val_main_v0]

/-- The reference's rows, by the chain rule. -/
theorem reference_rows (i : S4096x1024.Idx) : val_main_v55 (F := Ideal) p w x t g i = rows (val_main_v3 (F := Ideal) p w x) t g i := by
  unfold rows slope
  simp only [← Rms.word_mean]
  rw [← Rms.chain _ 1024 Rms.word_1024 (by norm_num)]
  unfold Rms.through err Rms.root
  pointwise [val_main_v55, val_main_v54, val_main_v53, val_main_v52, val_main_v51, val_main_v50, val_main_cst_15, val_main_v49, val_main_v48, val_main_cst_14, val_main_v47, val_main_v46, val_main_v45, val_main_v44, val_main_v43, val_main_cst_13, val_main_v42, val_main_v40, val_main_v39, val_main_v35, val_main_v34, val_main_v33, val_main_v32, val_main_cst_10, val_main_v31, val_main_v30, val_main_cst_8, val_main_cst_9, val_main_v24, val_main_v23, val_main_cst_3, val_main_v21, val_main_v20, val_main_v19, val_main_v18, val_main_v17, val_main_v16, val_main_v15, val_main_v14, val_main_cst_2, val_main_v13, val_main_v12, val_main_v11, val_main_v10, val_main_cst_1, val_main_v9, val_main_v8, val_main_cst_0, val_main_v7, val_main_v6, val_main_cst, val_main_v5, val_main_v4]

theorem reference_rows_short (i : S4096x1024.Idx) : val_main_v57 (F := Ideal) p w x t g i = rows (val_main_v3 (F := Ideal) p w x) t g i :=
  reference_rows p w x t g i

theorem reference_gain (i : S1x1024.Idx) :
    val_main_v58 (F := Ideal) p w x t g i = ∑ r : Fin 4096, gain (val_main_v3 (F := Ideal) p w x) t g r (i 1) := by
  unfold gain slope
  simp only [← Rms.word_mean]
  unfold err Rms.root
  pointwise [val_main_v58, val_main_v41, val_main_cst_12, val_main_v38, val_main_v37, val_main_cst_11, val_main_v36, val_main_v35, val_main_v34, val_main_v33, val_main_v32, val_main_cst_10, val_main_v31, val_main_v30, val_main_cst_8, val_main_cst_9, val_main_v24, val_main_v23, val_main_cst_3, val_main_v21, val_main_v20, val_main_v19, val_main_v18, val_main_v17, val_main_v16, val_main_v12, val_main_v11, val_main_v10, val_main_cst_1, val_main_v9, val_main_v8, val_main_cst_0, val_main_v7, val_main_v6, val_main_cst, val_main_v5, val_main_v4]
  rw [Fin.sum_univ_one, show g i = g (ix2 0 (i 1)) from by blk_ext []]
  exact Finset.sum_congr rfl fun r _ => (mul_comm _ _).trans (mul_assoc _ _ _).symm

theorem reference_loss (i : S1x1.Idx) : val_main_v56 (F := Ideal) p w x t g i
    = Ideal.ofBits .f32 0x3F000000#32 * ∑ r : Fin 4096, loss (val_main_v3 (F := Ideal) p w x) t g r := by
  unfold loss err Rms.root
  pointwise [val_main_v56, val_main_v29, val_main_cst_7, val_main_v28, val_main_cst_6, val_main_v27, val_main_v26, val_main_cst_5, val_main_v25, val_main_cst_4, val_main_v22, val_main_v21, val_main_v20, val_main_v19, val_main_v18, val_main_v17, val_main_v16, val_main_v12, val_main_v11, val_main_v10, val_main_cst_1, val_main_v9, val_main_v8, val_main_cst_0, val_main_v7, val_main_v6, val_main_cst, val_main_v5, val_main_v4]

end

variable (m : (ℓ : Loc nD τ sig) → Buf (Elt Ideal) ℓ) (c : Dev nD)

/-- The row of the array at which a step's row stands. -/
def row (t : Fin cfg0.N) (r : Fin 512) : Fin 4096 := ⟨t.val * 512 + r.val, by have := t.isLt; have : cfg0.N = 8 := N_0; omega⟩

/-- The residual stream over the arguments. -/
abbrev stream : FVec Ideal S4096x1024 .f32 := Cert.ReferenceDownIdeal.Read.val_main_v3 (F := Ideal) (m ((c.tc : Thread nD τ).loc main_arg0)) (m ((c.tc : Thread nD τ).loc main_arg1)) (m ((c.tc : Thread nD τ).loc main_arg2))

theorem stream_eq (t : Fin cfg0.N) (i : S512x1024.Idx) :
    k0_pay6 (F := Ideal) (iblk m c 0 t) (iblk m c 1 t) (iblk m c 2 t) i = stream m c (ix2 (row t (i 0)) (i 1)) := by
  refine (stream_at _ _ _ _).trans (Eq.trans ?_ (reference_stream _ _ _ _).symm)
  refine congrArg₂ (· + ·) (Finset.sum_congr rfl fun k _ => congrArg₂ (· * ·) ?_ ?_) ?_ <;> blk_ext [iblk, V, index t, row]

theorem target_eq (t : Fin cfg0.N) (i : S512x1024.Idx) : iblk m c 3 t i = (m ((c.tc : Thread nD τ).loc main_arg3)) (ix2 (row t (i 0)) (i 1)) := by
  blk_ext [iblk, V, index t, row]

theorem gain_eq (t : Fin cfg0.N) (i : S1x1024.Idx) : iblk m c 4 t i = (m ((c.tc : Thread nD τ).loc main_arg4)) i := by
  blk_ext [iblk, V, index t]

theorem root_eq (t : Fin cfg0.N) (r : Fin 512) :
    Rms.root W (fun k => k0_pay6 (F := Ideal) (iblk m c 0 t) (iblk m c 1 t) (iblk m c 2 t) (ix2 r k)) = Rms.root W (fun k => stream m c (ix2 (row t r) k)) :=
  Rms.root_congr fun k => stream_eq m c t (ix2 r k)

theorem err_eq (t : Fin cfg0.N) (r : Fin 512) (j : Fin 1024) :
    err (k0_pay6 (F := Ideal) (iblk m c 0 t) (iblk m c 1 t) (iblk m c 2 t)) (iblk m c 3 t) (iblk m c 4 t) r j = err (stream m c) (m ((c.tc : Thread nD τ).loc main_arg3)) (m ((c.tc : Thread nD τ).loc main_arg4)) (row t r) j :=
  congrArg₂ (· - ·) (congrArg₂ (· * ·) (congrArg₂ (· * ·) (stream_eq m c t (ix2 r j)) (root_eq m c t r)) (gain_eq m c t (ix2 0 j)))
    (target_eq m c t (ix2 r j))

theorem slope_eq (t : Fin cfg0.N) (r : Fin 512) (j : Fin 1024) :
    slope (k0_pay6 (F := Ideal) (iblk m c 0 t) (iblk m c 1 t) (iblk m c 2 t)) (iblk m c 3 t) (iblk m c 4 t) r j = slope (stream m c) (m ((c.tc : Thread nD τ).loc main_arg3)) (m ((c.tc : Thread nD τ).loc main_arg4)) (row t r) j :=
  congrArg (· * _) (err_eq m c t r j)

theorem rows_eq (t : Fin cfg0.N) (y : S512x1024.Idx) :
    rows (k0_pay6 (F := Ideal) (iblk m c 0 t) (iblk m c 1 t) (iblk m c 2 t)) (iblk m c 3 t) (iblk m c 4 t) y
      = rows (stream m c) (m ((c.tc : Thread nD τ).loc main_arg3)) (m ((c.tc : Thread nD τ).loc main_arg4)) (ix2 (row t (y 0)) (y 1)) :=
  Rms.gradient_congr (fun k => stream_eq m c t (ix2 (y 0) k)) (fun k => congrArg₂ (· * ·) (slope_eq m c t (y 0) k) (gain_eq m c t (ix2 0 k)))
    (stream_eq m c t y) (congrArg₂ (· * ·) (slope_eq m c t (y 0) (y 1)) (gain_eq m c t (ix2 0 (y 1))))

/-- What a step leaves of the rows is the same at the first step and at the later ones. -/
theorem rows_left (t : Fin cfg0.N) : (outsAt0 m c t.val t.isLt).2.1 = k0_pay3 (F := Ideal) (k0_pay6 (iblk m c 0 t) (iblk m c 1 t) (iblk m c 2 t))
    (iblk m c 4 t) (k0_pay9 (iblk m c 0 t) (iblk m c 1 t) (iblk m c 2 t)) (k0_pay10 (iblk m c 0 t) (iblk m c 1 t) (iblk m c 2 t) (iblk m c 4 t) (iblk m c 3 t)) := by
  by_cases h0 : t.val % 8 = 0
  · rw [outsAt0_A m c t h0]
    frame_out
  · rw [outsAt0_B m c t h0]
    frame_out

theorem rows_short_left (t : Fin cfg0.N) : (outsAt0 m c t.val t.isLt).2.2.1 = k0_pay4 (F := Ideal) (k0_pay6 (iblk m c 0 t) (iblk m c 1 t) (iblk m c 2 t))
    (iblk m c 4 t) (k0_pay9 (iblk m c 0 t) (iblk m c 1 t) (iblk m c 2 t)) (k0_pay10 (iblk m c 0 t) (iblk m c 1 t) (iblk m c 2 t) (iblk m c 4 t) (iblk m c 3 t)) := by
  by_cases h0 : t.val % 8 = 0
  · rw [outsAt0_A m c t h0]
    frame_out
  · rw [outsAt0_B m c t h0]
    frame_out

theorem final_rows : (dats m 0 c).arrAt 6 cfg0.N = Cert.ReferenceDownIdeal.Read.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6, rows_left]
  have he : (win0_6.blk t).view.emb y = ix2 (row t (y 0)) (y 1) := by blk_ext [index t, row]
  refine (rows_at _ _ _ _ _ _).trans ((rows_eq m c t y).trans (Eq.trans (reference_rows _ _ _ _ _ _).symm (congrArg _ he.symm)))

theorem final_rows_short : (dats m 0 c).arrAt 7 cfg0.N = Cert.ReferenceDownIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7, rows_short_left]
  have he : (win0_7.blk t).view.emb y = ix2 (row t (y 0)) (y 1) := by blk_ext [index t, row]
  refine (rows_short_at _ _ _ _ _ _).trans ((rows_eq m c t y).trans (Eq.trans (reference_rows_short _ _ _ _ _ _).symm (congrArg _ he.symm)))

theorem final_gain : (dats m 0 c).arrAt 8 cfg0.N = Cert.ReferenceDownIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0) _
    (fun t h j => by rw [outsAt0_A m c t h]; frame_out; rw [gain_added, zeros_gain])
    (fun t h j => by rw [outsAt0_B m c t h]; frame_out; rw [gain_added])
    (le_of_eq N_0) t0_7 rfl j, zero_add, reference_gain]
  refine Fin.sum_mul_add_congr fun t r hl => ?_
  exact congrArg₂ (· * ·) (congrArg₂ (· * ·) (slope_eq m c t r (j 1)) (stream_eq m c t (ix2 r (j 1)))) (root_eq m c t r)

theorem final_loss : (dats m 0 c).arrAt 5 cfg0.N = Cert.ReferenceDownIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_after_last 5 t0_7 (by decide +kernel) _ fun j => ?_
  blk_simp
  rw [after0_5, Pipeline.eq_sum_fin_of_reset_step_apply_last (fun n h => (outsAt0 m c n h).1) 8 (fun _ => 0) _
    (fun t h j => by rw [outsAt0_A m c t h]; frame_out; rw [loss_added, zeros_loss])
    (fun t h j => by rw [outsAt0_B m c t h]; frame_out; rw [loss_added])
    (le_of_eq N_0) t0_7 rfl j, zero_add, reference_loss]
  refine (Rms.mul_sum_nonneg _ _ fun t => Finset.sum_nonneg fun r _ => loss_nonneg _ _ _ _).trans (congrArg (_ * ·) ?_)
  refine Fin.sum_mul_add_congr fun t r hl => ?_
  exact congrArg (Ideal.div · W) (Finset.sum_congr rfl fun j _ => congrArg₂ (· * ·) (err_eq m c t r j) (err_eq m c t r j))

theorem frame_ideal : Cert.quiescent_KernelDownIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The kernel as printed has the same text, so its frame is this one over the machine's floats. -/
theorem same_text : Cert.quiescent_KernelDown = FrameAt Bits := by sl_kernel_rfl

theorem frame_bits : Cert.quiescent_KernelDown := same_text.mpr fun m ρ _ => frame m ρ

theorem frame_reference : Cert.quiescent_ReferenceDownIdeal := fun m ρ _ =>
  (θ_run Cert.ReferenceDownIdeal.defs _ _).mono
    (fun r h => ⟨fun c => (h c).2.2.2.2, sem_eq_zero_of_no_sems (by decide) r.2⟩)
    (Cert.ReferenceDownIdeal.Value.run (F := Ideal) m ρ)

/-- The kernel's results at exact arithmetic are the reference's. -/
theorem equal_results : Cert.algebraic_KernelDownIdeal_ReferenceDownIdeal := by
  intro m g m' g' _ ha
  refine ⟨_, _, _, _, (θ_run _ _ _).mono (fun r h c => ⟨(h c).1.trans (final_loss m c), (h c).2.1.trans (final_rows m c),
    (h c).2.2.1.trans (final_rows_short m c), (h c).2.2.2.1.trans (final_gain m c), (h c).2.2.2.2⟩) (Value.run_blocks m g), ?_⟩
  refine (θ_run _ _ _).mono (fun r h c => ?_) (Cert.ReferenceDownIdeal.Value.run (F := Ideal) m' g')
  obtain ⟨a0, a1, a2, a3, a4⟩ := ha c
  refine ⟨(h c).1.trans ((Cert.ReferenceDownIdeal.Read.val_main_v56_eq _ _ _ _ _).trans ?_),
    (h c).2.1.trans ((Cert.ReferenceDownIdeal.Read.val_main_v55_eq _ _).trans ?_),
    (h c).2.2.1.trans ((Cert.ReferenceDownIdeal.Read.val_main_v57_eq _ _).trans ?_),
    (h c).2.2.2.1.trans ((Cert.ReferenceDownIdeal.Read.val_main_v58_eq _ _ _ _ _).trans ?_), (h c).2.2.2.2⟩
  · exact congr (congr (congr (congr (congrArg (Cert.ReferenceDownIdeal.Read.val_main_v56 (F := Ideal)) a0) a1) a2) a3) a4
  · exact congr (congr (congr (congr (congrArg (Cert.ReferenceDownIdeal.Read.val_main_v55 (F := Ideal)) a0) a1) a2) a3) a4
  · exact congr (congr (congr (congr (congrArg (Cert.ReferenceDownIdeal.Read.val_main_v57 (F := Ideal)) a0) a1) a2) a3) a4
  · exact congr (congr (congr (congr (congrArg (Cert.ReferenceDownIdeal.Read.val_main_v58 (F := Ideal)) a0) a1) a2) a3) a4

end Cert.KernelDownIdeal.Call

end
-- ==== Proof.CallOut.lean ====
module

public import proofs.«01_k».proof.Defs
public import proofs.«01_k».proof.Proof.Gen.KernelOut
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.RmsGrad
public import Idealize.ShloMosaic.Adequacy
public import Idealize.ShloMosaic.Init
public import Idealize.ShloMosaic.Lib.Pointwise
public import Idealize.ShloMosaic.Lib.Pipeline.ValueKit

@[expose] public section

noncomputable section

/-! # The output projection of the two normalised branches, and the norm after it

Each of the 8 steps norms 512 rows of both branches, writes them side by side, multiplies what it wrote by the
projection, adds the residual stream, and norms the sum.
-/

namespace Cert.KernelOutIdeal.Call

open Cert.KernelOutIdeal Cert.KernelOutIdeal.Gen Idealize.ShloMosaic Idealize.ShloMosaic.TcCoe Idealize.ShloMosaic.Tactic Idealize.SL.Sem

theorem index : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0]
    ∧ win0_7.index t = ![t.val, 0] ∧ win0_8.index t = ![t.val, 0] ∧ win0_9.index t = ![t.val, 0] :=
  (by decide +kernel : ∀ t : Fin grid0.N, _)

/-- Two branches side by side. -/
def beside {n : ℕ} (a b : Fin n → Fin 512 → EReal) (r : Fin n) (j : Fin 1024) : EReal :=
  if h : j.val < 512 then a r ⟨j.val, h⟩ else b r ⟨j.val - 512, by omega⟩

/-- The normalised branches side by side. -/
def mixed {n : ℕ} (a b : FVec Ideal ⟨2, ![n, 512]⟩ .f32) (ga gb : FVec Ideal S1x512 .f32) : Fin n → Fin 1024 → EReal :=
  beside (Rms.norm (Ideal.ofBits .f32 0x44000000#32) a ga) (Rms.norm (Ideal.ofBits .f32 0x44000000#32) b gb)

theorem mixed_congr {n n' : ℕ} {a b : FVec Ideal ⟨2, ![n, 512]⟩ .f32} {a' b' : FVec Ideal ⟨2, ![n', 512]⟩ .f32}
    {ga gb ga' gb' : FVec Ideal S1x512 .f32} {r : Fin n} {r' : Fin n'} (ha : ∀ k, a (ix2 r k) = a' (ix2 r' k))
    (hb : ∀ k, b (ix2 r k) = b' (ix2 r' k)) (hga : ∀ k, ga (ix2 0 k) = ga' (ix2 0 k)) (hgb : ∀ k, gb (ix2 0 k) = gb' (ix2 0 k))
    (j : Fin 1024) : mixed a b ga gb r j = mixed a' b' ga' gb' r' j := by
  unfold mixed beside
  split
  · exact Rms.norm_congr ha hga _
  · exact Rms.norm_congr hb hgb _

section
variable (a : FVec Ideal S512x512 .f32) (g : FVec Ideal S1x512 .f32)

theorem low_at (y : S512x512.Idx) : k0_pay3 (F := Ideal) a g y = Rms.norm (Ideal.ofBits .f32 0x44000000#32) a g (y 0) (y 1) := by
  unfold Rms.norm Rms.root
  pointwise [k0_pay3]

theorem high_at (y : S512x512.Idx) : k0_pay4 (F := Ideal) a g y = Rms.norm (Ideal.ofBits .f32 0x44000000#32) a g (y 0) (y 1) := by
  unfold Rms.norm Rms.root
  pointwise [k0_pay4]

theorem same_at (q : FVec Ideal S512x1024 .bf16) (y : S512x1024.Idx) : k0_pay5 (F := Ideal) q y = q y := by
  pointwise [k0_pay5]

theorem stream_at (q : FVec Ideal S512x1024 .bf16) (w : FVec Ideal S1024x1024 .bf16) (x : FVec Ideal S512x1024 .f32) (y : S512x1024.Idx) :
    k0_pay1 (F := Ideal) q w x y = ∑ k : Fin 1024, q (ix2 (y 0) k) * w (ix2 k (y 1)) + x y := by
  pointwise [k0_pay1]

theorem after_at (q : FVec Ideal S512x1024 .bf16) (w : FVec Ideal S1024x1024 .bf16) (x : FVec Ideal S512x1024 .f32) (g : FVec Ideal S1x1024 .f32)
    (y : S512x1024.Idx) : k0_pay2 (F := Ideal) q w x g y = Rms.norm (Ideal.ofBits .f32 0x44800000#32) (k0_pay1 (F := Ideal) q w x) g (y 0) (y 1) := by
  unfold Rms.norm Rms.root
  pointwise [k0_pay2]

end

section
open Cert.ReferenceOutIdeal.Read

variable (a b : FVec Ideal S4096x512 .f32) (ga gb : FVec Ideal S1x512 .f32) (w : FVec Ideal S1024x1024 .bf16) (x : FVec Ideal S4096x1024 .f32)
  (g : FVec Ideal S1x1024 .f32)

theorem reference_low (i : S4096x512.Idx) : val_main_v13 (F := Ideal) a ga i = Rms.norm (Ideal.ofBits .f32 0x44000000#32) a ga (i 0) (i 1) := by
  unfold Rms.norm Rms.root
  pointwise [val_main_v13, val_main_v12, val_main_v11, val_main_v0, val_main_v10, val_main_v9, val_main_v8, val_main_v7, val_main_v6, val_main_cst_1, val_main_v5, val_main_v4, val_main_cst_0, val_main_v3, val_main_v2, val_main_cst, val_main_v1]

theorem reference_high (i : S4096x512.Idx) : val_main_v27 (F := Ideal) b gb i = Rms.norm (Ideal.ofBits .f32 0x44000000#32) b gb (i 0) (i 1) := by
  unfold Rms.norm Rms.root
  pointwise [val_main_v27, val_main_v26, val_main_v25, val_main_v14, val_main_v24, val_main_v23, val_main_v22, val_main_v21, val_main_v20, val_main_cst_4, val_main_v19, val_main_v18, val_main_cst_3, val_main_v17, val_main_v16, val_main_cst_2, val_main_v15]

theorem reference_mixed (r : Fin 4096) (j : Fin 1024) : val_main_v28 (F := Ideal) a b ga gb (ix2 r j) = mixed a b ga gb r j := by
  have hl : Rms.norm (Ideal.ofBits .f32 0x44000000#32) a ga = fun r j => val_main_v13 (F := Ideal) a ga (ix2 r j) :=
    funext fun r => funext fun j => (reference_low a ga (ix2 r j)).symm
  have hh : Rms.norm (Ideal.ofBits .f32 0x44000000#32) b gb = fun r j => val_main_v27 (F := Ideal) b gb (ix2 r j) :=
    funext fun r => funext fun j => (reference_high b gb (ix2 r j)).symm
  unfold mixed beside
  rw [hl, hh]
  pointwise [val_main_v28]

theorem reference_stream (i : S4096x1024.Idx) : val_main_v31 (F := Ideal) a b ga gb w x i
    = ∑ k : Fin 1024, mixed a b ga gb (i 0) k * w (ix2 k (i 1)) + x i := by
  rw [add_comm]
  have hm : mixed a b ga gb = fun r j => val_main_v28 (F := Ideal) a b ga gb (ix2 r j) :=
    funext fun r => funext fun j => (reference_mixed a b ga gb r j).symm
  rw [hm]
  pointwise [val_main_v31, val_main_v30, val_main_v29]

theorem reference_after (i : S4096x1024.Idx) : val_main_v47 (F := Ideal) a b ga gb w x g i
    = Rms.norm (Ideal.ofBits .f32 0x44800000#32) (val_main_v31 (F := Ideal) a b ga gb w x) g (i 0) (i 1) := by
  unfold Rms.norm Rms.root
  pointwise [val_main_v47, val_main_v46, val_main_v45, val_main_v44, val_main_v33, val_main_v43, val_main_v42, val_main_v41, val_main_v40, val_main_v39, val_main_cst_7, val_main_v38, val_main_v37, val_main_cst_6, val_main_v36, val_main_v35, val_main_cst_5, val_main_v34]

end

variable (m : (ℓ : Loc nD τ sig) → Buf (Elt Ideal) ℓ) (c : Dev nD)

/-- The row of the array at which a step's row stands. -/
def row (t : Fin cfg0.N) (r : Fin 512) : Fin 4096 := ⟨t.val * 512 + r.val, by have := t.isLt; have : cfg0.N = 8 := N_0; omega⟩

/-- The normalised branches over the arguments. -/
abbrev both (r : Fin 4096) (j : Fin 1024) : EReal := mixed (n := 4096) (m ((c.tc : Thread nD τ).loc main_arg0)) (m ((c.tc : Thread nD τ).loc main_arg1)) (m ((c.tc : Thread nD τ).loc main_arg2)) (m ((c.tc : Thread nD τ).loc main_arg3)) r j

/-- The residual stream over the arguments. -/
abbrev stream : FVec Ideal S4096x1024 .f32 := Cert.ReferenceOutIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

theorem mixed_eq (t : Fin cfg0.N) (r : Fin 512) (j : Fin 1024) :
    mixed (n := 512) (iblk m c 0 t) (iblk m c 1 t) (iblk m c 2 t) (iblk m c 3 t) r j = both m c (row t r) j :=
  mixed_congr (fun k => by blk_ext [iblk, V, index t, row]) (fun k => by blk_ext [iblk, V, index t, row])
    (fun k => by blk_ext [iblk, V, index t]) (fun k => by blk_ext [iblk, V, index t]) j

/-- What a step writes side by side. -/
theorem left_mixed (t : Fin cfg0.N) (y : S512x1024.Idx) : (outsAt0 m c t).1 y = both m c (row t (y 0)) (y 1) := by
  refine Eq.trans ?_ (mixed_eq m c t (y 0) (y 1))
  unfold outsAt0
  frame_out
  unfold mixed beside
  canon_tiles x h
  · refine (high_at _ _ x).trans ?_
    rw [dif_neg (by omega)]
    refine congrArg₂ (Rms.norm _ _ _) (Fin.ext h0.symm) (Fin.ext ?_)
    show (x 1).val = (y 1).val - 512
    omega
  · refine (low_at _ _ x).trans ?_
    rw [dif_pos (by omega)]
    exact congrArg₂ (Rms.norm _ _ _) (Fin.ext h0.symm) (Fin.ext h1.symm)

/-- What a step leaves of the stream is made of what it wrote side by side. -/
theorem left_stream (t : Fin cfg0.N) : (outsAt0 m c t).2.1 = k0_pay1 (F := Ideal) (outsAt0 m c t).1 (iblk m c 4 t) (iblk m c 5 t) := by
  unfold outsAt0
  frame_out
  refine congrArg (fun q => k0_pay1 (F := Ideal) q (iblk m c 4 t) (iblk m c 5 t)) (funext fun j => ?_)
  rw [same_at, View.readCov_eq_canon']
  exact congrArg (View.canon _) (funext fun a => Fin.ext (by fin_cases a <;> exact (Nat.zero_add _).trans (Nat.one_mul _)))

theorem left_after (t : Fin cfg0.N) : (outsAt0 m c t).2.2
    = k0_pay2 (F := Ideal) (outsAt0 m c t).1 (iblk m c 4 t) (iblk m c 5 t) (iblk m c 6 t) := by
  unfold outsAt0
  frame_out
  refine congrArg (fun q => k0_pay2 (F := Ideal) q (iblk m c 4 t) (iblk m c 5 t) (iblk m c 6 t)) (funext fun j => ?_)
  rw [same_at, View.readCov_eq_canon']
  exact congrArg (View.canon _) (funext fun a => Fin.ext (by fin_cases a <;> exact (Nat.zero_add _).trans (Nat.one_mul _)))

theorem stream_eq (t : Fin cfg0.N) (i : S512x1024.Idx) :
    k0_pay1 (F := Ideal) (outsAt0 m c t).1 (iblk m c 4 t) (iblk m c 5 t) i = stream m c (ix2 (row t (i 0)) (i 1)) := by
  refine (stream_at _ _ _ _).trans (Eq.trans ?_ (reference_stream _ _ _ _ _ _ _).symm)
  refine congrArg₂ (· + ·) (Finset.sum_congr rfl fun k _ => congrArg₂ (· * ·) (left_mixed m c t (ix2 (i 0) k)) ?_) ?_ <;>
    blk_ext [iblk, V, index t, row]

theorem after_eq (t : Fin cfg0.N) (y : S512x1024.Idx) :
    Rms.norm (Ideal.ofBits .f32 0x44800000#32) (k0_pay1 (F := Ideal) (outsAt0 m c t).1 (iblk m c 4 t) (iblk m c 5 t)) (iblk m c 6 t) (y 0) (y 1)
      = Rms.norm (Ideal.ofBits .f32 0x44800000#32) (stream m c) (m ((c.tc : Thread nD τ).loc main_arg6)) (row t (y 0)) (y 1) :=
  Rms.norm_congr (fun k => stream_eq m c t (ix2 (y 0) k)) (fun k => by blk_ext [iblk, V, index t]) (y 1)

theorem final_mixed : (dats m 0 c).arrAt 7 cfg0.N = Cert.ReferenceOutIdeal.Read.val_main_v32 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp
  rw [after0_7]
  have he : (win0_7.blk t).view.emb y = ix2 (row t (y 0)) (y 1) := by blk_ext [index t, row]
  exact (left_mixed m c t y).trans ((reference_mixed _ _ _ _ _ _).symm.trans (congrArg (Cert.ReferenceOutIdeal.Read.val_main_v28 (F := Ideal) (m ((c.tc : Thread nD τ).loc main_arg0)) (m ((c.tc : Thread nD τ).loc main_arg1)) (m ((c.tc : Thread nD τ).loc main_arg2)) (m ((c.tc : Thread nD τ).loc main_arg3))) he.symm))

theorem final_stream : (dats m 0 c).arrAt 8 cfg0.N = stream m c := by
  refine (dats m 0 c).arrAt_eq_of_covers 8 _ (by decide +kernel) fun t hf y => ?_
  blk_simp
  rw [after0_8, left_stream]
  have he : (win0_8.blk t).view.emb y = ix2 (row t (y 0)) (y 1) := by blk_ext [index t, row]
  exact (stream_eq m c t y).trans (congrArg (stream m c) he.symm)

theorem final_after : (dats m 0 c).arrAt 9 cfg0.N = Cert.ReferenceOutIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 9 _ (by decide +kernel) fun t hf y => ?_
  blk_simp
  rw [after0_9, left_after]
  have he : (win0_9.blk t).view.emb y = ix2 (row t (y 0)) (y 1) := by blk_ext [index t, row]
  exact (after_at _ _ _ _ y).trans ((after_eq m c t y).trans ((reference_after _ _ _ _ _ _ _ _).symm.trans
    (congrArg (Cert.ReferenceOutIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) he.symm)))

theorem frame_ideal : Cert.quiescent_KernelOutIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

/-- The kernel as printed has the same text, so its frame is this one over the machine's floats. -/
theorem same_text : Cert.quiescent_KernelOut = FrameAt Bits := by sl_kernel_rfl

theorem frame_bits : Cert.quiescent_KernelOut := same_text.mpr fun m ρ _ => frame m ρ

theorem frame_reference : Cert.quiescent_ReferenceOutIdeal := fun m ρ _ =>
  (θ_run Cert.ReferenceOutIdeal.defs _ _).mono
    (fun r h => ⟨fun c => (h c).2.2.2, sem_eq_zero_of_no_sems (by decide) r.2⟩)
    (Cert.ReferenceOutIdeal.Value.run (F := Ideal) m ρ)

/-- The kernel's results at exact arithmetic are the reference's. -/
theorem equal_results : Cert.algebraic_KernelOutIdeal_ReferenceOutIdeal := by
  intro m g m' g' _ ha
  refine ⟨_, _, _, (θ_run _ _ _).mono (fun r h c => ⟨(h c).1.trans (final_mixed m c), (h c).2.1.trans (final_stream m c),
    (h c).2.2.1.trans (final_after m c), (h c).2.2.2⟩) (Value.run_blocks m g), ?_⟩
  refine (θ_run _ _ _).mono (fun r h c => ?_) (Cert.ReferenceOutIdeal.Value.run (F := Ideal) m' g')
  obtain ⟨a0, a1, a2, a3, a4, a5, a6⟩ := ha c
  refine ⟨(h c).1.trans ((Cert.ReferenceOutIdeal.Read.val_main_v32_eq _ _ _ _).trans ?_), (h c).2.1.trans ((Cert.ReferenceOutIdeal.Read.val_main_v31_eq _ _ _ _ _ _).trans ?_),
    (h c).2.2.1.trans ((Cert.ReferenceOutIdeal.Read.val_main_v47_eq _ _).trans ?_), (h c).2.2.2⟩
  · exact congr (congr (congr (congrArg (Cert.ReferenceOutIdeal.Read.val_main_v32 (F := Ideal)) a0) a1) a2) a3
  · exact congr (congr (congr (congr (congr (congrArg (Cert.ReferenceOutIdeal.Read.val_main_v31 (F := Ideal)) a0) a1) a2) a3) a4) a5
  · exact congr (congr (congr (congr (congr (congr (congrArg (Cert.ReferenceOutIdeal.Read.val_main_v47 (F := Ideal)) a0) a1) a2) a3) a4) a5) a6

end Cert.KernelOutIdeal.Call

end
-- ==== Proof.CallIn.lean ====
module

public import proofs.«01_k».proof.Defs
public import proofs.«01_k».proof.Proof.Gen.KernelIn
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.RmsGrad
public import Idealize.ShloMosaic.Adequacy
public import Idealize.ShloMosaic.Init
public import Idealize.ShloMosaic.Lib.Pointwise
public import Idealize.ShloMosaic.Lib.StableHlo.ReadAt
public import Idealize.ShloMosaic.Lib.Pipeline.ValueKit

@[expose] public section

set_option maxRecDepth 16384

noncomputable section

/-! # The input projection and its rotation

Each of the 8 steps norms 512 rows, multiplies them by the projection, and turns the first sixteen columns of each head of
the queries and the keys. It turns a tile of two heads at once: by two rotations of the tile, and by tables that are zero
where a column has no partner. The reference cuts each head into three parts and turns the first two.
-/

namespace Cert.KernelInIdeal.Call

open Cert.KernelInIdeal Cert.KernelInIdeal.Gen Idealize.ShloMosaic Idealize.ShloMosaic.TcCoe Idealize.ShloMosaic.Tactic Idealize.SL.Sem

theorem index : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-! ## The rotation of one row -/

/-- One of three values by the place in a head of 64 columns: the first eight, the next eight, the others. -/
def pick (a b : Fin 8 → EReal) (d : EReal) (k : ℕ) : EReal :=
  if h : k % 64 < 8 then a ⟨k % 64, h⟩ else if h : k % 64 - 8 < 8 then b ⟨k % 64 - 8, h⟩ else d

/-- A row with its heads turned by the cosines `C` and the sines `S`. -/
def turned (C S : Fin 8 → EReal) (f : Fin 1280 → EReal) (j : Fin 1280) : EReal :=
  if h : j.val % 64 < 8 then f j * C ⟨j.val % 64, h⟩ - f ⟨j.val + 8, by omega⟩ * S ⟨j.val % 64, h⟩
  else if h : j.val % 64 - 8 < 8 then f j * C ⟨j.val % 64 - 8, h⟩ + f ⟨j.val - 8, by omega⟩ * S ⟨j.val % 64 - 8, h⟩
  else f j

/-- A tile of 128 columns from `o` on, with its two rotations, each by its table. -/
def mixed (o : ℕ) (ho : o + 128 ≤ 1280) (f : Fin 1280 → EReal) (x a b : Fin 128 → EReal) (k : Fin 128) : EReal :=
  f ⟨o + k.val, by omega⟩ * x k + (f ⟨o + (k.val + 128 - 120) % 128, by omega⟩ * a k + f ⟨o + (k.val + 128 - 8) % 128, by omega⟩ * b k)

theorem mixed_turned (o : ℕ) (ho : o + 128 ≤ 1280) (hm : o % 64 = 0) (C S : Fin 8 → EReal) (f : Fin 1280 → EReal) (x a b : Fin 128 → EReal)
    (hx : ∀ k, x k = pick C C 1 k.val) (ha : ∀ k, a k = pick (fun i => -S i) (fun _ => 0) 0 k.val)
    (hb : ∀ k, b k = pick (fun _ => 0) S 0 k.val) (k : Fin 128) : mixed o ho f x a b k = turned C S f ⟨o + k.val, by omega⟩ := by
  have hk := k.isLt
  have he : (o + k.val) % 64 = k.val % 64 := by omega
  unfold mixed turned
  rw [hx, ha, hb]
  unfold pick
  simp only [he]
  split
  · rw [mul_zero, add_zero, mul_neg, sub_eq_add_neg]
    exact congrArg (fun i => _ + -(f i * _)) (Fin.ext (by show o + (k.val + 128 - 120) % 128 = o + k.val + 8; omega))
  · split
    · rw [mul_zero, zero_add]
      exact congrArg (fun i => _ + f i * _) (Fin.ext (by show o + (k.val + 128 - 8) % 128 = o + k.val - 8; omega))
    · rw [mul_zero, mul_zero, add_zero, add_zero, mul_one]

/-! ## The step's values -/

section
variable (x : FVec Ideal S512x1024 .f32) (g : FVec Ideal S1x1024 .f32) (w : FVec Ideal S1280x1024 .bf16) (p : FVec Ideal S512x1280 .f32)
  (a b d : FVec Ideal S512x128 .f32)

theorem normed_at (r : Fin 512) (j : Fin 1024) : k0_pay3 (F := Ideal) x g (ix2 r j) = Rms.norm (Ideal.ofBits .f32 0x44800000#32) x g r j := by
  unfold Rms.norm Rms.root
  pointwise [k0_pay3]

theorem product_at (r : Fin 512) (j : Fin 1280) : k0_pay4 (F := Ideal) x g w (ix2 r j)
    = ∑ l : Fin 1024, Rms.norm (Ideal.ofBits .f32 0x44800000#32) x g r l * w (ix2 j l) := by
  have hn : Rms.norm (Ideal.ofBits .f32 0x44800000#32) x g = fun r l => k0_pay3 (F := Ideal) x g (ix2 r l) :=
    funext fun r => funext fun l => (normed_at x g r l).symm
  rw [hn]
  pointwise [k0_pay4]

theorem tile_0 (r : Fin 512) (k : Fin 128) : k0_pay5 (F := Ideal) x g w a b d (ix2 r k)
    = mixed 0 (by decide) (fun j => k0_pay4 (F := Ideal) x g w (ix2 r j)) (fun k => a (ix2 r k)) (fun k => b (ix2 r k)) (fun k => d (ix2 r k)) k := by
  unfold mixed
  simp only [Nat.zero_add]
  pointwise [k0_pay5]

theorem tile_1 (r : Fin 512) (k : Fin 128) : k0_pay6 (F := Ideal) p a b d (ix2 r k)
    = mixed 128 (by decide) (fun j => p (ix2 r j)) (fun k => a (ix2 r k)) (fun k => b (ix2 r k)) (fun k => d (ix2 r k)) k := by
  unfold mixed
  pointwise [k0_pay6]

theorem tile_2 (r : Fin 512) (k : Fin 128) : k0_pay7 (F := Ideal) p a b d (ix2 r k)
    = mixed 256 (by decide) (fun j => p (ix2 r j)) (fun k => a (ix2 r k)) (fun k => b (ix2 r k)) (fun k => d (ix2 r k)) k := by
  unfold mixed
  pointwise [k0_pay7]

theorem tile_3 (r : Fin 512) (k : Fin 128) : k0_pay8 (F := Ideal) p a b d (ix2 r k)
    = mixed 384 (by decide) (fun j => p (ix2 r j)) (fun k => a (ix2 r k)) (fun k => b (ix2 r k)) (fun k => d (ix2 r k)) k := by
  unfold mixed
  pointwise [k0_pay8]

theorem tile_4 (r : Fin 512) (k : Fin 128) : k0_pay9 (F := Ideal) p a b d (ix2 r k)
    = mixed 512 (by decide) (fun j => p (ix2 r j)) (fun k => a (ix2 r k)) (fun k => b (ix2 r k)) (fun k => d (ix2 r k)) k := by
  unfold mixed
  pointwise [k0_pay9]

theorem tile_5 (r : Fin 512) (k : Fin 128) : k0_pay1 (F := Ideal) p (ix2 r k) = p (ix2 r ⟨640 + k.val, by omega⟩) := by
  pointwise [k0_pay1]

theorem rest_at (r : Fin 512) (k : Fin 512) : k0_pay2 (F := Ideal) p (ix2 r k) = p (ix2 r ⟨768 + k.val, by omega⟩) := by
  pointwise [k0_pay2]

end

/-! ## The reference -/

section
open Cert.ReferenceInIdeal.Read

/-- The cosines and the sines of a row. -/
abbrev cosines (r : Fin 4096) (i : Fin 8) : EReal := val_main_v32 (F := Ideal) (ix2 r i)
abbrev sines (r : Fin 4096) (i : Fin 8) : EReal := val_main_v34 (F := Ideal) (ix2 r i)

theorem same_cosines : val_main_v65 (F := Ideal) = val_main_v32 (F := Ideal) := by sl_kernel_rfl
theorem same_sines : val_main_v67 (F := Ideal) = val_main_v34 (F := Ideal) := by sl_kernel_rfl

variable (x : FVec Ideal S4096x1024 .f32) (g : FVec Ideal S1x1024 .f32) (w : FVec Ideal S1280x1024 .bf16)

theorem reference_norm (r : Fin 4096) (j : Fin 1024) : val_main_v13 (F := Ideal) x g (ix2 r j) = Rms.norm (Ideal.ofBits .f32 0x44800000#32) x g r j := by
  unfold Rms.norm Rms.root
  pointwise [val_main_v13, val_main_v12, val_main_v11, val_main_v0, val_main_v10, val_main_v9, val_main_v8, val_main_v7, val_main_v6, val_main_cst_1, val_main_v5, val_main_v4, val_main_cst_0, val_main_v3, val_main_v2, val_main_cst, val_main_v1]

theorem reference_product (r : Fin 4096) (j : Fin 1280) : val_main_v16 (F := Ideal) x g w (ix2 r j)
    = ∑ l : Fin 1024, Rms.norm (Ideal.ofBits .f32 0x44800000#32) x g r l * w (ix2 j l) := by
  have hn : Rms.norm (Ideal.ofBits .f32 0x44800000#32) x g = fun r l => val_main_v13 (F := Ideal) x g (ix2 r l) :=
    funext fun r => funext fun l => (reference_norm x g r l).symm
  rw [hn]
  pointwise [val_main_v16, val_main_v15, val_main_v14]

/-- A row of the projection. -/
abbrev line (r : Fin 4096) (j : Fin 1280) : EReal := val_main_v16 (F := Ideal) x g w (ix2 r j)

/-- A head's three parts are its turned row. -/
theorem parts_turned (C S : Fin 8 → EReal) (f : Fin 1280 → EReal) (o : ℕ) (ho : o + 64 ≤ 1280) (hm : o % 64 = 0) (d : Fin 64) :
    (if h : d.val < 8 then f ⟨o + d.val, by omega⟩ * C ⟨d.val, h⟩ - f ⟨o + (8 + d.val), by omega⟩ * S ⟨d.val, h⟩
      else if h : d.val - 8 < 8 then f ⟨o + (8 + (d.val - 8)), by omega⟩ * C ⟨d.val - 8, h⟩ + f ⟨o + (d.val - 8), by omega⟩ * S ⟨d.val - 8, h⟩
      else f ⟨o + (16 + (d.val - 8 - 8)), by omega⟩) = turned C S f ⟨o + d.val, by omega⟩ := by
  have hd := d.isLt
  have he : (o + d.val) % 64 = d.val := by omega
  unfold turned
  simp only [he]
  split
  · exact congrArg (fun i => _ - f i * _) (Fin.ext (by show o + (8 + d.val) = o + d.val + 8; omega))
  · have h8 : (⟨o + (8 + (d.val - 8)), by omega⟩ : Fin 1280) = ⟨o + d.val, by omega⟩ := Fin.ext (by show o + (8 + (d.val - 8)) = o + d.val; omega)
    split
    · rw [h8]
      exact congrArg (fun i => _ + f i * _) (Fin.ext (by show o + (d.val - 8) = o + d.val - 8; omega))
    · exact congrArg f (Fin.ext (by show o + (16 + (d.val - 8 - 8)) = o + d.val; omega))

theorem reference_queries (r : Fin 4096) (h : Fin 8) (d : Fin 64) :
    val_main_v49 (F := Ideal) x g w (ix3 r h d) = turned (cosines r) (sines r) (line x g w r) ⟨h.val * 64 + d.val, by omega⟩ := by
  rw [← parts_turned _ _ _ _ (by omega) (by omega)]
  pointwise [val_main_v49, val_main_v43, val_main_v40, val_main_v36, val_main_v18, val_main_v17, val_main_v39, val_main_v33, val_main_v42, val_main_v37, val_main_v41, val_main_v35, val_main_v48, val_main_v45, val_main_v44, val_main_v47, val_main_v46, val_main_v38]

theorem reference_keys (r : Fin 4096) (h : Fin 2) (d : Fin 64) :
    val_main_v82 (F := Ideal) x g w (ix3 r h d) = turned (cosines r) (sines r) (line x g w r) ⟨512 + h.val * 64 + d.val, by omega⟩ := by
  rw [← parts_turned _ _ _ _ (by omega) (by omega)]
  unfold cosines sines
  rw [← same_cosines, ← same_sines]
  pointwise [val_main_v82, val_main_v76, val_main_v73, val_main_v69, val_main_v51, val_main_v50, val_main_v72, val_main_v66, val_main_v75, val_main_v70, val_main_v74, val_main_v68, val_main_v81, val_main_v78, val_main_v77, val_main_v80, val_main_v79, val_main_v71]
  simp only [Nat.add_assoc]

/-- The queries and the keys turned, and the values. -/
theorem reference_columns (r : Fin 4096) (j : Fin 768) : val_main_v88 (F := Ideal) x g w (ix2 r j)
    = if j.val < 640 then turned (cosines r) (sines r) (line x g w r) ⟨j.val, by omega⟩ else line x g w r ⟨j.val, by omega⟩ := by
  have hj := j.isLt
  have e : val_main_v88 (F := Ideal) x g w (ix2 r j)
      = if h : j.val < 512 then val_main_v49 (F := Ideal) x g w (ix3 r ⟨j.val / 64, by omega⟩ ⟨j.val % 64, by omega⟩)
        else if h' : j.val - 512 < 128 then val_main_v82 (F := Ideal) x g w (ix3 r ⟨(j.val - 512) / 64, by omega⟩ ⟨(j.val - 512) % 64, by omega⟩)
        else line x g w r ⟨640 + (j.val - 512 - 128), by omega⟩ := by
    pointwise [val_main_v88, val_main_v86, val_main_v85, val_main_v84, val_main_v83]
  rw [e]
  by_cases h : j.val < 512
  · rw [dif_pos h, if_pos (by omega), reference_queries]
    exact congrArg _ (Fin.ext (by show j.val / 64 * 64 + j.val % 64 = j.val; omega))
  · rw [dif_neg h]
    by_cases h' : j.val - 512 < 128
    · rw [dif_pos h', if_pos (by omega), reference_keys]
      exact congrArg _ (Fin.ext (by show 512 + (j.val - 512) / 64 * 64 + (j.val - 512) % 64 = j.val; omega))
    · rw [dif_neg h', if_neg (by omega)]
      exact congrArg (line x g w r) (Fin.ext (by show 640 + (j.val - 512 - 128) = j.val; omega))

theorem reference_rest (r : Fin 4096) (j : Fin 512) : val_main_v89 (F := Ideal) x g w (ix2 r j) = line x g w r ⟨768 + j.val, by omega⟩ := by
  pointwise [val_main_v89]

theorem reference_same (i : S4096x1024.Idx) : val_main_v87 (F := Ideal) x g i = val_main_v13 (F := Ideal) x g i := by
  pointwise [val_main_v87]

end

/-! ## The tables -/

section
open Cert.ReferenceInIdeal.Read

/-- A head's row of three parts, for both heads of a tile. -/
def table (a b : FVec Ideal S4096x8 .f32) (d : FVec Ideal S4096x48 .f32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x8, a⟩, ⟨S4096x8, b⟩, ⟨S4096x48, d⟩] concatenates_S4096x8_S4096x8_S4096x48_S4096x64_d1)
      shapeCasts_S4096x64_S1x4096x1x64)) shapeCasts_S1x4096x2x64_S4096x128

/-- An array of one number. -/
abbrev all8 (n : BitVec 32) : FVec Ideal S4096x8 .f32 := broadcastInDim S4096x8 ![] bcast_S_S4096x8 (constant S_ .f32 n)
abbrev all48 (n : BitVec 32) : FVec Ideal S4096x48 .f32 := broadcastInDim S4096x48 ![] bcast_S_S4096x48 (constant S_ .f32 n)

theorem table_at (a b : FVec Ideal S4096x8 .f32) (n : BitVec 32) (r : Fin 4096) (k : Fin 128) :
    table a b (all48 n) (ix2 r k) = pick (fun i => a (ix2 r i)) (fun i => b (ix2 r i)) (Ideal.ofBits .f32 n) k.val := by
  unfold pick
  pointwise [table]

variable (m : (ℓ : Loc nD τ sig) → Buf (Elt Ideal) ℓ) (c : Dev nD)

theorem V_cosines : V m c main_v23 = table (val_main_v32 (F := Ideal)) (val_main_v32 (F := Ideal)) (all48 0x3F800000#32) := by
  unfold V
  after_reads_simp
  dsimp only [Matrix.cons_val]
  sl_kernel_rfl

theorem V_less : V m c main_v26 = table (Host.negf (val_main_v34 (F := Ideal))) (all8 0x00000000#32) (all48 0x00000000#32) := by
  unfold V
  after_reads_simp
  dsimp only [Matrix.cons_val]
  sl_kernel_rfl

theorem V_more : V m c main_v29 = table (all8 0x00000000#32) (val_main_v34 (F := Ideal)) (all48 0x00000000#32) := by
  unfold V
  after_reads_simp
  dsimp only [Matrix.cons_val]
  sl_kernel_rfl

end

/-! ## The arrays at the end -/

variable (m : (ℓ : Loc nD τ sig) → Buf (Elt Ideal) ℓ) (c : Dev nD)

/-- The row of the array at which a step's row stands. -/
def row (t : Fin cfg0.N) (r : Fin 512) : Fin 4096 := ⟨t.val * 512 + r.val, by have := t.isLt; have : cfg0.N = 8 := N_0; omega⟩

theorem cosines_eq (t : Fin cfg0.N) (r : Fin 512) (k : Fin 128) : iblk m c 3 t (ix2 r k) = pick (cosines (row t r)) (cosines (row t r)) 1 k.val := by
  refine (show iblk m c 3 t (ix2 r k) = V m c main_v23 (ix2 (row t r) k) from by blk_ext [iblk, index t, row]).trans ?_
  rw [V_cosines, table_at]
  pointwise

theorem less_eq (t : Fin cfg0.N) (r : Fin 512) (k : Fin 128) :
    iblk m c 4 t (ix2 r k) = pick (fun i => -sines (row t r) i) (fun _ => 0) 0 k.val := by
  refine (show iblk m c 4 t (ix2 r k) = V m c main_v26 (ix2 (row t r) k) from by blk_ext [iblk, index t, row]).trans ?_
  rw [V_less, table_at]
  pointwise

theorem more_eq (t : Fin cfg0.N) (r : Fin 512) (k : Fin 128) : iblk m c 5 t (ix2 r k) = pick (fun _ => 0) (sines (row t r)) 0 k.val := by
  refine (show iblk m c 5 t (ix2 r k) = V m c main_v29 (ix2 (row t r) k) from by blk_ext [iblk, index t, row]).trans ?_
  rw [V_more, table_at]
  pointwise

/-- A row of the projection over the arguments. -/
abbrev wide (r : Fin 4096) (j : Fin 1280) : EReal := line (m ((c.tc : Thread nD τ).loc main_arg0)) (m ((c.tc : Thread nD τ).loc main_arg1)) (m ((c.tc : Thread nD τ).loc main_arg2)) r j

theorem norm_eq (t : Fin cfg0.N) (r : Fin 512) (j : Fin 1024) : Rms.norm (n := 512) (Ideal.ofBits .f32 0x44800000#32) (iblk m c 0 t) (iblk m c 1 t) r j
    = Rms.norm (n := 4096) (Ideal.ofBits .f32 0x44800000#32) (m ((c.tc : Thread nD τ).loc main_arg0)) (m ((c.tc : Thread nD τ).loc main_arg1)) (row t r) j :=
  Rms.norm_congr (fun k => by blk_ext [iblk, V, index t, row]) (fun k => by blk_ext [iblk, V, index t]) j

theorem product_eq (t : Fin cfg0.N) (r : Fin 512) (j : Fin 1280) :
    k0_pay4 (F := Ideal) (iblk m c 0 t) (iblk m c 1 t) (iblk m c 2 t) (ix2 r j) = wide m c (row t r) j := by
  refine (product_at _ _ _ r j).trans (Eq.trans ?_ (reference_product _ _ _ (row t r) j).symm)
  exact Finset.sum_congr rfl fun l _ => congrArg₂ (· * ·) (norm_eq m c t r l) (by blk_ext [iblk, V, index t])

/-- A tile of a step's row, turned. -/
theorem tile_eq (t : Fin cfg0.N) (r : Fin 512) (o : ℕ) (ho : o + 128 ≤ 1280) (hm : o % 64 = 0) (k : Fin 128) :
    mixed o ho (fun j => k0_pay4 (F := Ideal) (iblk m c 0 t) (iblk m c 1 t) (iblk m c 2 t) (ix2 r j)) (fun k => iblk m c 3 t (ix2 r k))
      (fun k => iblk m c 4 t (ix2 r k)) (fun k => iblk m c 5 t (ix2 r k)) k
      = turned (cosines (row t r)) (sines (row t r)) (wide m c (row t r)) ⟨o + k.val, by omega⟩ := by
  rw [mixed_turned o ho hm _ _ _ _ _ _ (cosines_eq m c t r) (less_eq m c t r) (more_eq m c t r)]
  exact congrArg (fun f => turned _ _ f _) (funext fun j => product_eq m c t r j)

/-- What a step leaves of the normed rows, of the columns and of the rest. -/
theorem norm_left (t : Fin cfg0.N) (y : S512x1024.Idx) :
    k0_pay3 (F := Ideal) (iblk m c 0 t) (iblk m c 1 t) y = Cert.ReferenceInIdeal.Read.val_main_v87 (F := Ideal) (m ((c.tc : Thread nD τ).loc main_arg0)) (m ((c.tc : Thread nD τ).loc main_arg1)) (ix2 (row t (y 0)) (y 1)) := by
  have h := (normed_at (iblk m c 0 t) (iblk m c 1 t) (y 0) (y 1)).trans ((norm_eq m c t (y 0) (y 1)).trans
    ((reference_norm _ _ _ _).symm.trans (reference_same _ _ _).symm))
  rwa [ix2_eta] at h

theorem rest_left (t : Fin cfg0.N) (y : S512x512.Idx) :
    k0_pay2 (F := Ideal) (k0_pay4 (F := Ideal) (iblk m c 0 t) (iblk m c 1 t) (iblk m c 2 t)) y = Cert.ReferenceInIdeal.Read.val_main_v89 (F := Ideal) (m ((c.tc : Thread nD τ).loc main_arg0)) (m ((c.tc : Thread nD τ).loc main_arg1)) (m ((c.tc : Thread nD τ).loc main_arg2)) (ix2 (row t (y 0)) (y 1)) := by
  have h := (rest_at (k0_pay4 (F := Ideal) (iblk m c 0 t) (iblk m c 1 t) (iblk m c 2 t)) (y 0) (y 1)).trans
    ((product_eq m c t (y 0) _).trans (reference_rest _ _ _ _ _).symm)
  rwa [ix2_eta] at h

/-- The columns as the reference has them. -/
abbrev columns (r : Fin 4096) (j : Fin 768) : EReal :=
  if j.val < 640 then turned (cosines r) (sines r) (wide m c r) ⟨j.val, by omega⟩ else wide m c r ⟨j.val, by omega⟩

theorem turned_left (t : Fin cfg0.N) (o : ℕ) (ho : o + 128 ≤ 640) (hm : o % 64 = 0) (q : FVec Ideal S512x128 .bf16)
    (hq : ∀ r k, q (ix2 r k) = mixed o (by omega) (fun j => k0_pay4 (F := Ideal) (iblk m c 0 t) (iblk m c 1 t) (iblk m c 2 t) (ix2 r j))
      (fun k => iblk m c 3 t (ix2 r k)) (fun k => iblk m c 4 t (ix2 r k)) (fun k => iblk m c 5 t (ix2 r k)) k)
    (x : S512x128.Idx) (r : Fin 512) (j : Fin 768) (h0 : r.val = (x 0).val) (h1 : j.val = o + (x 1).val) :
    q x = columns m c (row t r) j := by
  have h2 : (x 1).val < 128 := (x 1).isLt
  have h := (hq (x 0) (x 1)).trans (tile_eq m c t (x 0) o (by omega) hm (x 1))
  rw [ix2_eta] at h
  unfold columns
  rw [h, if_pos (by omega), show x 0 = r from Fin.ext h0.symm]
  exact congrArg _ (Fin.ext h1.symm)

theorem plain_left (t : Fin cfg0.N) (x : S512x128.Idx) (r : Fin 512) (j : Fin 768) (h0 : r.val = (x 0).val) (h1 : j.val = 640 + (x 1).val) :
    k0_pay1 (F := Ideal) (k0_pay4 (F := Ideal) (iblk m c 0 t) (iblk m c 1 t) (iblk m c 2 t)) x = columns m c (row t r) j := by
  have h := (tile_5 (k0_pay4 (F := Ideal) (iblk m c 0 t) (iblk m c 1 t) (iblk m c 2 t)) (x 0) (x 1)).trans (product_eq m c t (x 0) _)
  rw [ix2_eta] at h
  unfold columns
  rw [h, if_neg (by omega), show x 0 = r from Fin.ext h0.symm]
  exact congrArg (wide m c (row t r)) (Fin.ext h1.symm)

theorem final_norm : (dats m 0 c).arrAt 6 cfg0.N = Cert.ReferenceInIdeal.Read.val_main_v87 (F := Ideal) (m ((c.tc : Thread nD τ).loc main_arg0)) (m ((c.tc : Thread nD τ).loc main_arg1)) := by
  refine (dats m 0 c).arrAt_eq_of_covers 6 _ (by decide +kernel) fun t hf y => ?_
  blk_simp
  rw [after0_6]
  unfold_out out0_6
  frame_out
  have he : (win0_6.blk t).view.emb y = ix2 (row t (y 0)) (y 1) := by blk_ext [index t, row]
  exact (norm_left m c t y).trans (congrArg (Cert.ReferenceInIdeal.Read.val_main_v87 (F := Ideal) (m ((c.tc : Thread nD τ).loc main_arg0)) (m ((c.tc : Thread nD τ).loc main_arg1))) he.symm)

theorem final_columns : (dats m 0 c).arrAt 7 cfg0.N = Cert.ReferenceInIdeal.Read.val_main_v88 (F := Ideal) (m ((c.tc : Thread nD τ).loc main_arg0)) (m ((c.tc : Thread nD τ).loc main_arg1)) (m ((c.tc : Thread nD τ).loc main_arg2)) := by
  refine (dats m 0 c).arrAt_eq_of_covers 7 _ (by decide +kernel) fun t hf y => ?_
  blk_simp
  rw [after0_7]
  have he : (win0_7.blk t).view.emb y = ix2 (row t (y 0)) (y 1) := by blk_ext [index t, row]
  refine Eq.trans ?_ ((reference_columns _ _ _ _ _).symm.trans (congrArg (Cert.ReferenceInIdeal.Read.val_main_v88 (F := Ideal) (m ((c.tc : Thread nD τ).loc main_arg0)) (m ((c.tc : Thread nD τ).loc main_arg1)) (m ((c.tc : Thread nD τ).loc main_arg2))) he.symm))
  unfold_out out0_7
  frame_out
  canon_tiles x h
  · exact plain_left m c t x _ _ h0 h1
  · exact turned_left m c t 512 (by decide) (by decide) _ (tile_4 _ _ _ _) x _ _ h0 h1
  · exact turned_left m c t 384 (by decide) (by decide) _ (tile_3 _ _ _ _) x _ _ h0 h1
  · exact turned_left m c t 256 (by decide) (by decide) _ (tile_2 _ _ _ _) x _ _ h0 h1
  · exact turned_left m c t 128 (by decide) (by decide) _ (tile_1 _ _ _ _) x _ _ h0 h1
  · exact turned_left m c t 0 (by decide) (by decide) _ (tile_0 _ _ _ _ _ _) x _ _ h0 (h1.trans (Nat.zero_add _).symm)

theorem final_rest : (dats m 0 c).arrAt 8 cfg0.N = Cert.ReferenceInIdeal.Read.val_main_v89 (F := Ideal) (m ((c.tc : Thread nD τ).loc main_arg0)) (m ((c.tc : Thread nD τ).loc main_arg1)) (m ((c.tc : Thread nD τ).loc main_arg2)) := by
  refine (dats m 0 c).arrAt_eq_of_covers 8 _ (by decide +kernel) fun t hf y => ?_
  blk_simp
  rw [after0_8]
  unfold_out out0_8
  frame_out
  have he : (win0_8.blk t).view.emb y = ix2 (row t (y 0)) (y 1) := by blk_ext [index t, row]
  exact (rest_left m c t y).trans (congrArg (Cert.ReferenceInIdeal.Read.val_main_v89 (F := Ideal) (m ((c.tc : Thread nD τ).loc main_arg0)) (m ((c.tc : Thread nD τ).loc main_arg1)) (m ((c.tc : Thread nD τ).loc main_arg2))) he.symm)

theorem frame_ideal : Cert.quiescent_KernelInIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The kernel as printed has the same text, so its frame is this one over the machine's floats. -/
theorem same_text : Cert.quiescent_KernelIn = FrameAt Bits := by sl_kernel_rfl

theorem frame_bits : Cert.quiescent_KernelIn := same_text.mpr fun m ρ _ => frame m ρ

theorem frame_reference : Cert.quiescent_ReferenceInIdeal := fun m ρ _ =>
  (θ_run Cert.ReferenceInIdeal.defs _ _).mono
    (fun r h => ⟨fun c => (h c).2.2.2, sem_eq_zero_of_no_sems (by decide) r.2⟩)
    (Cert.ReferenceInIdeal.Value.run (F := Ideal) m ρ)

/-- The kernel's results at exact arithmetic are the reference's. -/
theorem equal_results : Cert.algebraic_KernelInIdeal_ReferenceInIdeal := by
  intro m g m' g' _ ha
  refine ⟨_, _, _, (θ_run _ _ _).mono (fun r h c => ⟨(h c).1.trans (final_norm m c), (h c).2.1.trans (final_columns m c),
    (h c).2.2.1.trans (final_rest m c), (h c).2.2.2⟩) (Value.run_blocks m g), ?_⟩
  refine (θ_run _ _ _).mono (fun r h c => ?_) (Cert.ReferenceInIdeal.Value.run (F := Ideal) m' g')
  obtain ⟨a0, a1, a2⟩ := ha c
  refine ⟨(h c).1.trans ((Cert.ReferenceInIdeal.Read.val_main_v87_eq _ _).trans ?_), (h c).2.1.trans ((Cert.ReferenceInIdeal.Read.val_main_v88_eq _ _).trans ?_),
    (h c).2.2.1.trans ((Cert.ReferenceInIdeal.Read.val_main_v89_eq _ _ _).trans ?_), (h c).2.2.2⟩
  · exact congr (congrArg (Cert.ReferenceInIdeal.Read.val_main_v87 (F := Ideal)) a0) a1
  · exact congr (congr (congrArg (Cert.ReferenceInIdeal.Read.val_main_v88 (F := Ideal)) a0) a1) a2
  · exact congr (congr (congrArg (Cert.ReferenceInIdeal.Read.val_main_v89 (F := Ideal)) a0) a1) a2

end Cert.KernelInIdeal.Call

end
-- ==== Proof.Gate.lean ====
module

public import proofs.«01_k».proof.Proof.RmsGrad
public import Idealize.ShloMosaic.PureOps.Ideal
public import Idealize.ShloMosaic.PureOps.Ideal.Laws
public import Idealize.ShloMosaic.Lib.Pointwise

@[expose] public section

noncomputable section

/-! # The gate: the GELU, the sigmoid, and their derivatives -/

namespace Gate

open Cert Idealize.ShloMosaic

/-- The word one half. -/
abbrev H : EReal := Ideal.ofBits .f32 0x3F000000#32

/-- The GELU, with the factor `c` inside the error function. -/
def gelu (c y : EReal) : EReal := H * y * (1 + Ideal.erf (y * c))

/-- Written with the complement of the error function. -/
theorem gelu_complement (c y : EReal) : H * y * Ideal.erfc (-y * c) = gelu c y := by
  unfold gelu
  rw [neg_mul, Ideal.erfc_neg]

/-- The sigmoid by the hyperbolic tangent of the half. -/
theorem sigmoid_tanh (z : EReal) : H * Ideal.tanh (H * z) + H = Ideal.logistic z := by
  unfold H
  rw [Rms.word_half]
  induction z with
  | bot =>
    rw [EReal.coe_mul_bot_of_pos (by norm_num), Ideal.tanh_bot, Ideal.logistic_bot, ← EReal.coe_one, ← EReal.coe_neg, ← EReal.coe_mul,
      ← EReal.coe_add, ← EReal.coe_zero]
    norm_num
  | top =>
    rw [EReal.coe_mul_top_of_pos (by norm_num), Ideal.tanh_top, Ideal.logistic_top, ← EReal.coe_one, ← EReal.coe_mul, ← EReal.coe_add]
    norm_num
  | coe z =>
    rw [← EReal.coe_mul, Ideal.tanh_coe, Ideal.logistic_coe, ← EReal.coe_mul, ← EReal.coe_add]
    refine congrArg _ ?_
    have hab : Real.exp (1 / 2 * z) * Real.exp (-(1 / 2 * z)) = 1 := by rw [← Real.exp_add, add_neg_cancel, Real.exp_zero]
    have hbb : Real.exp (-z) = Real.exp (-(1 / 2 * z)) * Real.exp (-(1 / 2 * z)) := by rw [← Real.exp_add]; ring_nf
    have ha := Real.exp_pos (1 / 2 * z)
    have hb := Real.exp_pos (-(1 / 2 * z))
    rw [Real.tanh_eq, hbb]
    generalize Real.exp (1 / 2 * z) = a at *
    generalize Real.exp (-(1 / 2 * z)) = b at *
    have h1 : a + b ≠ 0 := by positivity
    have h2 : 1 + b * b ≠ 0 := by positivity
    refine eq_inv_of_mul_eq_one_left ?_
    field_simp
    linear_combination 2 * b * hab

/-- A real number among the extended ones. -/
def Real' (x : EReal) : Prop := ∃ r : ℝ, x = (r : EReal)

theorem Real'.mul {x y : EReal} : Real' x → Real' y → Real' (x * y)
  | ⟨a, ha⟩, ⟨b, hb⟩ => ⟨a * b, by rw [ha, hb, EReal.coe_mul]⟩

theorem Real'.add {x y : EReal} : Real' x → Real' y → Real' (x + y)
  | ⟨a, ha⟩, ⟨b, hb⟩ => ⟨a + b, by rw [ha, hb, EReal.coe_add]⟩

theorem Real'.sub {x y : EReal} : Real' x → Real' y → Real' (x - y)
  | ⟨a, ha⟩, ⟨b, hb⟩ => ⟨a - b, by rw [ha, hb, EReal.coe_sub]⟩

theorem Real'.sum {n : ℕ} {f : Fin n → EReal} (h : ∀ k, Real' (f k)) : Real' (∑ k, f k) :=
  Finset.sum_induction f Real' (fun _ _ => Real'.add) ⟨0, rfl⟩ fun k _ => h k

theorem real_H : Real' H := ⟨_, Rms.word_half⟩

theorem real_one : Real' 1 := ⟨1, rfl⟩

theorem real_erf (x : EReal) : Real' (Ideal.erf x) := by
  induction x with
  | bot => exact ⟨-1, rfl⟩
  | top => exact ⟨1, rfl⟩
  | coe r => exact ⟨_, Ideal.erf_coe r⟩

theorem real_logistic (x : EReal) : Real' (Ideal.logistic x) := by
  induction x with
  | bot => exact ⟨0, Ideal.logistic_bot⟩
  | top => exact ⟨1, Ideal.logistic_top⟩
  | coe r => exact ⟨_, Ideal.logistic_coe r⟩

theorem real_gelu (c y : EReal) (h : Real' y) : Real' (gelu c y) := (real_H.mul h).mul (real_one.add (real_erf _))

/-- The inverse root of two. -/
abbrev C : EReal := (((Real.sqrt 2)⁻¹ : ℝ) : EReal)

/-- The inverse root of two pi. -/
abbrev K : EReal := (((Real.sqrt (2 * Real.pi))⁻¹ : ℝ) : EReal)

/-- Two over the root of pi. -/
abbrev T : EReal := ((2 * (Real.sqrt Real.pi)⁻¹ : ℝ) : EReal)

/-- The derivative of the GELU. -/
def slope (y : EReal) : EReal :=
  H * (1 + Ideal.erf (y * C)) + y * Ideal.exp (Ideal.ofBits .f32 0xBF000000#32 * y * y) * K

/-- The chain rule through the GELU, at a real gradient. -/
theorem chain (y d : EReal) (hy : Real' y) (hd : Real' d) :
    T * (H * y * d) * Ideal.exp (0 - y * C * (y * C)) * C + H * (d * (1 + Ideal.erf (y * C))) = d * slope y := by
  obtain ⟨y, rfl⟩ := hy
  obtain ⟨d, rfl⟩ := hd
  obtain ⟨e, he⟩ := real_erf (y * C)
  unfold slope
  rw [he]
  unfold H
  rw [Rms.word_half, Rms.word_minus_half, ← EReal.coe_one, ← EReal.coe_zero]
  simp only [← EReal.coe_mul, ← EReal.coe_add, ← EReal.coe_sub, Ideal.exp_coe]
  refine congrArg _ ?_
  have h2 : (Real.sqrt 2)⁻¹ * (Real.sqrt 2)⁻¹ = 1 / 2 := by
    rw [← mul_inv, Real.mul_self_sqrt (by norm_num)]; norm_num
  have hx : 0 - y * (Real.sqrt 2)⁻¹ * (y * (Real.sqrt 2)⁻¹) = -(1 / 2) * y * y := by linear_combination (-(y * y)) * h2
  rw [hx, Real.sqrt_mul (by norm_num), mul_inv]
  ring

end Gate

end
-- ==== Proof.CallGlu.lean ====
module

public import proofs.«01_k».proof.Defs
public import proofs.«01_k».proof.Proof.Gen.KernelGlu
public import proofs.«01_k».proof.Proof.Gen.KernelGluIdeal
public import proofs.«01_k».proof.Proof.Gen.KernelGluIdeal.Skeleton
public import proofs.«01_k».proof.Proof.Gen.KernelGluIdeal.Launch
public import proofs.«01_k».proof.Proof.Gen.KernelGluIdeal.Points
public import proofs.«01_k».proof.Proof.Gen.KernelGluIdeal.Frame
public import proofs.«01_k».proof.Proof.Gen.KernelGluIdeal.Value
public import proofs.«01_k».proof.Proof.Gen.ReferenceGluIdeal
public import proofs.«01_k».proof.Proof.Gen.ReferenceGluIdeal.Run
public import proofs.«01_k».proof.Proof.Gen.ReferenceGluIdeal.Read
public import proofs.«01_k».proof.Proof.Gate
public import Idealize.ShloMosaic.Adequacy
public import Idealize.ShloMosaic.Init
public import Idealize.ShloMosaic.Lib.Pointwise
public import Idealize.ShloMosaic.Lib.Pipeline.ValueKit

@[expose] public section

noncomputable section

/-! # The gate

Each of the 8 steps makes 512 rows of the gate before its sigmoid, and of the gated branch.
-/

namespace Cert.KernelGluIdeal.Call

open Cert.KernelGluIdeal Cert.KernelGluIdeal.Gen Idealize.ShloMosaic Idealize.ShloMosaic.TcCoe Idealize.ShloMosaic.Tactic Idealize.SL.Sem
open Gate

theorem index : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The factor inside the error function, a rounded inverse root of two in the call and in the reference. -/
abbrev W : EReal := Ideal.ofBits .f32 0x3F3504F3#32

/-- An element of the gate before its sigmoid. -/
def gate {n : ℕ} (y : FVec Ideal ⟨2, ![n, 512]⟩ .f32) (w : FVec Ideal S512x512 .bf16) (r : Fin n) (j : Fin 512) : EReal :=
  ∑ k : Fin 512, gelu W (y (ix2 r k)) * w (ix2 k j)

theorem gelu_at (y : FVec Ideal S512x512 .f32) (i : S512x512.Idx) : k0_pay1 (F := Ideal) y i = gelu W (y i) := by
  unfold gelu
  pointwise [k0_pay1]
  rfl

theorem gate_at (y : FVec Ideal S512x512 .f32) (w : FVec Ideal S512x512 .bf16) (i : S512x512.Idx) :
    k0_pay2 (F := Ideal) y w i = gate y w (i 0) (i 1) := by
  unfold gate gelu
  pointwise [k0_pay2, k0_pay1]
  rfl

theorem gated_at (y : FVec Ideal S512x512 .f32) (w : FVec Ideal S512x512 .bf16) (i : S512x512.Idx) :
    k0_pay3 (F := Ideal) y w i = gelu W (y i) * Ideal.logistic (gate y w (i 0) (i 1)) := by
  rw [← gelu_at, ← gate_at, ← sigmoid_tanh]
  pointwise [k0_pay3]

section
open Cert.ReferenceGluIdeal.Read

variable (y : FVec Ideal S4096x512 .f32) (w : FVec Ideal S512x512 .bf16)

theorem reference_gelu (i : S4096x512.Idx) : val_main_v6 (F := Ideal) y i = gelu W (y i) := by
  rw [← gelu_complement]
  pointwise [val_main_v6, val_main_v5, val_main_v4, val_main_v3, val_main_v2, val_main_v1, val_main_v0, val_main_cst, val_main_cst_0]

theorem reference_gate (i : S4096x512.Idx) : val_main_v8 (F := Ideal) y w i = gate y w (i 0) (i 1) := by
  have h : val_main_v8 (F := Ideal) y w i = ∑ k : Fin 512, val_main_v6 (F := Ideal) y (ix2 (i 0) k) * w (ix2 k (i 1)) := by
    pointwise [val_main_v8, val_main_v7]
  exact h.trans (Finset.sum_congr rfl fun k _ => congrArg (· * _) (reference_gelu y _))

theorem reference_gated (i : S4096x512.Idx) :
    val_main_v15 (F := Ideal) y w i = gelu W (y i) * Ideal.logistic (gate y w (i 0) (i 1)) := by
  rw [← reference_gelu, ← reference_gate, Ideal.logistic]
  pointwise [val_main_v15, val_main_v14, val_main_v13, val_main_v12, val_main_v11, val_main_v10, val_main_v9, val_main_cst_1, val_main_cst_2]

end

variable (m : (ℓ : Loc nD τ sig) → Buf (Elt Ideal) ℓ) (c : Dev nD)

/-- The row of the array at which a step's row stands. -/
def row (t : Fin cfg0.N) (r : Fin 512) : Fin 4096 := ⟨t.val * 512 + r.val, by have := t.isLt; have : cfg0.N = 8 := N_0; omega⟩

theorem input_eq (t : Fin cfg0.N) (i : S512x512.Idx) : iblk m c 0 t i = (m ((c.tc : Thread nD τ).loc main_arg0)) (ix2 (row t (i 0)) (i 1)) := by
  blk_ext [iblk, V, index t, row]

theorem weight_eq (t : Fin cfg0.N) (i : S512x512.Idx) : iblk m c 1 t i = (m ((c.tc : Thread nD τ).loc main_arg1)) i := by
  blk_ext [iblk, V, index t]

theorem gate_eq (t : Fin cfg0.N) (r : Fin 512) (j : Fin 512) :
    gate (n := 512) (iblk m c 0 t) (iblk m c 1 t) r j = gate (n := 4096) (m ((c.tc : Thread nD τ).loc main_arg0)) (m ((c.tc : Thread nD τ).loc main_arg1)) (row t r) j :=
  Finset.sum_congr rfl fun k _ => congrArg₂ (· * ·) (congrArg (gelu W) (input_eq m c t (ix2 r k))) (weight_eq m c t (ix2 k j))

theorem gate_left (t : Fin cfg0.N) (y : S512x512.Idx) : k0_pay2 (F := Ideal) (iblk m c 0 t) (iblk m c 1 t) y
    = Cert.ReferenceGluIdeal.Read.val_main_v8 (F := Ideal) (m ((c.tc : Thread nD τ).loc main_arg0)) (m ((c.tc : Thread nD τ).loc main_arg1)) (ix2 (row t (y 0)) (y 1)) := by
  rw [gate_at, reference_gate]
  exact gate_eq m c t (y 0) (y 1)

theorem gated_left (t : Fin cfg0.N) (y : S512x512.Idx) : k0_pay3 (F := Ideal) (iblk m c 0 t) (iblk m c 1 t) y
    = Cert.ReferenceGluIdeal.Read.val_main_v15 (F := Ideal) (m ((c.tc : Thread nD τ).loc main_arg0)) (m ((c.tc : Thread nD τ).loc main_arg1)) (ix2 (row t (y 0)) (y 1)) := by
  rw [gated_at, reference_gated]
  exact congrArg₂ (· * ·) (congrArg (gelu W) (input_eq m c t y)) (congrArg Ideal.logistic (gate_eq m c t (y 0) (y 1)))

theorem final_gated : (dats m 0 c).arrAt 2 cfg0.N = Cert.ReferenceGluIdeal.Read.val_main_v15 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold out0_2
  frame_out
  have he : (win0_2.blk t).view.emb y = ix2 (row t (y 0)) (y 1) := by blk_ext [index t, row]
  exact (gated_left m c t y).trans (congrArg (Cert.ReferenceGluIdeal.Read.val_main_v15 (F := Ideal) (m ((c.tc : Thread nD τ).loc main_arg0)) (m ((c.tc : Thread nD τ).loc main_arg1))) he.symm)

theorem final_gate : (dats m 0 c).arrAt 3 cfg0.N = Cert.ReferenceGluIdeal.Read.val_main_v8 (F := Ideal) (m ((c.tc : Thread nD τ).loc main_arg0)) (m ((c.tc : Thread nD τ).loc main_arg1)) := by
  refine (dats m 0 c).arrAt_eq_of_covers 3 _ (by decide +kernel) fun t hf y => ?_
  blk_simp
  rw [after0_3]
  unfold out0_3
  frame_out
  have he : (win0_3.blk t).view.emb y = ix2 (row t (y 0)) (y 1) := by blk_ext [index t, row]
  exact (gate_left m c t y).trans (congrArg (Cert.ReferenceGluIdeal.Read.val_main_v8 (F := Ideal) (m ((c.tc : Thread nD τ).loc main_arg0)) (m ((c.tc : Thread nD τ).loc main_arg1))) he.symm)

theorem frame_ideal : Cert.quiescent_KernelGluIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

/-- The kernel as printed has the same text, so its frame is this one over the machine's floats. -/
theorem same_text : Cert.quiescent_KernelGlu = FrameAt Bits := by sl_kernel_rfl

theorem frame_bits : Cert.quiescent_KernelGlu := same_text.mpr fun m ρ _ => frame m ρ

theorem frame_reference : Cert.quiescent_ReferenceGluIdeal := fun m ρ _ =>
  (θ_run Cert.ReferenceGluIdeal.defs _ _).mono
    (fun r h => ⟨fun c => (h c).2.2, sem_eq_zero_of_no_sems (by decide) r.2⟩)
    (Cert.ReferenceGluIdeal.Value.run (F := Ideal) m ρ)

/-- The kernel's results at exact arithmetic are the reference's. -/
theorem equal_results : Cert.algebraic_KernelGluIdeal_ReferenceGluIdeal := by
  intro m g m' g' _ ha
  refine ⟨_, _, (θ_run _ _ _).mono (fun r h c => ⟨(h c).1.trans (final_gated m c), (h c).2.1.trans (final_gate m c), (h c).2.2⟩)
    (Value.run_blocks m g), ?_⟩
  refine (θ_run _ _ _).mono (fun r h c => ?_) (Cert.ReferenceGluIdeal.Value.run (F := Ideal) m' g')
  obtain ⟨a0, a1⟩ := ha c
  exact ⟨(h c).1.trans ((Cert.ReferenceGluIdeal.Read.val_main_v15_eq _ _).trans (congr (congrArg (Cert.ReferenceGluIdeal.Read.val_main_v15 (F := Ideal)) a0) a1)),
    (h c).2.1.trans ((Cert.ReferenceGluIdeal.Read.val_main_v8_eq _ _).trans (congr (congrArg (Cert.ReferenceGluIdeal.Read.val_main_v8 (F := Ideal)) a0) a1)), (h c).2.2⟩

end Cert.KernelGluIdeal.Call

end
-- ==== Proof.CallGluBwd.lean ====
module

public import proofs.«01_k».proof.Defs
public import proofs.«01_k».proof.Proof.Gen.KernelGluBwd
public import proofs.«01_k».proof.Proof.Gen.KernelGluBwd.Frame
public import proofs.«01_k».proof.Proof.Gen.KernelGluBwdIdeal
public import proofs.«01_k».proof.Proof.Gen.KernelGluBwdIdeal.Skeleton
public import proofs.«01_k».proof.Proof.Gen.KernelGluBwdIdeal.Launch
public import proofs.«01_k».proof.Proof.Gen.KernelGluBwdIdeal.Points
public import proofs.«01_k».proof.Proof.Gen.KernelGluBwdIdeal.Frame
public import proofs.«01_k».proof.Proof.Gen.ReferenceGluBwdIdeal
public import proofs.«01_k».proof.Proof.Gen.ReferenceGluBwdIdeal.Skeleton
public import proofs.«01_k».proof.Proof.Gen.ReferenceGluBwdIdeal.Launch
public import proofs.«01_k».proof.Proof.Gen.ReferenceGluBwdIdeal.Points
public import proofs.«01_k».proof.Proof.Gen.ReferenceGluBwdIdeal.Frame
public import proofs.«01_k».proof.Proof.Gen.ReferenceGluBwdIdeal.Value
public import proofs.«01_k».proof.Proof.Gen.ReferenceGluBwd
public import proofs.«01_k».proof.Proof.Gen.ReferenceGluBwd.Frame
public import proofs.«01_k».proof.Proof.Gate
public import proofs.«01_k».proof.Proof.Finite
public import Idealize.ShloMosaic.Adequacy
public import Idealize.ShloMosaic.Init
public import Idealize.ShloMosaic.Lib.Pointwise
public import Idealize.ShloMosaic.Lib.ReduceAll
public import Idealize.ShloMosaic.Lib.Pipeline.ValueKit

@[expose] public section

noncomputable section

/-! # The gate's gradient

The forward call makes the gate before its sigmoid; the backward call makes from it, in each of its 8 steps, 512 rows of the
gradient of the input, and their part of the gradient of the weight.
-/

namespace Cert.KernelGluBwdIdeal.Call

open Cert.KernelGluBwdIdeal Cert.KernelGluBwdIdeal.Gen Idealize.ShloMosaic Idealize.ShloMosaic.TcCoe Idealize.ShloMosaic.Tactic Idealize.SL.Sem
open Gate

theorem index_forward : ∀ t : Fin cfg0.N, win0_0.index t = ![t.val, 0] ∧ win0_1.index t = ![0, 0] ∧ win0_3.index t = ![t.val, 0] :=
  (by decide +kernel : ∀ t : Fin grid0.N, _)

theorem index : ∀ t : Fin cfg1.N, win1_0.index t = ![t.val, 0] ∧ win1_1.index t = ![t.val, 0] ∧ win1_2.index t = ![t.val, 0]
    ∧ win1_3.index t = ![0, 0] ∧ win1_4.index t = ![t.val, 0] ∧ win1_5.index t = ![0, 0] :=
  (by decide +kernel : ∀ t : Fin grid1.N, _)

/-- The gate before its sigmoid. -/
def gate {n : ℕ} (y : FVec Ideal ⟨2, ![n, 512]⟩ .f32) (w : FVec Ideal S512x512 .bf16) : FVec Ideal ⟨2, ![n, 512]⟩ .f32 := fun i =>
  ∑ k : Fin 512, gelu C (y (ix2 (i 0) k)) * w (ix2 k (i 1))

/-- The gradient of the gate before its sigmoid. -/
def dgate {n : ℕ} (y z d : FVec Ideal ⟨2, ![n, 512]⟩ .f32) (r : Fin n) (j : Fin 512) : EReal :=
  d (ix2 r j) * gelu C (y (ix2 r j)) * Ideal.logistic (z (ix2 r j)) * (1 - Ideal.logistic (z (ix2 r j)))

/-- The gradient of the activation. -/
def through {n : ℕ} (y z d : FVec Ideal ⟨2, ![n, 512]⟩ .f32) (w : FVec Ideal S512x512 .bf16) (r : Fin n) (j : Fin 512) : EReal :=
  d (ix2 r j) * Ideal.logistic (z (ix2 r j)) + ∑ k : Fin 512, dgate y z d r k * w (ix2 j k)

theorem named_C : Named.named (F := Ideal) κ "inv_sqrt_two" (φ := .f32) 0x3F3504F3#32 = C :=
  IdealRules.named_const.ideal_named_scalar _ _ _ _ rfl

theorem named_K : Named.named (F := Ideal) κ "inv_sqrt_two_pi" (φ := .f32) 0x3ECC422A#32 = K :=
  IdealRules.named_const.ideal_named_scalar _ _ _ _ rfl

/-! ## The forward call's step -/

theorem gelu_forward (y : FVec Ideal S512x512 .f32) (i : S512x512.Idx) : k0_pay1 (F := Ideal) y i = gelu C (y i) := by
  unfold gelu
  rw [← named_C]
  pointwise [k0_pay1]
  rfl

theorem gate_at (y : FVec Ideal S512x512 .f32) (w : FVec Ideal S512x512 .bf16) (i : S512x512.Idx) :
    k0_pay2 (F := Ideal) y w i = gate (n := 512) y w i := by
  have h : k0_pay2 (F := Ideal) y w i = ∑ k : Fin 512, k0_pay1 (F := Ideal) y (ix2 (i 0) k) * w (ix2 k (i 1)) := by
    pointwise [k0_pay2]
  exact h.trans (Finset.sum_congr rfl fun k _ => congrArg (· * _) (gelu_forward y _))

/-! ## The backward call's step -/

theorem gelu_at (y : FVec Ideal S512x512 .f32) (i : S512x512.Idx) : k1_pay4 (F := Ideal) y i = gelu C (y i) := by
  unfold gelu
  rw [← named_C]
  pointwise [k1_pay4]
  rfl

theorem sigmoid_at (z : FVec Ideal S512x512 .f32) (i : S512x512.Idx) : k1_pay5 (F := Ideal) z i = Ideal.logistic (z i) := by
  rw [← sigmoid_tanh]
  pointwise [k1_pay5]

theorem dgate_at (y z d : FVec Ideal S512x512 .f32) (r k : Fin 512) : k1_pay6 (F := Ideal) y z d (ix2 r k) = dgate (n := 512) y z d r k := by
  unfold dgate
  rw [← gelu_at, ← sigmoid_at]
  pointwise [k1_pay6]

theorem through_at (y z d : FVec Ideal S512x512 .f32) (w : FVec Ideal S512x512 .bf16) (r j : Fin 512) :
    k1_pay7 (F := Ideal) y z d w (ix2 r j) = through (n := 512) y z d w r j := by
  have h : k1_pay7 (F := Ideal) y z d w (ix2 r j)
      = d (ix2 r j) * k1_pay5 (F := Ideal) z (ix2 r j) + ∑ k : Fin 512, k1_pay6 (F := Ideal) y z d (ix2 r k) * w (ix2 j k) := by
    pointwise [k1_pay7]
  exact h.trans (congrArg₂ (· + ·) (congrArg (_ * ·) (sigmoid_at z _)) (Finset.sum_congr rfl fun k _ => congrArg (· * _) (dgate_at y z d r k)))

theorem slope_at (y a : FVec Ideal S512x512 .f32) (i : S512x512.Idx) :
    k1_pay1 (F := Ideal) y a (k1_pay8 y) (Scalar.ofBits .f32 0x3F000000#32) i = a i * Gate.slope (y i) := by
  unfold Gate.slope
  rw [← named_C, ← named_K]
  pointwise [k1_pay1, k1_pay8]
  rfl

theorem weight_added (y z d a : FVec Ideal S512x512 .f32) (i : S512x512.Idx) :
    k1_pay2 (F := Ideal) (k1_pay4 y) (k1_pay6 y z d) a i = a i + ∑ r : Fin 512, gelu C (y (ix2 r (i 0))) * dgate (n := 512) y z d r (i 1) := by
  have h : k1_pay2 (F := Ideal) (k1_pay4 y) (k1_pay6 y z d) a i
      = a i + ∑ r : Fin 512, k1_pay4 (F := Ideal) y (ix2 r (i 0)) * k1_pay6 (F := Ideal) y z d (ix2 r (i 1)) := by
    pointwise [k1_pay2]
  exact h.trans (congrArg (_ + ·) (Finset.sum_congr rfl fun r _ => congrArg₂ (· * ·) (gelu_at y _) (dgate_at y z d r _)))

theorem zeros (i : S512x512.Idx) : k1_pay3 (F := Ideal) i = 0 := by pointwise [k1_pay3]

/-! ## The reference -/

namespace Reference

open Cert.ReferenceGluBwdIdeal.Gen

theorem named_C : Named.named (F := Ideal) Cert.ReferenceGluBwdIdeal.κ "inv_sqrt_two" (φ := .f32) 0x3F3504F3#32 = C :=
  IdealRules.named_const.ideal_named_scalar _ _ _ _ rfl

theorem named_T : Named.named (F := Ideal) Cert.ReferenceGluBwdIdeal.κ "two_over_sqrt_pi" (φ := .f32) 0x3F906EBB#32 = Gate.T :=
  IdealRules.named_const.ideal_named_scalar _ _ _ _ rfl

variable (y d : FVec Ideal S4096x512 .f32) (w : FVec Ideal S512x512 .bf16)

theorem gelu_at (i : S4096x512.Idx) : Cert.ReferenceGluBwdIdeal.Gen.k0_pay5 (F := Ideal) y i = gelu C (y i) := by
  unfold gelu
  rw [← named_C]
  pointwise [Cert.ReferenceGluBwdIdeal.Gen.k0_pay5, Cert.ReferenceGluBwdIdeal.Gen.k0_pay4, Cert.ReferenceGluBwdIdeal.Gen.k0_pay3, Cert.ReferenceGluBwdIdeal.Gen.k0_pay2]
  rfl

theorem sigmoid_at (i : S4096x512.Idx) : Cert.ReferenceGluBwdIdeal.Gen.k0_pay6 (F := Ideal) y w i = Ideal.logistic (gate (n := 4096) y w i) := by
  have h : Cert.ReferenceGluBwdIdeal.Gen.k0_pay6 (F := Ideal) y w i
      = Ideal.logistic (∑ k : Fin 512, Cert.ReferenceGluBwdIdeal.Gen.k0_pay5 (F := Ideal) y (ix2 (i 0) k) * w (ix2 k (i 1))) := by
    pointwise [Cert.ReferenceGluBwdIdeal.Gen.k0_pay6, Cert.ReferenceGluBwdIdeal.Gen.k0_pay1]
  exact h.trans (congrArg Ideal.logistic (Finset.sum_congr rfl fun k _ => congrArg (· * _) (gelu_at y _)))

theorem dgate_at (r : Fin 4096) (k : Fin 512) :
    Cert.ReferenceGluBwdIdeal.Gen.k0_pay7 (F := Ideal) y w d (ix2 r k) = dgate (n := 4096) y (gate (n := 4096) y w) d r k := by
  unfold dgate
  rw [← gelu_at, ← sigmoid_at, mul_comm (d _), mul_assoc (_ * d _)]
  pointwise [Cert.ReferenceGluBwdIdeal.Gen.k0_pay7]

/-- The gradient of the weight. -/
theorem weight_at (i : S512x512.Idx) : Cert.ReferenceGluBwdIdeal.Gen.k0_pay8 (F := Ideal) y w d i
    = ∑ r : Fin 4096, gelu C (y (ix2 r (i 0))) * dgate (n := 4096) y (gate (n := 4096) y w) d r (i 1) := by
  have h : Cert.ReferenceGluBwdIdeal.Gen.k0_pay8 (F := Ideal) y w d i = ∑ r : Fin 4096,
      Cert.ReferenceGluBwdIdeal.Gen.k0_pay7 (F := Ideal) y w d (ix2 r (i 1)) * Cert.ReferenceGluBwdIdeal.Gen.k0_pay5 (F := Ideal) y (ix2 r (i 0)) := by
    pointwise [Cert.ReferenceGluBwdIdeal.Gen.k0_pay8]
  exact h.trans (Finset.sum_congr rfl fun r _ => (mul_comm _ _).trans (congrArg₂ (· * ·) (gelu_at y _) (dgate_at y d w r _)))

/-- The gradient of the input, by the chain rule, at real arguments. -/
theorem input_at (hy : ∀ i, Real' (y i)) (hd : ∀ i, Real' (d i)) (hw : ∀ i, Real' (w i)) (r : Fin 4096) (j : Fin 512) :
    Cert.ReferenceGluBwdIdeal.Gen.k0_pay9 (F := Ideal) y w d (ix2 r j)
      = through (n := 4096) y (gate (n := 4096) y w) d w r j * Gate.slope (y (ix2 r j)) := by
  have hg : ∀ k, Real' (dgate (n := 4096) y (gate (n := 4096) y w) d r k) := fun k =>
    (((hd _).mul (real_gelu C _ (hy _))).mul (real_logistic _)).mul (real_one.sub (real_logistic _))
  have ht : Real' (through (n := 4096) y (gate (n := 4096) y w) d w r j) :=
    ((hd _).mul (real_logistic _)).add (Real'.sum fun k => (hg k).mul (hw _))
  rw [← chain _ _ (hy _) ht]
  unfold through
  simp only [← dgate_at, ← sigmoid_at]
  rw [← named_C, ← named_T]
  pointwise [Cert.ReferenceGluBwdIdeal.Gen.k0_pay9, Cert.ReferenceGluBwdIdeal.Gen.k0_pay4, Cert.ReferenceGluBwdIdeal.Gen.k0_pay3, Cert.ReferenceGluBwdIdeal.Gen.k0_pay2, Cert.ReferenceGluBwdIdeal.Gen.k0_pay1]
  rfl

end Reference

variable (m : (ℓ : Loc nD τ sig) → Buf (Elt Ideal) ℓ) (ρ : Dev nD → PrngReg) (c : Dev nD)

/-! ## What the forward call leaves -/

/-- The row of the array at which a forward step's row stands. -/
def row_forward (t : Fin cfg0.N) (r : Fin 512) : Fin 4096 := ⟨t.val * 512 + r.val, by have := t.isLt; have : cfg0.N = 8 := N_0; omega⟩

theorem input_forward (t : Fin cfg0.N) (i : S512x512.Idx) : iblk0 (V0 m ρ) c 0 t i = (m ((c.tc : Thread nD τ).loc main_arg0)) (ix2 (row_forward t (i 0)) (i 1)) := by
  blk_ext [iblk0, V0, W0, index_forward t, row_forward]

theorem weight_forward (t : Fin cfg0.N) (i : S512x512.Idx) : iblk0 (V0 m ρ) c 1 t i = (m ((c.tc : Thread nD τ).loc main_arg2)) i := by
  blk_ext [iblk0, V0, W0, index_forward t]

theorem gate_left (t : Fin cfg0.N) (i : S512x512.Idx) : k0_pay2 (F := Ideal) (iblk0 (V0 m ρ) c 0 t) (iblk0 (V0 m ρ) c 1 t) i
    = gate (n := 4096) (m ((c.tc : Thread nD τ).loc main_arg0)) (m ((c.tc : Thread nD τ).loc main_arg2)) (ix2 (row_forward t (i 0)) (i 1)) := by
  rw [gate_at]
  exact Finset.sum_congr rfl fun k _ => congrArg₂ (· * ·) (congrArg (gelu C) (input_forward m ρ c t (ix2 (i 0) k))) (weight_forward m ρ c t (ix2 k (i 1)))

theorem final_gate : (dat0 (V0 m ρ) c).arrAt 3 cfg0.N = gate (n := 4096) (m ((c.tc : Thread nD τ).loc main_arg0)) (m ((c.tc : Thread nD τ).loc main_arg2)) := by
  refine (dat0 (V0 m ρ) c).arrAt_eq_of_covers 3 _ (by decide +kernel) fun t hf y => ?_
  blk_simp
  rw [after0_3]
  unfold out0_3
  frame_out
  have he : (win0_3.blk t).view.emb y = ix2 (row_forward t (y 0)) (y 1) := by blk_ext [index_forward t, row_forward]
  exact (gate_left m ρ c t y).trans (congrArg (gate (n := 4096) (m ((c.tc : Thread nD τ).loc main_arg0)) (m ((c.tc : Thread nD τ).loc main_arg2))) he.symm)

/-! ## What the backward call reads -/

/-- The row of the array at which a step's row stands. -/
def row (t : Fin cfg1.N) (r : Fin 512) : Fin 4096 := ⟨t.val * 512 + r.val, by have := t.isLt; have : cfg1.N = 8 := N_1; omega⟩

section
variable (V : (c : Dev nD) → (b : Ref sig .tc) → Buf (Elt Ideal) ((c : Thread nD τ).loc b))

theorem input_block (t : Fin cfg1.N) (i : S512x512.Idx) : iblk1 V c 0 t i = V c main_arg0 (ix2 (row t (i 0)) (i 1)) := by
  blk_ext [iblk1, index t, row]

theorem gate_block (t : Fin cfg1.N) (i : S512x512.Idx) : iblk1 V c 1 t i = V c main_v0_1 (ix2 (row t (i 0)) (i 1)) := by
  blk_ext [iblk1, index t, row]

theorem ct_block (t : Fin cfg1.N) (i : S512x512.Idx) : iblk1 V c 2 t i = V c main_arg1 (ix2 (row t (i 0)) (i 1)) := by
  blk_ext [iblk1, index t, row]

theorem weight_block (t : Fin cfg1.N) (i : S512x512.Idx) : iblk1 V c 3 t i = V c main_arg2 i := by
  blk_ext [iblk1, index t]

end

theorem input_eq (t : Fin cfg1.N) (i : S512x512.Idx) : iblk1 (V1 m ρ) c 0 t i = (m ((c.tc : Thread nD τ).loc main_arg0)) (ix2 (row t (i 0)) (i 1)) :=
  (input_block c (V1 m ρ) t i).trans (congrFun (W1_args m ρ c main_arg0 (by decide)) _)

theorem gate_eq (t : Fin cfg1.N) (i : S512x512.Idx) : iblk1 (V1 m ρ) c 1 t i = gate (n := 4096) (m ((c.tc : Thread nD τ).loc main_arg0)) (m ((c.tc : Thread nD τ).loc main_arg2)) (ix2 (row t (i 0)) (i 1)) :=
  (gate_block c (V1 m ρ) t i).trans (congrFun ((W1_arr m ρ c 3).trans (final_gate m ρ c)) _)

theorem ct_eq (t : Fin cfg1.N) (i : S512x512.Idx) : iblk1 (V1 m ρ) c 2 t i = (m ((c.tc : Thread nD τ).loc main_arg1)) (ix2 (row t (i 0)) (i 1)) :=
  (ct_block c (V1 m ρ) t i).trans (congrFun (W1_args m ρ c main_arg1 (by decide)) _)

theorem weight_eq (t : Fin cfg1.N) (i : S512x512.Idx) : iblk1 (V1 m ρ) c 3 t i = (m ((c.tc : Thread nD τ).loc main_arg2)) i :=
  (weight_block c (V1 m ρ) t i).trans (congrFun (W1_args m ρ c main_arg2 (by decide)) _)

theorem dgate_eq (t : Fin cfg1.N) (r k : Fin 512) :
    dgate (n := 512) (iblk1 (V1 m ρ) c 0 t) (iblk1 (V1 m ρ) c 1 t) (iblk1 (V1 m ρ) c 2 t) r k = dgate (n := 4096) (m ((c.tc : Thread nD τ).loc main_arg0)) (gate (n := 4096) (m ((c.tc : Thread nD τ).loc main_arg0)) (m ((c.tc : Thread nD τ).loc main_arg2))) (m ((c.tc : Thread nD τ).loc main_arg1)) (row t r) k := by
  have hg := congrArg Ideal.logistic (gate_eq m ρ c t (ix2 r k))
  exact congrArg₂ (· * ·) (congrArg₂ (· * ·) (congrArg₂ (· * ·) (ct_eq m ρ c t (ix2 r k)) (congrArg (gelu C) (input_eq m ρ c t (ix2 r k)))) hg)
    (congrArg (1 - ·) hg)

theorem through_eq (t : Fin cfg1.N) (r j : Fin 512) :
    through (n := 512) (iblk1 (V1 m ρ) c 0 t) (iblk1 (V1 m ρ) c 1 t) (iblk1 (V1 m ρ) c 2 t) (iblk1 (V1 m ρ) c 3 t) r j
      = through (n := 4096) (m ((c.tc : Thread nD τ).loc main_arg0)) (gate (n := 4096) (m ((c.tc : Thread nD τ).loc main_arg0)) (m ((c.tc : Thread nD τ).loc main_arg2))) (m ((c.tc : Thread nD τ).loc main_arg1)) (m ((c.tc : Thread nD τ).loc main_arg2)) (row t r) j :=
  congrArg₂ (· + ·) (congrArg₂ (· * ·) (ct_eq m ρ c t (ix2 r j)) (congrArg Ideal.logistic (gate_eq m ρ c t (ix2 r j))))
    (Finset.sum_congr rfl fun k _ => congrArg₂ (· * ·) (dgate_eq m ρ c t r k) (weight_eq m ρ c t (ix2 j k)))

/-! ## What the backward call leaves -/

/-- The gradient of the input. -/
def dinput (y d : FVec Ideal S4096x512 .f32) (w : FVec Ideal S512x512 .bf16) : FVec Ideal S4096x512 .f32 := fun i =>
  through (n := 4096) y (gate (n := 4096) y w) d w (i 0) (i 1) * Gate.slope (y i)

/-- The gradient of the weight. -/
def dweight (y d : FVec Ideal S4096x512 .f32) (w : FVec Ideal S512x512 .bf16) : FVec Ideal S512x512 .f32 := fun i =>
  ∑ r : Fin 4096, gelu C (y (ix2 r (i 0))) * dgate (n := 4096) y (gate (n := 4096) y w) d r (i 1)

/-- What a step leaves of the rows is the same at the first step and at the later ones. -/
theorem rows_left (t : Fin cfg1.N) : (outsAt1 (V1 m ρ) c t.val t.isLt).1 = k1_pay1 (F := Ideal) (iblk1 (V1 m ρ) c 0 t)
    (k1_pay7 (iblk1 (V1 m ρ) c 0 t) (iblk1 (V1 m ρ) c 1 t) (iblk1 (V1 m ρ) c 2 t) (iblk1 (V1 m ρ) c 3 t)) (k1_pay8 (iblk1 (V1 m ρ) c 0 t))
    (Scalar.ofBits .f32 0x3F000000#32) := by
  by_cases h0 : t.val % 8 = 0
  · rw [outsAt1_A (V1 m ρ) c t h0]
    frame_out
  · rw [outsAt1_B (V1 m ρ) c t h0]
    frame_out

theorem input_left (t : Fin cfg1.N) (r j : Fin 512) : (outsAt1 (V1 m ρ) c t.val t.isLt).1 (ix2 r j) = dinput (m ((c.tc : Thread nD τ).loc main_arg0)) (m ((c.tc : Thread nD τ).loc main_arg1)) (m ((c.tc : Thread nD τ).loc main_arg2)) (ix2 (row t r) j) := by
  rw [rows_left, slope_at, through_at, through_eq]
  exact congrArg (_ * Gate.slope ·) (input_eq m ρ c t (ix2 r j))

theorem final_input : (dat1 (V1 m ρ) c).arrAt 4 cfg1.N = dinput (m ((c.tc : Thread nD τ).loc main_arg0)) (m ((c.tc : Thread nD τ).loc main_arg1)) (m ((c.tc : Thread nD τ).loc main_arg2)) := by
  refine (dat1 (V1 m ρ) c).arrAt_eq_of_covers 4 _ (by decide +kernel) fun t hf y => ?_
  blk_simp
  rw [after1_4]
  have he : (win1_4.blk t).view.emb y = ix2 (row t (y 0)) (y 1) := by blk_ext [index t, row]
  have h := input_left m ρ c t (y 0) (y 1)
  rw [ix2_eta] at h
  exact h.trans (congrArg (dinput (m ((c.tc : Thread nD τ).loc main_arg0)) (m ((c.tc : Thread nD τ).loc main_arg1)) (m ((c.tc : Thread nD τ).loc main_arg2))) he.symm)

theorem final_weight : (dat1 (V1 m ρ) c).arrAt 5 cfg1.N = dweight (m ((c.tc : Thread nD τ).loc main_arg0)) (m ((c.tc : Thread nD τ).loc main_arg1)) (m ((c.tc : Thread nD τ).loc main_arg2)) := by
  refine (dat1 (V1 m ρ) c).arrAt_eq_of_after_last 5 t1_7 (by decide +kernel) _ fun j => ?_
  blk_simp
  rw [after1_5, Pipeline.eq_sum_fin_of_reset_step_apply_last (fun n h => (outsAt1 (V1 m ρ) c n h).2) 8 (fun _ => 0) _
    (fun t h j => by rw [outsAt1_A (V1 m ρ) c t h]; frame_out; rw [weight_added, zeros])
    (fun t h j => by rw [outsAt1_B (V1 m ρ) c t h]; frame_out; rw [weight_added])
    (le_of_eq N_1) t1_7 rfl j, zero_add]
  unfold dweight
  refine Fin.sum_mul_add_congr fun t r hl => ?_
  exact congrArg₂ (· * ·) (congrArg (gelu C) (input_eq m ρ c t (ix2 r (j 0)))) (dgate_eq m ρ c t r (j 1))

/-! ## The run -/

section Launch

open Idealize.SL Idealize.SL.RA Idealize.SL.BI
open scoped Idealize.SL.BI
open Idealize.ShloMosaic.Rounds
open Idealize.SL.BI.BIBase Idealize.SL.BI.Laws Idealize.SL.ProofMode

local notation "𝕄" => MT nD τ sig Unit (Elt Ideal) ℕ (UR sig nD τ) ℕ

-- the launch's implicit arguments are found by unifying its conclusion with this one
set_option backward.isDefEq.respectTransparency.types false in
/-- The two calls run, and leave the gradients. -/
theorem run : θ_run defs (onTc (τ := τ) (main (F := Ideal))) ⟨m, fun _ => 0, ρ⟩ (fun r => ∀ c : Dev nD,
      r.2.mem ((c.tc : Thread nD τ).loc main_v1_0) = dinput (m ((c.tc : Thread nD τ).loc main_arg0)) (m ((c.tc : Thread nD τ).loc main_arg1)) (m ((c.tc : Thread nD τ).loc main_arg2))
      ∧ r.2.mem ((c.tc : Thread nD τ).loc main_v1_1) = dweight (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v1_0 (by decide))).trans ((W2_arr m ρ c 4).trans (final_input m ρ c)),
       (h c _ (mem_uc main_v1_1 (by decide))).trans ((W2_arr m ρ c 5).trans (final_weight m ρ c)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Launch

/-! ## The claims -/

theorem facts_finite_gate : Cert.Pre_finite_gate.Facts := ⟨by decide, by decide, by decide, by decide, by decide, by decide⟩

theorem real_of_lt (x : EReal) (h : Ideal.cmp .olt (max x (-x)) (Ideal.ofBits .f32 0x7F800000#32) = 1#1) : Real' x := by
  obtain ⟨h1, h2⟩ := Cert.KernelIdeal.Run.real_of_lt x h
  exact ⟨x.toReal, (EReal.coe_toReal h1 h2).symm⟩

/-- Where the precondition holds the arguments are real numbers. -/
theorem reals_of_finite [Cert.Pre_finite_gate.Facts] (y d : FVec Ideal S4096x512 .f32) (w : FVec Ideal S512x512 .bf16)
    (h : Cert.Pre_finite_gate.fn (F := Ideal) y d w = fun _ => 1#1) : (∀ i, Real' (y i)) ∧ (∀ i, Real' (d i)) ∧ ∀ i, Real' (w i) := by
  have hs : Subsingleton Cert.Pre_finite_gate.S_.Idx := ⟨fun a b => funext fun i => i.elim0⟩
  have e := congrFun h (fun i => i.elim0)
  unfold Cert.Pre_finite_gate.fn at e
  obtain ⟨e, e2⟩ := IntOp.andi_eq_one.1 e
  obtain ⟨e0, e1⟩ := IntOp.andi_eq_one.1 e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i)⟩

theorem frame_ideal : Cert.quiescent_KernelGluBwdIdeal := fun m ρ _ => frame m ρ

theorem frame_bits : Cert.quiescent_KernelGluBwd := fun m ρ _ => Cert.KernelGluBwd.Gen.frame m ρ

theorem frame_reference : Cert.quiescent_ReferenceGluBwdIdeal := fun m ρ _ => Cert.ReferenceGluBwdIdeal.Gen.frame m ρ

theorem frame_reference_bits : Cert.quiescent_ReferenceGluBwd := fun m ρ _ => Cert.ReferenceGluBwd.Gen.frame m ρ

theorem named : Cert.preserves_KernelGluBwd_KernelGluBwdIdeal :=
  ⟨IdealRules.named_const.statement Cert.KernelGluBwdIdeal.κ "inv_sqrt_two" .f32 0x3F3504F3#32 _ rfl,
    IdealRules.named_const.statement Cert.KernelGluBwdIdeal.κ "inv_sqrt_two_pi" .f32 0x3ECC422A#32 _ rfl⟩

theorem named_reference : Cert.preserves_ReferenceGluBwd_ReferenceGluBwdIdeal :=
  ⟨IdealRules.named_const.statement Cert.ReferenceGluBwdIdeal.κ "inv_sqrt_two" .f32 0x3F3504F3#32 _ rfl,
    IdealRules.named_const.statement Cert.ReferenceGluBwdIdeal.κ "two_over_sqrt_pi" .f32 0x3F906EBB#32 _ rfl⟩

/-- On finite arguments the kernel's results at exact arithmetic are the reference's. -/
theorem equal_results : Cert.algebraic_KernelGluBwdIdeal_ReferenceGluBwdIdeal_pre_finite_gate (hPre_finite_gate := facts_finite_gate) := by
  intro m g m' g' hp ha
  haveI := facts_finite_gate
  refine ⟨fun c => dinput (m ((c.tc : Thread nD τ).loc main_arg0)) (m ((c.tc : Thread nD τ).loc main_arg1)) (m ((c.tc : Thread nD τ).loc main_arg2)), fun c => dweight (m ((c.tc : Thread nD τ).loc main_arg0)) (m ((c.tc : Thread nD τ).loc main_arg1)) (m ((c.tc : Thread nD τ).loc main_arg2)), run m g, ?_⟩
  refine (θ_run _ _ _).mono (fun r h c => ?_) (Cert.ReferenceGluBwdIdeal.Value.run (F := Ideal) m' g')
  obtain ⟨a0, a1, a2⟩ := ha c
  obtain ⟨hy, hd, hw⟩ := reals_of_finite _ _ _ (hp c)
  obtain ⟨h0, h1, hargs⟩ := h c
  refine ⟨h0.trans ?_, h1.trans ?_, hargs⟩
  · refine (congr (congr (congrArg (Cert.ReferenceGluBwdIdeal.Value.G3 (F := Ideal)) a0) a1) a2).trans (funext fun i => ?_)
    have e := Reference.input_at (m ((c.tc : Thread nD τ).loc main_arg0)) (m ((c.tc : Thread nD τ).loc main_arg1)) (m ((c.tc : Thread nD τ).loc main_arg2)) hy hd hw (i 0) (i 1)
    rw [ix2_eta] at e
    exact e
  · refine (congr (congr (congrArg (Cert.ReferenceGluBwdIdeal.Value.G4 (F := Ideal)) a0) a1) a2).trans (funext fun i => ?_)
    exact Reference.weight_at (m ((c.tc : Thread nD τ).loc main_arg0)) (m ((c.tc : Thread nD τ).loc main_arg1)) (m ((c.tc : Thread nD τ).loc main_arg2)) i

end Cert.KernelGluBwdIdeal.Call

end
-- ==== Proof.CallRope.lean ====
module

public import proofs.«01_k».proof.Defs
public import proofs.«01_k».proof.Proof.Gen.KernelRope
public import proofs.«01_k».proof.Proof.Gen.KernelRopeIdeal
public import proofs.«01_k».proof.Proof.Gen.KernelRopeIdeal.Skeleton
public import proofs.«01_k».proof.Proof.Gen.KernelRopeIdeal.Launch
public import proofs.«01_k».proof.Proof.Gen.KernelRopeIdeal.Points
public import proofs.«01_k».proof.Proof.Gen.KernelRopeIdeal.Frame
public import proofs.«01_k».proof.Proof.Gen.KernelRopeIdeal.Value
public import proofs.«01_k».proof.Proof.Gen.ReferenceRopeIdeal
public import proofs.«01_k».proof.Proof.Gen.ReferenceRopeIdeal.Run
public import proofs.«01_k».proof.Proof.Gen.ReferenceRopeIdeal.Read
public import proofs.«01_k».proof.Proof.CallIn
public import Idealize.ShloMosaic.Adequacy
public import Idealize.ShloMosaic.Init
public import Idealize.ShloMosaic.Lib.Pointwise
public import Idealize.ShloMosaic.Lib.StableHlo.ReadAt
public import Idealize.ShloMosaic.Lib.Pipeline.ValueKit

@[expose] public section

set_option maxRecDepth 16384

noncomputable section

/-! # The gradient of the rotation

Each of the 8 steps turns 512 rows of the gradients of the queries and of the keys back, a tile of two heads at once by the
tables of the forward call with the other sign, and puts them beside the gradients of the values and of the recurrence's
input. The reference is the derivative of that cutting and turning: a sum of arrays that are zero outside their part.
-/

namespace Cert.KernelRopeIdeal.Call

open Cert.KernelRopeIdeal Cert.KernelRopeIdeal.Gen Idealize.ShloMosaic Idealize.ShloMosaic.TcCoe Idealize.ShloMosaic.Tactic Idealize.SL.Sem
open Cert.KernelInIdeal.Call (pick table table_at all8 all48)

theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-! ## One row -/

/-- A row of whole heads, each turned back by the cosines `C` and the sines `S`. -/
def back {n : ℕ} (hn : n % 64 = 0) (C S : Fin 8 → EReal) (f : Fin n → EReal) (j : Fin n) : EReal :=
  if h : j.val % 64 < 8 then f j * C ⟨j.val % 64, h⟩ + f ⟨j.val + 8, by omega⟩ * S ⟨j.val % 64, h⟩
  else if h : j.val % 64 - 8 < 8 then f j * C ⟨j.val % 64 - 8, h⟩ - f ⟨j.val - 8, by omega⟩ * S ⟨j.val % 64 - 8, h⟩
  else f j

/-- The word with which the tile's rotations are multiplied. -/
theorem minus_one : Ideal.ofBits .f32 0xBF800000#32 = -1 := IdealRules.sign_bit.ideal_negOnePat .f32

/-- A tile less its two rotations, each by its table. -/
def spun (f x a b : Fin 128 → EReal) (k : Fin 128) : EReal :=
  f k * x k + Ideal.ofBits .f32 0xBF800000#32 * (f ⟨(k.val + 128 - 120) % 128, by omega⟩ * a k + f ⟨(k.val + 128 - 8) % 128, by omega⟩ * b k)

theorem spun_back {n : ℕ} (hn : n % 64 = 0) (o : ℕ) (ho : o + 128 ≤ n) (hm : o % 64 = 0) (C S : Fin 8 → EReal) (f : Fin n → EReal)
    (x a b : Fin 128 → EReal) (hx : ∀ k, x k = pick C C 1 k.val) (ha : ∀ k, a k = pick (fun i => -S i) (fun _ => 0) 0 k.val)
    (hb : ∀ k, b k = pick (fun _ => 0) S 0 k.val) (k : Fin 128) :
    spun (fun k => f ⟨o + k.val, by omega⟩) x a b k = back hn C S f ⟨o + k.val, by omega⟩ := by
  have hk := k.isLt
  have he : (o + k.val) % 64 = k.val % 64 := by omega
  unfold spun back
  rw [hx, ha, hb, minus_one]
  unfold pick
  simp only [he]
  split
  · rw [mul_zero, add_zero, mul_neg, neg_mul_neg, one_mul]
    exact congrArg (fun i => _ + f i * _) (Fin.ext (by show o + (k.val + 128 - 120) % 128 = o + k.val + 8; omega))
  · split
    · rw [mul_zero, zero_add, neg_mul, one_mul, ← sub_eq_add_neg]
      exact congrArg (fun i => _ - f i * _) (Fin.ext (by show o + (k.val + 128 - 8) % 128 = o + k.val - 8; omega))
    · rw [mul_zero, mul_zero, add_zero, mul_zero, add_zero, mul_one]

/-! ## The step's values -/

section
variable (x : FVec Ideal S512x128 .f32) (a b d : FVec Ideal S512x128 .f32)

/-- A tile's row less its rotations. -/
abbrev tile (r : Fin 512) (k : Fin 128) : EReal :=
  spun (fun k => x (ix2 r k)) (fun k => a (ix2 r k)) (fun k => b (ix2 r k)) (fun k => d (ix2 r k)) k

theorem tile_0 (r : Fin 512) (k : Fin 128) : k0_pay5 (F := Ideal) x a b d (ix2 r k) = tile x a b d r k := by
  unfold tile spun
  pointwise [k0_pay5]

theorem tile_1 (r : Fin 512) (k : Fin 128) : k0_pay7 (F := Ideal) (k0_pay6 (F := Ideal) x a b d) (ix2 r k) = tile x a b d r k := by
  unfold tile spun
  pointwise [k0_pay7, k0_pay6]

theorem tile_2 (r : Fin 512) (k : Fin 128) : k0_pay8 (F := Ideal) x a b d (ix2 r k) = tile x a b d r k := by
  unfold tile spun
  pointwise [k0_pay8]

theorem tile_3 (r : Fin 512) (k : Fin 128) :
    k0_pay1 (F := Ideal) (k0_pay9 (F := Ideal) x a) (k0_pay10 (F := Ideal) x b d) (ix2 r k) = tile x a b d r k := by
  unfold tile spun
  pointwise [k0_pay1, k0_pay9, k0_pay10]

theorem tile_4 (r : Fin 512) (k : Fin 128) : k0_pay2 (F := Ideal) x a b d (ix2 r k) = tile x a b d r k := by
  unfold tile spun
  pointwise [k0_pay2]

end

/-! ## The reference -/

section
open Cert.ReferenceRopeIdeal.Read

/-- The cosines and the sines of a row. -/
abbrev cosines (r : Fin 4096) (i : Fin 8) : EReal := val_main_v16 (F := Ideal) (ix2 r i)
abbrev sines (r : Fin 4096) (i : Fin 8) : EReal := val_main_v18 (F := Ideal) (ix2 r i)

theorem same_cosines : val_main_v49 (F := Ideal) = val_main_v16 (F := Ideal) := by sl_kernel_rfl
theorem same_sines : val_main_v51 (F := Ideal) = val_main_v18 (F := Ideal) := by sl_kernel_rfl

/-- A head's three parts, each zero outside its place, add up to its row turned back. -/
theorem parts_back {n : ℕ} (hn : n % 64 = 0) (C S : Fin 8 → EReal) (f : Fin n → EReal) (o : ℕ) (ho : o + 64 ≤ n) (hm : o % 64 = 0) (d : Fin 64) :
    (((if h : 16 ≤ d.val ∧ d.val - 16 < 48 then f ⟨o + (16 + (d.val - 16)), by omega⟩ else 0)
      + if h : 8 ≤ d.val ∧ d.val - 8 < 8 then f ⟨o + (8 + (d.val - 8)), by omega⟩ * C ⟨d.val - 8, h.2⟩ + -f ⟨o + (d.val - 8), by omega⟩ * S ⟨d.val - 8, h.2⟩ else 0)
      + if h : d.val < 8 then f ⟨o + (8 + d.val), by omega⟩ * S ⟨d.val, h⟩ + f ⟨o + d.val, by omega⟩ * C ⟨d.val, h⟩ else 0)
      = back hn C S f ⟨o + d.val, by omega⟩ := by
  have hd := d.isLt
  have he : (o + d.val) % 64 = d.val := by omega
  unfold back
  simp only [he]
  by_cases h0 : d.val < 8
  · rw [dif_neg (by omega), dif_neg (by omega), dif_pos h0, dif_pos h0, zero_add, zero_add, add_comm]
    exact congrArg (fun i => _ + f i * _) (Fin.ext (by show o + (8 + d.val) = o + d.val + 8; omega))
  · rw [dif_neg h0, dif_neg h0, add_zero]
    by_cases h1 : d.val - 8 < 8
    · rw [dif_neg (by omega), dif_pos ⟨by omega, h1⟩, dif_pos h1, zero_add, neg_mul, ← sub_eq_add_neg]
      refine congrArg₂ (fun i j => f i * _ - f j * _) (Fin.ext ?_) (Fin.ext ?_)
      · show o + (8 + (d.val - 8)) = o + d.val
        omega
      · show o + (d.val - 8) = o + d.val - 8
        omega
    · rw [dif_pos ⟨by omega, by omega⟩, dif_neg (by omega), dif_neg h1, add_zero]
      exact congrArg f (Fin.ext (by show o + (16 + (d.val - 16)) = o + d.val; omega))

variable (x : FVec Ideal S4096x512 .f32) (y z : FVec Ideal S4096x128 .f32) (w : FVec Ideal S4096x512 .f32)

theorem reference_queries (r : Fin 4096) (h : Fin 8) (d : Fin 64) : val_main_v116 (F := Ideal) x (ix3 r h d)
    = back (by decide) (cosines r) (sines r) (fun j => x (ix2 r j)) ⟨h.val * 64 + d.val, by omega⟩ := by
  rw [← parts_back _ _ _ _ _ (by omega) (by omega)]
  pointwise [val_main_v116, val_main_v114, val_main_v112, val_main_cst_10, val_main_v100, val_main_v75, val_main_v113, val_main_cst_11, val_main_v108, val_main_v104, val_main_v99, val_main_v103, val_main_v17, val_main_v107, val_main_v105, val_main_v98, val_main_v106, val_main_v19, val_main_v115, val_main_v111, val_main_v102, val_main_v101, val_main_v110, val_main_v109, val_main_cst_12]

theorem reference_keys (r : Fin 4096) (h : Fin 2) (d : Fin 64) : val_main_v94 (F := Ideal) y (ix3 r h d)
    = back (by decide) (cosines r) (sines r) (fun j => y (ix2 r j)) ⟨h.val * 64 + d.val, by omega⟩ := by
  rw [← parts_back _ _ _ _ _ (by omega) (by omega)]
  unfold cosines sines
  rw [← same_cosines, ← same_sines]
  pointwise [val_main_v94, val_main_v92, val_main_v90, val_main_cst_6, val_main_v78, val_main_v74, val_main_v91, val_main_cst_7, val_main_v86, val_main_v82, val_main_v77, val_main_v81, val_main_v50, val_main_v85, val_main_v83, val_main_v76, val_main_v84, val_main_v52, val_main_v93, val_main_v89, val_main_v80, val_main_v79, val_main_v88, val_main_v87, val_main_cst_8]

/-- A row of the gradient: the queries and the keys turned back, the values, the recurrence's input. -/
def joined (r : Fin 4096) (j : Fin 1280) : EReal :=
  if h : j.val < 512 then back (by decide) (cosines r) (sines r) (fun k => x (ix2 r k)) ⟨j.val, h⟩
  else if h : j.val - 512 < 128 then back (by decide) (cosines r) (sines r) (fun k => y (ix2 r k)) ⟨j.val - 512, h⟩
  else if h : j.val - 640 < 128 then z (ix2 r ⟨j.val - 640, h⟩)
  else w (ix2 r ⟨j.val - 768, by omega⟩)

theorem reference_joined (r : Fin 4096) (j : Fin 1280) : val_main_v120 (F := Ideal) x y z w (ix2 r j) = joined x y z w r j := by
  have hj := j.isLt
  have e : val_main_v120 (F := Ideal) x y z w (ix2 r j)
      = (((if h : 768 ≤ j.val ∧ j.val - 768 < 512 then w (ix2 r ⟨j.val - 768, h.2⟩) else 0)
        + if h : 640 ≤ j.val ∧ j.val - 640 < 128 then z (ix2 r ⟨j.val - 640, h.2⟩) else 0)
        + if h : 512 ≤ j.val ∧ j.val - 512 < 128 then val_main_v94 (F := Ideal) y (ix3 r ⟨(j.val - 512) / 64, by omega⟩ ⟨(j.val - 512) % 64, by omega⟩) else 0)
        + if h : j.val < 512 then val_main_v116 (F := Ideal) x (ix3 r ⟨j.val / 64, by omega⟩ ⟨j.val % 64, by omega⟩) else 0 := by
    pointwise [val_main_v120, val_main_v119, val_main_v97, val_main_v73, val_main_v71, val_main_cst_4, val_main_v72, val_main_cst_5, val_main_v96, val_main_cst_9, val_main_v95, val_main_v118, val_main_cst_13, val_main_v117]
  rw [e]
  unfold joined
  by_cases h0 : j.val < 512
  · rw [dif_neg (by omega), dif_neg (by omega), dif_neg (by omega), dif_pos h0, dif_pos h0, zero_add, zero_add, zero_add, reference_queries]
    exact congrArg _ (Fin.ext (by show j.val / 64 * 64 + j.val % 64 = j.val; omega))
  · rw [dif_neg h0, dif_neg h0, add_zero]
    by_cases h1 : j.val - 512 < 128
    · rw [dif_neg (by omega), dif_neg (by omega), dif_pos ⟨by omega, h1⟩, dif_pos h1, zero_add, zero_add, reference_keys]
      exact congrArg _ (Fin.ext (by show (j.val - 512) / 64 * 64 + (j.val - 512) % 64 = j.val - 512; omega))
    · rw [dif_neg (by omega : ¬(512 ≤ j.val ∧ j.val - 512 < 128)), dif_neg h1, add_zero]
      by_cases h2 : j.val - 640 < 128
      · rw [dif_neg (by omega), dif_pos ⟨by omega, h2⟩, dif_pos h2, zero_add]
      · rw [dif_pos ⟨by omega, by omega⟩, dif_neg (by omega), dif_neg h2, add_zero]

end

/-! ## The tables -/

section
open Cert.ReferenceRopeIdeal.Read
variable (m : (ℓ : Loc nD τ sig) → Buf (Elt Ideal) ℓ) (c : Dev nD)

theorem V_cosines : V m c main_v23 = table (val_main_v16 (F := Ideal)) (val_main_v16 (F := Ideal)) (all48 0x3F800000#32) := by
  unfold V
  after_reads_simp
  dsimp only [Matrix.cons_val]
  sl_kernel_rfl

theorem V_less : V m c main_v26 = table (Host.negf (val_main_v18 (F := Ideal))) (all8 0x00000000#32) (all48 0x00000000#32) := by
  unfold V
  after_reads_simp
  dsimp only [Matrix.cons_val]
  sl_kernel_rfl

theorem V_more : V m c main_v29 = table (all8 0x00000000#32) (val_main_v18 (F := Ideal)) (all48 0x00000000#32) := by
  unfold V
  after_reads_simp
  dsimp only [Matrix.cons_val]
  sl_kernel_rfl

end

/-! ## The array at the end -/

variable (m : (ℓ : Loc nD τ sig) → Buf (Elt Ideal) ℓ) (c : Dev nD)

/-- The row of the array at which a step's row stands. -/
def row (t : Fin cfg0.N) (r : Fin 512) : Fin 4096 := ⟨t.val * 512 + r.val, by have := t.isLt; have : cfg0.N = 8 := N_0; omega⟩

theorem cosines_eq (t : Fin cfg0.N) (r : Fin 512) (k : Fin 128) : iblk m c 4 t (ix2 r k) = pick (cosines (row t r)) (cosines (row t r)) 1 k.val := by
  refine (show iblk m c 4 t (ix2 r k) = V m c main_v23 (ix2 (row t r) k) from by blk_ext [iblk, index t, row]).trans ?_
  rw [V_cosines, table_at]
  pointwise

theorem less_eq (t : Fin cfg0.N) (r : Fin 512) (k : Fin 128) :
    iblk m c 5 t (ix2 r k) = pick (fun i => -sines (row t r) i) (fun _ => 0) 0 k.val := by
  refine (show iblk m c 5 t (ix2 r k) = V m c main_v26 (ix2 (row t r) k) from by blk_ext [iblk, index t, row]).trans ?_
  rw [V_less, table_at]
  pointwise

theorem more_eq (t : Fin cfg0.N) (r : Fin 512) (k : Fin 128) : iblk m c 6 t (ix2 r k) = pick (fun _ => 0) (sines (row t r)) 0 k.val := by
  refine (show iblk m c 6 t (ix2 r k) = V m c main_v29 (ix2 (row t r) k) from by blk_ext [iblk, index t, row]).trans ?_
  rw [V_more, table_at]
  pointwise

/-- A row of the gradient over the arguments. -/
abbrev wide (r : Fin 4096) (j : Fin 1280) : EReal := joined (m ((c.tc : Thread nD τ).loc main_arg0)) (m ((c.tc : Thread nD τ).loc main_arg1))
  (m ((c.tc : Thread nD τ).loc main_arg2)) (m ((c.tc : Thread nD τ).loc main_arg3)) r j

/-- A tile of a step's row, turned back. -/
theorem tile_eq {n : ℕ} (hn : n % 64 = 0) (t : Fin cfg0.N) (o : ℕ) (ho : o + 128 ≤ n) (hm : o % 64 = 0) (f : Fin n → EReal)
    (q : FVec Ideal S512x128 .f32) (r : Fin 512) (hq : ∀ k : Fin 128, q (ix2 r k) = f ⟨o + k.val, by omega⟩) (k : Fin 128) :
    tile q (iblk m c 4 t) (iblk m c 5 t) (iblk m c 6 t) r k
      = back hn (cosines (row t r)) (sines (row t r)) f ⟨o + k.val, by omega⟩ := by
  unfold tile
  rw [show (fun k => q (ix2 r k)) = fun k : Fin 128 => f ⟨o + k.val, by omega⟩ from funext hq]
  exact spun_back hn o ho hm _ _ _ _ _ _ (cosines_eq m c t r) (less_eq m c t r) (more_eq m c t r) k

/-- What a step leaves in a tile of the queries. -/
theorem query_left (t : Fin cfg0.N) (o : ℕ) (ho : o + 128 ≤ 512) (hm : o % 64 = 0) (q : FVec Ideal S512x128 .f32) (p : FVec Ideal S512x128 .bf16)
    (hp : ∀ r k, p (ix2 r k) = tile q (iblk m c 4 t) (iblk m c 5 t) (iblk m c 6 t) r k)
    (hq : ∀ (r : Fin 512) (k : Fin 128), q (ix2 r k) = m ((c.tc : Thread nD τ).loc main_arg0) (ix2 (row t r) (⟨o + k.val, by omega⟩ : Fin 512)))
    (x : S512x128.Idx) (r : Fin 512) (j : Fin 1280) (h0 : r.val = (x 0).val) (h1 : j.val = o + (x 1).val) : p x = wide m c (row t r) j := by
  have h2 : (x 1).val < 128 := (x 1).isLt
  have h := (hp (x 0) (x 1)).trans (tile_eq m c (by decide) t o ho hm (fun k => m ((c.tc : Thread nD τ).loc main_arg0) (ix2 (row t (x 0)) k)) q (x 0) (hq (x 0)) (x 1))
  rw [ix2_eta] at h
  unfold wide joined
  rw [h, dif_pos (by omega), show x 0 = r from Fin.ext h0.symm]
  exact congrArg _ (Fin.ext h1.symm)

theorem key_left (t : Fin cfg0.N) (x : S512x128.Idx) (r : Fin 512) (j : Fin 1280) (h0 : r.val = (x 0).val) (h1 : j.val = 512 + (x 1).val) :
    k0_pay2 (F := Ideal) (iblk m c 1 t) (iblk m c 4 t) (iblk m c 5 t) (iblk m c 6 t) x = wide m c (row t r) j := by
  have h2 : (x 1).val < 128 := (x 1).isLt
  have h := (tile_4 (iblk m c 1 t) (iblk m c 4 t) (iblk m c 5 t) (iblk m c 6 t) (x 0) (x 1)).trans (tile_eq m c (by decide) t 0 (by decide) (by decide)
    (fun k : Fin 128 => m ((c.tc : Thread nD τ).loc main_arg1) (ix2 (row t (x 0)) k)) (iblk m c 1 t) (x 0)
    (fun k => by blk_ext [iblk, V, index t, row]) (x 1))
  rw [ix2_eta] at h
  unfold wide joined
  rw [h, dif_neg (by omega), dif_pos (by omega), show x 0 = r from Fin.ext h0.symm]
  exact congrArg _ (Fin.ext (by show 0 + (x 1).val = j.val - 512; omega))

theorem value_left (t : Fin cfg0.N) (x : S512x128.Idx) (r : Fin 512) (j : Fin 1280) (h0 : r.val = (x 0).val) (h1 : j.val = 640 + (x 1).val) :
    k0_pay3 (F := Ideal) (iblk m c 2 t) x = wide m c (row t r) j := by
  have h2 : (x 1).val < 128 := (x 1).isLt
  unfold wide joined
  rw [dif_neg (by omega), dif_neg (by omega), dif_pos (by omega)]
  have hx : x = ix2 r (x 1) := (ix2_eta x).symm.trans (congrArg (fun a => ix2 a (x 1)) (Fin.ext h0.symm))
  refine (congrArg (k0_pay3 (F := Ideal) (iblk m c 2 t)) hx).trans ?_
  refine (show k0_pay3 (F := Ideal) (iblk m c 2 t) (ix2 r (x 1)) = iblk m c 2 t (ix2 r (x 1)) from by pointwise [k0_pay3]).trans ?_
  refine (show iblk m c 2 t (ix2 r (x 1)) = m ((c.tc : Thread nD τ).loc main_arg2) (ix2 (row t r) (x 1)) from by blk_ext [iblk, V, index t, row]).trans ?_
  exact congrArg (fun k : Fin 128 => m ((c.tc : Thread nD τ).loc main_arg2) (ix2 (row t r) k)) (Fin.ext (by show (x 1).val = j.val - 640; omega))

theorem rest_left (t : Fin cfg0.N) (x : S512x512.Idx) (r : Fin 512) (j : Fin 1280) (h0 : r.val = (x 0).val) (h1 : j.val = 768 + (x 1).val) :
    k0_pay4 (F := Ideal) (iblk m c 3 t) x = wide m c (row t r) j := by
  have h2 : (x 1).val < 512 := (x 1).isLt
  unfold wide joined
  rw [dif_neg (by omega), dif_neg (by omega), dif_neg (by omega)]
  have hx : x = ix2 r (x 1) := (ix2_eta x).symm.trans (congrArg (fun a => ix2 a (x 1)) (Fin.ext h0.symm))
  refine (congrArg (k0_pay4 (F := Ideal) (iblk m c 3 t)) hx).trans ?_
  refine (show k0_pay4 (F := Ideal) (iblk m c 3 t) (ix2 r (x 1)) = iblk m c 3 t (ix2 r (x 1)) from by pointwise [k0_pay4]).trans ?_
  refine (show iblk m c 3 t (ix2 r (x 1)) = m ((c.tc : Thread nD τ).loc main_arg3) (ix2 (row t r) (x 1)) from by blk_ext [iblk, V, index t, row]).trans ?_
  exact congrArg (fun k : Fin 512 => m ((c.tc : Thread nD τ).loc main_arg3) (ix2 (row t r) k)) (Fin.ext (by show (x 1).val = j.val - 768; omega))

/-- A tile of the queries' gradient as a step reads it. -/
theorem query_read (t : Fin cfg0.N) (o : ℕ) (ho : o + 128 ≤ 512) (hb : ∀ a, (![0, o] : Fin 2 → ℕ) a + S512x128.size a ≤ S512x512.size a) (r : Fin 512) (k : Fin 128) :
    View.ld (iblk m c 0 t) (Rect.unit (s := S512x512) ![0, o] S512x128.size hb) (ix2 r k)
      = m ((c.tc : Thread nD τ).loc main_arg0) (ix2 (row t r) (⟨o + k.val, by omega⟩ : Fin 512)) := by
  have hi : (Rect.unit (s := S512x512) ![0, o] S512x128.size hb).idx (ix2 r k) = ix2 r (⟨o + k.val, by omega⟩ : Fin 512) :=
    funext fun a => Fin.ext (by
      fin_cases a
      · exact (Nat.zero_add _).trans (Nat.one_mul _)
      · exact congrArg (o + ·) (Nat.one_mul _))
  refine (congrArg (iblk m c 0 t) hi).trans ?_
  blk_ext [iblk, V, index t, row]

theorem left (t : Fin cfg0.N) (y : S512x1280.Idx) : outsAt0 m c t y = wide m c (row t (y 0)) (y 1) := by
  unfold outsAt0
  frame_out
  canon_tiles x h using (View.cover_of_tiledBy _ ![512, 128] (by sl_kernel_rfl) y)
  · exact rest_left m c t x _ _ h0 h1
  · exact value_left m c t x _ _ h0 h1
  · exact key_left m c t x _ _ h0 h1
  · exact query_left m c t 384 (by decide) (by decide) _ _ (tile_3 _ _ _ _) (query_read m c t 384 (by decide) _) x _ _ h0 h1
  · exact query_left m c t 256 (by decide) (by decide) _ _ (tile_2 _ _ _ _) (query_read m c t 256 (by decide) _) x _ _ h0 h1
  · exact query_left m c t 128 (by decide) (by decide) _ _ (tile_1 _ _ _ _) (query_read m c t 128 (by decide) _) x _ _ h0 h1
  · exact query_left m c t 0 (by decide) (by decide) _ _ (tile_0 _ _ _ _) (query_read m c t 0 (by decide) _) x _ _ h0 (h1.trans (Nat.zero_add _).symm)

/-- The gradient of the projection over the arguments. -/
abbrev gradient : FVec Ideal S4096x1280 .bf16 := Cert.ReferenceRopeIdeal.Read.val_main_v120 (F := Ideal) (m ((c.tc : Thread nD τ).loc main_arg0)) (m ((c.tc : Thread nD τ).loc main_arg1)) (m ((c.tc : Thread nD τ).loc main_arg2)) (m ((c.tc : Thread nD τ).loc main_arg3))

theorem final : (dats m 0 c).arrAt 7 cfg0.N = gradient m c := by
  refine (dats m 0 c).arrAt_eq_of_covers 7 _ (by decide +kernel) fun t hf y => ?_
  blk_simp
  rw [after0_7]
  have he : (win0_7.blk t).view.emb y = ix2 (row t (y 0)) (y 1) := by blk_ext [index t, row]
  exact (left m c t y).trans ((reference_joined _ _ _ _ _ _).symm.trans (congrArg (gradient m c) he.symm))

theorem frame_ideal : Cert.quiescent_KernelRopeIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The kernel as printed has the same text, so its frame is this one over the machine's floats. -/
theorem same_text : Cert.quiescent_KernelRope = FrameAt Bits := by sl_kernel_rfl

theorem frame_bits : Cert.quiescent_KernelRope := same_text.mpr fun m ρ _ => frame m ρ

theorem frame_reference : Cert.quiescent_ReferenceRopeIdeal := fun m ρ _ =>
  (θ_run Cert.ReferenceRopeIdeal.defs _ _).mono
    (fun r h => ⟨fun c => (h c).2, sem_eq_zero_of_no_sems (by decide) r.2⟩)
    (Cert.ReferenceRopeIdeal.Value.run (F := Ideal) m ρ)

/-- The kernel's result at exact arithmetic is the reference's. -/
theorem equal_results : Cert.algebraic_KernelRopeIdeal_ReferenceRopeIdeal := by
  intro m g m' g' _ ha
  refine ⟨_, (θ_run _ _ _).mono (fun r h c => ⟨(h c).1.trans (final m c), (h c).2⟩) (Value.run_blocks m g), ?_⟩
  refine (θ_run _ _ _).mono (fun r h c => ?_) (Cert.ReferenceRopeIdeal.Value.run (F := Ideal) m' g')
  obtain ⟨a0, a1, a2, a3⟩ := ha c
  refine ⟨(h c).1.trans ((Cert.ReferenceRopeIdeal.Read.val_main_v120_eq _ _).trans ?_), (h c).2⟩
  exact congr (congr (congr (congrArg (Cert.ReferenceRopeIdeal.Read.val_main_v120 (F := Ideal)) a0) a1) a2) a3

end Cert.KernelRopeIdeal.Call

end
-- ==== Proof.CallAdamw.lean ====
module

public import proofs.«01_k».proof.Defs
public import proofs.«01_k».proof.Proof.Gen.KernelAdamw
public import proofs.«01_k».proof.Proof.Gen.KernelAdamwIdeal
public import proofs.«01_k».proof.Proof.Gen.KernelAdamwIdeal.Skeleton
public import proofs.«01_k».proof.Proof.Gen.KernelAdamwIdeal.Launch
public import proofs.«01_k».proof.Proof.Gen.KernelAdamwIdeal.Points
public import proofs.«01_k».proof.Proof.Gen.KernelAdamwIdeal.Frame
public import proofs.«01_k».proof.Proof.Gen.KernelAdamwIdeal.Value
public import proofs.«01_k».proof.Proof.Gen.ReferenceAdamwIdeal
public import proofs.«01_k».proof.Proof.Gen.ReferenceAdamwIdeal.Run
public import proofs.«01_k».proof.Proof.Gen.ReferenceAdamwIdeal.Read
public import Idealize.ShloMosaic.Adequacy
public import Idealize.ShloMosaic.Init
public import Idealize.ShloMosaic.Lib.Pointwise
public import Idealize.ShloMosaic.Lib.Pipeline.ValueKit

@[expose] public section

noncomputable section

/-! # The optimiser's update of a weight

Each of the 2 steps adds the three received parts of 176 rows of the gradient to the device's own, and updates the two moments
and the weight by the sum.
-/

namespace Cert.KernelAdamwIdeal.Call

open Cert.KernelAdamwIdeal Cert.KernelAdamwIdeal.Gen Idealize.ShloMosaic Idealize.ShloMosaic.TcCoe Idealize.ShloMosaic.Tactic Idealize.SL.Sem

theorem index : ∀ t : Fin cfg0.N, win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The first moment after the gradient `g`. -/
def first (m g : EReal) : EReal := Ideal.ofBits .f32 0x3F666666#32 * m + Ideal.ofBits .f32 0x3DCCCCCD#32 * g

/-- The second moment after the gradient `g`. -/
def second (v g : EReal) : EReal := Ideal.ofBits .f32 0x3F7FBE77#32 * v + Ideal.ofBits .f32 0x3A83126F#32 * (g * g)

/-- The weight's step from the two moments and the weight. -/
def change (p q w : EReal) : EReal :=
  Ideal.ofBits .f32 0xBA83126F#32 * (Ideal.div (Ideal.div p (Ideal.ofBits .f32 0x3F26BD02#32))
    (Ideal.sqrt (Ideal.div q (Ideal.ofBits .f32 0x3C231ACC#32)) + Ideal.ofBits .f32 0x322BCC77#32) + Ideal.ofBits .f32 0x3C23D70A#32 * w)

section
variable (g x w p q : FVec Ideal S176x1024 .f32) (a b d : FVec Ideal S1x176x1024 .bf16)

theorem sum_at (i : S176x1024.Idx) : k0_pay2 (F := Ideal) x a b d i
    = x i + a (ix3 0 (i 0) (i 1)) + b (ix3 0 (i 0) (i 1)) + d (ix3 0 (i 0) (i 1)) := by
  pointwise [k0_pay2]

theorem first_at (i : S176x1024.Idx) : k0_pay4 (F := Ideal) g x i = first (x i) (g i) := by
  unfold first
  pointwise [k0_pay4, k0_pay3]

theorem second_at (i : S176x1024.Idx) : k0_pay5 (F := Ideal) g x i = second (x i) (g i) := by
  unfold second
  pointwise [k0_pay5, k0_pay3]

theorem change_at (i : S176x1024.Idx) : k0_pay1 (F := Ideal) p q w i = change (p i) (q i) (w i) := by
  unfold change
  pointwise [k0_pay1]

end

section
open Cert.ReferenceAdamwIdeal.Read
variable (w x : FVec Ideal S352x1024 .f32) (r : FVec Ideal S3x352x1024 .bf16) (p q : FVec Ideal S352x1024 .f32)

theorem reference_sum (i : S352x1024.Idx) : val_main_v2 (F := Ideal) x r i
    = x i + r (ix3 0 (i 0) (i 1)) + r (ix3 1 (i 0) (i 1)) + r (ix3 2 (i 0) (i 1)) := by
  have h : val_main_v2 (F := Ideal) x r i = x i + ∑ k : Fin 3, r (ix3 k (i 0) (i 1)) := by
    pointwise [val_main_v2, val_main_v1, val_main_v0, val_main_cst]
  rw [h, Fin.sum_univ_three, ← add_assoc, ← add_assoc]

theorem reference_first (i : S352x1024.Idx) : val_main_v7 (F := Ideal) x r p i = first (p i) (val_main_v2 (F := Ideal) x r i) := by
  unfold first
  pointwise [val_main_v7, val_main_v6, val_main_v5, val_main_v4, val_main_v3, val_main_cst_0, val_main_cst_1]

theorem reference_second (i : S352x1024.Idx) : val_main_v13 (F := Ideal) x r q i = second (q i) (val_main_v2 (F := Ideal) x r i) := by
  unfold second
  pointwise [val_main_v13, val_main_v12, val_main_v11, val_main_v10, val_main_v9, val_main_v8, val_main_cst_2, val_main_cst_3]

theorem reference_change (i : S352x1024.Idx) : val_main_v26 (F := Ideal) w x r p q i
    = change (val_main_v7 (F := Ideal) x r p i) (val_main_v13 (F := Ideal) x r q i) (w i) := by
  unfold change
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]

end

variable (m : (ℓ : Loc nD τ sig) → Buf (Elt Ideal) ℓ) (c : Dev nD)

/-- The row of the array at which a step's row stands. -/
def row (t : Fin cfg0.N) (r : Fin 176) : Fin 352 := ⟨t.val * 176 + r.val, by have := t.isLt; have : cfg0.N = 2 := N_0; omega⟩

theorem weight_eq (t : Fin cfg0.N) (i : S176x1024.Idx) : iblk m c 0 t i = (m ((c.tc : Thread nD τ).loc main_arg0)) (ix2 (row t (i 0)) (i 1)) := by
  blk_ext [iblk, V, index t, row]

theorem own_eq (t : Fin cfg0.N) (i : S176x1024.Idx) : iblk m c 1 t i = (m ((c.tc : Thread nD τ).loc main_arg1)) (ix2 (row t (i 0)) (i 1)) := by
  blk_ext [iblk, V, index t, row]

theorem received_eq (t : Fin cfg0.N) (i : S3x176x1024.Idx) : iblk m c 2 t i = (m ((c.tc : Thread nD τ).loc main_arg2)) (ix3 (i 0) (row t (i 1)) (i 2)) := by
  blk_ext [iblk, V, index t, row]

theorem first_eq (t : Fin cfg0.N) (i : S176x1024.Idx) : iblk m c 3 t i = (m ((c.tc : Thread nD τ).loc main_arg3)) (ix2 (row t (i 0)) (i 1)) := by
  blk_ext [iblk, V, index t, row]

theorem second_eq (t : Fin cfg0.N) (i : S176x1024.Idx) : iblk m c 4 t i = (m ((c.tc : Thread nD τ).loc main_arg4)) (ix2 (row t (i 0)) (i 1)) := by
  blk_ext [iblk, V, index t, row]

/-- One of the received parts, read from the step's block. -/
theorem part_eq (t : Fin cfg0.N) (k : Fin 3) (inb : ∀ a : Fin 3, (![k.val, 0, 0] : Fin 3 → ℕ) a + (![1, 176, 1024] : Fin 3 → ℕ) a ≤ (![3, 176, 1024] : Fin 3 → ℕ) a) (r : Fin 176) (j : Fin 1024) :
    View.ld (iblk m c 2 t) (Rect.unit (s := S3x176x1024) ![k.val, 0, 0] ![1, 176, 1024] inb) (ix3 0 r j)
      = (m ((c.tc : Thread nD τ).loc main_arg2)) (ix3 k (row t r) j) := by
  have hi : (Rect.unit (s := S3x176x1024) ![k.val, 0, 0] ![1, 176, 1024] inb).emb (ix3 0 r j) = ix3 k r j := by
    funext a
    fin_cases a <;> exact Fin.ext (by simp)
  exact (congrArg (iblk m c 2 t) hi).trans (received_eq m c t (ix3 k r j))

/-- The gradient over the arguments. -/
abbrev total : FVec Ideal S352x1024 .f32 := Cert.ReferenceAdamwIdeal.Read.val_main_v2 (F := Ideal) (m ((c.tc : Thread nD τ).loc main_arg1)) (m ((c.tc : Thread nD τ).loc main_arg2))

/-- The step's sum of the device's own gradient and the received parts. -/
abbrev stepSum (t : Fin cfg0.N) : FVec Ideal S176x1024 .f32 :=
  k0_pay2 (iblk m c 1 t)
    (View.ld (iblk m c 2 t) (Rect.unit ![0, 0, 0] ![1, 176, 1024] inb_S3x176x1024_S1x176x1024_0_0_0))
    (View.ld (iblk m c 2 t) (Rect.unit ![1, 0, 0] ![1, 176, 1024] inb_S3x176x1024_S1x176x1024_1_0_0))
    (View.ld (iblk m c 2 t) (Rect.unit ![2, 0, 0] ![1, 176, 1024] inb_S3x176x1024_S1x176x1024_2_0_0))

theorem sum_left (t : Fin cfg0.N) (y : S176x1024.Idx) : stepSum m c t y = total m c (ix2 (row t (y 0)) (y 1)) := by
  unfold stepSum total
  rw [sum_at, reference_sum]
  exact congrArg₂ (· + ·) (congrArg₂ (· + ·) (congrArg₂ (· + ·) (own_eq m c t y) (part_eq m c t 0 _ (y 0) (y 1))) (part_eq m c t 1 _ (y 0) (y 1)))
    (part_eq m c t 2 _ (y 0) (y 1))

theorem first_left (t : Fin cfg0.N) (y : S176x1024.Idx) : k0_pay4 (F := Ideal) (stepSum m c t) (iblk m c 3 t) y
    = Cert.ReferenceAdamwIdeal.Read.val_main_v7 (F := Ideal) (m ((c.tc : Thread nD τ).loc main_arg1)) (m ((c.tc : Thread nD τ).loc main_arg2)) (m ((c.tc : Thread nD τ).loc main_arg3)) (ix2 (row t (y 0)) (y 1)) := by
  rw [first_at, reference_first]
  exact congrArg₂ first (first_eq m c t y) (sum_left m c t y)

theorem second_left (t : Fin cfg0.N) (y : S176x1024.Idx) : k0_pay5 (F := Ideal) (stepSum m c t) (iblk m c 4 t) y
    = Cert.ReferenceAdamwIdeal.Read.val_main_v13 (F := Ideal) (m ((c.tc : Thread nD τ).loc main_arg1)) (m ((c.tc : Thread nD τ).loc main_arg2)) (m ((c.tc : Thread nD τ).loc main_arg4)) (ix2 (row t (y 0)) (y 1)) := by
  rw [second_at, reference_second]
  exact congrArg₂ second (second_eq m c t y) (sum_left m c t y)

theorem change_left (t : Fin cfg0.N) (y : S176x1024.Idx) :
    k0_pay1 (F := Ideal) (k0_pay4 (stepSum m c t) (iblk m c 3 t)) (k0_pay5 (stepSum m c t) (iblk m c 4 t)) (iblk m c 0 t) y
    = Cert.ReferenceAdamwIdeal.Read.val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (row t (y 0)) (y 1)) := by
  rw [change_at, reference_change, first_left, second_left]
  exact congrArg (change _ _) (weight_eq m c t y)

theorem final_sum : (dats m 0 c).arrAt 5 cfg0.N = Cert.ReferenceAdamwIdeal.Read.val_main_v2 (F := Ideal) (m ((c.tc : Thread nD τ).loc main_arg1)) (m ((c.tc : Thread nD τ).loc main_arg2)) := by
  refine (dats m 0 c).arrAt_eq_of_covers 5 _ (by decide +kernel) fun t hf y => ?_
  blk_simp
  rw [after0_5]
  unfold outsAt0 out0_A_5
  frame_out
  have he : (win0_5.blk t).view.emb y = ix2 (row t (y 0)) (y 1) := by blk_ext [index t, row]
  exact (sum_left m c t y).trans (congrArg (Cert.ReferenceAdamwIdeal.Read.val_main_v2 (F := Ideal) (m ((c.tc : Thread nD τ).loc main_arg1)) (m ((c.tc : Thread nD τ).loc main_arg2))) he.symm)

theorem final_change : (dats m 0 c).arrAt 6 cfg0.N = Cert.ReferenceAdamwIdeal.Read.val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  unfold outsAt0 out0_A_6
  frame_out
  have he : (win0_6.blk t).view.emb y = ix2 (row t (y 0)) (y 1) := by blk_ext [index t, row]
  exact (change_left m c t y).trans (congrArg (Cert.ReferenceAdamwIdeal.Read.val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) he.symm)

theorem final_first : (dats m 0 c).arrAt 7 cfg0.N = Cert.ReferenceAdamwIdeal.Read.val_main_v7 (F := Ideal) (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp
  rw [after0_7]
  unfold outsAt0 out0_A_7
  frame_out
  have he : (win0_7.blk t).view.emb y = ix2 (row t (y 0)) (y 1) := by blk_ext [index t, row]
  exact (first_left m c t y).trans (congrArg (Cert.ReferenceAdamwIdeal.Read.val_main_v7 (F := Ideal) (m ((c.tc : Thread nD τ).loc main_arg1)) (m ((c.tc : Thread nD τ).loc main_arg2)) (m ((c.tc : Thread nD τ).loc main_arg3))) he.symm)

theorem final_second : (dats m 0 c).arrAt 8 cfg0.N = Cert.ReferenceAdamwIdeal.Read.val_main_v13 (F := Ideal) (m ((c.tc : Thread nD τ).loc main_arg1)) (m ((c.tc : Thread nD τ).loc main_arg2)) (m ((c.tc : Thread nD τ).loc main_arg4)) := by
  refine (dats m 0 c).arrAt_eq_of_covers 8 _ (by decide +kernel) fun t hf y => ?_
  blk_simp
  rw [after0_8]
  unfold outsAt0 out0_A_8
  frame_out
  have he : (win0_8.blk t).view.emb y = ix2 (row t (y 0)) (y 1) := by blk_ext [index t, row]
  exact (second_left m c t y).trans (congrArg (Cert.ReferenceAdamwIdeal.Read.val_main_v13 (F := Ideal) (m ((c.tc : Thread nD τ).loc main_arg1)) (m ((c.tc : Thread nD τ).loc main_arg2)) (m ((c.tc : Thread nD τ).loc main_arg4))) he.symm)

theorem frame_ideal : Cert.quiescent_KernelAdamwIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The kernel as printed has the same text, so its frame is this one over the machine's floats. -/
theorem same_text : Cert.quiescent_KernelAdamw = FrameAt Bits := by sl_kernel_rfl

theorem frame_bits : Cert.quiescent_KernelAdamw := same_text.mpr fun m ρ _ => frame m ρ

theorem frame_reference : Cert.quiescent_ReferenceAdamwIdeal := fun m ρ _ =>
  (θ_run Cert.ReferenceAdamwIdeal.defs _ _).mono
    (fun r h => ⟨fun c => (h c).2.2.2.2, sem_eq_zero_of_no_sems (by decide) r.2⟩)
    (Cert.ReferenceAdamwIdeal.Value.run (F := Ideal) m ρ)

/-- The kernel's results at exact arithmetic are the reference's. -/
theorem equal_results : Cert.algebraic_KernelAdamwIdeal_ReferenceAdamwIdeal := by
  intro m g m' g' _ ha
  refine ⟨_, _, _, _, (θ_run _ _ _).mono (fun r h c => ⟨(h c).1.trans (final_sum m c), (h c).2.1.trans (final_change m c),
    (h c).2.2.1.trans (final_first m c), (h c).2.2.2.1.trans (final_second m c), (h c).2.2.2.2⟩) (Value.run_blocks m g), ?_⟩
  refine (θ_run _ _ _).mono (fun r h c => ?_) (Cert.ReferenceAdamwIdeal.Value.run (F := Ideal) m' g')
  obtain ⟨a0, a1, a2, a3, a4⟩ := ha c
  refine ⟨(h c).1.trans ((Cert.ReferenceAdamwIdeal.Read.val_main_v2_eq _ _).trans ?_), (h c).2.1.trans ((Cert.ReferenceAdamwIdeal.Read.val_main_v26_eq _ _ _ _ _).trans ?_),
    (h c).2.2.1.trans ((Cert.ReferenceAdamwIdeal.Read.val_main_v7_eq _ _ _).trans ?_), (h c).2.2.2.1.trans ((Cert.ReferenceAdamwIdeal.Read.val_main_v13_eq _ _ _).trans ?_), (h c).2.2.2.2⟩
  · exact congr (congrArg (Cert.ReferenceAdamwIdeal.Read.val_main_v2 (F := Ideal)) a1) a2
  · exact congr (congr (congr (congr (congrArg (Cert.ReferenceAdamwIdeal.Read.val_main_v26 (F := Ideal)) a0) a1) a2) a3) a4
  · exact congr (congr (congrArg (Cert.ReferenceAdamwIdeal.Read.val_main_v7 (F := Ideal)) a1) a2) a3
  · exact congr (congr (congrArg (Cert.ReferenceAdamwIdeal.Read.val_main_v13 (F := Ideal)) a1) a2) a4

end Cert.KernelAdamwIdeal.Call

end
-- ==== Proof.CallConv.lean ====
module

public import proofs.«01_k».proof.Defs
public import proofs.«01_k».proof.Proof.Gen.KernelConv
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.KernelConvIdeal.Value
public import proofs.«01_k».proof.Proof.Gen.ReferenceConvIdeal
public import proofs.«01_k».proof.Proof.Gen.ReferenceConvIdeal.Run
public import proofs.«01_k».proof.Proof.Gen.ReferenceConvIdeal.Read
public import proofs.«01_k».proof.Proof.Gate
public import Idealize.ShloMosaic.Adequacy
public import Idealize.ShloMosaic.Init
public import Idealize.ShloMosaic.Lib.KernelVsHost
public import Idealize.ShloMosaic.Lib.Pointwise
public import Idealize.ShloMosaic.Lib.Pipeline.ValueKit

@[expose] public section

noncomputable section

/-! # The convolution of the feed-forward part, with its gate

Each of the 11 steps takes 256 columns of the gate and of the value, and goes over the 4096 rows in 32 trips of 128. A row's
neighbours are rows of the same trip, or the last row of the trip before and the first row of the trip after, or zero.
-/

namespace Cert.KernelConvIdeal.Call

open Cert.KernelConvIdeal Cert.KernelConvIdeal.Gen Idealize.ShloMosaic Idealize.ShloMosaic.TcCoe Idealize.ShloMosaic.Tactic Idealize.SL.Sem
open Gate

theorem index : ∀ t : Fin cfg0.N, win0_0.index t = ![0, t.val] ∧ win0_1.index t = ![0, t.val + 11] ∧ win0_2.index t = ![0, t.val]
    ∧ win0_3.index t = ![0, t.val + 11] ∧ win0_4.index t = ![0, t.val] ∧ win0_5.index t = ![0, t.val + 11] ∧ win0_6.index t = ![0, t.val]
    ∧ win0_7.index t = ![0, t.val] ∧ win0_8.index t = ![0, t.val] :=
  (by decide +kernel : ∀ t : Fin grid0.N, _)

/-- What holds of every trip's stores holds of the stores of all trips so far. -/
theorem all_of_steps {α : Type} {n : ℕ} (P : α → Prop) (L : ℕ → List α) (T : Fin n → List α) (h0 : L 0 = [])
    (hs : ∀ k : Fin n, L (k.val + 1) = T k ++ L k.val) (ht : ∀ k, ∀ p ∈ T k, P p) : ∀ k, k ≤ n → ∀ p ∈ L k, P p
  | 0, _, p, hp => by rw [h0] at hp; exact absurd hp List.not_mem_nil
  | k + 1, hk, p, hp => by
    rw [hs ⟨k, hk⟩, List.mem_append] at hp
    exact hp.elim (ht _ p) (all_of_steps P L T h0 hs ht k (Nat.le_of_succ_le hk) p)

/-- Three neighbouring rows with their weights, and the bias. -/
def taps (p x n a b d e : EReal) : EReal := a * p + b * x + d * n + e

/-- The gated value. -/
def gated (g v : EReal) : EReal := g * Ideal.logistic g * v

section
variable {n : ℕ} (x : FVec Ideal ⟨2, ![4096, n]⟩ .bf16) (w : FVec Ideal ⟨2, ![3, n]⟩ .f32) (b : FVec Ideal ⟨2, ![1, n]⟩ .f32)

/-- The row above, zero over the first. -/
def above (r : Fin 4096) (j : Fin n) : EReal := if h : 1 ≤ r.val then x (ix2 ⟨r.val - 1, by omega⟩ j) else 0

/-- The row below, zero under the last. -/
def below (r : Fin 4096) (j : Fin n) : EReal := if h : r.val + 1 < 4096 then x (ix2 ⟨r.val + 1, h⟩ j) else 0

/-- An element of the convolution along the rows. -/
def conv (r : Fin 4096) (j : Fin n) : EReal :=
  taps (above x r j) (x (ix2 r j)) (below x r j) (w (ix2 0 j)) (w (ix2 1 j)) (w (ix2 2 j)) (b (ix2 0 j))

end

section
variable (k : Fin k0_t1_loop.trips) (v : FVec Ideal S128x256 .bf16) (u : FVec Ideal S16x256 .bf16)

/-- The row above within a trip, whose first row looks at the rows before the trip. -/
def before (i : S128x256.Idx) : EReal :=
  if (i 0).val = 0 then (if 0 < k.val then u (ix2 15 (i 1)) else 0) else v (ix2 ⟨((i 0).val + 128 - 1) % 128, Nat.mod_lt _ (by decide)⟩ (i 1))

/-- The row below within a trip, whose last row looks at the rows after the trip. -/
def after (i : S128x256.Idx) : EReal :=
  if (i 0).val = 127 then (if k.val < 31 then u (ix2 0 (i 1)) else 0) else v (ix2 ⟨((i 0).val + 128 - 127) % 128, Nat.mod_lt _ (by decide)⟩ (i 1))

theorem is_first : ∀ r : Fin 128, IntOp.cmpi .eq (BitVec.ofNat 32 r.val) 0#32 = BitVec.ofBool (decide (r.val = 0)) := by decide +kernel

theorem is_last : ∀ r : Fin 128, IntOp.cmpi .eq (BitVec.ofNat 32 r.val) 127#32 = BitVec.ofBool (decide (r.val = 127)) := by decide +kernel

theorem has_before : ∀ k : Fin k0_t1_loop.trips,
    Scalar.cmpi .sgt (Scalar.muli (Scf.iv 0#32 1#32 k.val) 128#32) 0#32 = BitVec.ofBool (decide (0 < k.val)) := by decide +kernel

theorem has_after : ∀ k : Fin k0_t1_loop.trips,
    Scalar.cmpi .slt (Scalar.addi (Scalar.muli (Scf.iv 0#32 1#32 k.val) 128#32) 128#32) 4096#32 = BitVec.ofBool (decide (k.val < 31)) := by
  decide +kernel

theorem gate_before (i : S128x256.Idx) : k0_pay2 (F := Ideal) 0#32 1#32 k v u i = before k v u i := by
  unfold before
  pointwise [k0_pay2, k0_pay1]
  rw [is_first (i 0), has_before k]
  simp only [Scalar.select_ofBool, decide_eq_true_eq]

theorem gate_after (i : S128x256.Idx) : k0_pay3 (F := Ideal) 0#32 1#32 k v u i = after k v u i := by
  unfold after
  pointwise [k0_pay3, k0_pay1]
  rw [is_last (i 0), has_after k]
  simp only [Scalar.select_ofBool, decide_eq_true_eq]

variable (l : FVec Ideal S16x256 .bf16) (a b d e : FVec Ideal S1x256 .f32)

/-- The convolution of a trip's rows. -/
abbrev trip (i : S128x256.Idx) : EReal :=
  taps (before k v u i) (v i) (after k v l i) (a (ix2 0 (i 1))) (b (ix2 0 (i 1))) (d (ix2 0 (i 1))) (e (ix2 0 (i 1)))

theorem gate_at (i : S128x256.Idx) : k0_pay4 (F := Ideal) (k0_pay1 v) (k0_pay2 0#32 1#32 k v u) (k0_pay3 0#32 1#32 k v l) a b d e i
    = trip k v u l a b d e i := by
  unfold trip taps
  rw [← gate_before, ← gate_after]
  pointwise [k0_pay4, k0_pay1]

theorem value_at (i : S128x256.Idx) : k0_pay9 (F := Ideal) (k0_pay5 v) (k0_pay6 (Scalar.muli (Scf.iv 0#32 1#32 k.val) 128#32) u)
    (k0_pay7 (Scalar.muli (Scf.iv 0#32 1#32 k.val) 128#32) l) (iota Kind.tc S128x256 32 [0] iota_S128x256_d0_w32) k0_pay8 1#32 a b d e i
    = trip k v u l a b d e i := by
  unfold trip taps before after
  pointwise [k0_pay9, k0_pay8, k0_pay7, k0_pay6, k0_pay5]
  rw [is_first (i 0), has_before k, is_last (i 0), has_after k]
  simp only [Scalar.select_ofBool, decide_eq_true_eq]

theorem kept_value (p q : FVec Ideal S1x256 .f32) (x : FVec Ideal S128x256 .f32) (s : IVec S128x256 32) (o : IVec S128x256 1) (z : BitVec 32)
    (i : S128x256.Idx) : k0_pay12 (F := Ideal) x p q s o z a b d e i = k0_pay9 (F := Ideal) x p q s o z a b d e i := by
  pointwise [k0_pay12]

theorem kept_gate (g : FVec Ideal S128x256 .f32) (i : S128x256.Idx) : k0_pay11 (F := Ideal) g i = g i := by
  pointwise [k0_pay11]

theorem gated_at (g : FVec Ideal S128x256 .f32) (p q : FVec Ideal S1x256 .f32) (x : FVec Ideal S128x256 .f32) (s : IVec S128x256 32) (o : IVec S128x256 1) (z : BitVec 32)
    (i : S128x256.Idx) : k0_pay10 (F := Ideal) g x p q s o z a b d e i = gated (g i) (k0_pay9 (F := Ideal) x p q s o z a b d e i) := by
  unfold gated
  rw [← sigmoid_tanh]
  pointwise [k0_pay10]

end

section
variable (x : Vec Ideal S4096x256 .bf16) (k : Fin k0_t1_loop.trips)

/-- The row of a trip's row. -/
def place (r : Fin 128) : Fin 4096 := ⟨128 * k.val + r.val, by have : k.val < 32 := Nat.lt_of_lt_of_le k.isLt k0_t1_abs.2.1; omega⟩

theorem off2_eq : ∀ k : Fin k0_t1_loop.trips, k0_off2 k = ![128 * k.val - 16, 0] := by decide +kernel

theorem rows_place {n : ℕ} (off : Fin 2 → ℕ) (inb : ∀ a : Fin 2, off a + (![n, 256] : Fin 2 → ℕ) a ≤ (![4096, 256] : Fin 2 → ℕ) a)
    (i : (⟨2, ![n, 256]⟩ : Shape).Idx) (r : Fin 4096) (h0 : off 0 + (i 0).val = r.val) (h1 : off 1 = 0) :
    (Rect.unit (s := S4096x256) off ![n, 256] inb).emb i = ix2 r (i 1) := by
  refine funext fun a => Fin.ext ?_
  fin_cases a
  · exact (congrArg (off 0 + ·) (Nat.one_mul _)).trans h0
  · exact (congrArg (off 1 + ·) (Nat.one_mul _)).trans (by rw [h1]; exact Nat.zero_add _)

theorem rows_read {n : ℕ} (off : Fin 2 → ℕ) (inb : ∀ a : Fin 2, off a + (![n, 256] : Fin 2 → ℕ) a ≤ (![4096, 256] : Fin 2 → ℕ) a)
    (i : (⟨2, ![n, 256]⟩ : Shape).Idx) (r : Fin 4096) (h0 : off 0 + (i 0).val = r.val) (h1 : off 1 = 0) :
    View.ld x (Rect.unit (s := S4096x256) off ![n, 256] inb) i = x (ix2 r (i 1)) :=
  congrArg x (rows_place off inb i r h0 h1)

theorem place_eq (i : S128x256.Idx) (inb) : (Rect.unit (s := S4096x256) (k0_off1 k) ![128, 256] inb).emb i = ix2 (place k (i 0)) (i 1) :=
  rows_place _ _ i _ (by rw [k0_off1_eq]; rfl) (by rw [k0_off1_eq]; rfl)

theorem here_eq (i : S128x256.Idx) (inb) : View.ld x (Rect.unit (s := S4096x256) (k0_off1 k) ![128, 256] inb) i = x (ix2 (place k (i 0)) (i 1)) :=
  rows_read x _ _ i _ (by rw [k0_off1_eq]; rfl) (by rw [k0_off1_eq]; rfl)

theorem before_eq (i : S128x256.Idx) (inb) (inb') : before k (View.ld x (Rect.unit (s := S4096x256) (k0_off1 k) ![128, 256] inb))
    (View.ld x (Rect.unit (s := S4096x256) (k0_off2 k) ![16, 256] inb')) i = above x (place k (i 0)) (i 1) := by
  have hi : (i 0).val < 128 := (i 0).isLt
  have hk : k.val < 32 := Nat.lt_of_lt_of_le k.isLt k0_t1_abs.2.1
  unfold before above place
  by_cases h : (i 0).val = 0
  · by_cases hz : 0 < k.val
    · rw [if_pos h, if_pos hz, dif_pos (by show 1 ≤ 128 * k.val + (i 0).val; omega)]
      exact rows_read x _ _ (ix2 15 (i 1)) _ (by rw [off2_eq]; show 128 * k.val - 16 + 15 = 128 * k.val + (i 0).val - 1; omega) (by rw [off2_eq]; rfl)
    · rw [if_pos h, if_neg hz, dif_neg (by show ¬ 1 ≤ 128 * k.val + (i 0).val; omega)]
  · rw [if_neg h, dif_pos (by show 1 ≤ 128 * k.val + (i 0).val; omega)]
    exact rows_read x _ _ (ix2 _ (i 1)) _ (by rw [k0_off1_eq]; show 128 * k.val + ((i 0).val + 128 - 1) % 128 = 128 * k.val + (i 0).val - 1; omega)
      (by rw [k0_off1_eq]; rfl)

theorem after_eq (i : S128x256.Idx) (inb) (inb') : after k (View.ld x (Rect.unit (s := S4096x256) (k0_off1 k) ![128, 256] inb))
    (View.ld x (Rect.unit (s := S4096x256) (k0_off3 k) ![16, 256] inb')) i = below x (place k (i 0)) (i 1) := by
  have hi : (i 0).val < 128 := (i 0).isLt
  have hk : k.val < 32 := Nat.lt_of_lt_of_le k.isLt k0_t1_abs.2.1
  unfold after below place
  by_cases h : (i 0).val = 127
  · by_cases hz : k.val < 31
    · rw [if_pos h, if_pos hz, dif_pos (by show 128 * k.val + (i 0).val + 1 < 4096; omega)]
      exact rows_read x _ _ (ix2 0 (i 1)) _ (by rw [k0_off3_eq]; show min (128 * k.val + 128) 4080 + 0 = 128 * k.val + (i 0).val + 1; omega) (by rw [k0_off3_eq]; rfl)
    · rw [if_pos h, if_neg hz, dif_neg (by show ¬ 128 * k.val + (i 0).val + 1 < 4096; omega)]
  · rw [if_neg h, dif_pos (by show 128 * k.val + (i 0).val + 1 < 4096; omega)]
    exact rows_read x _ _ (ix2 _ (i 1)) _ (by rw [k0_off1_eq]; show 128 * k.val + ((i 0).val + 128 - 127) % 128 = 128 * k.val + (i 0).val + 1; omega)
      (by rw [k0_off1_eq]; rfl)

theorem weight_read (w : Vec Ideal S3x256 .f32) (q : Fin 3) (inb : ∀ a : Fin 2, (![q.val, 0] : Fin 2 → ℕ) a + (![1, 256] : Fin 2 → ℕ) a ≤ (![3, 256] : Fin 2 → ℕ) a)
    (j : Fin 256) : View.ld w (Rect.unit (s := S3x256) ![q.val, 0] ![1, 256] inb) (ix2 0 j) = w (ix2 q j) := by
  refine congrArg w (funext fun a => ?_)
  fin_cases a <;> exact Fin.ext (by simp)

/-- A trip's convolution is the block's, at the rows of the trip. -/
theorem trip_eq (w : Vec Ideal S3x256 .f32) (b : Vec Ideal S1x256 .f32) (i : S128x256.Idx) (inb) (inb') (inb'') :
    trip k (View.ld x (Rect.unit (s := S4096x256) (k0_off1 k) ![128, 256] inb)) (View.ld x (Rect.unit (s := S4096x256) (k0_off2 k) ![16, 256] inb'))
      (View.ld x (Rect.unit (s := S4096x256) (k0_off3 k) ![16, 256] inb''))
      (View.ld w (Rect.unit ![0, 0] ![1, 256] inb_S3x256_S1x256_0_0)) (View.ld w (Rect.unit ![1, 0] ![1, 256] inb_S3x256_S1x256_1_0))
      (View.ld w (Rect.unit ![2, 0] ![1, 256] inb_S3x256_S1x256_2_0)) b i
    = conv (n := 256) x w b (place k (i 0)) (i 1) := by
  unfold trip conv
  have h0 : View.ld w (Rect.unit ![0, 0] ![1, 256] inb_S3x256_S1x256_0_0) (ix2 0 (i 1)) = w (ix2 0 (i 1)) := weight_read w 0 _ (i 1)
  have h1 : View.ld w (Rect.unit ![1, 0] ![1, 256] inb_S3x256_S1x256_1_0) (ix2 0 (i 1)) = w (ix2 1 (i 1)) := weight_read w 1 _ (i 1)
  have h2 : View.ld w (Rect.unit ![2, 0] ![1, 256] inb_S3x256_S1x256_2_0) (ix2 0 (i 1)) = w (ix2 2 (i 1)) := weight_read w 2 _ (i 1)
  rw [before_eq, after_eq, here_eq, h0, h1, h2]

end

section
variable (k : Fin k0_t1_loop.trips) (x y : Vec Ideal S4096x256 .bf16) (w v : Vec Ideal S3x256 .f32) (b d : Vec Ideal S1x256 .f32)
variable (i : S128x256.Idx) (inb1 inb2 inb3)

/-- The convolution of a block. -/
def blockConv (z : S4096x256.Idx) : EReal := conv (n := 256) x w b (z 0) (z 1)

theorem gate_trip : k0_pay11 (F := Ideal) (k0_pay4 (k0_pay1 (View.ld x (Rect.unit (s := S4096x256) (k0_off1 k) ![128, 256] inb1))) (k0_pay2 0#32 1#32 k (View.ld x (Rect.unit (s := S4096x256) (k0_off1 k) ![128, 256] inb1)) (View.ld x (Rect.unit (s := S4096x256) (k0_off2 k) ![16, 256] inb2))) (k0_pay3 0#32 1#32 k (View.ld x (Rect.unit (s := S4096x256) (k0_off1 k) ![128, 256] inb1)) (View.ld x (Rect.unit (s := S4096x256) (k0_off3 k) ![16, 256] inb3)))
      (View.ld w (Rect.unit ![0, 0] ![1, 256] inb_S3x256_S1x256_0_0)) (View.ld w (Rect.unit ![1, 0] ![1, 256] inb_S3x256_S1x256_1_0)) (View.ld w (Rect.unit ![2, 0] ![1, 256] inb_S3x256_S1x256_2_0)) b) i = blockConv x w b ((Rect.unit (s := S4096x256) (k0_off1 k) ![128, 256] inb1).emb i) :=
  (kept_gate _ i).trans (((gate_at k _ _ _ _ _ _ _ i).trans (trip_eq x k w b i _ _ _)).trans (congrArg (blockConv x w b) (place_eq k i inb1).symm))

theorem value_trip : k0_pay12 (F := Ideal) (k0_pay5 (View.ld y (Rect.unit (s := S4096x256) (k0_off1 k) ![128, 256] inb1))) (k0_pay6 (Scalar.muli (Scf.iv 0#32 1#32 k.val) 128#32) (View.ld y (Rect.unit (s := S4096x256) (k0_off2 k) ![16, 256] inb2))) (k0_pay7 (Scalar.muli (Scf.iv 0#32 1#32 k.val) 128#32) (View.ld y (Rect.unit (s := S4096x256) (k0_off3 k) ![16, 256] inb3)))
      (iota Kind.tc S128x256 32 [0] iota_S128x256_d0_w32) k0_pay8 1#32
      (View.ld v (Rect.unit ![0, 0] ![1, 256] inb_S3x256_S1x256_0_0)) (View.ld v (Rect.unit ![1, 0] ![1, 256] inb_S3x256_S1x256_1_0)) (View.ld v (Rect.unit ![2, 0] ![1, 256] inb_S3x256_S1x256_2_0)) d i = blockConv y v d ((Rect.unit (s := S4096x256) (k0_off1 k) ![128, 256] inb1).emb i) :=
  (kept_value _ _ _ _ _ _ _ _ _ _ i).trans (((value_at k _ _ _ _ _ _ _ i).trans (trip_eq y k v d i _ _ _)).trans (congrArg (blockConv y v d) (place_eq k i inb1).symm))

theorem gated_trip : k0_pay10 (F := Ideal) (k0_pay4 (k0_pay1 (View.ld x (Rect.unit (s := S4096x256) (k0_off1 k) ![128, 256] inb1))) (k0_pay2 0#32 1#32 k (View.ld x (Rect.unit (s := S4096x256) (k0_off1 k) ![128, 256] inb1)) (View.ld x (Rect.unit (s := S4096x256) (k0_off2 k) ![16, 256] inb2))) (k0_pay3 0#32 1#32 k (View.ld x (Rect.unit (s := S4096x256) (k0_off1 k) ![128, 256] inb1)) (View.ld x (Rect.unit (s := S4096x256) (k0_off3 k) ![16, 256] inb3)))
      (View.ld w (Rect.unit ![0, 0] ![1, 256] inb_S3x256_S1x256_0_0)) (View.ld w (Rect.unit ![1, 0] ![1, 256] inb_S3x256_S1x256_1_0)) (View.ld w (Rect.unit ![2, 0] ![1, 256] inb_S3x256_S1x256_2_0)) b) (k0_pay5 (View.ld y (Rect.unit (s := S4096x256) (k0_off1 k) ![128, 256] inb1))) (k0_pay6 (Scalar.muli (Scf.iv 0#32 1#32 k.val) 128#32) (View.ld y (Rect.unit (s := S4096x256) (k0_off2 k) ![16, 256] inb2))) (k0_pay7 (Scalar.muli (Scf.iv 0#32 1#32 k.val) 128#32) (View.ld y (Rect.unit (s := S4096x256) (k0_off3 k) ![16, 256] inb3)))
      (iota Kind.tc S128x256 32 [0] iota_S128x256_d0_w32) k0_pay8 1#32
      (View.ld v (Rect.unit ![0, 0] ![1, 256] inb_S3x256_S1x256_0_0)) (View.ld v (Rect.unit ![1, 0] ![1, 256] inb_S3x256_S1x256_1_0)) (View.ld v (Rect.unit ![2, 0] ![1, 256] inb_S3x256_S1x256_2_0)) d i
    = (fun z => gated (blockConv x w b z) (blockConv y v d z)) ((Rect.unit (s := S4096x256) (k0_off1 k) ![128, 256] inb1).emb i) := by
  rw [gated_at, gate_at, value_at, trip_eq, trip_eq, place_eq]
  rfl

end

section
open Cert.ReferenceConvIdeal.Read
variable (x : FVec Ideal S4096x5632 .bf16) (w : FVec Ideal S3x5632 .f32) (b : FVec Ideal S1x5632 .f32)

theorem reference_above (i : S4096x5632.Idx) : val_main_v3 (F := Ideal) x i = above (n := 5632) x (i 0) (i 1) := by
  unfold above
  have hi : (i 0).val < 4096 := (i 0).isLt
  pointwise [val_main_v3, val_main_v2, val_main_v0, val_main_call0_v0, val_main_c]
  by_cases h : 1 ≤ (i 0).val
  · rw [dif_pos h, dif_pos ⟨h, by omega⟩]
  · rw [dif_neg h, dif_neg fun h' => h h'.1]
    exact sitofp_zero (φ := .f32)

theorem reference_here (i : S4096x5632.Idx) : val_main_v11 (F := Ideal) x i = x i := by
  pointwise [val_main_v11, val_main_v2, val_main_v0, val_main_call0_v0, val_main_c]

theorem reference_below (i : S4096x5632.Idx) : val_main_v18 (F := Ideal) x i = below (n := 5632) x (i 0) (i 1) := by
  unfold below
  pointwise [val_main_v18, val_main_v2, val_main_v0, val_main_call0_v0, val_main_c]
  by_cases h : (i 0).val + 1 < 4096
  · rw [dif_pos h, dif_pos ⟨by omega, by omega⟩]
    exact congrArg (fun r => x (ix2 r (i 1))) (Fin.ext (by show 2 + (i 0).val - 1 = (i 0).val + 1; omega))
  · rw [dif_neg h, dif_neg fun h' => h (by omega)]
    exact sitofp_zero (φ := .f32)

theorem reference_conv (i : S4096x5632.Idx) : val_main_v27 (F := Ideal) x w b i = conv (n := 5632) x w b (i 0) (i 1) := by
  have h : val_main_v27 (F := Ideal) x w b i = val_main_v3 (F := Ideal) x i * w (ix2 0 (i 1)) + val_main_v11 (F := Ideal) x i * w (ix2 1 (i 1))
      + val_main_v18 (F := Ideal) x i * w (ix2 2 (i 1)) + b (ix2 0 (i 1)) := by
    pointwise [val_main_v27, val_main_v26, val_main_v25, val_main_v24, val_main_v23, val_main_v22, val_main_v21, val_main_v20, val_main_v19, val_main_v17, val_main_v16, val_main_v15, val_main_v14, val_main_v13, val_main_v12, val_main_v10, val_main_v9, val_main_v8, val_main_v7, val_main_v6, val_main_v5, val_main_v4, val_main_v1, val_main_cst]
  have hx : x (ix2 (i 0) (i 1)) = x i := congrArg x (ix2_eta i)
  rw [h, reference_above, reference_here, reference_below]
  unfold conv taps
  rw [hx]
  exact congrArg (· + _) (congrArg₂ (· + ·) (congrArg₂ (· + ·) (mul_comm _ _) (mul_comm _ _)) (mul_comm _ _))

theorem reference_gate (i : S4096x2816.Idx) : val_main_v28 (F := Ideal) x w b i = conv (n := 5632) x w b (i 0) ⟨(i 1).val, by have : (i 1).val < 2816 := (i 1).isLt; omega⟩ := by
  have h : val_main_v28 (F := Ideal) x w b i = val_main_v27 (F := Ideal) x w b (ix2 (i 0) ⟨(i 1).val, by have : (i 1).val < 2816 := (i 1).isLt; omega⟩) := by
    pointwise [val_main_v28]
  exact h.trans (reference_conv x w b _)

theorem reference_value (i : S4096x2816.Idx) : val_main_v29 (F := Ideal) x w b i = conv (n := 5632) x w b (i 0) ⟨2816 + (i 1).val, by have : (i 1).val < 2816 := (i 1).isLt; omega⟩ := by
  have h : val_main_v29 (F := Ideal) x w b i = val_main_v27 (F := Ideal) x w b (ix2 (i 0) ⟨2816 + (i 1).val, by have : (i 1).val < 2816 := (i 1).isLt; omega⟩) := by
    pointwise [val_main_v29]
  exact h.trans (reference_conv x w b _)

theorem reference_gated (i : S4096x2816.Idx) :
    val_main_v32 (F := Ideal) x w b i = gated (val_main_v28 (F := Ideal) x w b i) (val_main_v29 (F := Ideal) x w b i) := by
  unfold gated
  rw [Ideal.logistic]
  pointwise [val_main_v32, val_main_v31, val_main_v30, val_main_call1_v5, val_main_call1_v4, val_main_call1_v3, val_main_call1_v2, val_main_call1_v1, val_main_call1_v0, val_main_call1_cst, val_main_call1_cst_0]

theorem reference_kept_gate (i : S4096x2816.Idx) : val_main_v33 (F := Ideal) x w b i = val_main_v28 (F := Ideal) x w b i := by
  pointwise [val_main_v33]

theorem reference_kept_value (i : S4096x2816.Idx) : val_main_v34 (F := Ideal) x w b i = val_main_v29 (F := Ideal) x w b i := by
  pointwise [val_main_v34]

end

variable (m : (ℓ : Loc nD τ sig) → Buf (Elt Ideal) ℓ) (c : Dev nD)

section
variable (t : Fin cfg0.N)

/-- The column of the results at which a step's column stands. -/
def col (j : Fin 256) : Fin 2816 := ⟨t.val * 256 + j.val, by have := t.isLt; have : cfg0.N = 11 := N_0; omega⟩

/-- The column of the gate among the columns of the inputs. -/
def gateCol (j : Fin 256) : Fin 5632 := ⟨(col t j).val, by have := (col t j).isLt; omega⟩

/-- The column of the value among the columns of the inputs. -/
def valueCol (j : Fin 256) : Fin 5632 := ⟨2816 + (col t j).val, by have := (col t j).isLt; omega⟩

theorem gate_input (i : S4096x256.Idx) : iblk m c 0 t i = (m ((c.tc : Thread nD τ).loc main_arg0)) (ix2 (i 0) (gateCol t (i 1))) := by
  blk_ext [iblk, V, index t, gateCol, col]

theorem gate_weight (i : S3x256.Idx) : iblk m c 2 t i = (m ((c.tc : Thread nD τ).loc main_arg1)) (ix2 (i 0) (gateCol t (i 1))) := by
  blk_ext [iblk, V, index t, gateCol, col]

theorem gate_bias (i : S1x256.Idx) : iblk m c 4 t i = (m ((c.tc : Thread nD τ).loc main_arg2)) (ix2 (i 0) (gateCol t (i 1))) := by
  blk_ext [iblk, V, index t, gateCol, col]

theorem value_input (i : S4096x256.Idx) : iblk m c 1 t i = (m ((c.tc : Thread nD τ).loc main_arg0)) (ix2 (i 0) (valueCol t (i 1))) := by
  blk_ext [iblk, V, index t, valueCol, col]

theorem value_weight (i : S3x256.Idx) : iblk m c 3 t i = (m ((c.tc : Thread nD τ).loc main_arg1)) (ix2 (i 0) (valueCol t (i 1))) := by
  blk_ext [iblk, V, index t, valueCol, col]

theorem value_bias (i : S1x256.Idx) : iblk m c 5 t i = (m ((c.tc : Thread nD τ).loc main_arg2)) (ix2 (i 0) (valueCol t (i 1))) := by
  blk_ext [iblk, V, index t, valueCol, col]

/-- A convolution of some columns is the whole one at those columns. -/
theorem conv_columns {n l : ℕ} (x : FVec Ideal ⟨2, ![4096, n]⟩ .bf16) (w : FVec Ideal ⟨2, ![3, n]⟩ .f32) (b : FVec Ideal ⟨2, ![1, n]⟩ .f32)
    (x' : FVec Ideal ⟨2, ![4096, l]⟩ .bf16) (w' : FVec Ideal ⟨2, ![3, l]⟩ .f32) (b' : FVec Ideal ⟨2, ![1, l]⟩ .f32) (f : Fin n → Fin l)
    (hx : ∀ i, x i = x' (ix2 (i 0) (f (i 1)))) (hw : ∀ i, w i = w' (ix2 (i 0) (f (i 1)))) (hb : ∀ i, b i = b' (ix2 (i 0) (f (i 1))))
    (r : Fin 4096) (j : Fin n) : conv x w b r j = conv x' w' b' r (f j) := by
  unfold conv above below
  simp only [hx, hw, hb]
  rfl

theorem gate_conv (r : Fin 4096) (j : Fin 256) :
    conv (n := 256) (iblk m c 0 t) (iblk m c 2 t) (iblk m c 4 t) r j = conv (n := 5632) (m ((c.tc : Thread nD τ).loc main_arg0)) (m ((c.tc : Thread nD τ).loc main_arg1)) (m ((c.tc : Thread nD τ).loc main_arg2)) r (gateCol t j) :=
  conv_columns _ _ _ _ _ _ (gateCol t) (gate_input m c t) (gate_weight m c t) (gate_bias m c t) r j

theorem value_conv (r : Fin 4096) (j : Fin 256) :
    conv (n := 256) (iblk m c 1 t) (iblk m c 3 t) (iblk m c 5 t) r j = conv (n := 5632) (m ((c.tc : Thread nD τ).loc main_arg0)) (m ((c.tc : Thread nD τ).loc main_arg1)) (m ((c.tc : Thread nD τ).loc main_arg2)) r (valueCol t j) :=
  conv_columns _ _ _ _ _ _ (valueCol t) (value_input m c t) (value_weight m c t) (value_bias m c t) r j

/-- The step leaves the gated value. -/
theorem gated_block (y : S4096x256.Idx) : (outsAt0 m c t).1 y = (fun z => gated (blockConv (iblk m c 0 t) (iblk m c 2 t) (iblk m c 4 t) z) (blockConv (iblk m c 1 t) (iblk m c 3 t) (iblk m c 5 t) z)) y := by
  unfold outsAt0 out0_A_6
  dsimp only
  rw [View.read_writes_junk_eq_canon]
  refine View.canon_apply_of_pieces (Val := Elt Ideal) (fun z => gated (blockConv (iblk m c 0 t) (iblk m c 2 t) (iblk m c 4 t) z) (blockConv (iblk m c 1 t) (iblk m c 3 t) (iblk m c 5 t) z)) _ ?_ y (cover0_A_6 _ _ _ _ _ _ _ _ _ _ _ _ _ _ _ _ _ _ _ _ _ _ _ _ _ _ y)
  unfold kernelRun0_A
  dsimp only
  refine all_of_steps _ (fun k => (pb_k0_t1 _ _ _ _ _ _ _ _ _ _ _ _ _ _ _ _ _ _ _ _ _ _ _ _ _ _ _ _ k).1) _ rfl
    (fun k => congrArg Prod.fst (pb_k0_t1_succ _ _ _ _ _ _ _ _ _ _ _ _ _ _ _ _ _ _ _ _ _ _ _ _ _ _ _ _ k)) ?_ _ le_rfl
  intro k p hp x
  unfold tripL_k0_t1 trip_k0_t1 at hp
  obtain rfl := List.mem_singleton.mp hp
  dsimp only
  frame_out
  exact gated_trip k _ _ _ _ _ _ x _ _ _

/-- The step leaves the gate. -/
theorem gate_block (y : S4096x256.Idx) : (outsAt0 m c t).2.1 y = (blockConv (iblk m c 0 t) (iblk m c 2 t) (iblk m c 4 t)) y := by
  unfold outsAt0 out0_A_7
  dsimp only
  rw [View.read_writes_junk_eq_canon]
  refine View.canon_apply_of_pieces (Val := Elt Ideal) (blockConv (iblk m c 0 t) (iblk m c 2 t) (iblk m c 4 t)) _ ?_ y (cover0_A_7 _ _ _ _ _ _ _ _ _ _ _ _ _ _ _ _ _ _ _ _ _ _ _ _ _ _ y)
  unfold kernelRun0_A
  dsimp only
  refine all_of_steps _ (fun k => (pb_k0_t1 _ _ _ _ _ _ _ _ _ _ _ _ _ _ _ _ _ _ _ _ _ _ _ _ _ _ _ _ k).2.1) _ rfl
    (fun k => congrArg Prod.fst (congrArg Prod.snd (pb_k0_t1_succ _ _ _ _ _ _ _ _ _ _ _ _ _ _ _ _ _ _ _ _ _ _ _ _ _ _ _ _ k))) ?_ _ le_rfl
  intro k p hp x
  unfold tripL_k0_t1 trip_k0_t1 at hp
  obtain rfl := List.mem_singleton.mp hp
  dsimp only
  frame_out
  exact gate_trip k _ _ _ x _ _ _

/-- The step leaves the value. -/
theorem value_block (y : S4096x256.Idx) : (outsAt0 m c t).2.2 y = (blockConv (iblk m c 1 t) (iblk m c 3 t) (iblk m c 5 t)) y := by
  unfold outsAt0 out0_A_8
  dsimp only
  rw [View.read_writes_junk_eq_canon]
  refine View.canon_apply_of_pieces (Val := Elt Ideal) (blockConv (iblk m c 1 t) (iblk m c 3 t) (iblk m c 5 t)) _ ?_ y (cover0_A_8 _ _ _ _ _ _ _ _ _ _ _ _ _ _ _ _ _ _ _ _ _ _ _ _ _ _ y)
  unfold kernelRun0_A
  dsimp only
  refine all_of_steps _ (fun k => (pb_k0_t1 _ _ _ _ _ _ _ _ _ _ _ _ _ _ _ _ _ _ _ _ _ _ _ _ _ _ _ _ k).2.2) _ rfl
    (fun k => congrArg Prod.snd (congrArg Prod.snd (pb_k0_t1_succ _ _ _ _ _ _ _ _ _ _ _ _ _ _ _ _ _ _ _ _ _ _ _ _ _ _ _ _ k))) ?_ _ le_rfl
  intro k p hp x
  unfold tripL_k0_t1 trip_k0_t1 at hp
  obtain rfl := List.mem_singleton.mp hp
  dsimp only
  frame_out
  exact value_trip k _ _ _ x _ _ _

end

section
variable (t : Fin cfg0.N) (y : S4096x256.Idx)

theorem gate_left : blockConv (iblk m c 0 t) (iblk m c 2 t) (iblk m c 4 t) y = Cert.ReferenceConvIdeal.Read.val_main_v33 (F := Ideal) (m ((c.tc : Thread nD τ).loc main_arg0)) (m ((c.tc : Thread nD τ).loc main_arg1)) (m ((c.tc : Thread nD τ).loc main_arg2)) (ix2 (y 0) (col t (y 1))) := by
  rw [reference_kept_gate, reference_gate]
  exact gate_conv m c t (y 0) (y 1)

theorem value_left : blockConv (iblk m c 1 t) (iblk m c 3 t) (iblk m c 5 t) y = Cert.ReferenceConvIdeal.Read.val_main_v34 (F := Ideal) (m ((c.tc : Thread nD τ).loc main_arg0)) (m ((c.tc : Thread nD τ).loc main_arg1)) (m ((c.tc : Thread nD τ).loc main_arg2)) (ix2 (y 0) (col t (y 1))) := by
  rw [reference_kept_value, reference_value]
  exact value_conv m c t (y 0) (y 1)

theorem gated_left : (fun z => gated (blockConv (iblk m c 0 t) (iblk m c 2 t) (iblk m c 4 t) z) (blockConv (iblk m c 1 t) (iblk m c 3 t) (iblk m c 5 t) z)) y
    = Cert.ReferenceConvIdeal.Read.val_main_v32 (F := Ideal) (m ((c.tc : Thread nD τ).loc main_arg0)) (m ((c.tc : Thread nD τ).loc main_arg1)) (m ((c.tc : Thread nD τ).loc main_arg2)) (ix2 (y 0) (col t (y 1))) := by
  rw [reference_gated, ← reference_kept_gate, ← reference_kept_value, ← gate_left, ← value_left]

end

theorem final_gated : (dats m 0 c).arrAt 6 cfg0.N = Cert.ReferenceConvIdeal.Read.val_main_v32 (F := Ideal) (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  blk_simp
  rw [after0_6]
  have he : (win0_6.blk t).view.emb y = ix2 (y 0) (col t (y 1)) := by blk_ext [index t, col]
  exact ((gated_block m c t y).trans (gated_left m c t y)).trans (congrArg (Cert.ReferenceConvIdeal.Read.val_main_v32 (F := Ideal) (m ((c.tc : Thread nD τ).loc main_arg0)) (m ((c.tc : Thread nD τ).loc main_arg1)) (m ((c.tc : Thread nD τ).loc main_arg2))) he.symm)

theorem final_gate : (dats m 0 c).arrAt 7 cfg0.N = Cert.ReferenceConvIdeal.Read.val_main_v33 (F := Ideal) (m ((c.tc : Thread nD τ).loc main_arg0)) (m ((c.tc : Thread nD τ).loc main_arg1)) (m ((c.tc : Thread nD τ).loc main_arg2)) := by
  refine (dats m 0 c).arrAt_eq_of_covers 7 _ (by decide +kernel) fun t hf y => ?_
  blk_simp
  rw [after0_7]
  have he : (win0_7.blk t).view.emb y = ix2 (y 0) (col t (y 1)) := by blk_ext [index t, col]
  exact ((gate_block m c t y).trans (gate_left m c t y)).trans (congrArg (Cert.ReferenceConvIdeal.Read.val_main_v33 (F := Ideal) (m ((c.tc : Thread nD τ).loc main_arg0)) (m ((c.tc : Thread nD τ).loc main_arg1)) (m ((c.tc : Thread nD τ).loc main_arg2))) he.symm)

theorem final_value : (dats m 0 c).arrAt 8 cfg0.N = Cert.ReferenceConvIdeal.Read.val_main_v34 (F := Ideal) (m ((c.tc : Thread nD τ).loc main_arg0)) (m ((c.tc : Thread nD τ).loc main_arg1)) (m ((c.tc : Thread nD τ).loc main_arg2)) := by
  refine (dats m 0 c).arrAt_eq_of_covers 8 _ (by decide +kernel) fun t hf y => ?_
  blk_simp
  rw [after0_8]
  have he : (win0_8.blk t).view.emb y = ix2 (y 0) (col t (y 1)) := by blk_ext [index t, col]
  exact ((value_block m c t y).trans (value_left m c t y)).trans (congrArg (Cert.ReferenceConvIdeal.Read.val_main_v34 (F := Ideal) (m ((c.tc : Thread nD τ).loc main_arg0)) (m ((c.tc : Thread nD τ).loc main_arg1)) (m ((c.tc : Thread nD τ).loc main_arg2))) he.symm)

theorem frame_ideal : Cert.quiescent_KernelConvIdeal := fun m ρ _ => frame m ρ

/-- The frame of the idealized kernel's text at any floats. -/
def FrameAt (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The kernel as printed has the same text, so its frame is this one over the machine's floats. -/
theorem same_text : Cert.quiescent_KernelConv = FrameAt Bits := by sl_kernel_rfl

theorem frame_bits : Cert.quiescent_KernelConv := same_text.mpr fun m ρ _ => frame m ρ

theorem frame_reference : Cert.quiescent_ReferenceConvIdeal := fun m ρ _ =>
  (θ_run Cert.ReferenceConvIdeal.defs _ _).mono
    (fun r h => ⟨fun c => (h c).2.2.2, sem_eq_zero_of_no_sems (by decide) r.2⟩)
    (Cert.ReferenceConvIdeal.Value.run (F := Ideal) m ρ)

/-- The kernel's results at exact arithmetic are the reference's. -/
theorem equal_results : Cert.algebraic_KernelConvIdeal_ReferenceConvIdeal := by
  intro m g m' g' _ ha
  refine ⟨_, _, _, (θ_run _ _ _).mono (fun r h c => ⟨(h c).1.trans (final_gated m c), (h c).2.1.trans (final_gate m c),
    (h c).2.2.1.trans (final_value m c), (h c).2.2.2⟩) (Value.run_blocks m g), ?_⟩
  refine (θ_run _ _ _).mono (fun r h c => ?_) (Cert.ReferenceConvIdeal.Value.run (F := Ideal) m' g')
  obtain ⟨a0, a1, a2⟩ := ha c
  refine ⟨(h c).1.trans ((Cert.ReferenceConvIdeal.Read.val_main_v32_eq _ _).trans ?_), (h c).2.1.trans ((Cert.ReferenceConvIdeal.Read.val_main_v33_eq _ _ _).trans ?_),
    (h c).2.2.1.trans ((Cert.ReferenceConvIdeal.Read.val_main_v34_eq _ _ _).trans ?_), (h c).2.2.2⟩
  · exact congr (congr (congrArg (Cert.ReferenceConvIdeal.Read.val_main_v32 (F := Ideal)) a0) a1) a2
  · exact congr (congr (congrArg (Cert.ReferenceConvIdeal.Read.val_main_v33 (F := Ideal)) a0) a1) a2
  · exact congr (congr (congrArg (Cert.ReferenceConvIdeal.Read.val_main_v34 (F := Ideal)) a0) a1) a2

end Cert.KernelConvIdeal.Call

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.FrameBits
public import proofs.«01_k».proof.Proof.Finite
public import proofs.«01_k».proof.Proof.Results
public import proofs.«01_k».proof.Proof.CallUp
public import proofs.«01_k».proof.Proof.CallDownDw
public import proofs.«01_k».proof.Proof.CallOutDw
public import proofs.«01_k».proof.Proof.CallInDw
public import proofs.«01_k».proof.Proof.CallInDx
public import proofs.«01_k».proof.Proof.CallOutDx
public import proofs.«01_k».proof.Proof.CallDown
public import proofs.«01_k».proof.Proof.CallOut
public import proofs.«01_k».proof.Proof.CallIn
public import proofs.«01_k».proof.Proof.CallGlu
public import proofs.«01_k».proof.Proof.CallGluBwd
public import proofs.«01_k».proof.Proof.CallRope
public import proofs.«01_k».proof.Proof.CallAdamw
public import proofs.«01_k».proof.Proof.CallConv

@[expose] public section

noncomputable section

/-! # The proof of the certificate's claim

The kernel computes the gradients of windowed attention with a sink: of the queries, the keys, the values and the sink
logits. It runs and leaves its arguments and its semaphores as they were (`Proof/Steps.lean`, `Proof/FrameBits.lean`).
At exact arithmetic, on finite arguments, its four results are the reference's.

* `Proof/Band.lean`: the gradients as sums of real numbers over a band of positions.
* `Proof/RefForward.lean`, `Proof/RefBackward.lean`: the reference's results are those sums.
* `Proof/Saved.lean`: the two arrays of the forward pass which the kernel reads.
* `Proof/HeadValue.lean`: one head's part of one step.
* `Proof/StepText.lean`, `Proof/StepReads.lean`, `Proof/StepHeads.lean`: a step's arrays as heads' parts over the arguments.
* `Proof/StepStores.lean`, `Proof/StepValue.lean`: what the steps up to one leave.
* `Proof/Finite.lean`: the precondition says that the arguments are real numbers.
* `Proof/Results.lean`: the results' arrays at the end.

The further calls are claims of their own, each in its module:

* `Proof/CallUp.lean`: the up-projection.
* `Proof/CallDownDw.lean`, `Proof/CallOutDw.lean`, `Proof/CallInDw.lean`: the gradients of three projections' weights.
* `Proof/RmsGrad.lean`: the gradient of a root-mean-square norm, as a closed form and by the chain rule.
* `Proof/CallInDx.lean`, `Proof/CallOutDx.lean`: the gradients through the input and the output projection and their norms.
* `Proof/CallDown.lean`: the down-projection, the loss and its first gradients.
* `Proof/CallOut.lean`: the output projection of the normalised branches, and the norm after it.
* `Proof/CallIn.lean`: the input projection of the normalised stream, with the queries and the keys rotated.
* `Proof/Gate.lean`: the GELU, the sigmoid, and the chain rule through them.
* `Proof/CallGlu.lean`, `Proof/CallGluBwd.lean`: the gate of the recurrence's output, and its gradients on finite arguments.
* `Proof/CallRope.lean`: the gradient of the rotation and of the cutting of the projection.
* `Proof/CallAdamw.lean`: the optimiser's update of a weight from the gradient's four parts.
* `Proof/CallConv.lean`: the convolution of the feed-forward part along the rows, and its gate.
-/

namespace Cert.Proof

open Idealize.ShloMosaic Idealize.SL.Sem Cert.Kernel

/-- The reference runs, leaves its arguments as they are, and has no semaphore to disturb. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

theorem facts_finite : Cert.Pre_finite.Facts := ⟨by decide, by decide, by decide, by decide, by decide, by decide, by decide, by decide⟩

/-- The kernel's four results, where its arguments hold inputs. -/
theorem run_results (m : (ℓ : Loc Cert.KernelIdeal.nD Cert.KernelIdeal.τ Cert.KernelIdeal.sig) → Buf (Elt Ideal) ℓ)
    (g : Dev Cert.KernelIdeal.nD → PrngReg) (X : Dev Cert.KernelIdeal.nD → Banded.Inputs)
    (hr : ∀ c, Banded.Reads (X c) (Cert.KernelIdeal.Gen.arg0 m c) (Cert.KernelIdeal.Gen.arg1 m c) (Cert.KernelIdeal.Gen.arg2 m c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v93_0) = Cert.ReferenceIdeal.Read.val_main_v191 (F := Ideal) (Cert.KernelIdeal.Gen.arg0 m c) (Cert.KernelIdeal.Gen.arg1 m c) (Cert.KernelIdeal.Gen.arg2 m c)
      ∧ r.2.mem ((c.tc : Thread Cert.KernelIdeal.nD Cert.KernelIdeal.τ).loc Cert.KernelIdeal.main_v93_1) = Cert.ReferenceIdeal.Read.val_main_v192 (F := Ideal) (Cert.KernelIdeal.Gen.arg0 m c) (Cert.KernelIdeal.Gen.arg1 m c) (Cert.KernelIdeal.Gen.arg2 m c)
      ∧ r.2.mem ((c.tc : Thread Cert.KernelIdeal.nD Cert.KernelIdeal.τ).loc Cert.KernelIdeal.main_v93_2) = Cert.ReferenceIdeal.Read.val_main_v193 (F := Ideal) (Cert.KernelIdeal.Gen.arg0 m c) (Cert.KernelIdeal.Gen.arg1 m c) (Cert.KernelIdeal.Gen.arg2 m c)
      ∧ r.2.mem ((c.tc : Thread Cert.KernelIdeal.nD Cert.KernelIdeal.τ).loc Cert.KernelIdeal.main_v93_3) = Cert.ReferenceIdeal.Read.val_main_v195 (F := Ideal) (Cert.KernelIdeal.Gen.arg0 m c) (Cert.KernelIdeal.Gen.arg1 m c) (Cert.KernelIdeal.Gen.arg2 m c)) := by
  have e7 := fun c => Cert.KernelIdeal.Run.final_dq (hr c)
  have e8 := fun c => Cert.KernelIdeal.Run.final_dk (hr c)
  have e9 := fun c => Cert.KernelIdeal.Run.final_dv (hr c)
  have e10 := fun c => Cert.KernelIdeal.Run.final_ds (hr c)
  refine (θ_run _ _ _).mono (fun r h c => ?_) (Cert.KernelIdeal.Run.run_whole m g)
  exact ⟨((h.1 c).1 7).trans (e7 c), ((h.1 c).1 8).trans (e8 c), ((h.1 c).1 9).trans (e9 c), ((h.1 c).1 10).trans (e10 c)⟩

/-- On finite arguments the kernel's results at exact arithmetic are the reference's. -/
theorem equal_results : Cert.algebraic_KernelIdeal_ReferenceIdeal_pre_finite (hPre_finite := facts_finite) := by
  intro m g m' g' hp ha
  haveI := facts_finite
  have hr := fun c => Cert.KernelIdeal.Run.reads_of_finite _ _ _ (hp c)
  refine ⟨_, _, _, _, (θ_run _ _ _).mono (fun r h c => ⟨(h.1 c).1, (h.1 c).2.1, (h.1 c).2.2.1, (h.1 c).2.2.2, h.2.1 c⟩)
    (θ_run_and (run_results m g _ hr) (frame_any m g)), ?_⟩
  refine (θ_run _ _ _).mono (fun r h c => ?_) (Cert.ReferenceIdeal.Value.run (F := Ideal) m' g')
  obtain ⟨h0, h1, h2, h3, hargs⟩ := h c
  obtain ⟨a0, a1, a2⟩ := ha c
  exact ⟨h0.trans ((Cert.ReferenceIdeal.Read.val_main_v191_eq _).trans (congr (congr (congrArg (Cert.ReferenceIdeal.Read.val_main_v191 (F := Ideal)) a0) a1) a2)),
    h1.trans ((Cert.ReferenceIdeal.Read.val_main_v192_eq _).trans (congr (congr (congrArg (Cert.ReferenceIdeal.Read.val_main_v192 (F := Ideal)) a0) a1) a2)),
    h2.trans ((Cert.ReferenceIdeal.Read.val_main_v193_eq _).trans (congr (congr (congrArg (Cert.ReferenceIdeal.Read.val_main_v193 (F := Ideal)) a0) a1) a2)),
    h3.trans ((Cert.ReferenceIdeal.Read.val_main_v195_eq _).trans (congr (congr (congrArg (Cert.ReferenceIdeal.Read.val_main_v195 (F := Ideal)) a0) a1) a2)), hargs⟩

theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDownDw.Gen.facts, Cert.KernelDownDwIdeal.Gen.facts, Cert.ReferenceDownDwIdeal.Gen.facts,
  Cert.KernelOutDw.Gen.facts, Cert.KernelOutDwIdeal.Gen.facts, Cert.ReferenceOutDwIdeal.Gen.facts,
  Cert.KernelInDw.Gen.facts, Cert.KernelInDwIdeal.Gen.facts, Cert.ReferenceInDwIdeal.Gen.facts,
  Cert.KernelInDx.Gen.facts, Cert.KernelInDxIdeal.Gen.facts, Cert.ReferenceInDxIdeal.Gen.facts,
  Cert.KernelOutDx.Gen.facts, Cert.KernelOutDxIdeal.Gen.facts, Cert.ReferenceOutDxIdeal.Gen.facts,
  Cert.KernelDown.Gen.facts, Cert.KernelDownIdeal.Gen.facts, Cert.ReferenceDownIdeal.Gen.facts,
  Cert.KernelOut.Gen.facts, Cert.KernelOutIdeal.Gen.facts, Cert.ReferenceOutIdeal.Gen.facts,
  Cert.KernelIn.Gen.facts, Cert.KernelInIdeal.Gen.facts, Cert.ReferenceInIdeal.Gen.facts,
  Cert.KernelGlu.Gen.facts, Cert.KernelGluIdeal.Gen.facts, Cert.ReferenceGluIdeal.Gen.facts,
  Cert.KernelGluBwd.Gen.facts, Cert.KernelGluBwdIdeal.Gen.facts, Cert.ReferenceGluBwdIdeal.Gen.facts, Cert.ReferenceGluBwd.Gen.facts,
  Cert.KernelRope.Gen.facts, Cert.KernelRopeIdeal.Gen.facts, Cert.ReferenceRopeIdeal.Gen.facts,
  Cert.KernelAdamw.Gen.facts, Cert.KernelAdamwIdeal.Gen.facts, Cert.ReferenceAdamwIdeal.Gen.facts,
  Cert.KernelConv.Gen.facts, Cert.KernelConvIdeal.Gen.facts, Cert.ReferenceConvIdeal.Gen.facts,
  facts_finite, Cert.KernelGluBwdIdeal.Call.facts_finite_gate,
  frame_bits, frame_ideal, fun m ρ _ => frame_ideal m ρ trivial, frame_reference,
  fun m ρ _ => frame_reference m ρ trivial,
  Cert.KernelUpIdeal.Call.frame_bits, Cert.KernelUpIdeal.Call.frame_ideal, Cert.KernelUpIdeal.Call.frame_reference,
  Cert.KernelDownDwIdeal.Call.frame_bits, Cert.KernelDownDwIdeal.Call.frame_ideal, Cert.KernelDownDwIdeal.Call.frame_reference,
  Cert.KernelOutDwIdeal.Call.frame_bits, Cert.KernelOutDwIdeal.Call.frame_ideal, Cert.KernelOutDwIdeal.Call.frame_reference,
  Cert.KernelInDwIdeal.Call.frame_bits, Cert.KernelInDwIdeal.Call.frame_ideal, Cert.KernelInDwIdeal.Call.frame_reference,
  Cert.KernelInDxIdeal.Call.frame_bits, Cert.KernelInDxIdeal.Call.frame_ideal, Cert.KernelInDxIdeal.Call.frame_reference,
  Cert.KernelOutDxIdeal.Call.frame_bits, Cert.KernelOutDxIdeal.Call.frame_ideal, Cert.KernelOutDxIdeal.Call.frame_reference,
  Cert.KernelDownIdeal.Call.frame_bits, Cert.KernelDownIdeal.Call.frame_ideal, Cert.KernelDownIdeal.Call.frame_reference,
  Cert.KernelOutIdeal.Call.frame_bits, Cert.KernelOutIdeal.Call.frame_ideal, Cert.KernelOutIdeal.Call.frame_reference,
  Cert.KernelInIdeal.Call.frame_bits, Cert.KernelInIdeal.Call.frame_ideal, Cert.KernelInIdeal.Call.frame_reference,
  Cert.KernelGluIdeal.Call.frame_bits, Cert.KernelGluIdeal.Call.frame_ideal, Cert.KernelGluIdeal.Call.frame_reference,
  Cert.KernelGluBwdIdeal.Call.frame_bits, Cert.KernelGluBwdIdeal.Call.frame_ideal, fun m ρ _ => Cert.KernelGluBwdIdeal.Call.frame_ideal m ρ trivial,
  Cert.KernelGluBwdIdeal.Call.frame_reference, fun m ρ _ => Cert.KernelGluBwdIdeal.Call.frame_reference m ρ trivial, Cert.KernelGluBwdIdeal.Call.frame_reference_bits,
  Cert.KernelRopeIdeal.Call.frame_bits, Cert.KernelRopeIdeal.Call.frame_ideal, Cert.KernelRopeIdeal.Call.frame_reference,
  Cert.KernelAdamwIdeal.Call.frame_bits, Cert.KernelAdamwIdeal.Call.frame_ideal, Cert.KernelAdamwIdeal.Call.frame_reference,
  Cert.KernelConvIdeal.Call.frame_bits, Cert.KernelConvIdeal.Call.frame_ideal, Cert.KernelConvIdeal.Call.frame_reference,
  trivial, equal_results,
  trivial, Cert.KernelUpIdeal.Call.equal_results,
  trivial, Cert.KernelDownDwIdeal.Call.equal_results,
  trivial, Cert.KernelOutDwIdeal.Call.equal_results,
  trivial, Cert.KernelInDwIdeal.Call.equal_results,
  trivial, Cert.KernelInDxIdeal.Call.equal_results,
  trivial, Cert.KernelOutDxIdeal.Call.equal_results,
  trivial, Cert.KernelDownIdeal.Call.equal_results,
  trivial, Cert.KernelOutIdeal.Call.equal_results,
  trivial, Cert.KernelInIdeal.Call.equal_results,
  trivial, Cert.KernelGluIdeal.Call.equal_results,
  Cert.KernelGluBwdIdeal.Call.named, Cert.KernelGluBwdIdeal.Call.named_reference, Cert.KernelGluBwdIdeal.Call.equal_results,
  trivial, Cert.KernelRopeIdeal.Call.equal_results,
  trivial, Cert.KernelAdamwIdeal.Call.equal_results,
  trivial, Cert.KernelConvIdeal.Call.equal_results⟩

end Cert.Proof

end
